-- ==== Defs.lean ====
def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AddPair (m : (ℓ : Loc Cert.AddPair.nD Cert.AddPair.τ Cert.AddPair.sig) → Buf (Elt Bits) ℓ) : Prop :=
  True

def Pre_AddPairIdeal (m : (ℓ : Loc Cert.AddPairIdeal.nD Cert.AddPairIdeal.τ Cert.AddPairIdeal.sig) → Buf (Elt Ideal) ℓ) : Prop :=
  True

def Pre_AddPairRefIdeal (m : (ℓ : Loc Cert.AddPairRefIdeal.nD Cert.AddPairRefIdeal.τ Cert.AddPairRefIdeal.sig) → Buf (Elt Ideal) ℓ) : Prop :=
  True

def Pre_AddChips (m : (ℓ : Loc Cert.AddChips.nD Cert.AddChips.τ Cert.AddChips.sig) → Buf (Elt Bits) ℓ) : Prop :=
  True

def Pre_AddChipsIdeal (m : (ℓ : Loc Cert.AddChipsIdeal.nD Cert.AddChipsIdeal.τ Cert.AddChipsIdeal.sig) → Buf (Elt Ideal) ℓ) : Prop :=
  True

def Pre_AddChipsRefIdeal (m : (ℓ : Loc Cert.AddChipsRefIdeal.nD Cert.AddChipsRefIdeal.τ Cert.AddChipsRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_GradMem (m : (ℓ : Loc Cert.GradMem.nD Cert.GradMem.τ Cert.GradMem.sig) → Buf (Elt Bits) ℓ) : Prop :=
  True

def Pre_GradMemIdeal (m : (ℓ : Loc Cert.GradMemIdeal.nD Cert.GradMemIdeal.τ Cert.GradMemIdeal.sig) → Buf (Elt Ideal) ℓ) : Prop :=
  True

def Pre_GradMemRefIdeal (m : (ℓ : Loc Cert.GradMemRefIdeal.nD Cert.GradMemRefIdeal.τ Cert.GradMemRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradBranch (m : (ℓ : Loc Cert.GradBranch.nD Cert.GradBranch.τ Cert.GradBranch.sig) → Buf (Elt Bits) ℓ) : Prop :=
  True

def Pre_GradBranchIdeal (m : (ℓ : Loc Cert.GradBranchIdeal.nD Cert.GradBranchIdeal.τ Cert.GradBranchIdeal.sig) → Buf (Elt Ideal) ℓ) : Prop :=
  True

def Pre_GradBranchRefIdeal (m : (ℓ : Loc Cert.GradBranchRefIdeal.nD Cert.GradBranchRefIdeal.τ Cert.GradBranchRefIdeal.sig) → Buf (Elt Ideal) ℓ) : Prop :=
  True

def Pre_GradMain (m : (ℓ : Loc Cert.GradMain.nD Cert.GradMain.τ Cert.GradMain.sig) → Buf (Elt Bits) ℓ) : Prop :=
  True

def Pre_GradMainIdeal (m : (ℓ : Loc Cert.GradMainIdeal.nD Cert.GradMainIdeal.τ Cert.GradMainIdeal.sig) → Buf (Elt Ideal) ℓ) : Prop :=
  True

def Pre_GradMainRefIdeal (m : (ℓ : Loc Cert.GradMainRefIdeal.nD Cert.GradMainRefIdeal.τ Cert.GradMainRefIdeal.sig) → Buf (Elt Ideal) ℓ) : Prop :=
  True

def Pre_GradFb (m : (ℓ : Loc Cert.GradFb.nD Cert.GradFb.τ Cert.GradFb.sig) → Buf (Elt Bits) ℓ) : Prop :=
  True

def Pre_GradFbIdeal (m : (ℓ : Loc Cert.GradFbIdeal.nD Cert.GradFbIdeal.τ Cert.GradFbIdeal.sig) → Buf (Elt Ideal) ℓ) : Prop :=
  True

def Pre_GradFbRefIdeal (m : (ℓ : Loc Cert.GradFbRefIdeal.nD Cert.GradFbRefIdeal.τ Cert.GradFbRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_NormPre (m : (ℓ : Loc Cert.NormPre.nD Cert.NormPre.τ Cert.NormPre.sig) → Buf (Elt Bits) ℓ) : Prop :=
  True

def Pre_NormPreIdeal (m : (ℓ : Loc Cert.NormPreIdeal.nD Cert.NormPreIdeal.τ Cert.NormPreIdeal.sig) → Buf (Elt Ideal) ℓ) : Prop :=
  True

def Pre_NormPreRefIdeal (m : (ℓ : Loc Cert.NormPreRefIdeal.nD Cert.NormPreRefIdeal.τ Cert.NormPreRefIdeal.sig) → Buf (Elt Ideal) ℓ) : Prop :=
  True

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjFb (m : (ℓ : Loc Cert.ProjFb.nD Cert.ProjFb.τ Cert.ProjFb.sig) → Buf (Elt Bits) ℓ) : Prop :=
  True

def Pre_ProjFbIdeal (m : (ℓ : Loc Cert.ProjFbIdeal.nD Cert.ProjFbIdeal.τ Cert.ProjFbIdeal.sig) → Buf (Elt Ideal) ℓ) : Prop :=
  True

def Pre_ProjFbRefIdeal (m : (ℓ : Loc Cert.ProjFbRefIdeal.nD Cert.ProjFbRefIdeal.τ Cert.ProjFbRefIdeal.sig) → Buf (Elt Ideal) ℓ) : Prop :=
  True

def Pre_ProjMem (m : (ℓ : Loc Cert.ProjMem.nD Cert.ProjMem.τ Cert.ProjMem.sig) → Buf (Elt Bits) ℓ) : Prop :=
  True

def Pre_ProjMemIdeal (m : (ℓ : Loc Cert.ProjMemIdeal.nD Cert.ProjMemIdeal.τ Cert.ProjMemIdeal.sig) → Buf (Elt Ideal) ℓ) : Prop :=
  True

def Pre_ProjMemRefIdeal (m : (ℓ : Loc Cert.ProjMemRefIdeal.nD Cert.ProjMemRefIdeal.τ Cert.ProjMemRefIdeal.sig) → Buf (Elt Ideal) ℓ) : Prop :=
  True

def Pre_ProjBranch (m : (ℓ : Loc Cert.ProjBranch.nD Cert.ProjBranch.τ Cert.ProjBranch.sig) → Buf (Elt Bits) ℓ) : Prop :=
  True

def Pre_ProjBranchIdeal (m : (ℓ : Loc Cert.ProjBranchIdeal.nD Cert.ProjBranchIdeal.τ Cert.ProjBranchIdeal.sig) → Buf (Elt Ideal) ℓ) : Prop :=
  True

def Pre_ProjBranchRefIdeal (m : (ℓ : Loc Cert.ProjBranchRefIdeal.nD Cert.ProjBranchRefIdeal.τ Cert.ProjBranchRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_BackMerged (m : (ℓ : Loc Cert.BackMerged.nD Cert.BackMerged.τ Cert.BackMerged.sig) → Buf (Elt Bits) ℓ) : Prop :=
  True

def Pre_BackMergedIdeal (m : (ℓ : Loc Cert.BackMergedIdeal.nD Cert.BackMergedIdeal.τ Cert.BackMergedIdeal.sig) → Buf (Elt Ideal) ℓ) : Prop :=
  True

def Pre_BackMergedRefIdeal (m : (ℓ : Loc Cert.BackMergedRefIdeal.nD Cert.BackMergedRefIdeal.τ Cert.BackMergedRefIdeal.sig) → Buf (Elt Ideal) ℓ) : Prop :=
  True

def Pre_BackBranch (m : (ℓ : Loc Cert.BackBranch.nD Cert.BackBranch.τ Cert.BackBranch.sig) → Buf (Elt Bits) ℓ) : Prop :=
  True

def Pre_BackBranchIdeal (m : (ℓ : Loc Cert.BackBranchIdeal.nD Cert.BackBranchIdeal.τ Cert.BackBranchIdeal.sig) → Buf (Elt Ideal) ℓ) : Prop :=
  True

def Pre_BackBranchRefIdeal (m : (ℓ : Loc Cert.BackBranchRefIdeal.nD Cert.BackBranchRefIdeal.τ Cert.BackBranchRefIdeal.sig) → Buf (Elt Ideal) ℓ) : Prop :=
  True

def Pre_BackMem (m : (ℓ : Loc Cert.BackMem.nD Cert.BackMem.τ Cert.BackMem.sig) → Buf (Elt Bits) ℓ) : Prop :=
  True

def Pre_BackMemIdeal (m : (ℓ : Loc Cert.BackMemIdeal.nD Cert.BackMemIdeal.τ Cert.BackMemIdeal.sig) → Buf (Elt Ideal) ℓ) : Prop :=
  True

def Pre_BackMemRefIdeal (m : (ℓ : Loc Cert.BackMemRefIdeal.nD Cert.BackMemRefIdeal.τ Cert.BackMemRefIdeal.sig) → Buf (Elt Ideal) ℓ) : Prop :=
  True

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInRefIdeal (m : (ℓ : Loc Cert.BackInRefIdeal.nD Cert.BackInRefIdeal.τ Cert.BackInRefIdeal.sig) → Buf (Elt Ideal) ℓ) : Prop :=
  True

def Pre_BackFb (m : (ℓ : Loc Cert.BackFb.nD Cert.BackFb.τ Cert.BackFb.sig) → Buf (Elt Bits) ℓ) : Prop :=
  True

def Pre_BackFbIdeal (m : (ℓ : Loc Cert.BackFbIdeal.nD Cert.BackFbIdeal.τ Cert.BackFbIdeal.sig) → Buf (Elt Ideal) ℓ) : Prop :=
  True

def Pre_BackFbRefIdeal (m : (ℓ : Loc Cert.BackFbRefIdeal.nD Cert.BackFbRefIdeal.τ Cert.BackFbRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_GateM (m : (ℓ : Loc Cert.GateM.nD Cert.GateM.τ Cert.GateM.sig) → Buf (Elt Bits) ℓ) : Prop :=
  True

def Pre_GateMIdeal (m : (ℓ : Loc Cert.GateMIdeal.nD Cert.GateMIdeal.τ Cert.GateMIdeal.sig) → Buf (Elt Ideal) ℓ) : Prop :=
  True

def Pre_GateMRefIdeal (m : (ℓ : Loc Cert.GateMRefIdeal.nD Cert.GateMRefIdeal.τ Cert.GateMRefIdeal.sig) → Buf (Elt Ideal) ℓ) : Prop :=
  True

def Pre_GateBwdB (m : (ℓ : Loc Cert.GateBwdB.nD Cert.GateBwdB.τ Cert.GateBwdB.sig) → Buf (Elt Bits) ℓ) : Prop :=
  True

def Pre_GateBwdBIdeal (m : (ℓ : Loc Cert.GateBwdBIdeal.nD Cert.GateBwdBIdeal.τ Cert.GateBwdBIdeal.sig) → Buf (Elt Ideal) ℓ) : Prop :=
  True

def Pre_GateBwdBRefIdeal (m : (ℓ : Loc Cert.GateBwdBRefIdeal.nD Cert.GateBwdBRefIdeal.τ Cert.GateBwdBRefIdeal.sig) → Buf (Elt Ideal) ℓ) : Prop :=
  True

def Pre_GateBwdM (m : (ℓ : Loc Cert.GateBwdM.nD Cert.GateBwdM.τ Cert.GateBwdM.sig) → Buf (Elt Bits) ℓ) : Prop :=
  True

def Pre_GateBwdMIdeal (m : (ℓ : Loc Cert.GateBwdMIdeal.nD Cert.GateBwdMIdeal.τ Cert.GateBwdMIdeal.sig) → Buf (Elt Ideal) ℓ) : Prop :=
  True

def Pre_GateBwdMRefIdeal (m : (ℓ : Loc Cert.GateBwdMRefIdeal.nD Cert.GateBwdMRefIdeal.τ Cert.GateBwdMRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FoxDelta (m : (ℓ : Loc Cert.FoxDelta.nD Cert.FoxDelta.τ Cert.FoxDelta.sig) → Buf (Elt Bits) ℓ) : Prop :=
  True

def Pre_FoxDeltaIdeal (m : (ℓ : Loc Cert.FoxDeltaIdeal.nD Cert.FoxDeltaIdeal.τ Cert.FoxDeltaIdeal.sig) → Buf (Elt Ideal) ℓ) : Prop :=
  True

def Pre_FoxDeltaRefIdeal (m : (ℓ : Loc Cert.FoxDeltaRefIdeal.nD Cert.FoxDeltaRefIdeal.τ Cert.FoxDeltaRefIdeal.sig) → Buf (Elt Ideal) ℓ) : Prop :=
  True

def Pre_GateBwdA (m : (ℓ : Loc Cert.GateBwdA.nD Cert.GateBwdA.τ Cert.GateBwdA.sig) → Buf (Elt Bits) ℓ) : Prop :=
  True

def Pre_GateBwdAIdeal (m : (ℓ : Loc Cert.GateBwdAIdeal.nD Cert.GateBwdAIdeal.τ Cert.GateBwdAIdeal.sig) → Buf (Elt Ideal) ℓ) : Prop :=
  True

def Pre_GateBwdARefIdeal (m : (ℓ : Loc Cert.GateBwdARefIdeal.nD Cert.GateBwdARefIdeal.τ Cert.GateBwdARefIdeal.sig) → Buf (Elt Ideal) ℓ) : Prop :=
  True

def Pre_RopeBwd (m : (ℓ : Loc Cert.RopeBwd.nD Cert.RopeBwd.τ Cert.RopeBwd.sig) → Buf (Elt Bits) ℓ) : Prop :=
  True

def Pre_RopeBwdIdeal (m : (ℓ : Loc Cert.RopeBwdIdeal.nD Cert.RopeBwdIdeal.τ Cert.RopeBwdIdeal.sig) → Buf (Elt Ideal) ℓ) : Prop :=
  True

def Pre_RopeBwdRefIdeal (m : (ℓ : Loc Cert.RopeBwdRefIdeal.nD Cert.RopeBwdRefIdeal.τ Cert.RopeBwdRefIdeal.sig) → Buf (Elt Ideal) ℓ) : Prop :=
  True

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_sums_finite [hPre_sums_finite : Cert.Pre_sums_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_sums_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3))) = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_sums_finite [hPre_sums_finite : Cert.Pre_sums_finite.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_sums_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3))) = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdIdeal_scores_finite [hPre_scores_finite : Cert.Pre_scores_finite.Facts] (m : (ℓ : Loc Cert.MemFwdIdeal.nD Cert.MemFwdIdeal.τ Cert.MemFwdIdeal.sig) → Buf (Elt Ideal) ℓ) : Prop :=
  ∀ c : Dev Cert.MemFwdIdeal.nD,
    (Cert.Pre_scores_finite.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1))) = (fun _ => 1#1)

def Pre_MemFwdRefIdeal (m : (ℓ : Loc Cert.MemFwdRefIdeal.nD Cert.MemFwdRefIdeal.τ Cert.MemFwdRefIdeal.sig) → Buf (Elt Ideal) ℓ) : Prop :=
  True

def Pre_MemFwdRefIdeal_scores_finite [hPre_scores_finite : Cert.Pre_scores_finite.Facts] (m : (ℓ : Loc Cert.MemFwdRefIdeal.nD Cert.MemFwdRefIdeal.τ Cert.MemFwdRefIdeal.sig) → Buf (Elt Ideal) ℓ) : Prop :=
  ∀ c : Dev Cert.MemFwdRefIdeal.nD,
    (Cert.Pre_scores_finite.fn (F := Ideal) (m ((c.tc : Thread Cert.MemFwdRefIdeal.nD Cert.MemFwdRefIdeal.τ).loc Cert.MemFwdRefIdeal.main_arg0)) (m ((c.tc : Thread Cert.MemFwdRefIdeal.nD Cert.MemFwdRefIdeal.τ).loc Cert.MemFwdRefIdeal.main_arg1))) = (fun _ => 1#1)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AddPair [hAddPair : Cert.AddPair.Facts] : Prop :=
  ∀ (m : (ℓ : Loc Cert.AddPair.nD Cert.AddPair.τ Cert.AddPair.sig) → Buf (Elt Bits) ℓ) (g : Dev Cert.AddPair.nD → PrngReg), Pre_AddPair m →
    θ_run (Cert.AddPair.defs (F := Bits)) (onTc (τ := Cert.AddPair.τ) (Cert.AddPair.main (F := Bits))) ⟨m, fun _ => 0, g⟩ (fun r => (∀ c : Dev Cert.AddPair.nD,
      r.2.mem ((c.tc : Thread Cert.AddPair.nD Cert.AddPair.τ).loc Cert.AddPair.main_arg0) = m ((c.tc : Thread Cert.AddPair.nD Cert.AddPair.τ).loc Cert.AddPair.main_arg0)
      ∧ r.2.mem ((c.tc : Thread Cert.AddPair.nD Cert.AddPair.τ).loc Cert.AddPair.main_arg1) = m ((c.tc : Thread Cert.AddPair.nD Cert.AddPair.τ).loc Cert.AddPair.main_arg1))
      ∧ r.2.sem = fun _ => 0)

def quiescent_AddPairIdeal [hAddPairIdeal : Cert.AddPairIdeal.Facts] : Prop :=
  ∀ (m : (ℓ : Loc Cert.AddPairIdeal.nD Cert.AddPairIdeal.τ Cert.AddPairIdeal.sig) → Buf (Elt Ideal) ℓ) (g : Dev Cert.AddPairIdeal.nD → PrngReg), Pre_AddPairIdeal m →
    θ_run (Cert.AddPairIdeal.defs (F := Ideal)) (onTc (τ := Cert.AddPairIdeal.τ) (Cert.AddPairIdeal.main (F := Ideal))) ⟨m, fun _ => 0, g⟩ (fun r => (∀ c : Dev Cert.AddPairIdeal.nD,
      r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
      ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1))
      ∧ r.2.sem = fun _ => 0)

def quiescent_AddPairRefIdeal [hAddPairRefIdeal : Cert.AddPairRefIdeal.Facts] : Prop :=
  ∀ (m : (ℓ : Loc Cert.AddPairRefIdeal.nD Cert.AddPairRefIdeal.τ Cert.AddPairRefIdeal.sig) → Buf (Elt Ideal) ℓ) (g : Dev Cert.AddPairRefIdeal.nD → PrngReg), Pre_AddPairRefIdeal m →
    θ_run (Cert.AddPairRefIdeal.defs (F := Ideal)) (onTc (τ := Cert.AddPairRefIdeal.τ) (Cert.AddPairRefIdeal.main (F := Ideal))) ⟨m, fun _ => 0, g⟩ (fun r => (∀ c : Dev Cert.AddPairRefIdeal.nD,
      r.2.mem ((c.tc : Thread Cert.AddPairRefIdeal.nD Cert.AddPairRefIdeal.τ).loc Cert.AddPairRefIdeal.main_arg0) = m ((c.tc : Thread Cert.AddPairRefIdeal.nD Cert.AddPairRefIdeal.τ).loc Cert.AddPairRefIdeal.main_arg0)
      ∧ r.2.mem ((c.tc : Thread Cert.AddPairRefIdeal.nD Cert.AddPairRefIdeal.τ).loc Cert.AddPairRefIdeal.main_arg1) = m ((c.tc : Thread Cert.AddPairRefIdeal.nD Cert.AddPairRefIdeal.τ).loc Cert.AddPairRefIdeal.main_arg1))
      ∧ r.2.sem = fun _ => 0)

def quiescent_AddChips [hAddChips : Cert.AddChips.Facts] : Prop :=
  ∀ (m : (ℓ : Loc Cert.AddChips.nD Cert.AddChips.τ Cert.AddChips.sig) → Buf (Elt Bits) ℓ) (g : Dev Cert.AddChips.nD → PrngReg), Pre_AddChips m →
    θ_run (Cert.AddChips.defs (F := Bits)) (onTc (τ := Cert.AddChips.τ) (Cert.AddChips.main (F := Bits))) ⟨m, fun _ => 0, g⟩ (fun r => (∀ c : Dev Cert.AddChips.nD,
      r.2.mem ((c.tc : Thread Cert.AddChips.nD Cert.AddChips.τ).loc Cert.AddChips.main_arg0) = m ((c.tc : Thread Cert.AddChips.nD Cert.AddChips.τ).loc Cert.AddChips.main_arg0))
      ∧ r.2.sem = fun _ => 0)

def quiescent_AddChipsIdeal [hAddChipsIdeal : Cert.AddChipsIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg), Pre_AddChipsIdeal m →
    θ_run (Cert.AddChipsIdeal.defs (F := Ideal)) (onTc (τ := Cert.AddChipsIdeal.τ) (Cert.AddChipsIdeal.main (F := Ideal))) ⟨m, fun _ => 0, g⟩ (fun r => (∀ c : Dev Cert.AddChipsIdeal.nD,
      r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0))
      ∧ r.2.sem = fun _ => 0)

def quiescent_AddChipsRefIdeal [hAddChipsRefIdeal : Cert.AddChipsRefIdeal.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3)
      ∧ r.2.mem ((c.tc : Thread Cert.PreBwd.nD Cert.PreBwd.τ).loc Cert.PreBwd.main_arg4) = m ((c.tc : Thread Cert.PreBwd.nD Cert.PreBwd.τ).loc Cert.PreBwd.main_arg4))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
      ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3)
      ∧ r.2.mem ((c.tc : Thread Cert.PreBwdRefIdeal.nD Cert.PreBwdRefIdeal.τ).loc Cert.PreBwdRefIdeal.main_arg4) = m ((c.tc : Thread Cert.PreBwdRefIdeal.nD Cert.PreBwdRefIdeal.τ).loc Cert.PreBwdRefIdeal.main_arg4))
      ∧ r.2.sem = fun _ => 0)

def quiescent_GradMem [hGradMem : Cert.GradMem.Facts] : Prop :=
  ∀ (m : (ℓ : Loc Cert.GradMem.nD Cert.GradMem.τ Cert.GradMem.sig) → Buf (Elt Bits) ℓ) (g : Dev Cert.GradMem.nD → PrngReg), Pre_GradMem m →
    θ_run (Cert.GradMem.defs (F := Bits)) (onTc (τ := Cert.GradMem.τ) (Cert.GradMem.main (F := Bits))) ⟨m, fun _ => 0, g⟩ (fun r => (∀ c : Dev Cert.GradMem.nD,
      r.2.mem ((c.tc : Thread Cert.GradMem.nD Cert.GradMem.τ).loc Cert.GradMem.main_arg0) = m ((c.tc : Thread Cert.GradMem.nD Cert.GradMem.τ).loc Cert.GradMem.main_arg0)
      ∧ r.2.mem ((c.tc : Thread Cert.GradMem.nD Cert.GradMem.τ).loc Cert.GradMem.main_arg1) = m ((c.tc : Thread Cert.GradMem.nD Cert.GradMem.τ).loc Cert.GradMem.main_arg1))
      ∧ r.2.sem = fun _ => 0)

def quiescent_GradMemIdeal [hGradMemIdeal : Cert.GradMemIdeal.Facts] : Prop :=
  ∀ (m : (ℓ : Loc Cert.GradMemIdeal.nD Cert.GradMemIdeal.τ Cert.GradMemIdeal.sig) → Buf (Elt Ideal) ℓ) (g : Dev Cert.GradMemIdeal.nD → PrngReg), Pre_GradMemIdeal m →
    θ_run (Cert.GradMemIdeal.defs (F := Ideal)) (onTc (τ := Cert.GradMemIdeal.τ) (Cert.GradMemIdeal.main (F := Ideal))) ⟨m, fun _ => 0, g⟩ (fun r => (∀ c : Dev Cert.GradMemIdeal.nD,
      r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
      ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ r.2.sem = fun _ => 0)

def quiescent_GradMemRefIdeal [hGradMemRefIdeal : Cert.GradMemRefIdeal.Facts] : Prop :=
  ∀ (m : (ℓ : Loc Cert.GradMemRefIdeal.nD Cert.GradMemRefIdeal.τ Cert.GradMemRefIdeal.sig) → Buf (Elt Ideal) ℓ) (g : Dev Cert.GradMemRefIdeal.nD → PrngReg), Pre_GradMemRefIdeal m →
    θ_run (Cert.GradMemRefIdeal.defs (F := Ideal)) (onTc (τ := Cert.GradMemRefIdeal.τ) (Cert.GradMemRefIdeal.main (F := Ideal))) ⟨m, fun _ => 0, g⟩ (fun r => (∀ c : Dev Cert.GradMemRefIdeal.nD,
      r.2.mem ((c.tc : Thread Cert.GradMemRefIdeal.nD Cert.GradMemRefIdeal.τ).loc Cert.GradMemRefIdeal.main_arg0) = m ((c.tc : Thread Cert.GradMemRefIdeal.nD Cert.GradMemRefIdeal.τ).loc Cert.GradMemRefIdeal.main_arg0)
      ∧ r.2.mem ((c.tc : Thread Cert.GradMemRefIdeal.nD Cert.GradMemRefIdeal.τ).loc Cert.GradMemRefIdeal.main_arg1) = m ((c.tc : Thread Cert.GradMemRefIdeal.nD Cert.GradMemRefIdeal.τ).loc Cert.GradMemRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradBranch [hGradBranch : Cert.GradBranch.Facts] : Prop :=
  ∀ (m : (ℓ : Loc Cert.GradBranch.nD Cert.GradBranch.τ Cert.GradBranch.sig) → Buf (Elt Bits) ℓ) (g : Dev Cert.GradBranch.nD → PrngReg), Pre_GradBranch m →
    θ_run (Cert.GradBranch.defs (F := Bits)) (onTc (τ := Cert.GradBranch.τ) (Cert.GradBranch.main (F := Bits))) ⟨m, fun _ => 0, g⟩ (fun r => (∀ c : Dev Cert.GradBranch.nD,
      r.2.mem ((c.tc : Thread Cert.GradBranch.nD Cert.GradBranch.τ).loc Cert.GradBranch.main_arg0) = m ((c.tc : Thread Cert.GradBranch.nD Cert.GradBranch.τ).loc Cert.GradBranch.main_arg0)
      ∧ r.2.mem ((c.tc : Thread Cert.GradBranch.nD Cert.GradBranch.τ).loc Cert.GradBranch.main_arg1) = m ((c.tc : Thread Cert.GradBranch.nD Cert.GradBranch.τ).loc Cert.GradBranch.main_arg1))
      ∧ r.2.sem = fun _ => 0)

def quiescent_GradBranchIdeal [hGradBranchIdeal : Cert.GradBranchIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg), Pre_GradBranchIdeal m →
    θ_run (Cert.GradBranchIdeal.defs (F := Ideal)) (onTc (τ := Cert.GradBranchIdeal.τ) (Cert.GradBranchIdeal.main (F := Ideal))) ⟨m, fun _ => 0, g⟩ (fun r => (∀ c : Dev Cert.GradBranchIdeal.nD,
      r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
      ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ r.2.sem = fun _ => 0)

def quiescent_GradBranchRefIdeal [hGradBranchRefIdeal : Cert.GradBranchRefIdeal.Facts] : Prop :=
  ∀ (m : (ℓ : Loc Cert.GradBranchRefIdeal.nD Cert.GradBranchRefIdeal.τ Cert.GradBranchRefIdeal.sig) → Buf (Elt Ideal) ℓ) (g : Dev Cert.GradBranchRefIdeal.nD → PrngReg), Pre_GradBranchRefIdeal m →
    θ_run (Cert.GradBranchRefIdeal.defs (F := Ideal)) (onTc (τ := Cert.GradBranchRefIdeal.τ) (Cert.GradBranchRefIdeal.main (F := Ideal))) ⟨m, fun _ => 0, g⟩ (fun r => (∀ c : Dev Cert.GradBranchRefIdeal.nD,
      r.2.mem ((c.tc : Thread Cert.GradBranchRefIdeal.nD Cert.GradBranchRefIdeal.τ).loc Cert.GradBranchRefIdeal.main_arg0) = m ((c.tc : Thread Cert.GradBranchRefIdeal.nD Cert.GradBranchRefIdeal.τ).loc Cert.GradBranchRefIdeal.main_arg0)
      ∧ r.2.mem ((c.tc : Thread Cert.GradBranchRefIdeal.nD Cert.GradBranchRefIdeal.τ).loc Cert.GradBranchRefIdeal.main_arg1) = m ((c.tc : Thread Cert.GradBranchRefIdeal.nD Cert.GradBranchRefIdeal.τ).loc Cert.GradBranchRefIdeal.main_arg1))
      ∧ r.2.sem = fun _ => 0)

def quiescent_GradMain [hGradMain : Cert.GradMain.Facts] : Prop :=
  ∀ (m : (ℓ : Loc Cert.GradMain.nD Cert.GradMain.τ Cert.GradMain.sig) → Buf (Elt Bits) ℓ) (g : Dev Cert.GradMain.nD → PrngReg), Pre_GradMain m →
    θ_run (Cert.GradMain.defs (F := Bits)) (onTc (τ := Cert.GradMain.τ) (Cert.GradMain.main (F := Bits))) ⟨m, fun _ => 0, g⟩ (fun r => (∀ c : Dev Cert.GradMain.nD,
      r.2.mem ((c.tc : Thread Cert.GradMain.nD Cert.GradMain.τ).loc Cert.GradMain.main_arg0) = m ((c.tc : Thread Cert.GradMain.nD Cert.GradMain.τ).loc Cert.GradMain.main_arg0)
      ∧ r.2.mem ((c.tc : Thread Cert.GradMain.nD Cert.GradMain.τ).loc Cert.GradMain.main_arg1) = m ((c.tc : Thread Cert.GradMain.nD Cert.GradMain.τ).loc Cert.GradMain.main_arg1))
      ∧ r.2.sem = fun _ => 0)

def quiescent_GradMainIdeal [hGradMainIdeal : Cert.GradMainIdeal.Facts] : Prop :=
  ∀ (m : (ℓ : Loc Cert.GradMainIdeal.nD Cert.GradMainIdeal.τ Cert.GradMainIdeal.sig) → Buf (Elt Ideal) ℓ) (g : Dev Cert.GradMainIdeal.nD → PrngReg), Pre_GradMainIdeal m →
    θ_run (Cert.GradMainIdeal.defs (F := Ideal)) (onTc (τ := Cert.GradMainIdeal.τ) (Cert.GradMainIdeal.main (F := Ideal))) ⟨m, fun _ => 0, g⟩ (fun r => (∀ c : Dev Cert.GradMainIdeal.nD,
      r.2.mem ((c.tc : Thread Cert.GradMainIdeal.nD Cert.GradMainIdeal.τ).loc Cert.GradMainIdeal.main_arg0) = m ((c.tc : Thread Cert.GradMainIdeal.nD Cert.GradMainIdeal.τ).loc Cert.GradMainIdeal.main_arg0)
      ∧ r.2.mem ((c.tc : Thread Cert.GradMainIdeal.nD Cert.GradMainIdeal.τ).loc Cert.GradMainIdeal.main_arg1) = m ((c.tc : Thread Cert.GradMainIdeal.nD Cert.GradMainIdeal.τ).loc Cert.GradMainIdeal.main_arg1))
      ∧ r.2.sem = fun _ => 0)

def quiescent_GradMainRefIdeal [hGradMainRefIdeal : Cert.GradMainRefIdeal.Facts] : Prop :=
  ∀ (m : (ℓ : Loc Cert.GradMainRefIdeal.nD Cert.GradMainRefIdeal.τ Cert.GradMainRefIdeal.sig) → Buf (Elt Ideal) ℓ) (g : Dev Cert.GradMainRefIdeal.nD → PrngReg), Pre_GradMainRefIdeal m →
    θ_run (Cert.GradMainRefIdeal.defs (F := Ideal)) (onTc (τ := Cert.GradMainRefIdeal.τ) (Cert.GradMainRefIdeal.main (F := Ideal))) ⟨m, fun _ => 0, g⟩ (fun r => (∀ c : Dev Cert.GradMainRefIdeal.nD,
      r.2.mem ((c.tc : Thread Cert.GradMainRefIdeal.nD Cert.GradMainRefIdeal.τ).loc Cert.GradMainRefIdeal.main_arg0) = m ((c.tc : Thread Cert.GradMainRefIdeal.nD Cert.GradMainRefIdeal.τ).loc Cert.GradMainRefIdeal.main_arg0)
      ∧ r.2.mem ((c.tc : Thread Cert.GradMainRefIdeal.nD Cert.GradMainRefIdeal.τ).loc Cert.GradMainRefIdeal.main_arg1) = m ((c.tc : Thread Cert.GradMainRefIdeal.nD Cert.GradMainRefIdeal.τ).loc Cert.GradMainRefIdeal.main_arg1))
      ∧ r.2.sem = fun _ => 0)

def quiescent_GradFb [hGradFb : Cert.GradFb.Facts] : Prop :=
  ∀ (m : (ℓ : Loc Cert.GradFb.nD Cert.GradFb.τ Cert.GradFb.sig) → Buf (Elt Bits) ℓ) (g : Dev Cert.GradFb.nD → PrngReg), Pre_GradFb m →
    θ_run (Cert.GradFb.defs (F := Bits)) (onTc (τ := Cert.GradFb.τ) (Cert.GradFb.main (F := Bits))) ⟨m, fun _ => 0, g⟩ (fun r => (∀ c : Dev Cert.GradFb.nD,
      r.2.mem ((c.tc : Thread Cert.GradFb.nD Cert.GradFb.τ).loc Cert.GradFb.main_arg0) = m ((c.tc : Thread Cert.GradFb.nD Cert.GradFb.τ).loc Cert.GradFb.main_arg0)
      ∧ r.2.mem ((c.tc : Thread Cert.GradFb.nD Cert.GradFb.τ).loc Cert.GradFb.main_arg1) = m ((c.tc : Thread Cert.GradFb.nD Cert.GradFb.τ).loc Cert.GradFb.main_arg1))
      ∧ r.2.sem = fun _ => 0)

def quiescent_GradFbIdeal [hGradFbIdeal : Cert.GradFbIdeal.Facts] : Prop :=
  ∀ (m : (ℓ : Loc Cert.GradFbIdeal.nD Cert.GradFbIdeal.τ Cert.GradFbIdeal.sig) → Buf (Elt Ideal) ℓ) (g : Dev Cert.GradFbIdeal.nD → PrngReg), Pre_GradFbIdeal m →
    θ_run (Cert.GradFbIdeal.defs (F := Ideal)) (onTc (τ := Cert.GradFbIdeal.τ) (Cert.GradFbIdeal.main (F := Ideal))) ⟨m, fun _ => 0, g⟩ (fun r => (∀ c : Dev Cert.GradFbIdeal.nD,
      r.2.mem ((c.tc : Thread Cert.GradFbIdeal.nD Cert.GradFbIdeal.τ).loc Cert.GradFbIdeal.main_arg0) = m ((c.tc : Thread Cert.GradFbIdeal.nD Cert.GradFbIdeal.τ).loc Cert.GradFbIdeal.main_arg0)
      ∧ r.2.mem ((c.tc : Thread Cert.GradFbIdeal.nD Cert.GradFbIdeal.τ).loc Cert.GradFbIdeal.main_arg1) = m ((c.tc : Thread Cert.GradFbIdeal.nD Cert.GradFbIdeal.τ).loc Cert.GradFbIdeal.main_arg1))
      ∧ r.2.sem = fun _ => 0)

def quiescent_GradFbRefIdeal [hGradFbRefIdeal : Cert.GradFbRefIdeal.Facts] : Prop :=
  ∀ (m : (ℓ : Loc Cert.GradFbRefIdeal.nD Cert.GradFbRefIdeal.τ Cert.GradFbRefIdeal.sig) → Buf (Elt Ideal) ℓ) (g : Dev Cert.GradFbRefIdeal.nD → PrngReg), Pre_GradFbRefIdeal m →
    θ_run (Cert.GradFbRefIdeal.defs (F := Ideal)) (onTc (τ := Cert.GradFbRefIdeal.τ) (Cert.GradFbRefIdeal.main (F := Ideal))) ⟨m, fun _ => 0, g⟩ (fun r => (∀ c : Dev Cert.GradFbRefIdeal.nD,
      r.2.mem ((c.tc : Thread Cert.GradFbRefIdeal.nD Cert.GradFbRefIdeal.τ).loc Cert.GradFbRefIdeal.main_arg0) = m ((c.tc : Thread Cert.GradFbRefIdeal.nD Cert.GradFbRefIdeal.τ).loc Cert.GradFbRefIdeal.main_arg0)
      ∧ r.2.mem ((c.tc : Thread Cert.GradFbRefIdeal.nD Cert.GradFbRefIdeal.τ).loc Cert.GradFbRefIdeal.main_arg1) = m ((c.tc : Thread Cert.GradFbRefIdeal.nD Cert.GradFbRefIdeal.τ).loc Cert.GradFbRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_NormPre [hNormPre : Cert.NormPre.Facts] : Prop :=
  ∀ (m : (ℓ : Loc Cert.NormPre.nD Cert.NormPre.τ Cert.NormPre.sig) → Buf (Elt Bits) ℓ) (g : Dev Cert.NormPre.nD → PrngReg), Pre_NormPre m →
    θ_run (Cert.NormPre.defs (F := Bits)) (onTc (τ := Cert.NormPre.τ) (Cert.NormPre.main (F := Bits))) ⟨m, fun _ => 0, g⟩ (fun r => (∀ c : Dev Cert.NormPre.nD,
      r.2.mem ((c.tc : Thread Cert.NormPre.nD Cert.NormPre.τ).loc Cert.NormPre.main_arg0) = m ((c.tc : Thread Cert.NormPre.nD Cert.NormPre.τ).loc Cert.NormPre.main_arg0)
      ∧ r.2.mem ((c.tc : Thread Cert.NormPre.nD Cert.NormPre.τ).loc Cert.NormPre.main_arg1) = m ((c.tc : Thread Cert.NormPre.nD Cert.NormPre.τ).loc Cert.NormPre.main_arg1))
      ∧ r.2.sem = fun _ => 0)

def quiescent_NormPreIdeal [hNormPreIdeal : Cert.NormPreIdeal.Facts] : Prop :=
  ∀ (m : (ℓ : Loc Cert.NormPreIdeal.nD Cert.NormPreIdeal.τ Cert.NormPreIdeal.sig) → Buf (Elt Ideal) ℓ) (g : Dev Cert.NormPreIdeal.nD → PrngReg), Pre_NormPreIdeal m →
    θ_run (Cert.NormPreIdeal.defs (F := Ideal)) (onTc (τ := Cert.NormPreIdeal.τ) (Cert.NormPreIdeal.main (F := Ideal))) ⟨m, fun _ => 0, g⟩ (fun r => (∀ c : Dev Cert.NormPreIdeal.nD,
      r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
      ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1))
      ∧ r.2.sem = fun _ => 0)

def quiescent_NormPreRefIdeal [hNormPreRefIdeal : Cert.NormPreRefIdeal.Facts] : Prop :=
  ∀ (m : (ℓ : Loc Cert.NormPreRefIdeal.nD Cert.NormPreRefIdeal.τ Cert.NormPreRefIdeal.sig) → Buf (Elt Ideal) ℓ) (g : Dev Cert.NormPreRefIdeal.nD → PrngReg), Pre_NormPreRefIdeal m →
    θ_run (Cert.NormPreRefIdeal.defs (F := Ideal)) (onTc (τ := Cert.NormPreRefIdeal.τ) (Cert.NormPreRefIdeal.main (F := Ideal))) ⟨m, fun _ => 0, g⟩ (fun r => (∀ c : Dev Cert.NormPreRefIdeal.nD,
      r.2.mem ((c.tc : Thread Cert.NormPreRefIdeal.nD Cert.NormPreRefIdeal.τ).loc Cert.NormPreRefIdeal.main_arg0) = m ((c.tc : Thread Cert.NormPreRefIdeal.nD Cert.NormPreRefIdeal.τ).loc Cert.NormPreRefIdeal.main_arg0)
      ∧ r.2.mem ((c.tc : Thread Cert.NormPreRefIdeal.nD Cert.NormPreRefIdeal.τ).loc Cert.NormPreRefIdeal.main_arg1) = m ((c.tc : Thread Cert.NormPreRefIdeal.nD Cert.NormPreRefIdeal.τ).loc Cert.NormPreRefIdeal.main_arg1))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjFb [hProjFb : Cert.ProjFb.Facts] : Prop :=
  ∀ (m : (ℓ : Loc Cert.ProjFb.nD Cert.ProjFb.τ Cert.ProjFb.sig) → Buf (Elt Bits) ℓ) (g : Dev Cert.ProjFb.nD → PrngReg), Pre_ProjFb m →
    θ_run (Cert.ProjFb.defs (F := Bits)) (onTc (τ := Cert.ProjFb.τ) (Cert.ProjFb.main (F := Bits))) ⟨m, fun _ => 0, g⟩ (fun r => (∀ c : Dev Cert.ProjFb.nD,
      r.2.mem ((c.tc : Thread Cert.ProjFb.nD Cert.ProjFb.τ).loc Cert.ProjFb.main_arg0) = m ((c.tc : Thread Cert.ProjFb.nD Cert.ProjFb.τ).loc Cert.ProjFb.main_arg0)
      ∧ r.2.mem ((c.tc : Thread Cert.ProjFb.nD Cert.ProjFb.τ).loc Cert.ProjFb.main_arg1) = m ((c.tc : Thread Cert.ProjFb.nD Cert.ProjFb.τ).loc Cert.ProjFb.main_arg1))
      ∧ r.2.sem = fun _ => 0)

def quiescent_ProjFbIdeal [hProjFbIdeal : Cert.ProjFbIdeal.Facts] : Prop :=
  ∀ (m : (ℓ : Loc Cert.ProjFbIdeal.nD Cert.ProjFbIdeal.τ Cert.ProjFbIdeal.sig) → Buf (Elt Ideal) ℓ) (g : Dev Cert.ProjFbIdeal.nD → PrngReg), Pre_ProjFbIdeal m →
    θ_run (Cert.ProjFbIdeal.defs (F := Ideal)) (onTc (τ := Cert.ProjFbIdeal.τ) (Cert.ProjFbIdeal.main (F := Ideal))) ⟨m, fun _ => 0, g⟩ (fun r => (∀ c : Dev Cert.ProjFbIdeal.nD,
      r.2.mem ((c.tc : Thread Cert.ProjFbIdeal.nD Cert.ProjFbIdeal.τ).loc Cert.ProjFbIdeal.main_arg0) = m ((c.tc : Thread Cert.ProjFbIdeal.nD Cert.ProjFbIdeal.τ).loc Cert.ProjFbIdeal.main_arg0)
      ∧ r.2.mem ((c.tc : Thread Cert.ProjFbIdeal.nD Cert.ProjFbIdeal.τ).loc Cert.ProjFbIdeal.main_arg1) = m ((c.tc : Thread Cert.ProjFbIdeal.nD Cert.ProjFbIdeal.τ).loc Cert.ProjFbIdeal.main_arg1))
      ∧ r.2.sem = fun _ => 0)

def quiescent_ProjFbRefIdeal [hProjFbRefIdeal : Cert.ProjFbRefIdeal.Facts] : Prop :=
  ∀ (m : (ℓ : Loc Cert.ProjFbRefIdeal.nD Cert.ProjFbRefIdeal.τ Cert.ProjFbRefIdeal.sig) → Buf (Elt Ideal) ℓ) (g : Dev Cert.ProjFbRefIdeal.nD → PrngReg), Pre_ProjFbRefIdeal m →
    θ_run (Cert.ProjFbRefIdeal.defs (F := Ideal)) (onTc (τ := Cert.ProjFbRefIdeal.τ) (Cert.ProjFbRefIdeal.main (F := Ideal))) ⟨m, fun _ => 0, g⟩ (fun r => (∀ c : Dev Cert.ProjFbRefIdeal.nD,
      r.2.mem ((c.tc : Thread Cert.ProjFbRefIdeal.nD Cert.ProjFbRefIdeal.τ).loc Cert.ProjFbRefIdeal.main_arg0) = m ((c.tc : Thread Cert.ProjFbRefIdeal.nD Cert.ProjFbRefIdeal.τ).loc Cert.ProjFbRefIdeal.main_arg0)
      ∧ r.2.mem ((c.tc : Thread Cert.ProjFbRefIdeal.nD Cert.ProjFbRefIdeal.τ).loc Cert.ProjFbRefIdeal.main_arg1) = m ((c.tc : Thread Cert.ProjFbRefIdeal.nD Cert.ProjFbRefIdeal.τ).loc Cert.ProjFbRefIdeal.main_arg1))
      ∧ r.2.sem = fun _ => 0)

def quiescent_ProjMem [hProjMem : Cert.ProjMem.Facts] : Prop :=
  ∀ (m : (ℓ : Loc Cert.ProjMem.nD Cert.ProjMem.τ Cert.ProjMem.sig) → Buf (Elt Bits) ℓ) (g : Dev Cert.ProjMem.nD → PrngReg), Pre_ProjMem m →
    θ_run (Cert.ProjMem.defs (F := Bits)) (onTc (τ := Cert.ProjMem.τ) (Cert.ProjMem.main (F := Bits))) ⟨m, fun _ => 0, g⟩ (fun r => (∀ c : Dev Cert.ProjMem.nD,
      r.2.mem ((c.tc : Thread Cert.ProjMem.nD Cert.ProjMem.τ).loc Cert.ProjMem.main_arg0) = m ((c.tc : Thread Cert.ProjMem.nD Cert.ProjMem.τ).loc Cert.ProjMem.main_arg0)
      ∧ r.2.mem ((c.tc : Thread Cert.ProjMem.nD Cert.ProjMem.τ).loc Cert.ProjMem.main_arg1) = m ((c.tc : Thread Cert.ProjMem.nD Cert.ProjMem.τ).loc Cert.ProjMem.main_arg1))
      ∧ r.2.sem = fun _ => 0)

def quiescent_ProjMemIdeal [hProjMemIdeal : Cert.ProjMemIdeal.Facts] : Prop :=
  ∀ (m : (ℓ : Loc Cert.ProjMemIdeal.nD Cert.ProjMemIdeal.τ Cert.ProjMemIdeal.sig) → Buf (Elt Ideal) ℓ) (g : Dev Cert.ProjMemIdeal.nD → PrngReg), Pre_ProjMemIdeal m →
    θ_run (Cert.ProjMemIdeal.defs (F := Ideal)) (onTc (τ := Cert.ProjMemIdeal.τ) (Cert.ProjMemIdeal.main (F := Ideal))) ⟨m, fun _ => 0, g⟩ (fun r => (∀ c : Dev Cert.ProjMemIdeal.nD,
      r.2.mem ((c.tc : Thread Cert.ProjMemIdeal.nD Cert.ProjMemIdeal.τ).loc Cert.ProjMemIdeal.main_arg0) = m ((c.tc : Thread Cert.ProjMemIdeal.nD Cert.ProjMemIdeal.τ).loc Cert.ProjMemIdeal.main_arg0)
      ∧ r.2.mem ((c.tc : Thread Cert.ProjMemIdeal.nD Cert.ProjMemIdeal.τ).loc Cert.ProjMemIdeal.main_arg1) = m ((c.tc : Thread Cert.ProjMemIdeal.nD Cert.ProjMemIdeal.τ).loc Cert.ProjMemIdeal.main_arg1))
      ∧ r.2.sem = fun _ => 0)

def quiescent_ProjMemRefIdeal [hProjMemRefIdeal : Cert.ProjMemRefIdeal.Facts] : Prop :=
  ∀ (m : (ℓ : Loc Cert.ProjMemRefIdeal.nD Cert.ProjMemRefIdeal.τ Cert.ProjMemRefIdeal.sig) → Buf (Elt Ideal) ℓ) (g : Dev Cert.ProjMemRefIdeal.nD → PrngReg), Pre_ProjMemRefIdeal m →
    θ_run (Cert.ProjMemRefIdeal.defs (F := Ideal)) (onTc (τ := Cert.ProjMemRefIdeal.τ) (Cert.ProjMemRefIdeal.main (F := Ideal))) ⟨m, fun _ => 0, g⟩ (fun r => (∀ c : Dev Cert.ProjMemRefIdeal.nD,
      r.2.mem ((c.tc : Thread Cert.ProjMemRefIdeal.nD Cert.ProjMemRefIdeal.τ).loc Cert.ProjMemRefIdeal.main_arg0) = m ((c.tc : Thread Cert.ProjMemRefIdeal.nD Cert.ProjMemRefIdeal.τ).loc Cert.ProjMemRefIdeal.main_arg0)
      ∧ r.2.mem ((c.tc : Thread Cert.ProjMemRefIdeal.nD Cert.ProjMemRefIdeal.τ).loc Cert.ProjMemRefIdeal.main_arg1) = m ((c.tc : Thread Cert.ProjMemRefIdeal.nD Cert.ProjMemRefIdeal.τ).loc Cert.ProjMemRefIdeal.main_arg1))
      ∧ r.2.sem = fun _ => 0)

def quiescent_ProjBranch [hProjBranch : Cert.ProjBranch.Facts] : Prop :=
  ∀ (m : (ℓ : Loc Cert.ProjBranch.nD Cert.ProjBranch.τ Cert.ProjBranch.sig) → Buf (Elt Bits) ℓ) (g : Dev Cert.ProjBranch.nD → PrngReg), Pre_ProjBranch m →
    θ_run (Cert.ProjBranch.defs (F := Bits)) (onTc (τ := Cert.ProjBranch.τ) (Cert.ProjBranch.main (F := Bits))) ⟨m, fun _ => 0, g⟩ (fun r => (∀ c : Dev Cert.ProjBranch.nD,
      r.2.mem ((c.tc : Thread Cert.ProjBranch.nD Cert.ProjBranch.τ).loc Cert.ProjBranch.main_arg0) = m ((c.tc : Thread Cert.ProjBranch.nD Cert.ProjBranch.τ).loc Cert.ProjBranch.main_arg0)
      ∧ r.2.mem ((c.tc : Thread Cert.ProjBranch.nD Cert.ProjBranch.τ).loc Cert.ProjBranch.main_arg1) = m ((c.tc : Thread Cert.ProjBranch.nD Cert.ProjBranch.τ).loc Cert.ProjBranch.main_arg1))
      ∧ r.2.sem = fun _ => 0)

def quiescent_ProjBranchIdeal [hProjBranchIdeal : Cert.ProjBranchIdeal.Facts] : Prop :=
  ∀ (m : (ℓ : Loc Cert.ProjBranchIdeal.nD Cert.ProjBranchIdeal.τ Cert.ProjBranchIdeal.sig) → Buf (Elt Ideal) ℓ) (g : Dev Cert.ProjBranchIdeal.nD → PrngReg), Pre_ProjBranchIdeal m →
    θ_run (Cert.ProjBranchIdeal.defs (F := Ideal)) (onTc (τ := Cert.ProjBranchIdeal.τ) (Cert.ProjBranchIdeal.main (F := Ideal))) ⟨m, fun _ => 0, g⟩ (fun r => (∀ c : Dev Cert.ProjBranchIdeal.nD,
      r.2.mem ((c.tc : Thread Cert.ProjBranchIdeal.nD Cert.ProjBranchIdeal.τ).loc Cert.ProjBranchIdeal.main_arg0) = m ((c.tc : Thread Cert.ProjBranchIdeal.nD Cert.ProjBranchIdeal.τ).loc Cert.ProjBranchIdeal.main_arg0)
      ∧ r.2.mem ((c.tc : Thread Cert.ProjBranchIdeal.nD Cert.ProjBranchIdeal.τ).loc Cert.ProjBranchIdeal.main_arg1) = m ((c.tc : Thread Cert.ProjBranchIdeal.nD Cert.ProjBranchIdeal.τ).loc Cert.ProjBranchIdeal.main_arg1))
      ∧ r.2.sem = fun _ => 0)

def quiescent_ProjBranchRefIdeal [hProjBranchRefIdeal : Cert.ProjBranchRefIdeal.Facts] : Prop :=
  ∀ (m : (ℓ : Loc Cert.ProjBranchRefIdeal.nD Cert.ProjBranchRefIdeal.τ Cert.ProjBranchRefIdeal.sig) → Buf (Elt Ideal) ℓ) (g : Dev Cert.ProjBranchRefIdeal.nD → PrngReg), Pre_ProjBranchRefIdeal m →
    θ_run (Cert.ProjBranchRefIdeal.defs (F := Ideal)) (onTc (τ := Cert.ProjBranchRefIdeal.τ) (Cert.ProjBranchRefIdeal.main (F := Ideal))) ⟨m, fun _ => 0, g⟩ (fun r => (∀ c : Dev Cert.ProjBranchRefIdeal.nD,
      r.2.mem ((c.tc : Thread Cert.ProjBranchRefIdeal.nD Cert.ProjBranchRefIdeal.τ).loc Cert.ProjBranchRefIdeal.main_arg0) = m ((c.tc : Thread Cert.ProjBranchRefIdeal.nD Cert.ProjBranchRefIdeal.τ).loc Cert.ProjBranchRefIdeal.main_arg0)
      ∧ r.2.mem ((c.tc : Thread Cert.ProjBranchRefIdeal.nD Cert.ProjBranchRefIdeal.τ).loc Cert.ProjBranchRefIdeal.main_arg1) = m ((c.tc : Thread Cert.ProjBranchRefIdeal.nD Cert.ProjBranchRefIdeal.τ).loc Cert.ProjBranchRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1))
      ∧ r.2.sem = fun _ => 0)

def quiescent_BackMerged [hBackMerged : Cert.BackMerged.Facts] : Prop :=
  ∀ (m : (ℓ : Loc Cert.BackMerged.nD Cert.BackMerged.τ Cert.BackMerged.sig) → Buf (Elt Bits) ℓ) (g : Dev Cert.BackMerged.nD → PrngReg), Pre_BackMerged m →
    θ_run (Cert.BackMerged.defs (F := Bits)) (onTc (τ := Cert.BackMerged.τ) (Cert.BackMerged.main (F := Bits))) ⟨m, fun _ => 0, g⟩ (fun r => (∀ c : Dev Cert.BackMerged.nD,
      r.2.mem ((c.tc : Thread Cert.BackMerged.nD Cert.BackMerged.τ).loc Cert.BackMerged.main_arg0) = m ((c.tc : Thread Cert.BackMerged.nD Cert.BackMerged.τ).loc Cert.BackMerged.main_arg0)
      ∧ r.2.mem ((c.tc : Thread Cert.BackMerged.nD Cert.BackMerged.τ).loc Cert.BackMerged.main_arg1) = m ((c.tc : Thread Cert.BackMerged.nD Cert.BackMerged.τ).loc Cert.BackMerged.main_arg1))
      ∧ r.2.sem = fun _ => 0)

def quiescent_BackMergedIdeal [hBackMergedIdeal : Cert.BackMergedIdeal.Facts] : Prop :=
  ∀ (m : (ℓ : Loc Cert.BackMergedIdeal.nD Cert.BackMergedIdeal.τ Cert.BackMergedIdeal.sig) → Buf (Elt Ideal) ℓ) (g : Dev Cert.BackMergedIdeal.nD → PrngReg), Pre_BackMergedIdeal m →
    θ_run (Cert.BackMergedIdeal.defs (F := Ideal)) (onTc (τ := Cert.BackMergedIdeal.τ) (Cert.BackMergedIdeal.main (F := Ideal))) ⟨m, fun _ => 0, g⟩ (fun r => (∀ c : Dev Cert.BackMergedIdeal.nD,
      r.2.mem ((c.tc : Thread Cert.BackMergedIdeal.nD Cert.BackMergedIdeal.τ).loc Cert.BackMergedIdeal.main_arg0) = m ((c.tc : Thread Cert.BackMergedIdeal.nD Cert.BackMergedIdeal.τ).loc Cert.BackMergedIdeal.main_arg0)
      ∧ r.2.mem ((c.tc : Thread Cert.BackMergedIdeal.nD Cert.BackMergedIdeal.τ).loc Cert.BackMergedIdeal.main_arg1) = m ((c.tc : Thread Cert.BackMergedIdeal.nD Cert.BackMergedIdeal.τ).loc Cert.BackMergedIdeal.main_arg1))
      ∧ r.2.sem = fun _ => 0)

def quiescent_BackMergedRefIdeal [hBackMergedRefIdeal : Cert.BackMergedRefIdeal.Facts] : Prop :=
  ∀ (m : (ℓ : Loc Cert.BackMergedRefIdeal.nD Cert.BackMergedRefIdeal.τ Cert.BackMergedRefIdeal.sig) → Buf (Elt Ideal) ℓ) (g : Dev Cert.BackMergedRefIdeal.nD → PrngReg), Pre_BackMergedRefIdeal m →
    θ_run (Cert.BackMergedRefIdeal.defs (F := Ideal)) (onTc (τ := Cert.BackMergedRefIdeal.τ) (Cert.BackMergedRefIdeal.main (F := Ideal))) ⟨m, fun _ => 0, g⟩ (fun r => (∀ c : Dev Cert.BackMergedRefIdeal.nD,
      r.2.mem ((c.tc : Thread Cert.BackMergedRefIdeal.nD Cert.BackMergedRefIdeal.τ).loc Cert.BackMergedRefIdeal.main_arg0) = m ((c.tc : Thread Cert.BackMergedRefIdeal.nD Cert.BackMergedRefIdeal.τ).loc Cert.BackMergedRefIdeal.main_arg0)
      ∧ r.2.mem ((c.tc : Thread Cert.BackMergedRefIdeal.nD Cert.BackMergedRefIdeal.τ).loc Cert.BackMergedRefIdeal.main_arg1) = m ((c.tc : Thread Cert.BackMergedRefIdeal.nD Cert.BackMergedRefIdeal.τ).loc Cert.BackMergedRefIdeal.main_arg1))
      ∧ r.2.sem = fun _ => 0)

def quiescent_BackBranch [hBackBranch : Cert.BackBranch.Facts] : Prop :=
  ∀ (m : (ℓ : Loc Cert.BackBranch.nD Cert.BackBranch.τ Cert.BackBranch.sig) → Buf (Elt Bits) ℓ) (g : Dev Cert.BackBranch.nD → PrngReg), Pre_BackBranch m →
    θ_run (Cert.BackBranch.defs (F := Bits)) (onTc (τ := Cert.BackBranch.τ) (Cert.BackBranch.main (F := Bits))) ⟨m, fun _ => 0, g⟩ (fun r => (∀ c : Dev Cert.BackBranch.nD,
      r.2.mem ((c.tc : Thread Cert.BackBranch.nD Cert.BackBranch.τ).loc Cert.BackBranch.main_arg0) = m ((c.tc : Thread Cert.BackBranch.nD Cert.BackBranch.τ).loc Cert.BackBranch.main_arg0)
      ∧ r.2.mem ((c.tc : Thread Cert.BackBranch.nD Cert.BackBranch.τ).loc Cert.BackBranch.main_arg1) = m ((c.tc : Thread Cert.BackBranch.nD Cert.BackBranch.τ).loc Cert.BackBranch.main_arg1))
      ∧ r.2.sem = fun _ => 0)

def quiescent_BackBranchIdeal [hBackBranchIdeal : Cert.BackBranchIdeal.Facts] : Prop :=
  ∀ (m : (ℓ : Loc Cert.BackBranchIdeal.nD Cert.BackBranchIdeal.τ Cert.BackBranchIdeal.sig) → Buf (Elt Ideal) ℓ) (g : Dev Cert.BackBranchIdeal.nD → PrngReg), Pre_BackBranchIdeal m →
    θ_run (Cert.BackBranchIdeal.defs (F := Ideal)) (onTc (τ := Cert.BackBranchIdeal.τ) (Cert.BackBranchIdeal.main (F := Ideal))) ⟨m, fun _ => 0, g⟩ (fun r => (∀ c : Dev Cert.BackBranchIdeal.nD,
      r.2.mem ((c.tc : Thread Cert.BackBranchIdeal.nD Cert.BackBranchIdeal.τ).loc Cert.BackBranchIdeal.main_arg0) = m ((c.tc : Thread Cert.BackBranchIdeal.nD Cert.BackBranchIdeal.τ).loc Cert.BackBranchIdeal.main_arg0)
      ∧ r.2.mem ((c.tc : Thread Cert.BackBranchIdeal.nD Cert.BackBranchIdeal.τ).loc Cert.BackBranchIdeal.main_arg1) = m ((c.tc : Thread Cert.BackBranchIdeal.nD Cert.BackBranchIdeal.τ).loc Cert.BackBranchIdeal.main_arg1))
      ∧ r.2.sem = fun _ => 0)

def quiescent_BackBranchRefIdeal [hBackBranchRefIdeal : Cert.BackBranchRefIdeal.Facts] : Prop :=
  ∀ (m : (ℓ : Loc Cert.BackBranchRefIdeal.nD Cert.BackBranchRefIdeal.τ Cert.BackBranchRefIdeal.sig) → Buf (Elt Ideal) ℓ) (g : Dev Cert.BackBranchRefIdeal.nD → PrngReg), Pre_BackBranchRefIdeal m →
    θ_run (Cert.BackBranchRefIdeal.defs (F := Ideal)) (onTc (τ := Cert.BackBranchRefIdeal.τ) (Cert.BackBranchRefIdeal.main (F := Ideal))) ⟨m, fun _ => 0, g⟩ (fun r => (∀ c : Dev Cert.BackBranchRefIdeal.nD,
      r.2.mem ((c.tc : Thread Cert.BackBranchRefIdeal.nD Cert.BackBranchRefIdeal.τ).loc Cert.BackBranchRefIdeal.main_arg0) = m ((c.tc : Thread Cert.BackBranchRefIdeal.nD Cert.BackBranchRefIdeal.τ).loc Cert.BackBranchRefIdeal.main_arg0)
      ∧ r.2.mem ((c.tc : Thread Cert.BackBranchRefIdeal.nD Cert.BackBranchRefIdeal.τ).loc Cert.BackBranchRefIdeal.main_arg1) = m ((c.tc : Thread Cert.BackBranchRefIdeal.nD Cert.BackBranchRefIdeal.τ).loc Cert.BackBranchRefIdeal.main_arg1))
      ∧ r.2.sem = fun _ => 0)

def quiescent_BackMem [hBackMem : Cert.BackMem.Facts] : Prop :=
  ∀ (m : (ℓ : Loc Cert.BackMem.nD Cert.BackMem.τ Cert.BackMem.sig) → Buf (Elt Bits) ℓ) (g : Dev Cert.BackMem.nD → PrngReg), Pre_BackMem m →
    θ_run (Cert.BackMem.defs (F := Bits)) (onTc (τ := Cert.BackMem.τ) (Cert.BackMem.main (F := Bits))) ⟨m, fun _ => 0, g⟩ (fun r => (∀ c : Dev Cert.BackMem.nD,
      r.2.mem ((c.tc : Thread Cert.BackMem.nD Cert.BackMem.τ).loc Cert.BackMem.main_arg0) = m ((c.tc : Thread Cert.BackMem.nD Cert.BackMem.τ).loc Cert.BackMem.main_arg0)
      ∧ r.2.mem ((c.tc : Thread Cert.BackMem.nD Cert.BackMem.τ).loc Cert.BackMem.main_arg1) = m ((c.tc : Thread Cert.BackMem.nD Cert.BackMem.τ).loc Cert.BackMem.main_arg1))
      ∧ r.2.sem = fun _ => 0)

def quiescent_BackMemIdeal [hBackMemIdeal : Cert.BackMemIdeal.Facts] : Prop :=
  ∀ (m : (ℓ : Loc Cert.BackMemIdeal.nD Cert.BackMemIdeal.τ Cert.BackMemIdeal.sig) → Buf (Elt Ideal) ℓ) (g : Dev Cert.BackMemIdeal.nD → PrngReg), Pre_BackMemIdeal m →
    θ_run (Cert.BackMemIdeal.defs (F := Ideal)) (onTc (τ := Cert.BackMemIdeal.τ) (Cert.BackMemIdeal.main (F := Ideal))) ⟨m, fun _ => 0, g⟩ (fun r => (∀ c : Dev Cert.BackMemIdeal.nD,
      r.2.mem ((c.tc : Thread Cert.BackMemIdeal.nD Cert.BackMemIdeal.τ).loc Cert.BackMemIdeal.main_arg0) = m ((c.tc : Thread Cert.BackMemIdeal.nD Cert.BackMemIdeal.τ).loc Cert.BackMemIdeal.main_arg0)
      ∧ r.2.mem ((c.tc : Thread Cert.BackMemIdeal.nD Cert.BackMemIdeal.τ).loc Cert.BackMemIdeal.main_arg1) = m ((c.tc : Thread Cert.BackMemIdeal.nD Cert.BackMemIdeal.τ).loc Cert.BackMemIdeal.main_arg1))
      ∧ r.2.sem = fun _ => 0)

def quiescent_BackMemRefIdeal [hBackMemRefIdeal : Cert.BackMemRefIdeal.Facts] : Prop :=
  ∀ (m : (ℓ : Loc Cert.BackMemRefIdeal.nD Cert.BackMemRefIdeal.τ Cert.BackMemRefIdeal.sig) → Buf (Elt Ideal) ℓ) (g : Dev Cert.BackMemRefIdeal.nD → PrngReg), Pre_BackMemRefIdeal m →
    θ_run (Cert.BackMemRefIdeal.defs (F := Ideal)) (onTc (τ := Cert.BackMemRefIdeal.τ) (Cert.BackMemRefIdeal.main (F := Ideal))) ⟨m, fun _ => 0, g⟩ (fun r => (∀ c : Dev Cert.BackMemRefIdeal.nD,
      r.2.mem ((c.tc : Thread Cert.BackMemRefIdeal.nD Cert.BackMemRefIdeal.τ).loc Cert.BackMemRefIdeal.main_arg0) = m ((c.tc : Thread Cert.BackMemRefIdeal.nD Cert.BackMemRefIdeal.τ).loc Cert.BackMemRefIdeal.main_arg0)
      ∧ r.2.mem ((c.tc : Thread Cert.BackMemRefIdeal.nD Cert.BackMemRefIdeal.τ).loc Cert.BackMemRefIdeal.main_arg1) = m ((c.tc : Thread Cert.BackMemRefIdeal.nD Cert.BackMemRefIdeal.τ).loc Cert.BackMemRefIdeal.main_arg1))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ r.2.sem = fun _ => 0)

def quiescent_BackInRefIdeal [hBackInRefIdeal : Cert.BackInRefIdeal.Facts] : Prop :=
  ∀ (m : (ℓ : Loc Cert.BackInRefIdeal.nD Cert.BackInRefIdeal.τ Cert.BackInRefIdeal.sig) → Buf (Elt Ideal) ℓ) (g : Dev Cert.BackInRefIdeal.nD → PrngReg), Pre_BackInRefIdeal m →
    θ_run (Cert.BackInRefIdeal.defs (F := Ideal)) (onTc (τ := Cert.BackInRefIdeal.τ) (Cert.BackInRefIdeal.main (F := Ideal))) ⟨m, fun _ => 0, g⟩ (fun r => (∀ c : Dev Cert.BackInRefIdeal.nD,
      r.2.mem ((c.tc : Thread Cert.BackInRefIdeal.nD Cert.BackInRefIdeal.τ).loc Cert.BackInRefIdeal.main_arg0) = m ((c.tc : Thread Cert.BackInRefIdeal.nD Cert.BackInRefIdeal.τ).loc Cert.BackInRefIdeal.main_arg0)
      ∧ r.2.mem ((c.tc : Thread Cert.BackInRefIdeal.nD Cert.BackInRefIdeal.τ).loc Cert.BackInRefIdeal.main_arg1) = m ((c.tc : Thread Cert.BackInRefIdeal.nD Cert.BackInRefIdeal.τ).loc Cert.BackInRefIdeal.main_arg1))
      ∧ r.2.sem = fun _ => 0)

def quiescent_BackFb [hBackFb : Cert.BackFb.Facts] : Prop :=
  ∀ (m : (ℓ : Loc Cert.BackFb.nD Cert.BackFb.τ Cert.BackFb.sig) → Buf (Elt Bits) ℓ) (g : Dev Cert.BackFb.nD → PrngReg), Pre_BackFb m →
    θ_run (Cert.BackFb.defs (F := Bits)) (onTc (τ := Cert.BackFb.τ) (Cert.BackFb.main (F := Bits))) ⟨m, fun _ => 0, g⟩ (fun r => (∀ c : Dev Cert.BackFb.nD,
      r.2.mem ((c.tc : Thread Cert.BackFb.nD Cert.BackFb.τ).loc Cert.BackFb.main_arg0) = m ((c.tc : Thread Cert.BackFb.nD Cert.BackFb.τ).loc Cert.BackFb.main_arg0)
      ∧ r.2.mem ((c.tc : Thread Cert.BackFb.nD Cert.BackFb.τ).loc Cert.BackFb.main_arg1) = m ((c.tc : Thread Cert.BackFb.nD Cert.BackFb.τ).loc Cert.BackFb.main_arg1))
      ∧ r.2.sem = fun _ => 0)

def quiescent_BackFbIdeal [hBackFbIdeal : Cert.BackFbIdeal.Facts] : Prop :=
  ∀ (m : (ℓ : Loc Cert.BackFbIdeal.nD Cert.BackFbIdeal.τ Cert.BackFbIdeal.sig) → Buf (Elt Ideal) ℓ) (g : Dev Cert.BackFbIdeal.nD → PrngReg), Pre_BackFbIdeal m →
    θ_run (Cert.BackFbIdeal.defs (F := Ideal)) (onTc (τ := Cert.BackFbIdeal.τ) (Cert.BackFbIdeal.main (F := Ideal))) ⟨m, fun _ => 0, g⟩ (fun r => (∀ c : Dev Cert.BackFbIdeal.nD,
      r.2.mem ((c.tc : Thread Cert.BackFbIdeal.nD Cert.BackFbIdeal.τ).loc Cert.BackFbIdeal.main_arg0) = m ((c.tc : Thread Cert.BackFbIdeal.nD Cert.BackFbIdeal.τ).loc Cert.BackFbIdeal.main_arg0)
      ∧ r.2.mem ((c.tc : Thread Cert.BackFbIdeal.nD Cert.BackFbIdeal.τ).loc Cert.BackFbIdeal.main_arg1) = m ((c.tc : Thread Cert.BackFbIdeal.nD Cert.BackFbIdeal.τ).loc Cert.BackFbIdeal.main_arg1))
      ∧ r.2.sem = fun _ => 0)

def quiescent_BackFbRefIdeal [hBackFbRefIdeal : Cert.BackFbRefIdeal.Facts] : Prop :=
  ∀ (m : (ℓ : Loc Cert.BackFbRefIdeal.nD Cert.BackFbRefIdeal.τ Cert.BackFbRefIdeal.sig) → Buf (Elt Ideal) ℓ) (g : Dev Cert.BackFbRefIdeal.nD → PrngReg), Pre_BackFbRefIdeal m →
    θ_run (Cert.BackFbRefIdeal.defs (F := Ideal)) (onTc (τ := Cert.BackFbRefIdeal.τ) (Cert.BackFbRefIdeal.main (F := Ideal))) ⟨m, fun _ => 0, g⟩ (fun r => (∀ c : Dev Cert.BackFbRefIdeal.nD,
      r.2.mem ((c.tc : Thread Cert.BackFbRefIdeal.nD Cert.BackFbRefIdeal.τ).loc Cert.BackFbRefIdeal.main_arg0) = m ((c.tc : Thread Cert.BackFbRefIdeal.nD Cert.BackFbRefIdeal.τ).loc Cert.BackFbRefIdeal.main_arg0)
      ∧ r.2.mem ((c.tc : Thread Cert.BackFbRefIdeal.nD Cert.BackFbRefIdeal.τ).loc Cert.BackFbRefIdeal.main_arg1) = m ((c.tc : Thread Cert.BackFbRefIdeal.nD Cert.BackFbRefIdeal.τ).loc Cert.BackFbRefIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1))
      ∧ r.2.sem = fun _ => 0)

def quiescent_GateM [hGateM : Cert.GateM.Facts] : Prop :=
  ∀ (m : (ℓ : Loc Cert.GateM.nD Cert.GateM.τ Cert.GateM.sig) → Buf (Elt Bits) ℓ) (g : Dev Cert.GateM.nD → PrngReg), Pre_GateM m →
    θ_run (Cert.GateM.defs (F := Bits)) (onTc (τ := Cert.GateM.τ) (Cert.GateM.main (F := Bits))) ⟨m, fun _ => 0, g⟩ (fun r => (∀ c : Dev Cert.GateM.nD,
      r.2.mem ((c.tc : Thread Cert.GateM.nD Cert.GateM.τ).loc Cert.GateM.main_arg0) = m ((c.tc : Thread Cert.GateM.nD Cert.GateM.τ).loc Cert.GateM.main_arg0)
      ∧ r.2.mem ((c.tc : Thread Cert.GateM.nD Cert.GateM.τ).loc Cert.GateM.main_arg1) = m ((c.tc : Thread Cert.GateM.nD Cert.GateM.τ).loc Cert.GateM.main_arg1))
      ∧ r.2.sem = fun _ => 0)

def quiescent_GateMIdeal [hGateMIdeal : Cert.GateMIdeal.Facts] : Prop :=
  ∀ (m : (ℓ : Loc Cert.GateMIdeal.nD Cert.GateMIdeal.τ Cert.GateMIdeal.sig) → Buf (Elt Ideal) ℓ) (g : Dev Cert.GateMIdeal.nD → PrngReg), Pre_GateMIdeal m →
    θ_run (Cert.GateMIdeal.defs (F := Ideal)) (onTc (τ := Cert.GateMIdeal.τ) (Cert.GateMIdeal.main (F := Ideal))) ⟨m, fun _ => 0, g⟩ (fun r => (∀ c : Dev Cert.GateMIdeal.nD,
      r.2.mem ((c.tc : Thread Cert.GateMIdeal.nD Cert.GateMIdeal.τ).loc Cert.GateMIdeal.main_arg0) = m ((c.tc : Thread Cert.GateMIdeal.nD Cert.GateMIdeal.τ).loc Cert.GateMIdeal.main_arg0)
      ∧ r.2.mem ((c.tc : Thread Cert.GateMIdeal.nD Cert.GateMIdeal.τ).loc Cert.GateMIdeal.main_arg1) = m ((c.tc : Thread Cert.GateMIdeal.nD Cert.GateMIdeal.τ).loc Cert.GateMIdeal.main_arg1))
      ∧ r.2.sem = fun _ => 0)

def quiescent_GateMRefIdeal [hGateMRefIdeal : Cert.GateMRefIdeal.Facts] : Prop :=
  ∀ (m : (ℓ : Loc Cert.GateMRefIdeal.nD Cert.GateMRefIdeal.τ Cert.GateMRefIdeal.sig) → Buf (Elt Ideal) ℓ) (g : Dev Cert.GateMRefIdeal.nD → PrngReg), Pre_GateMRefIdeal m →
    θ_run (Cert.GateMRefIdeal.defs (F := Ideal)) (onTc (τ := Cert.GateMRefIdeal.τ) (Cert.GateMRefIdeal.main (F := Ideal))) ⟨m, fun _ => 0, g⟩ (fun r => (∀ c : Dev Cert.GateMRefIdeal.nD,
      r.2.mem ((c.tc : Thread Cert.GateMRefIdeal.nD Cert.GateMRefIdeal.τ).loc Cert.GateMRefIdeal.main_arg0) = m ((c.tc : Thread Cert.GateMRefIdeal.nD Cert.GateMRefIdeal.τ).loc Cert.GateMRefIdeal.main_arg0)
      ∧ r.2.mem ((c.tc : Thread Cert.GateMRefIdeal.nD Cert.GateMRefIdeal.τ).loc Cert.GateMRefIdeal.main_arg1) = m ((c.tc : Thread Cert.GateMRefIdeal.nD Cert.GateMRefIdeal.τ).loc Cert.GateMRefIdeal.main_arg1))
      ∧ r.2.sem = fun _ => 0)

def quiescent_GateBwdB [hGateBwdB : Cert.GateBwdB.Facts] : Prop :=
  ∀ (m : (ℓ : Loc Cert.GateBwdB.nD Cert.GateBwdB.τ Cert.GateBwdB.sig) → Buf (Elt Bits) ℓ) (g : Dev Cert.GateBwdB.nD → PrngReg), Pre_GateBwdB m →
    θ_run (Cert.GateBwdB.defs (F := Bits)) (onTc (τ := Cert.GateBwdB.τ) (Cert.GateBwdB.main (F := Bits))) ⟨m, fun _ => 0, g⟩ (fun r => (∀ c : Dev Cert.GateBwdB.nD,
      r.2.mem ((c.tc : Thread Cert.GateBwdB.nD Cert.GateBwdB.τ).loc Cert.GateBwdB.main_arg0) = m ((c.tc : Thread Cert.GateBwdB.nD Cert.GateBwdB.τ).loc Cert.GateBwdB.main_arg0)
      ∧ r.2.mem ((c.tc : Thread Cert.GateBwdB.nD Cert.GateBwdB.τ).loc Cert.GateBwdB.main_arg1) = m ((c.tc : Thread Cert.GateBwdB.nD Cert.GateBwdB.τ).loc Cert.GateBwdB.main_arg1)
      ∧ r.2.mem ((c.tc : Thread Cert.GateBwdB.nD Cert.GateBwdB.τ).loc Cert.GateBwdB.main_arg2) = m ((c.tc : Thread Cert.GateBwdB.nD Cert.GateBwdB.τ).loc Cert.GateBwdB.main_arg2))
      ∧ r.2.sem = fun _ => 0)

def quiescent_GateBwdBIdeal [hGateBwdBIdeal : Cert.GateBwdBIdeal.Facts] : Prop :=
  ∀ (m : (ℓ : Loc Cert.GateBwdBIdeal.nD Cert.GateBwdBIdeal.τ Cert.GateBwdBIdeal.sig) → Buf (Elt Ideal) ℓ) (g : Dev Cert.GateBwdBIdeal.nD → PrngReg), Pre_GateBwdBIdeal m →
    θ_run (Cert.GateBwdBIdeal.defs (F := Ideal)) (onTc (τ := Cert.GateBwdBIdeal.τ) (Cert.GateBwdBIdeal.main (F := Ideal))) ⟨m, fun _ => 0, g⟩ (fun r => (∀ c : Dev Cert.GateBwdBIdeal.nD,
      r.2.mem ((c.tc : Thread Cert.GateBwdBIdeal.nD Cert.GateBwdBIdeal.τ).loc Cert.GateBwdBIdeal.main_arg0) = m ((c.tc : Thread Cert.GateBwdBIdeal.nD Cert.GateBwdBIdeal.τ).loc Cert.GateBwdBIdeal.main_arg0)
      ∧ r.2.mem ((c.tc : Thread Cert.GateBwdBIdeal.nD Cert.GateBwdBIdeal.τ).loc Cert.GateBwdBIdeal.main_arg1) = m ((c.tc : Thread Cert.GateBwdBIdeal.nD Cert.GateBwdBIdeal.τ).loc Cert.GateBwdBIdeal.main_arg1)
      ∧ r.2.mem ((c.tc : Thread Cert.GateBwdBIdeal.nD Cert.GateBwdBIdeal.τ).loc Cert.GateBwdBIdeal.main_arg2) = m ((c.tc : Thread Cert.GateBwdBIdeal.nD Cert.GateBwdBIdeal.τ).loc Cert.GateBwdBIdeal.main_arg2))
      ∧ r.2.sem = fun _ => 0)

def quiescent_GateBwdBRefIdeal [hGateBwdBRefIdeal : Cert.GateBwdBRefIdeal.Facts] : Prop :=
  ∀ (m : (ℓ : Loc Cert.GateBwdBRefIdeal.nD Cert.GateBwdBRefIdeal.τ Cert.GateBwdBRefIdeal.sig) → Buf (Elt Ideal) ℓ) (g : Dev Cert.GateBwdBRefIdeal.nD → PrngReg), Pre_GateBwdBRefIdeal m →
    θ_run (Cert.GateBwdBRefIdeal.defs (F := Ideal)) (onTc (τ := Cert.GateBwdBRefIdeal.τ) (Cert.GateBwdBRefIdeal.main (F := Ideal))) ⟨m, fun _ => 0, g⟩ (fun r => (∀ c : Dev Cert.GateBwdBRefIdeal.nD,
      r.2.mem ((c.tc : Thread Cert.GateBwdBRefIdeal.nD Cert.GateBwdBRefIdeal.τ).loc Cert.GateBwdBRefIdeal.main_arg0) = m ((c.tc : Thread Cert.GateBwdBRefIdeal.nD Cert.GateBwdBRefIdeal.τ).loc Cert.GateBwdBRefIdeal.main_arg0)
      ∧ r.2.mem ((c.tc : Thread Cert.GateBwdBRefIdeal.nD Cert.GateBwdBRefIdeal.τ).loc Cert.GateBwdBRefIdeal.main_arg1) = m ((c.tc : Thread Cert.GateBwdBRefIdeal.nD Cert.GateBwdBRefIdeal.τ).loc Cert.GateBwdBRefIdeal.main_arg1)
      ∧ r.2.mem ((c.tc : Thread Cert.GateBwdBRefIdeal.nD Cert.GateBwdBRefIdeal.τ).loc Cert.GateBwdBRefIdeal.main_arg2) = m ((c.tc : Thread Cert.GateBwdBRefIdeal.nD Cert.GateBwdBRefIdeal.τ).loc Cert.GateBwdBRefIdeal.main_arg2))
      ∧ r.2.sem = fun _ => 0)

def quiescent_GateBwdM [hGateBwdM : Cert.GateBwdM.Facts] : Prop :=
  ∀ (m : (ℓ : Loc Cert.GateBwdM.nD Cert.GateBwdM.τ Cert.GateBwdM.sig) → Buf (Elt Bits) ℓ) (g : Dev Cert.GateBwdM.nD → PrngReg), Pre_GateBwdM m →
    θ_run (Cert.GateBwdM.defs (F := Bits)) (onTc (τ := Cert.GateBwdM.τ) (Cert.GateBwdM.main (F := Bits))) ⟨m, fun _ => 0, g⟩ (fun r => (∀ c : Dev Cert.GateBwdM.nD,
      r.2.mem ((c.tc : Thread Cert.GateBwdM.nD Cert.GateBwdM.τ).loc Cert.GateBwdM.main_arg0) = m ((c.tc : Thread Cert.GateBwdM.nD Cert.GateBwdM.τ).loc Cert.GateBwdM.main_arg0)
      ∧ r.2.mem ((c.tc : Thread Cert.GateBwdM.nD Cert.GateBwdM.τ).loc Cert.GateBwdM.main_arg1) = m ((c.tc : Thread Cert.GateBwdM.nD Cert.GateBwdM.τ).loc Cert.GateBwdM.main_arg1)
      ∧ r.2.mem ((c.tc : Thread Cert.GateBwdM.nD Cert.GateBwdM.τ).loc Cert.GateBwdM.main_arg2) = m ((c.tc : Thread Cert.GateBwdM.nD Cert.GateBwdM.τ).loc Cert.GateBwdM.main_arg2))
      ∧ r.2.sem = fun _ => 0)

def quiescent_GateBwdMIdeal [hGateBwdMIdeal : Cert.GateBwdMIdeal.Facts] : Prop :=
  ∀ (m : (ℓ : Loc Cert.GateBwdMIdeal.nD Cert.GateBwdMIdeal.τ Cert.GateBwdMIdeal.sig) → Buf (Elt Ideal) ℓ) (g : Dev Cert.GateBwdMIdeal.nD → PrngReg), Pre_GateBwdMIdeal m →
    θ_run (Cert.GateBwdMIdeal.defs (F := Ideal)) (onTc (τ := Cert.GateBwdMIdeal.τ) (Cert.GateBwdMIdeal.main (F := Ideal))) ⟨m, fun _ => 0, g⟩ (fun r => (∀ c : Dev Cert.GateBwdMIdeal.nD,
      r.2.mem ((c.tc : Thread Cert.GateBwdMIdeal.nD Cert.GateBwdMIdeal.τ).loc Cert.GateBwdMIdeal.main_arg0) = m ((c.tc : Thread Cert.GateBwdMIdeal.nD Cert.GateBwdMIdeal.τ).loc Cert.GateBwdMIdeal.main_arg0)
      ∧ r.2.mem ((c.tc : Thread Cert.GateBwdMIdeal.nD Cert.GateBwdMIdeal.τ).loc Cert.GateBwdMIdeal.main_arg1) = m ((c.tc : Thread Cert.GateBwdMIdeal.nD Cert.GateBwdMIdeal.τ).loc Cert.GateBwdMIdeal.main_arg1)
      ∧ r.2.mem ((c.tc : Thread Cert.GateBwdMIdeal.nD Cert.GateBwdMIdeal.τ).loc Cert.GateBwdMIdeal.main_arg2) = m ((c.tc : Thread Cert.GateBwdMIdeal.nD Cert.GateBwdMIdeal.τ).loc Cert.GateBwdMIdeal.main_arg2))
      ∧ r.2.sem = fun _ => 0)

def quiescent_GateBwdMRefIdeal [hGateBwdMRefIdeal : Cert.GateBwdMRefIdeal.Facts] : Prop :=
  ∀ (m : (ℓ : Loc Cert.GateBwdMRefIdeal.nD Cert.GateBwdMRefIdeal.τ Cert.GateBwdMRefIdeal.sig) → Buf (Elt Ideal) ℓ) (g : Dev Cert.GateBwdMRefIdeal.nD → PrngReg), Pre_GateBwdMRefIdeal m →
    θ_run (Cert.GateBwdMRefIdeal.defs (F := Ideal)) (onTc (τ := Cert.GateBwdMRefIdeal.τ) (Cert.GateBwdMRefIdeal.main (F := Ideal))) ⟨m, fun _ => 0, g⟩ (fun r => (∀ c : Dev Cert.GateBwdMRefIdeal.nD,
      r.2.mem ((c.tc : Thread Cert.GateBwdMRefIdeal.nD Cert.GateBwdMRefIdeal.τ).loc Cert.GateBwdMRefIdeal.main_arg0) = m ((c.tc : Thread Cert.GateBwdMRefIdeal.nD Cert.GateBwdMRefIdeal.τ).loc Cert.GateBwdMRefIdeal.main_arg0)
      ∧ r.2.mem ((c.tc : Thread Cert.GateBwdMRefIdeal.nD Cert.GateBwdMRefIdeal.τ).loc Cert.GateBwdMRefIdeal.main_arg1) = m ((c.tc : Thread Cert.GateBwdMRefIdeal.nD Cert.GateBwdMRefIdeal.τ).loc Cert.GateBwdMRefIdeal.main_arg1)
      ∧ r.2.mem ((c.tc : Thread Cert.GateBwdMRefIdeal.nD Cert.GateBwdMRefIdeal.τ).loc Cert.GateBwdMRefIdeal.main_arg2) = m ((c.tc : Thread Cert.GateBwdMRefIdeal.nD Cert.GateBwdMRefIdeal.τ).loc Cert.GateBwdMRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_FoxDelta [hFoxDelta : Cert.FoxDelta.Facts] : Prop :=
  ∀ (m : (ℓ : Loc Cert.FoxDelta.nD Cert.FoxDelta.τ Cert.FoxDelta.sig) → Buf (Elt Bits) ℓ) (g : Dev Cert.FoxDelta.nD → PrngReg), Pre_FoxDelta m →
    θ_run (Cert.FoxDelta.defs (F := Bits)) (onTc (τ := Cert.FoxDelta.τ) (Cert.FoxDelta.main (F := Bits))) ⟨m, fun _ => 0, g⟩ (fun r => (∀ c : Dev Cert.FoxDelta.nD,
      r.2.mem ((c.tc : Thread Cert.FoxDelta.nD Cert.FoxDelta.τ).loc Cert.FoxDelta.main_arg0) = m ((c.tc : Thread Cert.FoxDelta.nD Cert.FoxDelta.τ).loc Cert.FoxDelta.main_arg0)
      ∧ r.2.mem ((c.tc : Thread Cert.FoxDelta.nD Cert.FoxDelta.τ).loc Cert.FoxDelta.main_arg1) = m ((c.tc : Thread Cert.FoxDelta.nD Cert.FoxDelta.τ).loc Cert.FoxDelta.main_arg1))
      ∧ r.2.sem = fun _ => 0)

def quiescent_FoxDeltaIdeal [hFoxDeltaIdeal : Cert.FoxDeltaIdeal.Facts] : Prop :=
  ∀ (m : (ℓ : Loc Cert.FoxDeltaIdeal.nD Cert.FoxDeltaIdeal.τ Cert.FoxDeltaIdeal.sig) → Buf (Elt Ideal) ℓ) (g : Dev Cert.FoxDeltaIdeal.nD → PrngReg), Pre_FoxDeltaIdeal m →
    θ_run (Cert.FoxDeltaIdeal.defs (F := Ideal)) (onTc (τ := Cert.FoxDeltaIdeal.τ) (Cert.FoxDeltaIdeal.main (F := Ideal))) ⟨m, fun _ => 0, g⟩ (fun r => (∀ c : Dev Cert.FoxDeltaIdeal.nD,
      r.2.mem ((c.tc : Thread Cert.FoxDeltaIdeal.nD Cert.FoxDeltaIdeal.τ).loc Cert.FoxDeltaIdeal.main_arg0) = m ((c.tc : Thread Cert.FoxDeltaIdeal.nD Cert.FoxDeltaIdeal.τ).loc Cert.FoxDeltaIdeal.main_arg0)
      ∧ r.2.mem ((c.tc : Thread Cert.FoxDeltaIdeal.nD Cert.FoxDeltaIdeal.τ).loc Cert.FoxDeltaIdeal.main_arg1) = m ((c.tc : Thread Cert.FoxDeltaIdeal.nD Cert.FoxDeltaIdeal.τ).loc Cert.FoxDeltaIdeal.main_arg1))
      ∧ r.2.sem = fun _ => 0)

def quiescent_FoxDeltaRefIdeal [hFoxDeltaRefIdeal : Cert.FoxDeltaRefIdeal.Facts] : Prop :=
  ∀ (m : (ℓ : Loc Cert.FoxDeltaRefIdeal.nD Cert.FoxDeltaRefIdeal.τ Cert.FoxDeltaRefIdeal.sig) → Buf (Elt Ideal) ℓ) (g : Dev Cert.FoxDeltaRefIdeal.nD → PrngReg), Pre_FoxDeltaRefIdeal m →
    θ_run (Cert.FoxDeltaRefIdeal.defs (F := Ideal)) (onTc (τ := Cert.FoxDeltaRefIdeal.τ) (Cert.FoxDeltaRefIdeal.main (F := Ideal))) ⟨m, fun _ => 0, g⟩ (fun r => (∀ c : Dev Cert.FoxDeltaRefIdeal.nD,
      r.2.mem ((c.tc : Thread Cert.FoxDeltaRefIdeal.nD Cert.FoxDeltaRefIdeal.τ).loc Cert.FoxDeltaRefIdeal.main_arg0) = m ((c.tc : Thread Cert.FoxDeltaRefIdeal.nD Cert.FoxDeltaRefIdeal.τ).loc Cert.FoxDeltaRefIdeal.main_arg0)
      ∧ r.2.mem ((c.tc : Thread Cert.FoxDeltaRefIdeal.nD Cert.FoxDeltaRefIdeal.τ).loc Cert.FoxDeltaRefIdeal.main_arg1) = m ((c.tc : Thread Cert.FoxDeltaRefIdeal.nD Cert.FoxDeltaRefIdeal.τ).loc Cert.FoxDeltaRefIdeal.main_arg1))
      ∧ r.2.sem = fun _ => 0)

def quiescent_GateBwdA [hGateBwdA : Cert.GateBwdA.Facts] : Prop :=
  ∀ (m : (ℓ : Loc Cert.GateBwdA.nD Cert.GateBwdA.τ Cert.GateBwdA.sig) → Buf (Elt Bits) ℓ) (g : Dev Cert.GateBwdA.nD → PrngReg), Pre_GateBwdA m →
    θ_run (Cert.GateBwdA.defs (F := Bits)) (onTc (τ := Cert.GateBwdA.τ) (Cert.GateBwdA.main (F := Bits))) ⟨m, fun _ => 0, g⟩ (fun r => (∀ c : Dev Cert.GateBwdA.nD,
      r.2.mem ((c.tc : Thread Cert.GateBwdA.nD Cert.GateBwdA.τ).loc Cert.GateBwdA.main_arg0) = m ((c.tc : Thread Cert.GateBwdA.nD Cert.GateBwdA.τ).loc Cert.GateBwdA.main_arg0)
      ∧ r.2.mem ((c.tc : Thread Cert.GateBwdA.nD Cert.GateBwdA.τ).loc Cert.GateBwdA.main_arg1) = m ((c.tc : Thread Cert.GateBwdA.nD Cert.GateBwdA.τ).loc Cert.GateBwdA.main_arg1)
      ∧ r.2.mem ((c.tc : Thread Cert.GateBwdA.nD Cert.GateBwdA.τ).loc Cert.GateBwdA.main_arg2) = m ((c.tc : Thread Cert.GateBwdA.nD Cert.GateBwdA.τ).loc Cert.GateBwdA.main_arg2))
      ∧ r.2.sem = fun _ => 0)

def quiescent_GateBwdAIdeal [hGateBwdAIdeal : Cert.GateBwdAIdeal.Facts] : Prop :=
  ∀ (m : (ℓ : Loc Cert.GateBwdAIdeal.nD Cert.GateBwdAIdeal.τ Cert.GateBwdAIdeal.sig) → Buf (Elt Ideal) ℓ) (g : Dev Cert.GateBwdAIdeal.nD → PrngReg), Pre_GateBwdAIdeal m →
    θ_run (Cert.GateBwdAIdeal.defs (F := Ideal)) (onTc (τ := Cert.GateBwdAIdeal.τ) (Cert.GateBwdAIdeal.main (F := Ideal))) ⟨m, fun _ => 0, g⟩ (fun r => (∀ c : Dev Cert.GateBwdAIdeal.nD,
      r.2.mem ((c.tc : Thread Cert.GateBwdAIdeal.nD Cert.GateBwdAIdeal.τ).loc Cert.GateBwdAIdeal.main_arg0) = m ((c.tc : Thread Cert.GateBwdAIdeal.nD Cert.GateBwdAIdeal.τ).loc Cert.GateBwdAIdeal.main_arg0)
      ∧ r.2.mem ((c.tc : Thread Cert.GateBwdAIdeal.nD Cert.GateBwdAIdeal.τ).loc Cert.GateBwdAIdeal.main_arg1) = m ((c.tc : Thread Cert.GateBwdAIdeal.nD Cert.GateBwdAIdeal.τ).loc Cert.GateBwdAIdeal.main_arg1)
      ∧ r.2.mem ((c.tc : Thread Cert.GateBwdAIdeal.nD Cert.GateBwdAIdeal.τ).loc Cert.GateBwdAIdeal.main_arg2) = m ((c.tc : Thread Cert.GateBwdAIdeal.nD Cert.GateBwdAIdeal.τ).loc Cert.GateBwdAIdeal.main_arg2))
      ∧ r.2.sem = fun _ => 0)

def quiescent_GateBwdARefIdeal [hGateBwdARefIdeal : Cert.GateBwdARefIdeal.Facts] : Prop :=
  ∀ (m : (ℓ : Loc Cert.GateBwdARefIdeal.nD Cert.GateBwdARefIdeal.τ Cert.GateBwdARefIdeal.sig) → Buf (Elt Ideal) ℓ) (g : Dev Cert.GateBwdARefIdeal.nD → PrngReg), Pre_GateBwdARefIdeal m →
    θ_run (Cert.GateBwdARefIdeal.defs (F := Ideal)) (onTc (τ := Cert.GateBwdARefIdeal.τ) (Cert.GateBwdARefIdeal.main (F := Ideal))) ⟨m, fun _ => 0, g⟩ (fun r => (∀ c : Dev Cert.GateBwdARefIdeal.nD,
      r.2.mem ((c.tc : Thread Cert.GateBwdARefIdeal.nD Cert.GateBwdARefIdeal.τ).loc Cert.GateBwdARefIdeal.main_arg0) = m ((c.tc : Thread Cert.GateBwdARefIdeal.nD Cert.GateBwdARefIdeal.τ).loc Cert.GateBwdARefIdeal.main_arg0)
      ∧ r.2.mem ((c.tc : Thread Cert.GateBwdARefIdeal.nD Cert.GateBwdARefIdeal.τ).loc Cert.GateBwdARefIdeal.main_arg1) = m ((c.tc : Thread Cert.GateBwdARefIdeal.nD Cert.GateBwdARefIdeal.τ).loc Cert.GateBwdARefIdeal.main_arg1)
      ∧ r.2.mem ((c.tc : Thread Cert.GateBwdARefIdeal.nD Cert.GateBwdARefIdeal.τ).loc Cert.GateBwdARefIdeal.main_arg2) = m ((c.tc : Thread Cert.GateBwdARefIdeal.nD Cert.GateBwdARefIdeal.τ).loc Cert.GateBwdARefIdeal.main_arg2))
      ∧ r.2.sem = fun _ => 0)

def quiescent_RopeBwd [hRopeBwd : Cert.RopeBwd.Facts] : Prop :=
  ∀ (m : (ℓ : Loc Cert.RopeBwd.nD Cert.RopeBwd.τ Cert.RopeBwd.sig) → Buf (Elt Bits) ℓ) (g : Dev Cert.RopeBwd.nD → PrngReg), Pre_RopeBwd m →
    θ_run (Cert.RopeBwd.defs (F := Bits)) (onTc (τ := Cert.RopeBwd.τ) (Cert.RopeBwd.main (F := Bits))) ⟨m, fun _ => 0, g⟩ (fun r => (∀ c : Dev Cert.RopeBwd.nD,
      r.2.mem ((c.tc : Thread Cert.RopeBwd.nD Cert.RopeBwd.τ).loc Cert.RopeBwd.main_arg0) = m ((c.tc : Thread Cert.RopeBwd.nD Cert.RopeBwd.τ).loc Cert.RopeBwd.main_arg0)
      ∧ r.2.mem ((c.tc : Thread Cert.RopeBwd.nD Cert.RopeBwd.τ).loc Cert.RopeBwd.main_arg1) = m ((c.tc : Thread Cert.RopeBwd.nD Cert.RopeBwd.τ).loc Cert.RopeBwd.main_arg1)
      ∧ r.2.mem ((c.tc : Thread Cert.RopeBwd.nD Cert.RopeBwd.τ).loc Cert.RopeBwd.main_arg2) = m ((c.tc : Thread Cert.RopeBwd.nD Cert.RopeBwd.τ).loc Cert.RopeBwd.main_arg2)
      ∧ r.2.mem ((c.tc : Thread Cert.RopeBwd.nD Cert.RopeBwd.τ).loc Cert.RopeBwd.main_arg3) = m ((c.tc : Thread Cert.RopeBwd.nD Cert.RopeBwd.τ).loc Cert.RopeBwd.main_arg3))
      ∧ r.2.sem = fun _ => 0)

def quiescent_RopeBwdIdeal [hRopeBwdIdeal : Cert.RopeBwdIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg), Pre_RopeBwdIdeal m →
    θ_run (Cert.RopeBwdIdeal.defs (F := Ideal)) (onTc (τ := Cert.RopeBwdIdeal.τ) (Cert.RopeBwdIdeal.main (F := Ideal))) ⟨m, fun _ => 0, g⟩ (fun r => (∀ c : Dev Cert.RopeBwdIdeal.nD,
      r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
      ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
      ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
      ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ r.2.sem = fun _ => 0)

def quiescent_RopeBwdRefIdeal [hRopeBwdRefIdeal : Cert.RopeBwdRefIdeal.Facts] : Prop :=
  ∀ (m : (ℓ : Loc Cert.RopeBwdRefIdeal.nD Cert.RopeBwdRefIdeal.τ Cert.RopeBwdRefIdeal.sig) → Buf (Elt Ideal) ℓ) (g : Dev Cert.RopeBwdRefIdeal.nD → PrngReg), Pre_RopeBwdRefIdeal m →
    θ_run (Cert.RopeBwdRefIdeal.defs (F := Ideal)) (onTc (τ := Cert.RopeBwdRefIdeal.τ) (Cert.RopeBwdRefIdeal.main (F := Ideal))) ⟨m, fun _ => 0, g⟩ (fun r => (∀ c : Dev Cert.RopeBwdRefIdeal.nD,
      r.2.mem ((c.tc : Thread Cert.RopeBwdRefIdeal.nD Cert.RopeBwdRefIdeal.τ).loc Cert.RopeBwdRefIdeal.main_arg0) = m ((c.tc : Thread Cert.RopeBwdRefIdeal.nD Cert.RopeBwdRefIdeal.τ).loc Cert.RopeBwdRefIdeal.main_arg0)
      ∧ r.2.mem ((c.tc : Thread Cert.RopeBwdRefIdeal.nD Cert.RopeBwdRefIdeal.τ).loc Cert.RopeBwdRefIdeal.main_arg1) = m ((c.tc : Thread Cert.RopeBwdRefIdeal.nD Cert.RopeBwdRefIdeal.τ).loc Cert.RopeBwdRefIdeal.main_arg1)
      ∧ r.2.mem ((c.tc : Thread Cert.RopeBwdRefIdeal.nD Cert.RopeBwdRefIdeal.τ).loc Cert.RopeBwdRefIdeal.main_arg2) = m ((c.tc : Thread Cert.RopeBwdRefIdeal.nD Cert.RopeBwdRefIdeal.τ).loc Cert.RopeBwdRefIdeal.main_arg2)
      ∧ r.2.mem ((c.tc : Thread Cert.RopeBwdRefIdeal.nD Cert.RopeBwdRefIdeal.τ).loc Cert.RopeBwdRefIdeal.main_arg3) = m ((c.tc : Thread Cert.RopeBwdRefIdeal.nD Cert.RopeBwdRefIdeal.τ).loc Cert.RopeBwdRefIdeal.main_arg3))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3))
      ∧ r.2.sem = fun _ => 0)

def quiescent_FoxBwdIdeal_pre_sums_finite [hFoxBwdIdeal : Cert.FoxBwdIdeal.Facts] [hPre_sums_finite : Cert.Pre_sums_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_sums_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3))
      ∧ r.2.sem = fun _ => 0)

def quiescent_FoxBwdRefIdeal_pre_sums_finite [hFoxBwdRefIdeal : Cert.FoxBwdRefIdeal.Facts] [hPre_sums_finite : Cert.Pre_sums_finite.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_sums_finite m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdIdeal_pre_scores_finite [hMemFwdIdeal : Cert.MemFwdIdeal.Facts] [hPre_scores_finite : Cert.Pre_scores_finite.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal_scores_finite m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_MemFwdRefIdeal_pre_scores_finite [hMemFwdRefIdeal : Cert.MemFwdRefIdeal.Facts] [hPre_scores_finite : Cert.Pre_scores_finite.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal_scores_finite m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![1857, 1024]⟩ ⟨2, ![14856, 1024]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 1857, 1024]⟩ ⟨3, ![8, 1857, 1024]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![1857, 1024]⟩ ⟨2, ![14856, 1024]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 1857, 1024]⟩ ⟨3, ![8, 1857, 1024]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 1857, 1024]⟩ ⟨3, ![32, 1857, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v4)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 1857, 1024]⟩ ⟨3, ![32, 1857, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v4) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 1857, 1024]⟩ ⟨3, ![32, 1857, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v4)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 1857, 1024]⟩ ⟨3, ![32, 1857, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v4) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 1857, 1024]⟩ ⟨3, ![32, 1857, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v2)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨3, ![4, 1857, 1024]⟩ ⟨3, ![32, 1857, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 1857, 1024]⟩ ⟨3, ![32, 1857, 1024]⟩ 0 8 c (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v2)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.block ⟨3, ![4, 1857, 1024]⟩ ⟨3, ![32, 1857, 1024]⟩ 0 8 c v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![2, 1857, 1024]⟩ ⟨3, ![8, 1857, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨3, ![2, 1857, 1024]⟩ ⟨3, ![8, 1857, 1024]⟩ (Layout.meshBlock [2, 2, 2] ![[0, 1], [], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AddPair_AddPairIdeal : Prop :=
  True

def algebraic_AddPairIdeal_AddPairRefIdeal [hAddPairIdeal : Cert.AddPairIdeal.Facts] [hAddPairRefIdeal : Cert.AddPairRefIdeal.Facts] : Prop :=
  ∀ (m : (ℓ : Loc Cert.AddPairIdeal.nD Cert.AddPairIdeal.τ Cert.AddPairIdeal.sig) → Buf (Elt Ideal) ℓ) (g : Dev Cert.AddPairIdeal.nD → PrngReg)
    (m' : (ℓ : Loc Cert.AddPairRefIdeal.nD Cert.AddPairRefIdeal.τ Cert.AddPairRefIdeal.sig) → Buf (Elt Ideal) ℓ) (g' : Dev Cert.AddPairRefIdeal.nD → PrngReg), Pre_AddPairIdeal m →
    (∀ c : Dev Cert.AddPairIdeal.nD,
      m' ((c.tc : Thread Cert.AddPairRefIdeal.nD Cert.AddPairRefIdeal.τ).loc Cert.AddPairRefIdeal.main_arg0) = m ((c.tc : Thread Cert.AddPairIdeal.nD Cert.AddPairIdeal.τ).loc Cert.AddPairIdeal.main_arg0)
      ∧ m' ((c.tc : Thread Cert.AddPairRefIdeal.nD Cert.AddPairRefIdeal.τ).loc Cert.AddPairRefIdeal.main_arg1) = m ((c.tc : Thread Cert.AddPairIdeal.nD Cert.AddPairIdeal.τ).loc Cert.AddPairIdeal.main_arg1)) →
    ∃ (v0 : (c : Dev Cert.AddPairIdeal.nD) → Buf (Elt Ideal) ((c.tc : Thread Cert.AddPairIdeal.nD Cert.AddPairIdeal.τ).loc Cert.AddPairIdeal.main_v0)),
      θ_run (Cert.AddPairIdeal.defs (F := Ideal)) (onTc (τ := Cert.AddPairIdeal.τ) (Cert.AddPairIdeal.main (F := Ideal))) ⟨m, fun _ => 0, g⟩ (fun r => ∀ c : Dev Cert.AddPairIdeal.nD,
          r.2.mem ((c.tc : Thread Cert.AddPairIdeal.nD Cert.AddPairIdeal.τ).loc Cert.AddPairIdeal.main_v0) = v0 c
          ∧ r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
          ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1))
      ∧ θ_run (Cert.AddPairRefIdeal.defs (F := Ideal)) (onTc (τ := Cert.AddPairRefIdeal.τ) (Cert.AddPairRefIdeal.main (F := Ideal))) ⟨m', fun _ => 0, g'⟩ (fun r => ∀ c : Dev Cert.AddPairRefIdeal.nD,
          r.2.mem ((c.tc : Thread Cert.AddPairRefIdeal.nD Cert.AddPairRefIdeal.τ).loc Cert.AddPairRefIdeal.main_v0) = v0 c
          ∧ r.2.mem ((c.tc : Thread Cert.AddPairRefIdeal.nD Cert.AddPairRefIdeal.τ).loc Cert.AddPairRefIdeal.main_arg0) = m' ((c.tc : Thread Cert.AddPairRefIdeal.nD Cert.AddPairRefIdeal.τ).loc Cert.AddPairRefIdeal.main_arg0)
          ∧ r.2.mem ((c.tc : Thread Cert.AddPairRefIdeal.nD Cert.AddPairRefIdeal.τ).loc Cert.AddPairRefIdeal.main_arg1) = m' ((c.tc : Thread Cert.AddPairRefIdeal.nD Cert.AddPairRefIdeal.τ).loc Cert.AddPairRefIdeal.main_arg1))

def preserves_AddChips_AddChipsIdeal : Prop :=
  True

def algebraic_AddChipsIdeal_AddChipsRefIdeal [hAddChipsIdeal : Cert.AddChipsIdeal.Facts] [hAddChipsRefIdeal : Cert.AddChipsRefIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg)
    (m' : (ℓ : Loc Cert.AddChipsRefIdeal.nD Cert.AddChipsRefIdeal.τ Cert.AddChipsRefIdeal.sig) → Buf (Elt Ideal) ℓ) (g' : Dev Cert.AddChipsRefIdeal.nD → PrngReg), Pre_AddChipsIdeal m →
    (∀ c : Dev Cert.AddChipsIdeal.nD,
      m' ((c.tc : Thread Cert.AddChipsRefIdeal.nD Cert.AddChipsRefIdeal.τ).loc Cert.AddChipsRefIdeal.main_arg0) = m ((c.tc : Thread Cert.AddChipsIdeal.nD Cert.AddChipsIdeal.τ).loc Cert.AddChipsIdeal.main_arg0)) →
    ∃ (v0 : (c : Dev Cert.AddChipsIdeal.nD) → Buf (Elt Ideal) ((c.tc : Thread Cert.AddChipsIdeal.nD Cert.AddChipsIdeal.τ).loc Cert.AddChipsIdeal.main_v0)),
      θ_run (Cert.AddChipsIdeal.defs (F := Ideal)) (onTc (τ := Cert.AddChipsIdeal.τ) (Cert.AddChipsIdeal.main (F := Ideal))) ⟨m, fun _ => 0, g⟩ (fun r => ∀ c : Dev Cert.AddChipsIdeal.nD,
          r.2.mem ((c.tc : Thread Cert.AddChipsIdeal.nD Cert.AddChipsIdeal.τ).loc Cert.AddChipsIdeal.main_v0) = v0 c
          ∧ r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0))
      ∧ θ_run (Cert.AddChipsRefIdeal.defs (F := Ideal)) (onTc (τ := Cert.AddChipsRefIdeal.τ) (Cert.AddChipsRefIdeal.main (F := Ideal))) ⟨m', fun _ => 0, g'⟩ (fun r => ∀ c : Dev Cert.AddChipsRefIdeal.nD,
          r.2.mem ((c.tc : Thread Cert.AddChipsRefIdeal.nD Cert.AddChipsRefIdeal.τ).loc Cert.AddChipsRefIdeal.main_v1) = v0 c
          ∧ r.2.mem ((c.tc : Thread Cert.AddChipsRefIdeal.nD Cert.AddChipsRefIdeal.τ).loc Cert.AddChipsRefIdeal.main_arg0) = m' ((c.tc : Thread Cert.AddChipsRefIdeal.nD Cert.AddChipsRefIdeal.τ).loc Cert.AddChipsRefIdeal.main_arg0))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v15) = v0 c
          ∧ r.2.mem ((c.tc : Thread Cert.TailRefIdeal.nD Cert.TailRefIdeal.τ).loc Cert.TailRefIdeal.main_v33) = v1 c
          ∧ r.2.mem ((c.tc : Thread Cert.TailRefIdeal.nD Cert.TailRefIdeal.τ).loc Cert.TailRefIdeal.main_v39) = v2 c
          ∧ r.2.mem ((c.tc : Thread Cert.TailRefIdeal.nD Cert.TailRefIdeal.τ).loc Cert.TailRefIdeal.main_v42) = v3 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)
      ∧ m' ((c.tc : Thread Cert.PreBwdRefIdeal.nD Cert.PreBwdRefIdeal.τ).loc Cert.PreBwdRefIdeal.main_arg4) = m ((c.tc : Thread Cert.PreBwdIdeal.nD Cert.PreBwdIdeal.τ).loc Cert.PreBwdIdeal.main_arg4)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3)
          ∧ r.2.mem ((c.tc : Thread Cert.PreBwdIdeal.nD Cert.PreBwdIdeal.τ).loc Cert.PreBwdIdeal.main_arg4) = m ((c.tc : Thread Cert.PreBwdIdeal.nD Cert.PreBwdIdeal.τ).loc Cert.PreBwdIdeal.main_arg4))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v23) = v0 c
          ∧ r.2.mem ((c.tc : Thread Cert.PreBwdRefIdeal.nD Cert.PreBwdRefIdeal.τ).loc Cert.PreBwdRefIdeal.main_v26) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3)
          ∧ r.2.mem ((c.tc : Thread Cert.PreBwdRefIdeal.nD Cert.PreBwdRefIdeal.τ).loc Cert.PreBwdRefIdeal.main_arg4) = m' ((c.tc : Thread Cert.PreBwdRefIdeal.nD Cert.PreBwdRefIdeal.τ).loc Cert.PreBwdRefIdeal.main_arg4))

def preserves_GradMem_GradMemIdeal : Prop :=
  True

def algebraic_GradMemIdeal_GradMemRefIdeal [hGradMemIdeal : Cert.GradMemIdeal.Facts] [hGradMemRefIdeal : Cert.GradMemRefIdeal.Facts] : Prop :=
  ∀ (m : (ℓ : Loc Cert.GradMemIdeal.nD Cert.GradMemIdeal.τ Cert.GradMemIdeal.sig) → Buf (Elt Ideal) ℓ) (g : Dev Cert.GradMemIdeal.nD → PrngReg)
    (m' : (ℓ : Loc Cert.GradMemRefIdeal.nD Cert.GradMemRefIdeal.τ Cert.GradMemRefIdeal.sig) → Buf (Elt Ideal) ℓ) (g' : Dev Cert.GradMemRefIdeal.nD → PrngReg), Pre_GradMemIdeal m →
    (∀ c : Dev Cert.GradMemIdeal.nD,
      m' ((c.tc : Thread Cert.GradMemRefIdeal.nD Cert.GradMemRefIdeal.τ).loc Cert.GradMemRefIdeal.main_arg0) = m ((c.tc : Thread Cert.GradMemIdeal.nD Cert.GradMemIdeal.τ).loc Cert.GradMemIdeal.main_arg0)
      ∧ m' ((c.tc : Thread Cert.GradMemRefIdeal.nD Cert.GradMemRefIdeal.τ).loc Cert.GradMemRefIdeal.main_arg1) = m ((c.tc : Thread Cert.GradMemIdeal.nD Cert.GradMemIdeal.τ).loc Cert.GradMemIdeal.main_arg1)) →
    ∃ (v0 : (c : Dev Cert.GradMemIdeal.nD) → Buf (Elt Ideal) ((c.tc : Thread Cert.GradMemIdeal.nD Cert.GradMemIdeal.τ).loc Cert.GradMemIdeal.main_v0)),
      θ_run (Cert.GradMemIdeal.defs (F := Ideal)) (onTc (τ := Cert.GradMemIdeal.τ) (Cert.GradMemIdeal.main (F := Ideal))) ⟨m, fun _ => 0, g⟩ (fun r => ∀ c : Dev Cert.GradMemIdeal.nD,
          r.2.mem ((c.tc : Thread Cert.GradMemIdeal.nD Cert.GradMemIdeal.τ).loc Cert.GradMemIdeal.main_v0) = v0 c
          ∧ r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
          ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ θ_run (Cert.GradMemRefIdeal.defs (F := Ideal)) (onTc (τ := Cert.GradMemRefIdeal.τ) (Cert.GradMemRefIdeal.main (F := Ideal))) ⟨m', fun _ => 0, g'⟩ (fun r => ∀ c : Dev Cert.GradMemRefIdeal.nD,
          r.2.mem ((c.tc : Thread Cert.GradMemRefIdeal.nD Cert.GradMemRefIdeal.τ).loc Cert.GradMemRefIdeal.main_v1) = v0 c
          ∧ r.2.mem ((c.tc : Thread Cert.GradMemRefIdeal.nD Cert.GradMemRefIdeal.τ).loc Cert.GradMemRefIdeal.main_arg0) = m' ((c.tc : Thread Cert.GradMemRefIdeal.nD Cert.GradMemRefIdeal.τ).loc Cert.GradMemRefIdeal.main_arg0)
          ∧ r.2.mem ((c.tc : Thread Cert.GradMemRefIdeal.nD Cert.GradMemRefIdeal.τ).loc Cert.GradMemRefIdeal.main_arg1) = m' ((c.tc : Thread Cert.GradMemRefIdeal.nD Cert.GradMemRefIdeal.τ).loc Cert.GradMemRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v2) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradBranch_GradBranchIdeal : Prop :=
  True

def algebraic_GradBranchIdeal_GradBranchRefIdeal [hGradBranchIdeal : Cert.GradBranchIdeal.Facts] [hGradBranchRefIdeal : Cert.GradBranchRefIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg)
    (m' : (ℓ : Loc Cert.GradBranchRefIdeal.nD Cert.GradBranchRefIdeal.τ Cert.GradBranchRefIdeal.sig) → Buf (Elt Ideal) ℓ) (g' : Dev Cert.GradBranchRefIdeal.nD → PrngReg), Pre_GradBranchIdeal m →
    (∀ c : Dev Cert.GradBranchIdeal.nD,
      m' ((c.tc : Thread Cert.GradBranchRefIdeal.nD Cert.GradBranchRefIdeal.τ).loc Cert.GradBranchRefIdeal.main_arg0) = m ((c.tc : Thread Cert.GradBranchIdeal.nD Cert.GradBranchIdeal.τ).loc Cert.GradBranchIdeal.main_arg0)
      ∧ m' ((c.tc : Thread Cert.GradBranchRefIdeal.nD Cert.GradBranchRefIdeal.τ).loc Cert.GradBranchRefIdeal.main_arg1) = m ((c.tc : Thread Cert.GradBranchIdeal.nD Cert.GradBranchIdeal.τ).loc Cert.GradBranchIdeal.main_arg1)) →
    ∃ (v0 : (c : Dev Cert.GradBranchIdeal.nD) → Buf (Elt Ideal) ((c.tc : Thread Cert.GradBranchIdeal.nD Cert.GradBranchIdeal.τ).loc Cert.GradBranchIdeal.main_v0)),
      θ_run (Cert.GradBranchIdeal.defs (F := Ideal)) (onTc (τ := Cert.GradBranchIdeal.τ) (Cert.GradBranchIdeal.main (F := Ideal))) ⟨m, fun _ => 0, g⟩ (fun r => ∀ c : Dev Cert.GradBranchIdeal.nD,
          r.2.mem ((c.tc : Thread Cert.GradBranchIdeal.nD Cert.GradBranchIdeal.τ).loc Cert.GradBranchIdeal.main_v0) = v0 c
          ∧ r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
          ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ θ_run (Cert.GradBranchRefIdeal.defs (F := Ideal)) (onTc (τ := Cert.GradBranchRefIdeal.τ) (Cert.GradBranchRefIdeal.main (F := Ideal))) ⟨m', fun _ => 0, g'⟩ (fun r => ∀ c : Dev Cert.GradBranchRefIdeal.nD,
          r.2.mem ((c.tc : Thread Cert.GradBranchRefIdeal.nD Cert.GradBranchRefIdeal.τ).loc Cert.GradBranchRefIdeal.main_v2) = v0 c
          ∧ r.2.mem ((c.tc : Thread Cert.GradBranchRefIdeal.nD Cert.GradBranchRefIdeal.τ).loc Cert.GradBranchRefIdeal.main_arg0) = m' ((c.tc : Thread Cert.GradBranchRefIdeal.nD Cert.GradBranchRefIdeal.τ).loc Cert.GradBranchRefIdeal.main_arg0)
          ∧ r.2.mem ((c.tc : Thread Cert.GradBranchRefIdeal.nD Cert.GradBranchRefIdeal.τ).loc Cert.GradBranchRefIdeal.main_arg1) = m' ((c.tc : Thread Cert.GradBranchRefIdeal.nD Cert.GradBranchRefIdeal.τ).loc Cert.GradBranchRefIdeal.main_arg1))

def preserves_GradMain_GradMainIdeal : Prop :=
  True

def algebraic_GradMainIdeal_GradMainRefIdeal [hGradMainIdeal : Cert.GradMainIdeal.Facts] [hGradMainRefIdeal : Cert.GradMainRefIdeal.Facts] : Prop :=
  ∀ (m : (ℓ : Loc Cert.GradMainIdeal.nD Cert.GradMainIdeal.τ Cert.GradMainIdeal.sig) → Buf (Elt Ideal) ℓ) (g : Dev Cert.GradMainIdeal.nD → PrngReg)
    (m' : (ℓ : Loc Cert.GradMainRefIdeal.nD Cert.GradMainRefIdeal.τ Cert.GradMainRefIdeal.sig) → Buf (Elt Ideal) ℓ) (g' : Dev Cert.GradMainRefIdeal.nD → PrngReg), Pre_GradMainIdeal m →
    (∀ c : Dev Cert.GradMainIdeal.nD,
      m' ((c.tc : Thread Cert.GradMainRefIdeal.nD Cert.GradMainRefIdeal.τ).loc Cert.GradMainRefIdeal.main_arg0) = m ((c.tc : Thread Cert.GradMainIdeal.nD Cert.GradMainIdeal.τ).loc Cert.GradMainIdeal.main_arg0)
      ∧ m' ((c.tc : Thread Cert.GradMainRefIdeal.nD Cert.GradMainRefIdeal.τ).loc Cert.GradMainRefIdeal.main_arg1) = m ((c.tc : Thread Cert.GradMainIdeal.nD Cert.GradMainIdeal.τ).loc Cert.GradMainIdeal.main_arg1)) →
    ∃ (v0 : (c : Dev Cert.GradMainIdeal.nD) → Buf (Elt Ideal) ((c.tc : Thread Cert.GradMainIdeal.nD Cert.GradMainIdeal.τ).loc Cert.GradMainIdeal.main_v0)),
      θ_run (Cert.GradMainIdeal.defs (F := Ideal)) (onTc (τ := Cert.GradMainIdeal.τ) (Cert.GradMainIdeal.main (F := Ideal))) ⟨m, fun _ => 0, g⟩ (fun r => ∀ c : Dev Cert.GradMainIdeal.nD,
          r.2.mem ((c.tc : Thread Cert.GradMainIdeal.nD Cert.GradMainIdeal.τ).loc Cert.GradMainIdeal.main_v0) = v0 c
          ∧ r.2.mem ((c.tc : Thread Cert.GradMainIdeal.nD Cert.GradMainIdeal.τ).loc Cert.GradMainIdeal.main_arg0) = m ((c.tc : Thread Cert.GradMainIdeal.nD Cert.GradMainIdeal.τ).loc Cert.GradMainIdeal.main_arg0)
          ∧ r.2.mem ((c.tc : Thread Cert.GradMainIdeal.nD Cert.GradMainIdeal.τ).loc Cert.GradMainIdeal.main_arg1) = m ((c.tc : Thread Cert.GradMainIdeal.nD Cert.GradMainIdeal.τ).loc Cert.GradMainIdeal.main_arg1))
      ∧ θ_run (Cert.GradMainRefIdeal.defs (F := Ideal)) (onTc (τ := Cert.GradMainRefIdeal.τ) (Cert.GradMainRefIdeal.main (F := Ideal))) ⟨m', fun _ => 0, g'⟩ (fun r => ∀ c : Dev Cert.GradMainRefIdeal.nD,
          r.2.mem ((c.tc : Thread Cert.GradMainRefIdeal.nD Cert.GradMainRefIdeal.τ).loc Cert.GradMainRefIdeal.main_v2) = v0 c
          ∧ r.2.mem ((c.tc : Thread Cert.GradMainRefIdeal.nD Cert.GradMainRefIdeal.τ).loc Cert.GradMainRefIdeal.main_arg0) = m' ((c.tc : Thread Cert.GradMainRefIdeal.nD Cert.GradMainRefIdeal.τ).loc Cert.GradMainRefIdeal.main_arg0)
          ∧ r.2.mem ((c.tc : Thread Cert.GradMainRefIdeal.nD Cert.GradMainRefIdeal.τ).loc Cert.GradMainRefIdeal.main_arg1) = m' ((c.tc : Thread Cert.GradMainRefIdeal.nD Cert.GradMainRefIdeal.τ).loc Cert.GradMainRefIdeal.main_arg1))

def preserves_GradFb_GradFbIdeal : Prop :=
  True

def algebraic_GradFbIdeal_GradFbRefIdeal [hGradFbIdeal : Cert.GradFbIdeal.Facts] [hGradFbRefIdeal : Cert.GradFbRefIdeal.Facts] : Prop :=
  ∀ (m : (ℓ : Loc Cert.GradFbIdeal.nD Cert.GradFbIdeal.τ Cert.GradFbIdeal.sig) → Buf (Elt Ideal) ℓ) (g : Dev Cert.GradFbIdeal.nD → PrngReg)
    (m' : (ℓ : Loc Cert.GradFbRefIdeal.nD Cert.GradFbRefIdeal.τ Cert.GradFbRefIdeal.sig) → Buf (Elt Ideal) ℓ) (g' : Dev Cert.GradFbRefIdeal.nD → PrngReg), Pre_GradFbIdeal m →
    (∀ c : Dev Cert.GradFbIdeal.nD,
      m' ((c.tc : Thread Cert.GradFbRefIdeal.nD Cert.GradFbRefIdeal.τ).loc Cert.GradFbRefIdeal.main_arg0) = m ((c.tc : Thread Cert.GradFbIdeal.nD Cert.GradFbIdeal.τ).loc Cert.GradFbIdeal.main_arg0)
      ∧ m' ((c.tc : Thread Cert.GradFbRefIdeal.nD Cert.GradFbRefIdeal.τ).loc Cert.GradFbRefIdeal.main_arg1) = m ((c.tc : Thread Cert.GradFbIdeal.nD Cert.GradFbIdeal.τ).loc Cert.GradFbIdeal.main_arg1)) →
    ∃ (v0 : (c : Dev Cert.GradFbIdeal.nD) → Buf (Elt Ideal) ((c.tc : Thread Cert.GradFbIdeal.nD Cert.GradFbIdeal.τ).loc Cert.GradFbIdeal.main_v0)),
      θ_run (Cert.GradFbIdeal.defs (F := Ideal)) (onTc (τ := Cert.GradFbIdeal.τ) (Cert.GradFbIdeal.main (F := Ideal))) ⟨m, fun _ => 0, g⟩ (fun r => ∀ c : Dev Cert.GradFbIdeal.nD,
          r.2.mem ((c.tc : Thread Cert.GradFbIdeal.nD Cert.GradFbIdeal.τ).loc Cert.GradFbIdeal.main_v0) = v0 c
          ∧ r.2.mem ((c.tc : Thread Cert.GradFbIdeal.nD Cert.GradFbIdeal.τ).loc Cert.GradFbIdeal.main_arg0) = m ((c.tc : Thread Cert.GradFbIdeal.nD Cert.GradFbIdeal.τ).loc Cert.GradFbIdeal.main_arg0)
          ∧ r.2.mem ((c.tc : Thread Cert.GradFbIdeal.nD Cert.GradFbIdeal.τ).loc Cert.GradFbIdeal.main_arg1) = m ((c.tc : Thread Cert.GradFbIdeal.nD Cert.GradFbIdeal.τ).loc Cert.GradFbIdeal.main_arg1))
      ∧ θ_run (Cert.GradFbRefIdeal.defs (F := Ideal)) (onTc (τ := Cert.GradFbRefIdeal.τ) (Cert.GradFbRefIdeal.main (F := Ideal))) ⟨m', fun _ => 0, g'⟩ (fun r => ∀ c : Dev Cert.GradFbRefIdeal.nD,
          r.2.mem ((c.tc : Thread Cert.GradFbRefIdeal.nD Cert.GradFbRefIdeal.τ).loc Cert.GradFbRefIdeal.main_v2) = v0 c
          ∧ r.2.mem ((c.tc : Thread Cert.GradFbRefIdeal.nD Cert.GradFbRefIdeal.τ).loc Cert.GradFbRefIdeal.main_arg0) = m' ((c.tc : Thread Cert.GradFbRefIdeal.nD Cert.GradFbRefIdeal.τ).loc Cert.GradFbRefIdeal.main_arg0)
          ∧ r.2.mem ((c.tc : Thread Cert.GradFbRefIdeal.nD Cert.GradFbRefIdeal.τ).loc Cert.GradFbRefIdeal.main_arg1) = m' ((c.tc : Thread Cert.GradFbRefIdeal.nD Cert.GradFbRefIdeal.τ).loc Cert.GradFbRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v12) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)) (v6 : (c : Dev Cert.MergeBwdIdeal.nD) → Buf (Elt Ideal) ((c.tc : Thread Cert.MergeBwdIdeal.nD Cert.MergeBwdIdeal.τ).loc Cert.MergeBwdIdeal.main_v0_6)) (v7 : (c : Dev Cert.MergeBwdIdeal.nD) → Buf (Elt Ideal) ((c.tc : Thread Cert.MergeBwdIdeal.nD Cert.MergeBwdIdeal.τ).loc Cert.MergeBwdIdeal.main_v0_7)) (v8 : (c : Dev Cert.MergeBwdIdeal.nD) → Buf (Elt Ideal) ((c.tc : Thread Cert.MergeBwdIdeal.nD Cert.MergeBwdIdeal.τ).loc Cert.MergeBwdIdeal.main_v0_8)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_v0_6) = v6 c
          ∧ r.2.mem ((c.tc : Thread Cert.MergeBwdIdeal.nD Cert.MergeBwdIdeal.τ).loc Cert.MergeBwdIdeal.main_v0_7) = v7 c
          ∧ r.2.mem ((c.tc : Thread Cert.MergeBwdIdeal.nD Cert.MergeBwdIdeal.τ).loc Cert.MergeBwdIdeal.main_v0_8) = v8 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v13) = v0 c
          ∧ r.2.mem ((c.tc : Thread Cert.MergeBwdRefIdeal.nD Cert.MergeBwdRefIdeal.τ).loc Cert.MergeBwdRefIdeal.main_v35) = v1 c
          ∧ r.2.mem ((c.tc : Thread Cert.MergeBwdRefIdeal.nD Cert.MergeBwdRefIdeal.τ).loc Cert.MergeBwdRefIdeal.main_v57) = v2 c
          ∧ r.2.mem ((c.tc : Thread Cert.MergeBwdRefIdeal.nD Cert.MergeBwdRefIdeal.τ).loc Cert.MergeBwdRefIdeal.main_v20) = v3 c
          ∧ r.2.mem ((c.tc : Thread Cert.MergeBwdRefIdeal.nD Cert.MergeBwdRefIdeal.τ).loc Cert.MergeBwdRefIdeal.main_v42) = v4 c
          ∧ r.2.mem ((c.tc : Thread Cert.MergeBwdRefIdeal.nD Cert.MergeBwdRefIdeal.τ).loc Cert.MergeBwdRefIdeal.main_v64) = v5 c
          ∧ r.2.mem ((c.tc : Thread Cert.MergeBwdRefIdeal.nD Cert.MergeBwdRefIdeal.τ).loc Cert.MergeBwdRefIdeal.main_v22) = v6 c
          ∧ r.2.mem ((c.tc : Thread Cert.MergeBwdRefIdeal.nD Cert.MergeBwdRefIdeal.τ).loc Cert.MergeBwdRefIdeal.main_v44) = v7 c
          ∧ r.2.mem ((c.tc : Thread Cert.MergeBwdRefIdeal.nD Cert.MergeBwdRefIdeal.τ).loc Cert.MergeBwdRefIdeal.main_v66) = v8 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_NormPre_NormPreIdeal : Prop :=
  True

def algebraic_NormPreIdeal_NormPreRefIdeal [hNormPreIdeal : Cert.NormPreIdeal.Facts] [hNormPreRefIdeal : Cert.NormPreRefIdeal.Facts] : Prop :=
  ∀ (m : (ℓ : Loc Cert.NormPreIdeal.nD Cert.NormPreIdeal.τ Cert.NormPreIdeal.sig) → Buf (Elt Ideal) ℓ) (g : Dev Cert.NormPreIdeal.nD → PrngReg)
    (m' : (ℓ : Loc Cert.NormPreRefIdeal.nD Cert.NormPreRefIdeal.τ Cert.NormPreRefIdeal.sig) → Buf (Elt Ideal) ℓ) (g' : Dev Cert.NormPreRefIdeal.nD → PrngReg), Pre_NormPreIdeal m →
    (∀ c : Dev Cert.NormPreIdeal.nD,
      m' ((c.tc : Thread Cert.NormPreRefIdeal.nD Cert.NormPreRefIdeal.τ).loc Cert.NormPreRefIdeal.main_arg0) = m ((c.tc : Thread Cert.NormPreIdeal.nD Cert.NormPreIdeal.τ).loc Cert.NormPreIdeal.main_arg0)
      ∧ m' ((c.tc : Thread Cert.NormPreRefIdeal.nD Cert.NormPreRefIdeal.τ).loc Cert.NormPreRefIdeal.main_arg1) = m ((c.tc : Thread Cert.NormPreIdeal.nD Cert.NormPreIdeal.τ).loc Cert.NormPreIdeal.main_arg1)) →
    ∃ (v0 : (c : Dev Cert.NormPreIdeal.nD) → Buf (Elt Ideal) ((c.tc : Thread Cert.NormPreIdeal.nD Cert.NormPreIdeal.τ).loc Cert.NormPreIdeal.main_v0)),
      θ_run (Cert.NormPreIdeal.defs (F := Ideal)) (onTc (τ := Cert.NormPreIdeal.τ) (Cert.NormPreIdeal.main (F := Ideal))) ⟨m, fun _ => 0, g⟩ (fun r => ∀ c : Dev Cert.NormPreIdeal.nD,
          r.2.mem ((c.tc : Thread Cert.NormPreIdeal.nD Cert.NormPreIdeal.τ).loc Cert.NormPreIdeal.main_v0) = v0 c
          ∧ r.2.mem ((c.tc : Thread Cert.NormPreIdeal.nD Cert.NormPreIdeal.τ).loc Cert.NormPreIdeal.main_arg0) = m ((c.tc : Thread Cert.NormPreIdeal.nD Cert.NormPreIdeal.τ).loc Cert.NormPreIdeal.main_arg0)
          ∧ r.2.mem ((c.tc : Thread Cert.NormPreIdeal.nD Cert.NormPreIdeal.τ).loc Cert.NormPreIdeal.main_arg1) = m ((c.tc : Thread Cert.NormPreIdeal.nD Cert.NormPreIdeal.τ).loc Cert.NormPreIdeal.main_arg1))
      ∧ θ_run (Cert.NormPreRefIdeal.defs (F := Ideal)) (onTc (τ := Cert.NormPreRefIdeal.τ) (Cert.NormPreRefIdeal.main (F := Ideal))) ⟨m', fun _ => 0, g'⟩ (fun r => ∀ c : Dev Cert.NormPreRefIdeal.nD,
          r.2.mem ((c.tc : Thread Cert.NormPreRefIdeal.nD Cert.NormPreRefIdeal.τ).loc Cert.NormPreRefIdeal.main_v12) = v0 c
          ∧ r.2.mem ((c.tc : Thread Cert.NormPreRefIdeal.nD Cert.NormPreRefIdeal.τ).loc Cert.NormPreRefIdeal.main_arg0) = m' ((c.tc : Thread Cert.NormPreRefIdeal.nD Cert.NormPreRefIdeal.τ).loc Cert.NormPreRefIdeal.main_arg0)
          ∧ r.2.mem ((c.tc : Thread Cert.NormPreRefIdeal.nD Cert.NormPreRefIdeal.τ).loc Cert.NormPreRefIdeal.main_arg1) = m' ((c.tc : Thread Cert.NormPreRefIdeal.nD Cert.NormPreRefIdeal.τ).loc Cert.NormPreRefIdeal.main_arg1))

def preserves_NormKv_NormKvIdeal : Prop :=
  True

def algebraic_NormKvIdeal_NormKvRefIdeal [hNormKvIdeal : Cert.NormKvIdeal.Facts] [hNormKvRefIdeal : Cert.NormKvRefIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)) →
    ∃ (v0 : (c : Dev Cert.NormKvIdeal.nD) → Buf (Elt Ideal) ((c.tc : Thread Cert.NormKvIdeal.nD Cert.NormKvIdeal.τ).loc Cert.NormKvIdeal.main_v0)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v0) = v0 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v12) = v0 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v3) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjFb_ProjFbIdeal : Prop :=
  True

def algebraic_ProjFbIdeal_ProjFbRefIdeal [hProjFbIdeal : Cert.ProjFbIdeal.Facts] [hProjFbRefIdeal : Cert.ProjFbRefIdeal.Facts] : Prop :=
  ∀ (m : (ℓ : Loc Cert.ProjFbIdeal.nD Cert.ProjFbIdeal.τ Cert.ProjFbIdeal.sig) → Buf (Elt Ideal) ℓ) (g : Dev Cert.ProjFbIdeal.nD → PrngReg)
    (m' : (ℓ : Loc Cert.ProjFbRefIdeal.nD Cert.ProjFbRefIdeal.τ Cert.ProjFbRefIdeal.sig) → Buf (Elt Ideal) ℓ) (g' : Dev Cert.ProjFbRefIdeal.nD → PrngReg), Pre_ProjFbIdeal m →
    (∀ c : Dev Cert.ProjFbIdeal.nD,
      m' ((c.tc : Thread Cert.ProjFbRefIdeal.nD Cert.ProjFbRefIdeal.τ).loc Cert.ProjFbRefIdeal.main_arg0) = m ((c.tc : Thread Cert.ProjFbIdeal.nD Cert.ProjFbIdeal.τ).loc Cert.ProjFbIdeal.main_arg0)
      ∧ m' ((c.tc : Thread Cert.ProjFbRefIdeal.nD Cert.ProjFbRefIdeal.τ).loc Cert.ProjFbRefIdeal.main_arg1) = m ((c.tc : Thread Cert.ProjFbIdeal.nD Cert.ProjFbIdeal.τ).loc Cert.ProjFbIdeal.main_arg1)) →
    ∃ (v0 : (c : Dev Cert.ProjFbIdeal.nD) → Buf (Elt Ideal) ((c.tc : Thread Cert.ProjFbIdeal.nD Cert.ProjFbIdeal.τ).loc Cert.ProjFbIdeal.main_v0)),
      θ_run (Cert.ProjFbIdeal.defs (F := Ideal)) (onTc (τ := Cert.ProjFbIdeal.τ) (Cert.ProjFbIdeal.main (F := Ideal))) ⟨m, fun _ => 0, g⟩ (fun r => ∀ c : Dev Cert.ProjFbIdeal.nD,
          r.2.mem ((c.tc : Thread Cert.ProjFbIdeal.nD Cert.ProjFbIdeal.τ).loc Cert.ProjFbIdeal.main_v0) = v0 c
          ∧ r.2.mem ((c.tc : Thread Cert.ProjFbIdeal.nD Cert.ProjFbIdeal.τ).loc Cert.ProjFbIdeal.main_arg0) = m ((c.tc : Thread Cert.ProjFbIdeal.nD Cert.ProjFbIdeal.τ).loc Cert.ProjFbIdeal.main_arg0)
          ∧ r.2.mem ((c.tc : Thread Cert.ProjFbIdeal.nD Cert.ProjFbIdeal.τ).loc Cert.ProjFbIdeal.main_arg1) = m ((c.tc : Thread Cert.ProjFbIdeal.nD Cert.ProjFbIdeal.τ).loc Cert.ProjFbIdeal.main_arg1))
      ∧ θ_run (Cert.ProjFbRefIdeal.defs (F := Ideal)) (onTc (τ := Cert.ProjFbRefIdeal.τ) (Cert.ProjFbRefIdeal.main (F := Ideal))) ⟨m', fun _ => 0, g'⟩ (fun r => ∀ c : Dev Cert.ProjFbRefIdeal.nD,
          r.2.mem ((c.tc : Thread Cert.ProjFbRefIdeal.nD Cert.ProjFbRefIdeal.τ).loc Cert.ProjFbRefIdeal.main_v2) = v0 c
          ∧ r.2.mem ((c.tc : Thread Cert.ProjFbRefIdeal.nD Cert.ProjFbRefIdeal.τ).loc Cert.ProjFbRefIdeal.main_arg0) = m' ((c.tc : Thread Cert.ProjFbRefIdeal.nD Cert.ProjFbRefIdeal.τ).loc Cert.ProjFbRefIdeal.main_arg0)
          ∧ r.2.mem ((c.tc : Thread Cert.ProjFbRefIdeal.nD Cert.ProjFbRefIdeal.τ).loc Cert.ProjFbRefIdeal.main_arg1) = m' ((c.tc : Thread Cert.ProjFbRefIdeal.nD Cert.ProjFbRefIdeal.τ).loc Cert.ProjFbRefIdeal.main_arg1))

def preserves_ProjMem_ProjMemIdeal : Prop :=
  True

def algebraic_ProjMemIdeal_ProjMemRefIdeal [hProjMemIdeal : Cert.ProjMemIdeal.Facts] [hProjMemRefIdeal : Cert.ProjMemRefIdeal.Facts] : Prop :=
  ∀ (m : (ℓ : Loc Cert.ProjMemIdeal.nD Cert.ProjMemIdeal.τ Cert.ProjMemIdeal.sig) → Buf (Elt Ideal) ℓ) (g : Dev Cert.ProjMemIdeal.nD → PrngReg)
    (m' : (ℓ : Loc Cert.ProjMemRefIdeal.nD Cert.ProjMemRefIdeal.τ Cert.ProjMemRefIdeal.sig) → Buf (Elt Ideal) ℓ) (g' : Dev Cert.ProjMemRefIdeal.nD → PrngReg), Pre_ProjMemIdeal m →
    (∀ c : Dev Cert.ProjMemIdeal.nD,
      m' ((c.tc : Thread Cert.ProjMemRefIdeal.nD Cert.ProjMemRefIdeal.τ).loc Cert.ProjMemRefIdeal.main_arg0) = m ((c.tc : Thread Cert.ProjMemIdeal.nD Cert.ProjMemIdeal.τ).loc Cert.ProjMemIdeal.main_arg0)
      ∧ m' ((c.tc : Thread Cert.ProjMemRefIdeal.nD Cert.ProjMemRefIdeal.τ).loc Cert.ProjMemRefIdeal.main_arg1) = m ((c.tc : Thread Cert.ProjMemIdeal.nD Cert.ProjMemIdeal.τ).loc Cert.ProjMemIdeal.main_arg1)) →
    ∃ (v0 : (c : Dev Cert.ProjMemIdeal.nD) → Buf (Elt Ideal) ((c.tc : Thread Cert.ProjMemIdeal.nD Cert.ProjMemIdeal.τ).loc Cert.ProjMemIdeal.main_v0)),
      θ_run (Cert.ProjMemIdeal.defs (F := Ideal)) (onTc (τ := Cert.ProjMemIdeal.τ) (Cert.ProjMemIdeal.main (F := Ideal))) ⟨m, fun _ => 0, g⟩ (fun r => ∀ c : Dev Cert.ProjMemIdeal.nD,
          r.2.mem ((c.tc : Thread Cert.ProjMemIdeal.nD Cert.ProjMemIdeal.τ).loc Cert.ProjMemIdeal.main_v0) = v0 c
          ∧ r.2.mem ((c.tc : Thread Cert.ProjMemIdeal.nD Cert.ProjMemIdeal.τ).loc Cert.ProjMemIdeal.main_arg0) = m ((c.tc : Thread Cert.ProjMemIdeal.nD Cert.ProjMemIdeal.τ).loc Cert.ProjMemIdeal.main_arg0)
          ∧ r.2.mem ((c.tc : Thread Cert.ProjMemIdeal.nD Cert.ProjMemIdeal.τ).loc Cert.ProjMemIdeal.main_arg1) = m ((c.tc : Thread Cert.ProjMemIdeal.nD Cert.ProjMemIdeal.τ).loc Cert.ProjMemIdeal.main_arg1))
      ∧ θ_run (Cert.ProjMemRefIdeal.defs (F := Ideal)) (onTc (τ := Cert.ProjMemRefIdeal.τ) (Cert.ProjMemRefIdeal.main (F := Ideal))) ⟨m', fun _ => 0, g'⟩ (fun r => ∀ c : Dev Cert.ProjMemRefIdeal.nD,
          r.2.mem ((c.tc : Thread Cert.ProjMemRefIdeal.nD Cert.ProjMemRefIdeal.τ).loc Cert.ProjMemRefIdeal.main_v3) = v0 c
          ∧ r.2.mem ((c.tc : Thread Cert.ProjMemRefIdeal.nD Cert.ProjMemRefIdeal.τ).loc Cert.ProjMemRefIdeal.main_arg0) = m' ((c.tc : Thread Cert.ProjMemRefIdeal.nD Cert.ProjMemRefIdeal.τ).loc Cert.ProjMemRefIdeal.main_arg0)
          ∧ r.2.mem ((c.tc : Thread Cert.ProjMemRefIdeal.nD Cert.ProjMemRefIdeal.τ).loc Cert.ProjMemRefIdeal.main_arg1) = m' ((c.tc : Thread Cert.ProjMemRefIdeal.nD Cert.ProjMemRefIdeal.τ).loc Cert.ProjMemRefIdeal.main_arg1))

def preserves_ProjBranch_ProjBranchIdeal : Prop :=
  True

def algebraic_ProjBranchIdeal_ProjBranchRefIdeal [hProjBranchIdeal : Cert.ProjBranchIdeal.Facts] [hProjBranchRefIdeal : Cert.ProjBranchRefIdeal.Facts] : Prop :=
  ∀ (m : (ℓ : Loc Cert.ProjBranchIdeal.nD Cert.ProjBranchIdeal.τ Cert.ProjBranchIdeal.sig) → Buf (Elt Ideal) ℓ) (g : Dev Cert.ProjBranchIdeal.nD → PrngReg)
    (m' : (ℓ : Loc Cert.ProjBranchRefIdeal.nD Cert.ProjBranchRefIdeal.τ Cert.ProjBranchRefIdeal.sig) → Buf (Elt Ideal) ℓ) (g' : Dev Cert.ProjBranchRefIdeal.nD → PrngReg), Pre_ProjBranchIdeal m →
    (∀ c : Dev Cert.ProjBranchIdeal.nD,
      m' ((c.tc : Thread Cert.ProjBranchRefIdeal.nD Cert.ProjBranchRefIdeal.τ).loc Cert.ProjBranchRefIdeal.main_arg0) = m ((c.tc : Thread Cert.ProjBranchIdeal.nD Cert.ProjBranchIdeal.τ).loc Cert.ProjBranchIdeal.main_arg0)
      ∧ m' ((c.tc : Thread Cert.ProjBranchRefIdeal.nD Cert.ProjBranchRefIdeal.τ).loc Cert.ProjBranchRefIdeal.main_arg1) = m ((c.tc : Thread Cert.ProjBranchIdeal.nD Cert.ProjBranchIdeal.τ).loc Cert.ProjBranchIdeal.main_arg1)) →
    ∃ (v0 : (c : Dev Cert.ProjBranchIdeal.nD) → Buf (Elt Ideal) ((c.tc : Thread Cert.ProjBranchIdeal.nD Cert.ProjBranchIdeal.τ).loc Cert.ProjBranchIdeal.main_v0)),
      θ_run (Cert.ProjBranchIdeal.defs (F := Ideal)) (onTc (τ := Cert.ProjBranchIdeal.τ) (Cert.ProjBranchIdeal.main (F := Ideal))) ⟨m, fun _ => 0, g⟩ (fun r => ∀ c : Dev Cert.ProjBranchIdeal.nD,
          r.2.mem ((c.tc : Thread Cert.ProjBranchIdeal.nD Cert.ProjBranchIdeal.τ).loc Cert.ProjBranchIdeal.main_v0) = v0 c
          ∧ r.2.mem ((c.tc : Thread Cert.ProjBranchIdeal.nD Cert.ProjBranchIdeal.τ).loc Cert.ProjBranchIdeal.main_arg0) = m ((c.tc : Thread Cert.ProjBranchIdeal.nD Cert.ProjBranchIdeal.τ).loc Cert.ProjBranchIdeal.main_arg0)
          ∧ r.2.mem ((c.tc : Thread Cert.ProjBranchIdeal.nD Cert.ProjBranchIdeal.τ).loc Cert.ProjBranchIdeal.main_arg1) = m ((c.tc : Thread Cert.ProjBranchIdeal.nD Cert.ProjBranchIdeal.τ).loc Cert.ProjBranchIdeal.main_arg1))
      ∧ θ_run (Cert.ProjBranchRefIdeal.defs (F := Ideal)) (onTc (τ := Cert.ProjBranchRefIdeal.τ) (Cert.ProjBranchRefIdeal.main (F := Ideal))) ⟨m', fun _ => 0, g'⟩ (fun r => ∀ c : Dev Cert.ProjBranchRefIdeal.nD,
          r.2.mem ((c.tc : Thread Cert.ProjBranchRefIdeal.nD Cert.ProjBranchRefIdeal.τ).loc Cert.ProjBranchRefIdeal.main_v3) = v0 c
          ∧ r.2.mem ((c.tc : Thread Cert.ProjBranchRefIdeal.nD Cert.ProjBranchRefIdeal.τ).loc Cert.ProjBranchRefIdeal.main_arg0) = m' ((c.tc : Thread Cert.ProjBranchRefIdeal.nD Cert.ProjBranchRefIdeal.τ).loc Cert.ProjBranchRefIdeal.main_arg0)
          ∧ r.2.mem ((c.tc : Thread Cert.ProjBranchRefIdeal.nD Cert.ProjBranchRefIdeal.τ).loc Cert.ProjBranchRefIdeal.main_arg1) = m' ((c.tc : Thread Cert.ProjBranchRefIdeal.nD Cert.ProjBranchRefIdeal.τ).loc Cert.ProjBranchRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v2) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1))

def preserves_BackMerged_BackMergedIdeal : Prop :=
  True

def algebraic_BackMergedIdeal_BackMergedRefIdeal [hBackMergedIdeal : Cert.BackMergedIdeal.Facts] [hBackMergedRefIdeal : Cert.BackMergedRefIdeal.Facts] : Prop :=
  ∀ (m : (ℓ : Loc Cert.BackMergedIdeal.nD Cert.BackMergedIdeal.τ Cert.BackMergedIdeal.sig) → Buf (Elt Ideal) ℓ) (g : Dev Cert.BackMergedIdeal.nD → PrngReg)
    (m' : (ℓ : Loc Cert.BackMergedRefIdeal.nD Cert.BackMergedRefIdeal.τ Cert.BackMergedRefIdeal.sig) → Buf (Elt Ideal) ℓ) (g' : Dev Cert.BackMergedRefIdeal.nD → PrngReg), Pre_BackMergedIdeal m →
    (∀ c : Dev Cert.BackMergedIdeal.nD,
      m' ((c.tc : Thread Cert.BackMergedRefIdeal.nD Cert.BackMergedRefIdeal.τ).loc Cert.BackMergedRefIdeal.main_arg0) = m ((c.tc : Thread Cert.BackMergedIdeal.nD Cert.BackMergedIdeal.τ).loc Cert.BackMergedIdeal.main_arg0)
      ∧ m' ((c.tc : Thread Cert.BackMergedRefIdeal.nD Cert.BackMergedRefIdeal.τ).loc Cert.BackMergedRefIdeal.main_arg1) = m ((c.tc : Thread Cert.BackMergedIdeal.nD Cert.BackMergedIdeal.τ).loc Cert.BackMergedIdeal.main_arg1)) →
    ∃ (v0 : (c : Dev Cert.BackMergedIdeal.nD) → Buf (Elt Ideal) ((c.tc : Thread Cert.BackMergedIdeal.nD Cert.BackMergedIdeal.τ).loc Cert.BackMergedIdeal.main_v0)),
      θ_run (Cert.BackMergedIdeal.defs (F := Ideal)) (onTc (τ := Cert.BackMergedIdeal.τ) (Cert.BackMergedIdeal.main (F := Ideal))) ⟨m, fun _ => 0, g⟩ (fun r => ∀ c : Dev Cert.BackMergedIdeal.nD,
          r.2.mem ((c.tc : Thread Cert.BackMergedIdeal.nD Cert.BackMergedIdeal.τ).loc Cert.BackMergedIdeal.main_v0) = v0 c
          ∧ r.2.mem ((c.tc : Thread Cert.BackMergedIdeal.nD Cert.BackMergedIdeal.τ).loc Cert.BackMergedIdeal.main_arg0) = m ((c.tc : Thread Cert.BackMergedIdeal.nD Cert.BackMergedIdeal.τ).loc Cert.BackMergedIdeal.main_arg0)
          ∧ r.2.mem ((c.tc : Thread Cert.BackMergedIdeal.nD Cert.BackMergedIdeal.τ).loc Cert.BackMergedIdeal.main_arg1) = m ((c.tc : Thread Cert.BackMergedIdeal.nD Cert.BackMergedIdeal.τ).loc Cert.BackMergedIdeal.main_arg1))
      ∧ θ_run (Cert.BackMergedRefIdeal.defs (F := Ideal)) (onTc (τ := Cert.BackMergedRefIdeal.τ) (Cert.BackMergedRefIdeal.main (F := Ideal))) ⟨m', fun _ => 0, g'⟩ (fun r => ∀ c : Dev Cert.BackMergedRefIdeal.nD,
          r.2.mem ((c.tc : Thread Cert.BackMergedRefIdeal.nD Cert.BackMergedRefIdeal.τ).loc Cert.BackMergedRefIdeal.main_v3) = v0 c
          ∧ r.2.mem ((c.tc : Thread Cert.BackMergedRefIdeal.nD Cert.BackMergedRefIdeal.τ).loc Cert.BackMergedRefIdeal.main_arg0) = m' ((c.tc : Thread Cert.BackMergedRefIdeal.nD Cert.BackMergedRefIdeal.τ).loc Cert.BackMergedRefIdeal.main_arg0)
          ∧ r.2.mem ((c.tc : Thread Cert.BackMergedRefIdeal.nD Cert.BackMergedRefIdeal.τ).loc Cert.BackMergedRefIdeal.main_arg1) = m' ((c.tc : Thread Cert.BackMergedRefIdeal.nD Cert.BackMergedRefIdeal.τ).loc Cert.BackMergedRefIdeal.main_arg1))

def preserves_BackBranch_BackBranchIdeal : Prop :=
  True

def algebraic_BackBranchIdeal_BackBranchRefIdeal [hBackBranchIdeal : Cert.BackBranchIdeal.Facts] [hBackBranchRefIdeal : Cert.BackBranchRefIdeal.Facts] : Prop :=
  ∀ (m : (ℓ : Loc Cert.BackBranchIdeal.nD Cert.BackBranchIdeal.τ Cert.BackBranchIdeal.sig) → Buf (Elt Ideal) ℓ) (g : Dev Cert.BackBranchIdeal.nD → PrngReg)
    (m' : (ℓ : Loc Cert.BackBranchRefIdeal.nD Cert.BackBranchRefIdeal.τ Cert.BackBranchRefIdeal.sig) → Buf (Elt Ideal) ℓ) (g' : Dev Cert.BackBranchRefIdeal.nD → PrngReg), Pre_BackBranchIdeal m →
    (∀ c : Dev Cert.BackBranchIdeal.nD,
      m' ((c.tc : Thread Cert.BackBranchRefIdeal.nD Cert.BackBranchRefIdeal.τ).loc Cert.BackBranchRefIdeal.main_arg0) = m ((c.tc : Thread Cert.BackBranchIdeal.nD Cert.BackBranchIdeal.τ).loc Cert.BackBranchIdeal.main_arg0)
      ∧ m' ((c.tc : Thread Cert.BackBranchRefIdeal.nD Cert.BackBranchRefIdeal.τ).loc Cert.BackBranchRefIdeal.main_arg1) = m ((c.tc : Thread Cert.BackBranchIdeal.nD Cert.BackBranchIdeal.τ).loc Cert.BackBranchIdeal.main_arg1)) →
    ∃ (v0 : (c : Dev Cert.BackBranchIdeal.nD) → Buf (Elt Ideal) ((c.tc : Thread Cert.BackBranchIdeal.nD Cert.BackBranchIdeal.τ).loc Cert.BackBranchIdeal.main_v0)),
      θ_run (Cert.BackBranchIdeal.defs (F := Ideal)) (onTc (τ := Cert.BackBranchIdeal.τ) (Cert.BackBranchIdeal.main (F := Ideal))) ⟨m, fun _ => 0, g⟩ (fun r => ∀ c : Dev Cert.BackBranchIdeal.nD,
          r.2.mem ((c.tc : Thread Cert.BackBranchIdeal.nD Cert.BackBranchIdeal.τ).loc Cert.BackBranchIdeal.main_v0) = v0 c
          ∧ r.2.mem ((c.tc : Thread Cert.BackBranchIdeal.nD Cert.BackBranchIdeal.τ).loc Cert.BackBranchIdeal.main_arg0) = m ((c.tc : Thread Cert.BackBranchIdeal.nD Cert.BackBranchIdeal.τ).loc Cert.BackBranchIdeal.main_arg0)
          ∧ r.2.mem ((c.tc : Thread Cert.BackBranchIdeal.nD Cert.BackBranchIdeal.τ).loc Cert.BackBranchIdeal.main_arg1) = m ((c.tc : Thread Cert.BackBranchIdeal.nD Cert.BackBranchIdeal.τ).loc Cert.BackBranchIdeal.main_arg1))
      ∧ θ_run (Cert.BackBranchRefIdeal.defs (F := Ideal)) (onTc (τ := Cert.BackBranchRefIdeal.τ) (Cert.BackBranchRefIdeal.main (F := Ideal))) ⟨m', fun _ => 0, g'⟩ (fun r => ∀ c : Dev Cert.BackBranchRefIdeal.nD,
          r.2.mem ((c.tc : Thread Cert.BackBranchRefIdeal.nD Cert.BackBranchRefIdeal.τ).loc Cert.BackBranchRefIdeal.main_v3) = v0 c
          ∧ r.2.mem ((c.tc : Thread Cert.BackBranchRefIdeal.nD Cert.BackBranchRefIdeal.τ).loc Cert.BackBranchRefIdeal.main_arg0) = m' ((c.tc : Thread Cert.BackBranchRefIdeal.nD Cert.BackBranchRefIdeal.τ).loc Cert.BackBranchRefIdeal.main_arg0)
          ∧ r.2.mem ((c.tc : Thread Cert.BackBranchRefIdeal.nD Cert.BackBranchRefIdeal.τ).loc Cert.BackBranchRefIdeal.main_arg1) = m' ((c.tc : Thread Cert.BackBranchRefIdeal.nD Cert.BackBranchRefIdeal.τ).loc Cert.BackBranchRefIdeal.main_arg1))

def preserves_BackMem_BackMemIdeal : Prop :=
  True

def algebraic_BackMemIdeal_BackMemRefIdeal [hBackMemIdeal : Cert.BackMemIdeal.Facts] [hBackMemRefIdeal : Cert.BackMemRefIdeal.Facts] : Prop :=
  ∀ (m : (ℓ : Loc Cert.BackMemIdeal.nD Cert.BackMemIdeal.τ Cert.BackMemIdeal.sig) → Buf (Elt Ideal) ℓ) (g : Dev Cert.BackMemIdeal.nD → PrngReg)
    (m' : (ℓ : Loc Cert.BackMemRefIdeal.nD Cert.BackMemRefIdeal.τ Cert.BackMemRefIdeal.sig) → Buf (Elt Ideal) ℓ) (g' : Dev Cert.BackMemRefIdeal.nD → PrngReg), Pre_BackMemIdeal m →
    (∀ c : Dev Cert.BackMemIdeal.nD,
      m' ((c.tc : Thread Cert.BackMemRefIdeal.nD Cert.BackMemRefIdeal.τ).loc Cert.BackMemRefIdeal.main_arg0) = m ((c.tc : Thread Cert.BackMemIdeal.nD Cert.BackMemIdeal.τ).loc Cert.BackMemIdeal.main_arg0)
      ∧ m' ((c.tc : Thread Cert.BackMemRefIdeal.nD Cert.BackMemRefIdeal.τ).loc Cert.BackMemRefIdeal.main_arg1) = m ((c.tc : Thread Cert.BackMemIdeal.nD Cert.BackMemIdeal.τ).loc Cert.BackMemIdeal.main_arg1)) →
    ∃ (v0 : (c : Dev Cert.BackMemIdeal.nD) → Buf (Elt Ideal) ((c.tc : Thread Cert.BackMemIdeal.nD Cert.BackMemIdeal.τ).loc Cert.BackMemIdeal.main_v0)),
      θ_run (Cert.BackMemIdeal.defs (F := Ideal)) (onTc (τ := Cert.BackMemIdeal.τ) (Cert.BackMemIdeal.main (F := Ideal))) ⟨m, fun _ => 0, g⟩ (fun r => ∀ c : Dev Cert.BackMemIdeal.nD,
          r.2.mem ((c.tc : Thread Cert.BackMemIdeal.nD Cert.BackMemIdeal.τ).loc Cert.BackMemIdeal.main_v0) = v0 c
          ∧ r.2.mem ((c.tc : Thread Cert.BackMemIdeal.nD Cert.BackMemIdeal.τ).loc Cert.BackMemIdeal.main_arg0) = m ((c.tc : Thread Cert.BackMemIdeal.nD Cert.BackMemIdeal.τ).loc Cert.BackMemIdeal.main_arg0)
          ∧ r.2.mem ((c.tc : Thread Cert.BackMemIdeal.nD Cert.BackMemIdeal.τ).loc Cert.BackMemIdeal.main_arg1) = m ((c.tc : Thread Cert.BackMemIdeal.nD Cert.BackMemIdeal.τ).loc Cert.BackMemIdeal.main_arg1))
      ∧ θ_run (Cert.BackMemRefIdeal.defs (F := Ideal)) (onTc (τ := Cert.BackMemRefIdeal.τ) (Cert.BackMemRefIdeal.main (F := Ideal))) ⟨m', fun _ => 0, g'⟩ (fun r => ∀ c : Dev Cert.BackMemRefIdeal.nD,
          r.2.mem ((c.tc : Thread Cert.BackMemRefIdeal.nD Cert.BackMemRefIdeal.τ).loc Cert.BackMemRefIdeal.main_v1) = v0 c
          ∧ r.2.mem ((c.tc : Thread Cert.BackMemRefIdeal.nD Cert.BackMemRefIdeal.τ).loc Cert.BackMemRefIdeal.main_arg0) = m' ((c.tc : Thread Cert.BackMemRefIdeal.nD Cert.BackMemRefIdeal.τ).loc Cert.BackMemRefIdeal.main_arg0)
          ∧ r.2.mem ((c.tc : Thread Cert.BackMemRefIdeal.nD Cert.BackMemRefIdeal.τ).loc Cert.BackMemRefIdeal.main_arg1) = m' ((c.tc : Thread Cert.BackMemRefIdeal.nD Cert.BackMemRefIdeal.τ).loc Cert.BackMemRefIdeal.main_arg1))

def preserves_BackIn_BackInIdeal : Prop :=
  True

def algebraic_BackInIdeal_BackInRefIdeal [hBackInIdeal : Cert.BackInIdeal.Facts] [hBackInRefIdeal : Cert.BackInRefIdeal.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.BackInRefIdeal.nD Cert.BackInRefIdeal.τ Cert.BackInRefIdeal.sig) → Buf (Elt Ideal) ℓ) (g' : Dev Cert.BackInRefIdeal.nD → PrngReg), Pre_BackInIdeal m →
    (∀ c : Dev Cert.BackInIdeal.nD,
      m' ((c.tc : Thread Cert.BackInRefIdeal.nD Cert.BackInRefIdeal.τ).loc Cert.BackInRefIdeal.main_arg0) = m ((c.tc : Thread Cert.BackInIdeal.nD Cert.BackInIdeal.τ).loc Cert.BackInIdeal.main_arg0)
      ∧ m' ((c.tc : Thread Cert.BackInRefIdeal.nD Cert.BackInRefIdeal.τ).loc Cert.BackInRefIdeal.main_arg1) = m ((c.tc : Thread Cert.BackInIdeal.nD Cert.BackInIdeal.τ).loc Cert.BackInIdeal.main_arg1)) →
    ∃ (v0 : (c : Dev Cert.BackInIdeal.nD) → Buf (Elt Ideal) ((c.tc : Thread Cert.BackInIdeal.nD Cert.BackInIdeal.τ).loc Cert.BackInIdeal.main_v0)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v0) = v0 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ θ_run (Cert.BackInRefIdeal.defs (F := Ideal)) (onTc (τ := Cert.BackInRefIdeal.τ) (Cert.BackInRefIdeal.main (F := Ideal))) ⟨m', fun _ => 0, g'⟩ (fun r => ∀ c : Dev Cert.BackInRefIdeal.nD,
          r.2.mem ((c.tc : Thread Cert.BackInRefIdeal.nD Cert.BackInRefIdeal.τ).loc Cert.BackInRefIdeal.main_v2) = v0 c
          ∧ r.2.mem ((c.tc : Thread Cert.BackInRefIdeal.nD Cert.BackInRefIdeal.τ).loc Cert.BackInRefIdeal.main_arg0) = m' ((c.tc : Thread Cert.BackInRefIdeal.nD Cert.BackInRefIdeal.τ).loc Cert.BackInRefIdeal.main_arg0)
          ∧ r.2.mem ((c.tc : Thread Cert.BackInRefIdeal.nD Cert.BackInRefIdeal.τ).loc Cert.BackInRefIdeal.main_arg1) = m' ((c.tc : Thread Cert.BackInRefIdeal.nD Cert.BackInRefIdeal.τ).loc Cert.BackInRefIdeal.main_arg1))

def preserves_BackFb_BackFbIdeal : Prop :=
  True

def algebraic_BackFbIdeal_BackFbRefIdeal [hBackFbIdeal : Cert.BackFbIdeal.Facts] [hBackFbRefIdeal : Cert.BackFbRefIdeal.Facts] : Prop :=
  ∀ (m : (ℓ : Loc Cert.BackFbIdeal.nD Cert.BackFbIdeal.τ Cert.BackFbIdeal.sig) → Buf (Elt Ideal) ℓ) (g : Dev Cert.BackFbIdeal.nD → PrngReg)
    (m' : (ℓ : Loc Cert.BackFbRefIdeal.nD Cert.BackFbRefIdeal.τ Cert.BackFbRefIdeal.sig) → Buf (Elt Ideal) ℓ) (g' : Dev Cert.BackFbRefIdeal.nD → PrngReg), Pre_BackFbIdeal m →
    (∀ c : Dev Cert.BackFbIdeal.nD,
      m' ((c.tc : Thread Cert.BackFbRefIdeal.nD Cert.BackFbRefIdeal.τ).loc Cert.BackFbRefIdeal.main_arg0) = m ((c.tc : Thread Cert.BackFbIdeal.nD Cert.BackFbIdeal.τ).loc Cert.BackFbIdeal.main_arg0)
      ∧ m' ((c.tc : Thread Cert.BackFbRefIdeal.nD Cert.BackFbRefIdeal.τ).loc Cert.BackFbRefIdeal.main_arg1) = m ((c.tc : Thread Cert.BackFbIdeal.nD Cert.BackFbIdeal.τ).loc Cert.BackFbIdeal.main_arg1)) →
    ∃ (v0 : (c : Dev Cert.BackFbIdeal.nD) → Buf (Elt Ideal) ((c.tc : Thread Cert.BackFbIdeal.nD Cert.BackFbIdeal.τ).loc Cert.BackFbIdeal.main_v0)),
      θ_run (Cert.BackFbIdeal.defs (F := Ideal)) (onTc (τ := Cert.BackFbIdeal.τ) (Cert.BackFbIdeal.main (F := Ideal))) ⟨m, fun _ => 0, g⟩ (fun r => ∀ c : Dev Cert.BackFbIdeal.nD,
          r.2.mem ((c.tc : Thread Cert.BackFbIdeal.nD Cert.BackFbIdeal.τ).loc Cert.BackFbIdeal.main_v0) = v0 c
          ∧ r.2.mem ((c.tc : Thread Cert.BackFbIdeal.nD Cert.BackFbIdeal.τ).loc Cert.BackFbIdeal.main_arg0) = m ((c.tc : Thread Cert.BackFbIdeal.nD Cert.BackFbIdeal.τ).loc Cert.BackFbIdeal.main_arg0)
          ∧ r.2.mem ((c.tc : Thread Cert.BackFbIdeal.nD Cert.BackFbIdeal.τ).loc Cert.BackFbIdeal.main_arg1) = m ((c.tc : Thread Cert.BackFbIdeal.nD Cert.BackFbIdeal.τ).loc Cert.BackFbIdeal.main_arg1))
      ∧ θ_run (Cert.BackFbRefIdeal.defs (F := Ideal)) (onTc (τ := Cert.BackFbRefIdeal.τ) (Cert.BackFbRefIdeal.main (F := Ideal))) ⟨m', fun _ => 0, g'⟩ (fun r => ∀ c : Dev Cert.BackFbRefIdeal.nD,
          r.2.mem ((c.tc : Thread Cert.BackFbRefIdeal.nD Cert.BackFbRefIdeal.τ).loc Cert.BackFbRefIdeal.main_v2) = v0 c
          ∧ r.2.mem ((c.tc : Thread Cert.BackFbRefIdeal.nD Cert.BackFbRefIdeal.τ).loc Cert.BackFbRefIdeal.main_arg0) = m' ((c.tc : Thread Cert.BackFbRefIdeal.nD Cert.BackFbRefIdeal.τ).loc Cert.BackFbRefIdeal.main_arg0)
          ∧ r.2.mem ((c.tc : Thread Cert.BackFbRefIdeal.nD Cert.BackFbRefIdeal.τ).loc Cert.BackFbRefIdeal.main_arg1) = m' ((c.tc : Thread Cert.BackFbRefIdeal.nD Cert.BackFbRefIdeal.τ).loc Cert.BackFbRefIdeal.main_arg1))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)) →
    ∃ (v0 : (c : Dev Cert.GateBIdeal.nD) → Buf (Elt Ideal) ((c.tc : Thread Cert.GateBIdeal.nD Cert.GateBIdeal.τ).loc Cert.GateBIdeal.main_v0)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v5) = v0 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1))

def preserves_GateM_GateMIdeal : Prop :=
  True

def algebraic_GateMIdeal_GateMRefIdeal [hGateMIdeal : Cert.GateMIdeal.Facts] [hGateMRefIdeal : Cert.GateMRefIdeal.Facts] : Prop :=
  ∀ (m : (ℓ : Loc Cert.GateMIdeal.nD Cert.GateMIdeal.τ Cert.GateMIdeal.sig) → Buf (Elt Ideal) ℓ) (g : Dev Cert.GateMIdeal.nD → PrngReg)
    (m' : (ℓ : Loc Cert.GateMRefIdeal.nD Cert.GateMRefIdeal.τ Cert.GateMRefIdeal.sig) → Buf (Elt Ideal) ℓ) (g' : Dev Cert.GateMRefIdeal.nD → PrngReg), Pre_GateMIdeal m →
    (∀ c : Dev Cert.GateMIdeal.nD,
      m' ((c.tc : Thread Cert.GateMRefIdeal.nD Cert.GateMRefIdeal.τ).loc Cert.GateMRefIdeal.main_arg0) = m ((c.tc : Thread Cert.GateMIdeal.nD Cert.GateMIdeal.τ).loc Cert.GateMIdeal.main_arg0)
      ∧ m' ((c.tc : Thread Cert.GateMRefIdeal.nD Cert.GateMRefIdeal.τ).loc Cert.GateMRefIdeal.main_arg1) = m ((c.tc : Thread Cert.GateMIdeal.nD Cert.GateMIdeal.τ).loc Cert.GateMIdeal.main_arg1)) →
    ∃ (v0 : (c : Dev Cert.GateMIdeal.nD) → Buf (Elt Ideal) ((c.tc : Thread Cert.GateMIdeal.nD Cert.GateMIdeal.τ).loc Cert.GateMIdeal.main_v0)),
      θ_run (Cert.GateMIdeal.defs (F := Ideal)) (onTc (τ := Cert.GateMIdeal.τ) (Cert.GateMIdeal.main (F := Ideal))) ⟨m, fun _ => 0, g⟩ (fun r => ∀ c : Dev Cert.GateMIdeal.nD,
          r.2.mem ((c.tc : Thread Cert.GateMIdeal.nD Cert.GateMIdeal.τ).loc Cert.GateMIdeal.main_v0) = v0 c
          ∧ r.2.mem ((c.tc : Thread Cert.GateMIdeal.nD Cert.GateMIdeal.τ).loc Cert.GateMIdeal.main_arg0) = m ((c.tc : Thread Cert.GateMIdeal.nD Cert.GateMIdeal.τ).loc Cert.GateMIdeal.main_arg0)
          ∧ r.2.mem ((c.tc : Thread Cert.GateMIdeal.nD Cert.GateMIdeal.τ).loc Cert.GateMIdeal.main_arg1) = m ((c.tc : Thread Cert.GateMIdeal.nD Cert.GateMIdeal.τ).loc Cert.GateMIdeal.main_arg1))
      ∧ θ_run (Cert.GateMRefIdeal.defs (F := Ideal)) (onTc (τ := Cert.GateMRefIdeal.τ) (Cert.GateMRefIdeal.main (F := Ideal))) ⟨m', fun _ => 0, g'⟩ (fun r => ∀ c : Dev Cert.GateMRefIdeal.nD,
          r.2.mem ((c.tc : Thread Cert.GateMRefIdeal.nD Cert.GateMRefIdeal.τ).loc Cert.GateMRefIdeal.main_v5) = v0 c
          ∧ r.2.mem ((c.tc : Thread Cert.GateMRefIdeal.nD Cert.GateMRefIdeal.τ).loc Cert.GateMRefIdeal.main_arg0) = m' ((c.tc : Thread Cert.GateMRefIdeal.nD Cert.GateMRefIdeal.τ).loc Cert.GateMRefIdeal.main_arg0)
          ∧ r.2.mem ((c.tc : Thread Cert.GateMRefIdeal.nD Cert.GateMRefIdeal.τ).loc Cert.GateMRefIdeal.main_arg1) = m' ((c.tc : Thread Cert.GateMRefIdeal.nD Cert.GateMRefIdeal.τ).loc Cert.GateMRefIdeal.main_arg1))

def preserves_GateBwdB_GateBwdBIdeal : Prop :=
  True

def algebraic_GateBwdBIdeal_GateBwdBRefIdeal [hGateBwdBIdeal : Cert.GateBwdBIdeal.Facts] [hGateBwdBRefIdeal : Cert.GateBwdBRefIdeal.Facts] : Prop :=
  ∀ (m : (ℓ : Loc Cert.GateBwdBIdeal.nD Cert.GateBwdBIdeal.τ Cert.GateBwdBIdeal.sig) → Buf (Elt Ideal) ℓ) (g : Dev Cert.GateBwdBIdeal.nD → PrngReg)
    (m' : (ℓ : Loc Cert.GateBwdBRefIdeal.nD Cert.GateBwdBRefIdeal.τ Cert.GateBwdBRefIdeal.sig) → Buf (Elt Ideal) ℓ) (g' : Dev Cert.GateBwdBRefIdeal.nD → PrngReg), Pre_GateBwdBIdeal m →
    (∀ c : Dev Cert.GateBwdBIdeal.nD,
      m' ((c.tc : Thread Cert.GateBwdBRefIdeal.nD Cert.GateBwdBRefIdeal.τ).loc Cert.GateBwdBRefIdeal.main_arg0) = m ((c.tc : Thread Cert.GateBwdBIdeal.nD Cert.GateBwdBIdeal.τ).loc Cert.GateBwdBIdeal.main_arg0)
      ∧ m' ((c.tc : Thread Cert.GateBwdBRefIdeal.nD Cert.GateBwdBRefIdeal.τ).loc Cert.GateBwdBRefIdeal.main_arg1) = m ((c.tc : Thread Cert.GateBwdBIdeal.nD Cert.GateBwdBIdeal.τ).loc Cert.GateBwdBIdeal.main_arg1)
      ∧ m' ((c.tc : Thread Cert.GateBwdBRefIdeal.nD Cert.GateBwdBRefIdeal.τ).loc Cert.GateBwdBRefIdeal.main_arg2) = m ((c.tc : Thread Cert.GateBwdBIdeal.nD Cert.GateBwdBIdeal.τ).loc Cert.GateBwdBIdeal.main_arg2)) →
    ∃ (v0 : (c : Dev Cert.GateBwdBIdeal.nD) → Buf (Elt Ideal) ((c.tc : Thread Cert.GateBwdBIdeal.nD Cert.GateBwdBIdeal.τ).loc Cert.GateBwdBIdeal.main_v0_0)) (v1 : (c : Dev Cert.GateBwdBIdeal.nD) → Buf (Elt Ideal) ((c.tc : Thread Cert.GateBwdBIdeal.nD Cert.GateBwdBIdeal.τ).loc Cert.GateBwdBIdeal.main_v0_1)),
      θ_run (Cert.GateBwdBIdeal.defs (F := Ideal)) (onTc (τ := Cert.GateBwdBIdeal.τ) (Cert.GateBwdBIdeal.main (F := Ideal))) ⟨m, fun _ => 0, g⟩ (fun r => ∀ c : Dev Cert.GateBwdBIdeal.nD,
          r.2.mem ((c.tc : Thread Cert.GateBwdBIdeal.nD Cert.GateBwdBIdeal.τ).loc Cert.GateBwdBIdeal.main_v0_0) = v0 c
          ∧ r.2.mem ((c.tc : Thread Cert.GateBwdBIdeal.nD Cert.GateBwdBIdeal.τ).loc Cert.GateBwdBIdeal.main_v0_1) = v1 c
          ∧ r.2.mem ((c.tc : Thread Cert.GateBwdBIdeal.nD Cert.GateBwdBIdeal.τ).loc Cert.GateBwdBIdeal.main_arg0) = m ((c.tc : Thread Cert.GateBwdBIdeal.nD Cert.GateBwdBIdeal.τ).loc Cert.GateBwdBIdeal.main_arg0)
          ∧ r.2.mem ((c.tc : Thread Cert.GateBwdBIdeal.nD Cert.GateBwdBIdeal.τ).loc Cert.GateBwdBIdeal.main_arg1) = m ((c.tc : Thread Cert.GateBwdBIdeal.nD Cert.GateBwdBIdeal.τ).loc Cert.GateBwdBIdeal.main_arg1)
          ∧ r.2.mem ((c.tc : Thread Cert.GateBwdBIdeal.nD Cert.GateBwdBIdeal.τ).loc Cert.GateBwdBIdeal.main_arg2) = m ((c.tc : Thread Cert.GateBwdBIdeal.nD Cert.GateBwdBIdeal.τ).loc Cert.GateBwdBIdeal.main_arg2))
      ∧ θ_run (Cert.GateBwdBRefIdeal.defs (F := Ideal)) (onTc (τ := Cert.GateBwdBRefIdeal.τ) (Cert.GateBwdBRefIdeal.main (F := Ideal))) ⟨m', fun _ => 0, g'⟩ (fun r => ∀ c : Dev Cert.GateBwdBRefIdeal.nD,
          r.2.mem ((c.tc : Thread Cert.GateBwdBRefIdeal.nD Cert.GateBwdBRefIdeal.τ).loc Cert.GateBwdBRefIdeal.main_v11) = v0 c
          ∧ r.2.mem ((c.tc : Thread Cert.GateBwdBRefIdeal.nD Cert.GateBwdBRefIdeal.τ).loc Cert.GateBwdBRefIdeal.main_v21) = v1 c
          ∧ r.2.mem ((c.tc : Thread Cert.GateBwdBRefIdeal.nD Cert.GateBwdBRefIdeal.τ).loc Cert.GateBwdBRefIdeal.main_arg0) = m' ((c.tc : Thread Cert.GateBwdBRefIdeal.nD Cert.GateBwdBRefIdeal.τ).loc Cert.GateBwdBRefIdeal.main_arg0)
          ∧ r.2.mem ((c.tc : Thread Cert.GateBwdBRefIdeal.nD Cert.GateBwdBRefIdeal.τ).loc Cert.GateBwdBRefIdeal.main_arg1) = m' ((c.tc : Thread Cert.GateBwdBRefIdeal.nD Cert.GateBwdBRefIdeal.τ).loc Cert.GateBwdBRefIdeal.main_arg1)
          ∧ r.2.mem ((c.tc : Thread Cert.GateBwdBRefIdeal.nD Cert.GateBwdBRefIdeal.τ).loc Cert.GateBwdBRefIdeal.main_arg2) = m' ((c.tc : Thread Cert.GateBwdBRefIdeal.nD Cert.GateBwdBRefIdeal.τ).loc Cert.GateBwdBRefIdeal.main_arg2))

def preserves_GateBwdM_GateBwdMIdeal : Prop :=
  True

def algebraic_GateBwdMIdeal_GateBwdMRefIdeal [hGateBwdMIdeal : Cert.GateBwdMIdeal.Facts] [hGateBwdMRefIdeal : Cert.GateBwdMRefIdeal.Facts] : Prop :=
  ∀ (m : (ℓ : Loc Cert.GateBwdMIdeal.nD Cert.GateBwdMIdeal.τ Cert.GateBwdMIdeal.sig) → Buf (Elt Ideal) ℓ) (g : Dev Cert.GateBwdMIdeal.nD → PrngReg)
    (m' : (ℓ : Loc Cert.GateBwdMRefIdeal.nD Cert.GateBwdMRefIdeal.τ Cert.GateBwdMRefIdeal.sig) → Buf (Elt Ideal) ℓ) (g' : Dev Cert.GateBwdMRefIdeal.nD → PrngReg), Pre_GateBwdMIdeal m →
    (∀ c : Dev Cert.GateBwdMIdeal.nD,
      m' ((c.tc : Thread Cert.GateBwdMRefIdeal.nD Cert.GateBwdMRefIdeal.τ).loc Cert.GateBwdMRefIdeal.main_arg0) = m ((c.tc : Thread Cert.GateBwdMIdeal.nD Cert.GateBwdMIdeal.τ).loc Cert.GateBwdMIdeal.main_arg0)
      ∧ m' ((c.tc : Thread Cert.GateBwdMRefIdeal.nD Cert.GateBwdMRefIdeal.τ).loc Cert.GateBwdMRefIdeal.main_arg1) = m ((c.tc : Thread Cert.GateBwdMIdeal.nD Cert.GateBwdMIdeal.τ).loc Cert.GateBwdMIdeal.main_arg1)
      ∧ m' ((c.tc : Thread Cert.GateBwdMRefIdeal.nD Cert.GateBwdMRefIdeal.τ).loc Cert.GateBwdMRefIdeal.main_arg2) = m ((c.tc : Thread Cert.GateBwdMIdeal.nD Cert.GateBwdMIdeal.τ).loc Cert.GateBwdMIdeal.main_arg2)) →
    ∃ (v0 : (c : Dev Cert.GateBwdMIdeal.nD) → Buf (Elt Ideal) ((c.tc : Thread Cert.GateBwdMIdeal.nD Cert.GateBwdMIdeal.τ).loc Cert.GateBwdMIdeal.main_v0_0)) (v1 : (c : Dev Cert.GateBwdMIdeal.nD) → Buf (Elt Ideal) ((c.tc : Thread Cert.GateBwdMIdeal.nD Cert.GateBwdMIdeal.τ).loc Cert.GateBwdMIdeal.main_v0_1)),
      θ_run (Cert.GateBwdMIdeal.defs (F := Ideal)) (onTc (τ := Cert.GateBwdMIdeal.τ) (Cert.GateBwdMIdeal.main (F := Ideal))) ⟨m, fun _ => 0, g⟩ (fun r => ∀ c : Dev Cert.GateBwdMIdeal.nD,
          r.2.mem ((c.tc : Thread Cert.GateBwdMIdeal.nD Cert.GateBwdMIdeal.τ).loc Cert.GateBwdMIdeal.main_v0_0) = v0 c
          ∧ r.2.mem ((c.tc : Thread Cert.GateBwdMIdeal.nD Cert.GateBwdMIdeal.τ).loc Cert.GateBwdMIdeal.main_v0_1) = v1 c
          ∧ r.2.mem ((c.tc : Thread Cert.GateBwdMIdeal.nD Cert.GateBwdMIdeal.τ).loc Cert.GateBwdMIdeal.main_arg0) = m ((c.tc : Thread Cert.GateBwdMIdeal.nD Cert.GateBwdMIdeal.τ).loc Cert.GateBwdMIdeal.main_arg0)
          ∧ r.2.mem ((c.tc : Thread Cert.GateBwdMIdeal.nD Cert.GateBwdMIdeal.τ).loc Cert.GateBwdMIdeal.main_arg1) = m ((c.tc : Thread Cert.GateBwdMIdeal.nD Cert.GateBwdMIdeal.τ).loc Cert.GateBwdMIdeal.main_arg1)
          ∧ r.2.mem ((c.tc : Thread Cert.GateBwdMIdeal.nD Cert.GateBwdMIdeal.τ).loc Cert.GateBwdMIdeal.main_arg2) = m ((c.tc : Thread Cert.GateBwdMIdeal.nD Cert.GateBwdMIdeal.τ).loc Cert.GateBwdMIdeal.main_arg2))
      ∧ θ_run (Cert.GateBwdMRefIdeal.defs (F := Ideal)) (onTc (τ := Cert.GateBwdMRefIdeal.τ) (Cert.GateBwdMRefIdeal.main (F := Ideal))) ⟨m', fun _ => 0, g'⟩ (fun r => ∀ c : Dev Cert.GateBwdMRefIdeal.nD,
          r.2.mem ((c.tc : Thread Cert.GateBwdMRefIdeal.nD Cert.GateBwdMRefIdeal.τ).loc Cert.GateBwdMRefIdeal.main_v11) = v0 c
          ∧ r.2.mem ((c.tc : Thread Cert.GateBwdMRefIdeal.nD Cert.GateBwdMRefIdeal.τ).loc Cert.GateBwdMRefIdeal.main_v21) = v1 c
          ∧ r.2.mem ((c.tc : Thread Cert.GateBwdMRefIdeal.nD Cert.GateBwdMRefIdeal.τ).loc Cert.GateBwdMRefIdeal.main_arg0) = m' ((c.tc : Thread Cert.GateBwdMRefIdeal.nD Cert.GateBwdMRefIdeal.τ).loc Cert.GateBwdMRefIdeal.main_arg0)
          ∧ r.2.mem ((c.tc : Thread Cert.GateBwdMRefIdeal.nD Cert.GateBwdMRefIdeal.τ).loc Cert.GateBwdMRefIdeal.main_arg1) = m' ((c.tc : Thread Cert.GateBwdMRefIdeal.nD Cert.GateBwdMRefIdeal.τ).loc Cert.GateBwdMRefIdeal.main_arg1)
          ∧ r.2.mem ((c.tc : Thread Cert.GateBwdMRefIdeal.nD Cert.GateBwdMRefIdeal.τ).loc Cert.GateBwdMRefIdeal.main_arg2) = m' ((c.tc : Thread Cert.GateBwdMRefIdeal.nD Cert.GateBwdMRefIdeal.τ).loc Cert.GateBwdMRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v41) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_FoxDelta_FoxDeltaIdeal : Prop :=
  True

def algebraic_FoxDeltaIdeal_FoxDeltaRefIdeal [hFoxDeltaIdeal : Cert.FoxDeltaIdeal.Facts] [hFoxDeltaRefIdeal : Cert.FoxDeltaRefIdeal.Facts] : Prop :=
  ∀ (m : (ℓ : Loc Cert.FoxDeltaIdeal.nD Cert.FoxDeltaIdeal.τ Cert.FoxDeltaIdeal.sig) → Buf (Elt Ideal) ℓ) (g : Dev Cert.FoxDeltaIdeal.nD → PrngReg)
    (m' : (ℓ : Loc Cert.FoxDeltaRefIdeal.nD Cert.FoxDeltaRefIdeal.τ Cert.FoxDeltaRefIdeal.sig) → Buf (Elt Ideal) ℓ) (g' : Dev Cert.FoxDeltaRefIdeal.nD → PrngReg), Pre_FoxDeltaIdeal m →
    (∀ c : Dev Cert.FoxDeltaIdeal.nD,
      m' ((c.tc : Thread Cert.FoxDeltaRefIdeal.nD Cert.FoxDeltaRefIdeal.τ).loc Cert.FoxDeltaRefIdeal.main_arg0) = m ((c.tc : Thread Cert.FoxDeltaIdeal.nD Cert.FoxDeltaIdeal.τ).loc Cert.FoxDeltaIdeal.main_arg0)
      ∧ m' ((c.tc : Thread Cert.FoxDeltaRefIdeal.nD Cert.FoxDeltaRefIdeal.τ).loc Cert.FoxDeltaRefIdeal.main_arg1) = m ((c.tc : Thread Cert.FoxDeltaIdeal.nD Cert.FoxDeltaIdeal.τ).loc Cert.FoxDeltaIdeal.main_arg1)) →
    ∃ (v0 : (c : Dev Cert.FoxDeltaIdeal.nD) → Buf (Elt Ideal) ((c.tc : Thread Cert.FoxDeltaIdeal.nD Cert.FoxDeltaIdeal.τ).loc Cert.FoxDeltaIdeal.main_v0)),
      θ_run (Cert.FoxDeltaIdeal.defs (F := Ideal)) (onTc (τ := Cert.FoxDeltaIdeal.τ) (Cert.FoxDeltaIdeal.main (F := Ideal))) ⟨m, fun _ => 0, g⟩ (fun r => ∀ c : Dev Cert.FoxDeltaIdeal.nD,
          r.2.mem ((c.tc : Thread Cert.FoxDeltaIdeal.nD Cert.FoxDeltaIdeal.τ).loc Cert.FoxDeltaIdeal.main_v0) = v0 c
          ∧ r.2.mem ((c.tc : Thread Cert.FoxDeltaIdeal.nD Cert.FoxDeltaIdeal.τ).loc Cert.FoxDeltaIdeal.main_arg0) = m ((c.tc : Thread Cert.FoxDeltaIdeal.nD Cert.FoxDeltaIdeal.τ).loc Cert.FoxDeltaIdeal.main_arg0)
          ∧ r.2.mem ((c.tc : Thread Cert.FoxDeltaIdeal.nD Cert.FoxDeltaIdeal.τ).loc Cert.FoxDeltaIdeal.main_arg1) = m ((c.tc : Thread Cert.FoxDeltaIdeal.nD Cert.FoxDeltaIdeal.τ).loc Cert.FoxDeltaIdeal.main_arg1))
      ∧ θ_run (Cert.FoxDeltaRefIdeal.defs (F := Ideal)) (onTc (τ := Cert.FoxDeltaRefIdeal.τ) (Cert.FoxDeltaRefIdeal.main (F := Ideal))) ⟨m', fun _ => 0, g'⟩ (fun r => ∀ c : Dev Cert.FoxDeltaRefIdeal.nD,
          r.2.mem ((c.tc : Thread Cert.FoxDeltaRefIdeal.nD Cert.FoxDeltaRefIdeal.τ).loc Cert.FoxDeltaRefIdeal.main_v4) = v0 c
          ∧ r.2.mem ((c.tc : Thread Cert.FoxDeltaRefIdeal.nD Cert.FoxDeltaRefIdeal.τ).loc Cert.FoxDeltaRefIdeal.main_arg0) = m' ((c.tc : Thread Cert.FoxDeltaRefIdeal.nD Cert.FoxDeltaRefIdeal.τ).loc Cert.FoxDeltaRefIdeal.main_arg0)
          ∧ r.2.mem ((c.tc : Thread Cert.FoxDeltaRefIdeal.nD Cert.FoxDeltaRefIdeal.τ).loc Cert.FoxDeltaRefIdeal.main_arg1) = m' ((c.tc : Thread Cert.FoxDeltaRefIdeal.nD Cert.FoxDeltaRefIdeal.τ).loc Cert.FoxDeltaRefIdeal.main_arg1))

def preserves_GateBwdA_GateBwdAIdeal : Prop :=
  True

def algebraic_GateBwdAIdeal_GateBwdARefIdeal [hGateBwdAIdeal : Cert.GateBwdAIdeal.Facts] [hGateBwdARefIdeal : Cert.GateBwdARefIdeal.Facts] : Prop :=
  ∀ (m : (ℓ : Loc Cert.GateBwdAIdeal.nD Cert.GateBwdAIdeal.τ Cert.GateBwdAIdeal.sig) → Buf (Elt Ideal) ℓ) (g : Dev Cert.GateBwdAIdeal.nD → PrngReg)
    (m' : (ℓ : Loc Cert.GateBwdARefIdeal.nD Cert.GateBwdARefIdeal.τ Cert.GateBwdARefIdeal.sig) → Buf (Elt Ideal) ℓ) (g' : Dev Cert.GateBwdARefIdeal.nD → PrngReg), Pre_GateBwdAIdeal m →
    (∀ c : Dev Cert.GateBwdAIdeal.nD,
      m' ((c.tc : Thread Cert.GateBwdARefIdeal.nD Cert.GateBwdARefIdeal.τ).loc Cert.GateBwdARefIdeal.main_arg0) = m ((c.tc : Thread Cert.GateBwdAIdeal.nD Cert.GateBwdAIdeal.τ).loc Cert.GateBwdAIdeal.main_arg0)
      ∧ m' ((c.tc : Thread Cert.GateBwdARefIdeal.nD Cert.GateBwdARefIdeal.τ).loc Cert.GateBwdARefIdeal.main_arg1) = m ((c.tc : Thread Cert.GateBwdAIdeal.nD Cert.GateBwdAIdeal.τ).loc Cert.GateBwdAIdeal.main_arg1)
      ∧ m' ((c.tc : Thread Cert.GateBwdARefIdeal.nD Cert.GateBwdARefIdeal.τ).loc Cert.GateBwdARefIdeal.main_arg2) = m ((c.tc : Thread Cert.GateBwdAIdeal.nD Cert.GateBwdAIdeal.τ).loc Cert.GateBwdAIdeal.main_arg2)) →
    ∃ (v0 : (c : Dev Cert.GateBwdAIdeal.nD) → Buf (Elt Ideal) ((c.tc : Thread Cert.GateBwdAIdeal.nD Cert.GateBwdAIdeal.τ).loc Cert.GateBwdAIdeal.main_v0_0)) (v1 : (c : Dev Cert.GateBwdAIdeal.nD) → Buf (Elt Ideal) ((c.tc : Thread Cert.GateBwdAIdeal.nD Cert.GateBwdAIdeal.τ).loc Cert.GateBwdAIdeal.main_v0_1)) (v2 : (c : Dev Cert.GateBwdAIdeal.nD) → Buf (Elt Ideal) ((c.tc : Thread Cert.GateBwdAIdeal.nD Cert.GateBwdAIdeal.τ).loc Cert.GateBwdAIdeal.main_v0_2)),
      θ_run (Cert.GateBwdAIdeal.defs (F := Ideal)) (onTc (τ := Cert.GateBwdAIdeal.τ) (Cert.GateBwdAIdeal.main (F := Ideal))) ⟨m, fun _ => 0, g⟩ (fun r => ∀ c : Dev Cert.GateBwdAIdeal.nD,
          r.2.mem ((c.tc : Thread Cert.GateBwdAIdeal.nD Cert.GateBwdAIdeal.τ).loc Cert.GateBwdAIdeal.main_v0_0) = v0 c
          ∧ r.2.mem ((c.tc : Thread Cert.GateBwdAIdeal.nD Cert.GateBwdAIdeal.τ).loc Cert.GateBwdAIdeal.main_v0_1) = v1 c
          ∧ r.2.mem ((c.tc : Thread Cert.GateBwdAIdeal.nD Cert.GateBwdAIdeal.τ).loc Cert.GateBwdAIdeal.main_v0_2) = v2 c
          ∧ r.2.mem ((c.tc : Thread Cert.GateBwdAIdeal.nD Cert.GateBwdAIdeal.τ).loc Cert.GateBwdAIdeal.main_arg0) = m ((c.tc : Thread Cert.GateBwdAIdeal.nD Cert.GateBwdAIdeal.τ).loc Cert.GateBwdAIdeal.main_arg0)
          ∧ r.2.mem ((c.tc : Thread Cert.GateBwdAIdeal.nD Cert.GateBwdAIdeal.τ).loc Cert.GateBwdAIdeal.main_arg1) = m ((c.tc : Thread Cert.GateBwdAIdeal.nD Cert.GateBwdAIdeal.τ).loc Cert.GateBwdAIdeal.main_arg1)
          ∧ r.2.mem ((c.tc : Thread Cert.GateBwdAIdeal.nD Cert.GateBwdAIdeal.τ).loc Cert.GateBwdAIdeal.main_arg2) = m ((c.tc : Thread Cert.GateBwdAIdeal.nD Cert.GateBwdAIdeal.τ).loc Cert.GateBwdAIdeal.main_arg2))
      ∧ θ_run (Cert.GateBwdARefIdeal.defs (F := Ideal)) (onTc (τ := Cert.GateBwdARefIdeal.τ) (Cert.GateBwdARefIdeal.main (F := Ideal))) ⟨m', fun _ => 0, g'⟩ (fun r => ∀ c : Dev Cert.GateBwdARefIdeal.nD,
          r.2.mem ((c.tc : Thread Cert.GateBwdARefIdeal.nD Cert.GateBwdARefIdeal.τ).loc Cert.GateBwdARefIdeal.main_v23) = v0 c
          ∧ r.2.mem ((c.tc : Thread Cert.GateBwdARefIdeal.nD Cert.GateBwdARefIdeal.τ).loc Cert.GateBwdARefIdeal.main_v24) = v1 c
          ∧ r.2.mem ((c.tc : Thread Cert.GateBwdARefIdeal.nD Cert.GateBwdARefIdeal.τ).loc Cert.GateBwdARefIdeal.main_v25) = v2 c
          ∧ r.2.mem ((c.tc : Thread Cert.GateBwdARefIdeal.nD Cert.GateBwdARefIdeal.τ).loc Cert.GateBwdARefIdeal.main_arg0) = m' ((c.tc : Thread Cert.GateBwdARefIdeal.nD Cert.GateBwdARefIdeal.τ).loc Cert.GateBwdARefIdeal.main_arg0)
          ∧ r.2.mem ((c.tc : Thread Cert.GateBwdARefIdeal.nD Cert.GateBwdARefIdeal.τ).loc Cert.GateBwdARefIdeal.main_arg1) = m' ((c.tc : Thread Cert.GateBwdARefIdeal.nD Cert.GateBwdARefIdeal.τ).loc Cert.GateBwdARefIdeal.main_arg1)
          ∧ r.2.mem ((c.tc : Thread Cert.GateBwdARefIdeal.nD Cert.GateBwdARefIdeal.τ).loc Cert.GateBwdARefIdeal.main_arg2) = m' ((c.tc : Thread Cert.GateBwdARefIdeal.nD Cert.GateBwdARefIdeal.τ).loc Cert.GateBwdARefIdeal.main_arg2))

def preserves_RopeBwd_RopeBwdIdeal : Prop :=
  True

def algebraic_RopeBwdIdeal_RopeBwdRefIdeal [hRopeBwdIdeal : Cert.RopeBwdIdeal.Facts] [hRopeBwdRefIdeal : Cert.RopeBwdRefIdeal.Facts] : Prop :=
  ∀ (m : (ℓ : Loc Cert.RopeBwdIdeal.nD Cert.RopeBwdIdeal.τ Cert.RopeBwdIdeal.sig) → Buf (Elt Ideal) ℓ) (g : Dev Cert.RopeBwdIdeal.nD → PrngReg)
    (m' : (ℓ : Loc Cert.RopeBwdRefIdeal.nD Cert.RopeBwdRefIdeal.τ Cert.RopeBwdRefIdeal.sig) → Buf (Elt Ideal) ℓ) (g' : Dev Cert.RopeBwdRefIdeal.nD → PrngReg), Pre_RopeBwdIdeal m →
    (∀ c : Dev Cert.RopeBwdIdeal.nD,
      m' ((c.tc : Thread Cert.RopeBwdRefIdeal.nD Cert.RopeBwdRefIdeal.τ).loc Cert.RopeBwdRefIdeal.main_arg0) = m ((c.tc : Thread Cert.RopeBwdIdeal.nD Cert.RopeBwdIdeal.τ).loc Cert.RopeBwdIdeal.main_arg0)
      ∧ m' ((c.tc : Thread Cert.RopeBwdRefIdeal.nD Cert.RopeBwdRefIdeal.τ).loc Cert.RopeBwdRefIdeal.main_arg1) = m ((c.tc : Thread Cert.RopeBwdIdeal.nD Cert.RopeBwdIdeal.τ).loc Cert.RopeBwdIdeal.main_arg1)
      ∧ m' ((c.tc : Thread Cert.RopeBwdRefIdeal.nD Cert.RopeBwdRefIdeal.τ).loc Cert.RopeBwdRefIdeal.main_arg2) = m ((c.tc : Thread Cert.RopeBwdIdeal.nD Cert.RopeBwdIdeal.τ).loc Cert.RopeBwdIdeal.main_arg2)
      ∧ m' ((c.tc : Thread Cert.RopeBwdRefIdeal.nD Cert.RopeBwdRefIdeal.τ).loc Cert.RopeBwdRefIdeal.main_arg3) = m ((c.tc : Thread Cert.RopeBwdIdeal.nD Cert.RopeBwdIdeal.τ).loc Cert.RopeBwdIdeal.main_arg3)) →
    ∃ (v0 : (c : Dev Cert.RopeBwdIdeal.nD) → Buf (Elt Ideal) ((c.tc : Thread Cert.RopeBwdIdeal.nD Cert.RopeBwdIdeal.τ).loc Cert.RopeBwdIdeal.main_v0_0)) (v1 : (c : Dev Cert.RopeBwdIdeal.nD) → Buf (Elt Ideal) ((c.tc : Thread Cert.RopeBwdIdeal.nD Cert.RopeBwdIdeal.τ).loc Cert.RopeBwdIdeal.main_v0_1)),
      θ_run (Cert.RopeBwdIdeal.defs (F := Ideal)) (onTc (τ := Cert.RopeBwdIdeal.τ) (Cert.RopeBwdIdeal.main (F := Ideal))) ⟨m, fun _ => 0, g⟩ (fun r => ∀ c : Dev Cert.RopeBwdIdeal.nD,
          r.2.mem ((c.tc : Thread Cert.RopeBwdIdeal.nD Cert.RopeBwdIdeal.τ).loc Cert.RopeBwdIdeal.main_v0_0) = v0 c
          ∧ r.2.mem ((c.tc : Thread Cert.RopeBwdIdeal.nD Cert.RopeBwdIdeal.τ).loc Cert.RopeBwdIdeal.main_v0_1) = v1 c
          ∧ r.2.mem ((c.tc : Thread Cert.RopeBwdIdeal.nD Cert.RopeBwdIdeal.τ).loc Cert.RopeBwdIdeal.main_arg0) = m ((c.tc : Thread Cert.RopeBwdIdeal.nD Cert.RopeBwdIdeal.τ).loc Cert.RopeBwdIdeal.main_arg0)
          ∧ r.2.mem ((c.tc : Thread Cert.RopeBwdIdeal.nD Cert.RopeBwdIdeal.τ).loc Cert.RopeBwdIdeal.main_arg1) = m ((c.tc : Thread Cert.RopeBwdIdeal.nD Cert.RopeBwdIdeal.τ).loc Cert.RopeBwdIdeal.main_arg1)
          ∧ r.2.mem ((c.tc : Thread Cert.RopeBwdIdeal.nD Cert.RopeBwdIdeal.τ).loc Cert.RopeBwdIdeal.main_arg2) = m ((c.tc : Thread Cert.RopeBwdIdeal.nD Cert.RopeBwdIdeal.τ).loc Cert.RopeBwdIdeal.main_arg2)
          ∧ r.2.mem ((c.tc : Thread Cert.RopeBwdIdeal.nD Cert.RopeBwdIdeal.τ).loc Cert.RopeBwdIdeal.main_arg3) = m ((c.tc : Thread Cert.RopeBwdIdeal.nD Cert.RopeBwdIdeal.τ).loc Cert.RopeBwdIdeal.main_arg3))
      ∧ θ_run (Cert.RopeBwdRefIdeal.defs (F := Ideal)) (onTc (τ := Cert.RopeBwdRefIdeal.τ) (Cert.RopeBwdRefIdeal.main (F := Ideal))) ⟨m', fun _ => 0, g'⟩ (fun r => ∀ c : Dev Cert.RopeBwdRefIdeal.nD,
          r.2.mem ((c.tc : Thread Cert.RopeBwdRefIdeal.nD Cert.RopeBwdRefIdeal.τ).loc Cert.RopeBwdRefIdeal.main_v32) = v0 c
          ∧ r.2.mem ((c.tc : Thread Cert.RopeBwdRefIdeal.nD Cert.RopeBwdRefIdeal.τ).loc Cert.RopeBwdRefIdeal.main_v65) = v1 c
          ∧ r.2.mem ((c.tc : Thread Cert.RopeBwdRefIdeal.nD Cert.RopeBwdRefIdeal.τ).loc Cert.RopeBwdRefIdeal.main_arg0) = m' ((c.tc : Thread Cert.RopeBwdRefIdeal.nD Cert.RopeBwdRefIdeal.τ).loc Cert.RopeBwdRefIdeal.main_arg0)
          ∧ r.2.mem ((c.tc : Thread Cert.RopeBwdRefIdeal.nD Cert.RopeBwdRefIdeal.τ).loc Cert.RopeBwdRefIdeal.main_arg1) = m' ((c.tc : Thread Cert.RopeBwdRefIdeal.nD Cert.RopeBwdRefIdeal.τ).loc Cert.RopeBwdRefIdeal.main_arg1)
          ∧ r.2.mem ((c.tc : Thread Cert.RopeBwdRefIdeal.nD Cert.RopeBwdRefIdeal.τ).loc Cert.RopeBwdRefIdeal.main_arg2) = m' ((c.tc : Thread Cert.RopeBwdRefIdeal.nD Cert.RopeBwdRefIdeal.τ).loc Cert.RopeBwdRefIdeal.main_arg2)
          ∧ r.2.mem ((c.tc : Thread Cert.RopeBwdRefIdeal.nD Cert.RopeBwdRefIdeal.τ).loc Cert.RopeBwdRefIdeal.main_arg3) = m' ((c.tc : Thread Cert.RopeBwdRefIdeal.nD Cert.RopeBwdRefIdeal.τ).loc Cert.RopeBwdRefIdeal.main_arg3))

def preserves_FoxBwd_FoxBwdIdeal : Prop :=
  True

def algebraic_FoxBwdIdeal_FoxBwdRefIdeal_pre_sums_finite [hFoxBwdIdeal : Cert.FoxBwdIdeal.Facts] [hFoxBwdRefIdeal : Cert.FoxBwdRefIdeal.Facts] [hPre_sums_finite : Cert.Pre_sums_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_sums_finite m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)) →
    ∃ (v0 : (c : Dev Cert.FoxBwdIdeal.nD) → Buf (Elt Ideal) ((c.tc : Thread Cert.FoxBwdIdeal.nD Cert.FoxBwdIdeal.τ).loc Cert.FoxBwdIdeal.main_v0_0)) (v1 : (c : Dev Cert.FoxBwdIdeal.nD) → Buf (Elt Ideal) ((c.tc : Thread Cert.FoxBwdIdeal.nD Cert.FoxBwdIdeal.τ).loc Cert.FoxBwdIdeal.main_v0_1)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v0_0) = v0 c
          ∧ r.2.mem ((c.tc : Thread Cert.FoxBwdIdeal.nD Cert.FoxBwdIdeal.τ).loc Cert.FoxBwdIdeal.main_v0_1) = v1 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v11) = v0 c
          ∧ r.2.mem ((c.tc : Thread Cert.FoxBwdRefIdeal.nD Cert.FoxBwdRefIdeal.τ).loc Cert.FoxBwdRefIdeal.main_v13) = v1 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3))

def preserves_MemFwd_MemFwdIdeal : Prop :=
  True

def algebraic_MemFwdIdeal_MemFwdRefIdeal_pre_scores_finite [hMemFwdIdeal : Cert.MemFwdIdeal.Facts] [hMemFwdRefIdeal : Cert.MemFwdRefIdeal.Facts] [hPre_scores_finite : Cert.Pre_scores_finite.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal_scores_finite m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0_0)) (v1 : (c : Dev Cert.MemFwdIdeal.nD) → Buf (Elt Ideal) ((c.tc : Thread Cert.MemFwdIdeal.nD Cert.MemFwdIdeal.τ).loc Cert.MemFwdIdeal.main_v0_1)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0_0) = v0 c
          ∧ r.2.mem ((c.tc : Thread Cert.MemFwdIdeal.nD Cert.MemFwdIdeal.τ).loc Cert.MemFwdIdeal.main_v0_1) = v1 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v34) = v0 c
          ∧ r.2.mem ((c.tc : Thread Cert.MemFwdRefIdeal.nD Cert.MemFwdRefIdeal.τ).loc Cert.MemFwdRefIdeal.main_v36) = v1 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def Claim : Prop :=
  ∃ (hShare : Cert.Share.Facts) (hShareIdeal : Cert.ShareIdeal.Facts) (hShareRefIdeal : Cert.ShareRefIdeal.Facts) (hShareRef : Cert.ShareRef.Facts) (hSwap : Cert.Swap.Facts) (hSwapIdeal : Cert.SwapIdeal.Facts) (hSwapRefIdeal : Cert.SwapRefIdeal.Facts) (hSwapRef : Cert.SwapRef.Facts) (hScatter : Cert.Scatter.Facts) (hScatterIdeal : Cert.ScatterIdeal.Facts) (hScatterRefIdeal : Cert.ScatterRefIdeal.Facts) (hScatterRef : Cert.ScatterRef.Facts) (hGather : Cert.Gather.Facts) (hGatherIdeal : Cert.GatherIdeal.Facts) (hGatherRefIdeal : Cert.GatherRefIdeal.Facts) (hGatherRef : Cert.GatherRef.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamBranch : Cert.AdamBranch.Facts) (hAdamBranchIdeal : Cert.AdamBranchIdeal.Facts) (hAdamBranchRefIdeal : Cert.AdamBranchRefIdeal.Facts) (hAdamSmall : Cert.AdamSmall.Facts) (hAdamSmallIdeal : Cert.AdamSmallIdeal.Facts) (hAdamSmallRefIdeal : Cert.AdamSmallRefIdeal.Facts) (hAddPair : Cert.AddPair.Facts) (hAddPairIdeal : Cert.AddPairIdeal.Facts) (hAddPairRefIdeal : Cert.AddPairRefIdeal.Facts) (hAddChips : Cert.AddChips.Facts) (hAddChipsIdeal : Cert.AddChipsIdeal.Facts) (hAddChipsRefIdeal : Cert.AddChipsRefIdeal.Facts) (hTail : Cert.Tail.Facts) (hTailIdeal : Cert.TailIdeal.Facts) (hTailRefIdeal : Cert.TailRefIdeal.Facts) (hPreBwd : Cert.PreBwd.Facts) (hPreBwdIdeal : Cert.PreBwdIdeal.Facts) (hPreBwdRefIdeal : Cert.PreBwdRefIdeal.Facts) (hGradMem : Cert.GradMem.Facts) (hGradMemIdeal : Cert.GradMemIdeal.Facts) (hGradMemRefIdeal : Cert.GradMemRefIdeal.Facts) (hGradOut : Cert.GradOut.Facts) (hGradOutIdeal : Cert.GradOutIdeal.Facts) (hGradOutRefIdeal : Cert.GradOutRefIdeal.Facts) (hGradBranch : Cert.GradBranch.Facts) (hGradBranchIdeal : Cert.GradBranchIdeal.Facts) (hGradBranchRefIdeal : Cert.GradBranchRefIdeal.Facts) (hGradMain : Cert.GradMain.Facts) (hGradMainIdeal : Cert.GradMainIdeal.Facts) (hGradMainRefIdeal : Cert.GradMainRefIdeal.Facts) (hGradFb : Cert.GradFb.Facts) (hGradFbIdeal : Cert.GradFbIdeal.Facts) (hGradFbRefIdeal : Cert.GradFbRefIdeal.Facts) (hNormMem : Cert.NormMem.Facts) (hNormMemIdeal : Cert.NormMemIdeal.Facts) (hNormMemRefIdeal : Cert.NormMemRefIdeal.Facts) (hMergeBwd : Cert.MergeBwd.Facts) (hMergeBwdIdeal : Cert.MergeBwdIdeal.Facts) (hMergeBwdRefIdeal : Cert.MergeBwdRefIdeal.Facts) (hNormPre : Cert.NormPre.Facts) (hNormPreIdeal : Cert.NormPreIdeal.Facts) (hNormPreRefIdeal : Cert.NormPreRefIdeal.Facts) (hNormKv : Cert.NormKv.Facts) (hNormKvIdeal : Cert.NormKvIdeal.Facts) (hNormKvRefIdeal : Cert.NormKvRefIdeal.Facts) (hProjIn : Cert.ProjIn.Facts) (hProjInIdeal : Cert.ProjInIdeal.Facts) (hProjInRefIdeal : Cert.ProjInRefIdeal.Facts) (hProjFb : Cert.ProjFb.Facts) (hProjFbIdeal : Cert.ProjFbIdeal.Facts) (hProjFbRefIdeal : Cert.ProjFbRefIdeal.Facts) (hProjMem : Cert.ProjMem.Facts) (hProjMemIdeal : Cert.ProjMemIdeal.Facts) (hProjMemRefIdeal : Cert.ProjMemRefIdeal.Facts) (hProjBranch : Cert.ProjBranch.Facts) (hProjBranchIdeal : Cert.ProjBranchIdeal.Facts) (hProjBranchRefIdeal : Cert.ProjBranchRefIdeal.Facts) (hProjOut : Cert.ProjOut.Facts) (hProjOutIdeal : Cert.ProjOutIdeal.Facts) (hProjOutRefIdeal : Cert.ProjOutRefIdeal.Facts) (hBackMerged : Cert.BackMerged.Facts) (hBackMergedIdeal : Cert.BackMergedIdeal.Facts) (hBackMergedRefIdeal : Cert.BackMergedRefIdeal.Facts) (hBackBranch : Cert.BackBranch.Facts) (hBackBranchIdeal : Cert.BackBranchIdeal.Facts) (hBackBranchRefIdeal : Cert.BackBranchRefIdeal.Facts) (hBackMem : Cert.BackMem.Facts) (hBackMemIdeal : Cert.BackMemIdeal.Facts) (hBackMemRefIdeal : Cert.BackMemRefIdeal.Facts) (hBackIn : Cert.BackIn.Facts) (hBackInIdeal : Cert.BackInIdeal.Facts) (hBackInRefIdeal : Cert.BackInRefIdeal.Facts) (hBackFb : Cert.BackFb.Facts) (hBackFbIdeal : Cert.BackFbIdeal.Facts) (hBackFbRefIdeal : Cert.BackFbRefIdeal.Facts) (hGateB : Cert.GateB.Facts) (hGateBIdeal : Cert.GateBIdeal.Facts) (hGateBRefIdeal : Cert.GateBRefIdeal.Facts) (hGateM : Cert.GateM.Facts) (hGateMIdeal : Cert.GateMIdeal.Facts) (hGateMRefIdeal : Cert.GateMRefIdeal.Facts) (hGateBwdB : Cert.GateBwdB.Facts) (hGateBwdBIdeal : Cert.GateBwdBIdeal.Facts) (hGateBwdBRefIdeal : Cert.GateBwdBRefIdeal.Facts) (hGateBwdM : Cert.GateBwdM.Facts) (hGateBwdMIdeal : Cert.GateBwdMIdeal.Facts) (hGateBwdMRefIdeal : Cert.GateBwdMRefIdeal.Facts) (hMerge : Cert.Merge.Facts) (hMergeIdeal : Cert.MergeIdeal.Facts) (hMergeRefIdeal : Cert.MergeRefIdeal.Facts) (hFoxDelta : Cert.FoxDelta.Facts) (hFoxDeltaIdeal : Cert.FoxDeltaIdeal.Facts) (hFoxDeltaRefIdeal : Cert.FoxDeltaRefIdeal.Facts) (hGateBwdA : Cert.GateBwdA.Facts) (hGateBwdAIdeal : Cert.GateBwdAIdeal.Facts) (hGateBwdARefIdeal : Cert.GateBwdARefIdeal.Facts) (hRopeBwd : Cert.RopeBwd.Facts) (hRopeBwdIdeal : Cert.RopeBwdIdeal.Facts) (hRopeBwdRefIdeal : Cert.RopeBwdRefIdeal.Facts) (hFoxBwd : Cert.FoxBwd.Facts) (hFoxBwdIdeal : Cert.FoxBwdIdeal.Facts) (hFoxBwdRefIdeal : Cert.FoxBwdRefIdeal.Facts) (hMemFwd : Cert.MemFwd.Facts) (hMemFwdIdeal : Cert.MemFwdIdeal.Facts) (hMemFwdRefIdeal : Cert.MemFwdRefIdeal.Facts) (hPre_sums_finite : Cert.Pre_sums_finite.Facts) (hPre_scores_finite : Cert.Pre_scores_finite.Facts),
    quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AddPair (hAddPair := hAddPair)
    ∧ quiescent_AddPairIdeal (hAddPairIdeal := hAddPairIdeal)
    ∧ quiescent_AddPairRefIdeal (hAddPairRefIdeal := hAddPairRefIdeal)
    ∧ quiescent_AddChips (hAddChips := hAddChips)
    ∧ quiescent_AddChipsIdeal (hAddChipsIdeal := hAddChipsIdeal)
    ∧ quiescent_AddChipsRefIdeal (hAddChipsRefIdeal := hAddChipsRefIdeal)
    ∧ quiescent_Tail (hTail := hTail)
    ∧ quiescent_TailIdeal (hTailIdeal := hTailIdeal)
    ∧ quiescent_TailRefIdeal (hTailRefIdeal := hTailRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_GradMem (hGradMem := hGradMem)
    ∧ quiescent_GradMemIdeal (hGradMemIdeal := hGradMemIdeal)
    ∧ quiescent_GradMemRefIdeal (hGradMemRefIdeal := hGradMemRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradBranch (hGradBranch := hGradBranch)
    ∧ quiescent_GradBranchIdeal (hGradBranchIdeal := hGradBranchIdeal)
    ∧ quiescent_GradBranchRefIdeal (hGradBranchRefIdeal := hGradBranchRefIdeal)
    ∧ quiescent_GradMain (hGradMain := hGradMain)
    ∧ quiescent_GradMainIdeal (hGradMainIdeal := hGradMainIdeal)
    ∧ quiescent_GradMainRefIdeal (hGradMainRefIdeal := hGradMainRefIdeal)
    ∧ quiescent_GradFb (hGradFb := hGradFb)
    ∧ quiescent_GradFbIdeal (hGradFbIdeal := hGradFbIdeal)
    ∧ quiescent_GradFbRefIdeal (hGradFbRefIdeal := hGradFbRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_NormPre (hNormPre := hNormPre)
    ∧ quiescent_NormPreIdeal (hNormPreIdeal := hNormPreIdeal)
    ∧ quiescent_NormPreRefIdeal (hNormPreRefIdeal := hNormPreRefIdeal)
    ∧ quiescent_NormKv (hNormKv := hNormKv)
    ∧ quiescent_NormKvIdeal (hNormKvIdeal := hNormKvIdeal)
    ∧ quiescent_NormKvRefIdeal (hNormKvRefIdeal := hNormKvRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjFb (hProjFb := hProjFb)
    ∧ quiescent_ProjFbIdeal (hProjFbIdeal := hProjFbIdeal)
    ∧ quiescent_ProjFbRefIdeal (hProjFbRefIdeal := hProjFbRefIdeal)
    ∧ quiescent_ProjMem (hProjMem := hProjMem)
    ∧ quiescent_ProjMemIdeal (hProjMemIdeal := hProjMemIdeal)
    ∧ quiescent_ProjMemRefIdeal (hProjMemRefIdeal := hProjMemRefIdeal)
    ∧ quiescent_ProjBranch (hProjBranch := hProjBranch)
    ∧ quiescent_ProjBranchIdeal (hProjBranchIdeal := hProjBranchIdeal)
    ∧ quiescent_ProjBranchRefIdeal (hProjBranchRefIdeal := hProjBranchRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_BackMerged (hBackMerged := hBackMerged)
    ∧ quiescent_BackMergedIdeal (hBackMergedIdeal := hBackMergedIdeal)
    ∧ quiescent_BackMergedRefIdeal (hBackMergedRefIdeal := hBackMergedRefIdeal)
    ∧ quiescent_BackBranch (hBackBranch := hBackBranch)
    ∧ quiescent_BackBranchIdeal (hBackBranchIdeal := hBackBranchIdeal)
    ∧ quiescent_BackBranchRefIdeal (hBackBranchRefIdeal := hBackBranchRefIdeal)
    ∧ quiescent_BackMem (hBackMem := hBackMem)
    ∧ quiescent_BackMemIdeal (hBackMemIdeal := hBackMemIdeal)
    ∧ quiescent_BackMemRefIdeal (hBackMemRefIdeal := hBackMemRefIdeal)
    ∧ quiescent_BackIn (hBackIn := hBackIn)
    ∧ quiescent_BackInIdeal (hBackInIdeal := hBackInIdeal)
    ∧ quiescent_BackInRefIdeal (hBackInRefIdeal := hBackInRefIdeal)
    ∧ quiescent_BackFb (hBackFb := hBackFb)
    ∧ quiescent_BackFbIdeal (hBackFbIdeal := hBackFbIdeal)
    ∧ quiescent_BackFbRefIdeal (hBackFbRefIdeal := hBackFbRefIdeal)
    ∧ quiescent_GateB (hGateB := hGateB)
    ∧ quiescent_GateBIdeal (hGateBIdeal := hGateBIdeal)
    ∧ quiescent_GateBRefIdeal (hGateBRefIdeal := hGateBRefIdeal)
    ∧ quiescent_GateM (hGateM := hGateM)
    ∧ quiescent_GateMIdeal (hGateMIdeal := hGateMIdeal)
    ∧ quiescent_GateMRefIdeal (hGateMRefIdeal := hGateMRefIdeal)
    ∧ quiescent_GateBwdB (hGateBwdB := hGateBwdB)
    ∧ quiescent_GateBwdBIdeal (hGateBwdBIdeal := hGateBwdBIdeal)
    ∧ quiescent_GateBwdBRefIdeal (hGateBwdBRefIdeal := hGateBwdBRefIdeal)
    ∧ quiescent_GateBwdM (hGateBwdM := hGateBwdM)
    ∧ quiescent_GateBwdMIdeal (hGateBwdMIdeal := hGateBwdMIdeal)
    ∧ quiescent_GateBwdMRefIdeal (hGateBwdMRefIdeal := hGateBwdMRefIdeal)
    ∧ quiescent_Merge (hMerge := hMerge)
    ∧ quiescent_MergeIdeal (hMergeIdeal := hMergeIdeal)
    ∧ quiescent_MergeRefIdeal (hMergeRefIdeal := hMergeRefIdeal)
    ∧ quiescent_FoxDelta (hFoxDelta := hFoxDelta)
    ∧ quiescent_FoxDeltaIdeal (hFoxDeltaIdeal := hFoxDeltaIdeal)
    ∧ quiescent_FoxDeltaRefIdeal (hFoxDeltaRefIdeal := hFoxDeltaRefIdeal)
    ∧ quiescent_GateBwdA (hGateBwdA := hGateBwdA)
    ∧ quiescent_GateBwdAIdeal (hGateBwdAIdeal := hGateBwdAIdeal)
    ∧ quiescent_GateBwdARefIdeal (hGateBwdARefIdeal := hGateBwdARefIdeal)
    ∧ quiescent_RopeBwd (hRopeBwd := hRopeBwd)
    ∧ quiescent_RopeBwdIdeal (hRopeBwdIdeal := hRopeBwdIdeal)
    ∧ quiescent_RopeBwdRefIdeal (hRopeBwdRefIdeal := hRopeBwdRefIdeal)
    ∧ quiescent_FoxBwd (hFoxBwd := hFoxBwd)
    ∧ quiescent_FoxBwdIdeal (hFoxBwdIdeal := hFoxBwdIdeal)
    ∧ quiescent_FoxBwdIdeal_pre_sums_finite (hFoxBwdIdeal := hFoxBwdIdeal) (hPre_sums_finite := hPre_sums_finite)
    ∧ quiescent_FoxBwdRefIdeal (hFoxBwdRefIdeal := hFoxBwdRefIdeal)
    ∧ quiescent_FoxBwdRefIdeal_pre_sums_finite (hFoxBwdRefIdeal := hFoxBwdRefIdeal) (hPre_sums_finite := hPre_sums_finite)
    ∧ quiescent_MemFwd (hMemFwd := hMemFwd)
    ∧ quiescent_MemFwdIdeal (hMemFwdIdeal := hMemFwdIdeal)
    ∧ quiescent_MemFwdIdeal_pre_scores_finite (hMemFwdIdeal := hMemFwdIdeal) (hPre_scores_finite := hPre_scores_finite)
    ∧ quiescent_MemFwdRefIdeal (hMemFwdRefIdeal := hMemFwdRefIdeal)
    ∧ quiescent_MemFwdRefIdeal_pre_scores_finite (hMemFwdRefIdeal := hMemFwdRefIdeal) (hPre_scores_finite := hPre_scores_finite)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AddPair_AddPairIdeal
    ∧ algebraic_AddPairIdeal_AddPairRefIdeal (hAddPairIdeal := hAddPairIdeal) (hAddPairRefIdeal := hAddPairRefIdeal)
    ∧ preserves_AddChips_AddChipsIdeal
    ∧ algebraic_AddChipsIdeal_AddChipsRefIdeal (hAddChipsIdeal := hAddChipsIdeal) (hAddChipsRefIdeal := hAddChipsRefIdeal)
    ∧ preserves_Tail_TailIdeal
    ∧ algebraic_TailIdeal_TailRefIdeal (hTailIdeal := hTailIdeal) (hTailRefIdeal := hTailRefIdeal)
    ∧ preserves_PreBwd_PreBwdIdeal
    ∧ algebraic_PreBwdIdeal_PreBwdRefIdeal (hPreBwdIdeal := hPreBwdIdeal) (hPreBwdRefIdeal := hPreBwdRefIdeal)
    ∧ preserves_GradMem_GradMemIdeal
    ∧ algebraic_GradMemIdeal_GradMemRefIdeal (hGradMemIdeal := hGradMemIdeal) (hGradMemRefIdeal := hGradMemRefIdeal)
    ∧ preserves_GradOut_GradOutIdeal
    ∧ algebraic_GradOutIdeal_GradOutRefIdeal (hGradOutIdeal := hGradOutIdeal) (hGradOutRefIdeal := hGradOutRefIdeal)
    ∧ preserves_GradBranch_GradBranchIdeal
    ∧ algebraic_GradBranchIdeal_GradBranchRefIdeal (hGradBranchIdeal := hGradBranchIdeal) (hGradBranchRefIdeal := hGradBranchRefIdeal)
    ∧ preserves_GradMain_GradMainIdeal
    ∧ algebraic_GradMainIdeal_GradMainRefIdeal (hGradMainIdeal := hGradMainIdeal) (hGradMainRefIdeal := hGradMainRefIdeal)
    ∧ preserves_GradFb_GradFbIdeal
    ∧ algebraic_GradFbIdeal_GradFbRefIdeal (hGradFbIdeal := hGradFbIdeal) (hGradFbRefIdeal := hGradFbRefIdeal)
    ∧ preserves_NormMem_NormMemIdeal
    ∧ algebraic_NormMemIdeal_NormMemRefIdeal (hNormMemIdeal := hNormMemIdeal) (hNormMemRefIdeal := hNormMemRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_NormPre_NormPreIdeal
    ∧ algebraic_NormPreIdeal_NormPreRefIdeal (hNormPreIdeal := hNormPreIdeal) (hNormPreRefIdeal := hNormPreRefIdeal)
    ∧ preserves_NormKv_NormKvIdeal
    ∧ algebraic_NormKvIdeal_NormKvRefIdeal (hNormKvIdeal := hNormKvIdeal) (hNormKvRefIdeal := hNormKvRefIdeal)
    ∧ preserves_ProjIn_ProjInIdeal
    ∧ algebraic_ProjInIdeal_ProjInRefIdeal (hProjInIdeal := hProjInIdeal) (hProjInRefIdeal := hProjInRefIdeal)
    ∧ preserves_ProjFb_ProjFbIdeal
    ∧ algebraic_ProjFbIdeal_ProjFbRefIdeal (hProjFbIdeal := hProjFbIdeal) (hProjFbRefIdeal := hProjFbRefIdeal)
    ∧ preserves_ProjMem_ProjMemIdeal
    ∧ algebraic_ProjMemIdeal_ProjMemRefIdeal (hProjMemIdeal := hProjMemIdeal) (hProjMemRefIdeal := hProjMemRefIdeal)
    ∧ preserves_ProjBranch_ProjBranchIdeal
    ∧ algebraic_ProjBranchIdeal_ProjBranchRefIdeal (hProjBranchIdeal := hProjBranchIdeal) (hProjBranchRefIdeal := hProjBranchRefIdeal)
    ∧ preserves_ProjOut_ProjOutIdeal
    ∧ algebraic_ProjOutIdeal_ProjOutRefIdeal (hProjOutIdeal := hProjOutIdeal) (hProjOutRefIdeal := hProjOutRefIdeal)
    ∧ preserves_BackMerged_BackMergedIdeal
    ∧ algebraic_BackMergedIdeal_BackMergedRefIdeal (hBackMergedIdeal := hBackMergedIdeal) (hBackMergedRefIdeal := hBackMergedRefIdeal)
    ∧ preserves_BackBranch_BackBranchIdeal
    ∧ algebraic_BackBranchIdeal_BackBranchRefIdeal (hBackBranchIdeal := hBackBranchIdeal) (hBackBranchRefIdeal := hBackBranchRefIdeal)
    ∧ preserves_BackMem_BackMemIdeal
    ∧ algebraic_BackMemIdeal_BackMemRefIdeal (hBackMemIdeal := hBackMemIdeal) (hBackMemRefIdeal := hBackMemRefIdeal)
    ∧ preserves_BackIn_BackInIdeal
    ∧ algebraic_BackInIdeal_BackInRefIdeal (hBackInIdeal := hBackInIdeal) (hBackInRefIdeal := hBackInRefIdeal)
    ∧ preserves_BackFb_BackFbIdeal
    ∧ algebraic_BackFbIdeal_BackFbRefIdeal (hBackFbIdeal := hBackFbIdeal) (hBackFbRefIdeal := hBackFbRefIdeal)
    ∧ preserves_GateB_GateBIdeal
    ∧ algebraic_GateBIdeal_GateBRefIdeal (hGateBIdeal := hGateBIdeal) (hGateBRefIdeal := hGateBRefIdeal)
    ∧ preserves_GateM_GateMIdeal
    ∧ algebraic_GateMIdeal_GateMRefIdeal (hGateMIdeal := hGateMIdeal) (hGateMRefIdeal := hGateMRefIdeal)
    ∧ preserves_GateBwdB_GateBwdBIdeal
    ∧ algebraic_GateBwdBIdeal_GateBwdBRefIdeal (hGateBwdBIdeal := hGateBwdBIdeal) (hGateBwdBRefIdeal := hGateBwdBRefIdeal)
    ∧ preserves_GateBwdM_GateBwdMIdeal
    ∧ algebraic_GateBwdMIdeal_GateBwdMRefIdeal (hGateBwdMIdeal := hGateBwdMIdeal) (hGateBwdMRefIdeal := hGateBwdMRefIdeal)
    ∧ preserves_Merge_MergeIdeal
    ∧ algebraic_MergeIdeal_MergeRefIdeal (hMergeIdeal := hMergeIdeal) (hMergeRefIdeal := hMergeRefIdeal)
    ∧ preserves_FoxDelta_FoxDeltaIdeal
    ∧ algebraic_FoxDeltaIdeal_FoxDeltaRefIdeal (hFoxDeltaIdeal := hFoxDeltaIdeal) (hFoxDeltaRefIdeal := hFoxDeltaRefIdeal)
    ∧ preserves_GateBwdA_GateBwdAIdeal
    ∧ algebraic_GateBwdAIdeal_GateBwdARefIdeal (hGateBwdAIdeal := hGateBwdAIdeal) (hGateBwdARefIdeal := hGateBwdARefIdeal)
    ∧ preserves_RopeBwd_RopeBwdIdeal
    ∧ algebraic_RopeBwdIdeal_RopeBwdRefIdeal (hRopeBwdIdeal := hRopeBwdIdeal) (hRopeBwdRefIdeal := hRopeBwdRefIdeal)
    ∧ preserves_FoxBwd_FoxBwdIdeal
    ∧ algebraic_FoxBwdIdeal_FoxBwdRefIdeal_pre_sums_finite (hFoxBwdIdeal := hFoxBwdIdeal) (hFoxBwdRefIdeal := hFoxBwdRefIdeal) (hPre_sums_finite := hPre_sums_finite)
    ∧ preserves_MemFwd_MemFwdIdeal
    ∧ algebraic_MemFwdIdeal_MemFwdRefIdeal_pre_scores_finite (hMemFwdIdeal := hMemFwdIdeal) (hMemFwdRefIdeal := hMemFwdRefIdeal) (hPre_scores_finite := hPre_scores_finite)
-- ==== Pre_scores_finite.lean ====
abbrev S8192x11264 : Shape := ⟨2, ![8192, 11264]⟩
abbrev S256x1024 : Shape := ⟨2, ![256, 1024]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩

class Facts : Prop where
  slices_S8192x11264_S8192x512_0_7168 : S8192x11264.Slices ![0, 7168] S8192x512
  shapeCasts_S8192x512_S8192x4x128 : S8192x512.ShapeCasts S8192x4x128
  bitsLt_bf16_f32 : FTy.bits .bf16 < FTy.bits .f32
  slices_S256x1024_S256x512_0_0 : S256x1024.Slices ![0, 0] S256x512
  shapeCasts_S256x512_S256x4x128 : S256x512.ShapeCasts S256x4x128
  bcast_S_S4x8192x256 : S_.BroadcastsInDim S4x8192x256 (![] : Fin 0 → Fin S4x8192x256.rank)
  dot_S8192x4x128_S256x4x128_S4x8192x256_2_2_0_0_1_1_wf : DotDims.WF S8192x4x128 S256x4x128 S4x8192x256 [2] [2] [0] [0] [1] [1]

variable [Facts]

def dot_S8192x4x128_S256x4x128_S4x8192x256_2_2_0_0_1_1 : DotDims S8192x4x128 S256x4x128 S4x8192x256 where
  lhsContracting := [2]
  rhsContracting := [2]
  lhsNonContracting := [0]
  rhsNonContracting := [0]
  lhsBatch := [1]
  rhsBatch := [1]
  wf := dot_S8192x4x128_S256x4x128_S4x8192x256_2_2_0_0_1_1_wf
def fn {F : FTy → Type} [FloatOps F] (main_arg0 : FVec F S8192x11264 .bf16) (main_arg1 : FVec F S256x1024 .bf16) : IVec S4x8192x256 1 :=
  let main_v0 : FVec F S8192x512 .bf16 := (extractStridedSlice S8192x512 ![0, 7168] · slices_S8192x11264_S8192x512_0_7168) main_arg0
  let main_v1 : FVec F S8192x4x128 .bf16 := shapeCast S8192x4x128 main_v0 shapeCasts_S8192x512_S8192x4x128
  let main_v2 : FVec F S8192x4x128 .f32 := (extf .f32 · bitsLt_bf16_f32) main_v1
  let main_v3 : FVec F S256x512 .bf16 := (extractStridedSlice S256x512 ![0, 0] · slices_S256x1024_S256x512_0_0) main_arg1
  let main_v4 : FVec F S256x4x128 .bf16 := shapeCast S256x4x128 main_v3 shapeCasts_S256x512_S256x4x128
  let main_v5 : FVec F S256x4x128 .f32 := (extf .f32 · bitsLt_bf16_f32) main_v4
  let main_v6 : FVec F S4x8192x256 .f32 := (fun l r => Host.dotGeneral dot_S8192x4x128_S256x4x128_S4x8192x256_2_2_0_0_1_1 none l r) main_v2 main_v5
  let main_cst : FVec F S_ .f32 := constant S_ .f32 0x3DB504F3#32
  let main_v7 : FVec F S4x8192x256 .f32 := broadcastInDim S4x8192x256 ![] bcast_S_S4x8192x256 main_cst
  let main_v8 : FVec F S4x8192x256 .f32 := mulf main_v6 main_v7
  let main_v9 : FVec F S4x8192x256 .f32 := Host.absf main_v8
  let main_cst_0 : FVec F S_ .f32 := constant S_ .f32 0x7F800000#32
  let main_v10 : FVec F S4x8192x256 .f32 := broadcastInDim S4x8192x256 ![] bcast_S_S4x8192x256 main_cst_0
  let main_v11 : IVec S4x8192x256 1 := cmpf .olt main_v9 main_v10
  main_v11
-- ==== Pre_sums_finite.lean ====
abbrev S8x8192 : Shape := ⟨2, ![8, 8192]⟩
abbrev S8x1 : Shape := ⟨2, ![8, 1]⟩
abbrev S_ : Shape := ⟨0, ![]⟩

class Facts : Prop where
  bcast_S_S8x8192 : S_.BroadcastsInDim S8x8192 (![] : Fin 0 → Fin S8x8192.rank)

variable [Facts]

def fn {F : FTy → Type} [FloatOps F] (main_arg0 : FVec F S8x8192 .f32) (main_arg1 : FVec F S8x8192 .f32) (main_arg2 : FVec F S8x8192 .f32) (main_arg3 : FVec F S8x1 .f32) : IVec S8x8192 1 :=
  let main_v0 : FVec F S8x8192 .f32 := addf main_arg0 main_arg1
  let main_v1 : FVec F S8x8192 .f32 := Host.absf main_v0
  let main_cst : FVec F S_ .f32 := constant S_ .f32 0x7F800000#32
  let main_v2 : FVec F S8x8192 .f32 := broadcastInDim S8x8192 ![] bcast_S_S8x8192 main_cst
  let main_v3 : IVec S8x8192 1 := cmpf .olt main_v1 main_v2
  main_v3
-- ==== Share.lean ====
abbrev S1857x1024 : Shape := ⟨2, ![1857, 1024]⟩
abbrev S2x1857x1024 : Shape := ⟨3, ![2, 1857, 1024]⟩
abbrev S_ : Shape := ⟨0, ![]⟩
abbrev S1x1857x1024 : Shape := ⟨3, ![1, 1857, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1857x1024, .f32⟩
  | .hbm, ⟨1, _⟩ => ⟨S2x1857x1024, .f32⟩
  | _, _ => ⟨S1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== ShareRef.lean ====
abbrev S14856x1024 : Shape := ⟨2, ![14856, 1024]⟩
abbrev S8x1857x1024 : Shape := ⟨3, ![8, 1857, 1024]⟩

abbrev nBuf : Space → Nat
  | .hbm => 2
  | .vmem => 0
  | .smem => 0
  | _ => 0

abbrev bufTy : (tb : Table) → Fin (tcTables nBuf tb) → BufTy
  | .hbm, ⟨0, _⟩ => ⟨S14856x1024, .f32⟩
  | .hbm, ⟨1, _⟩ => ⟨S8x1857x1024, .f32⟩
  | _, _ => ⟨S14856x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Swap.lean ====
abbrev S4x1857x1024 : Shape := ⟨3, ![4, 1857, 1024]⟩
abbrev S4 : Shape := ⟨1, ![4]⟩
abbrev S1 : Shape := ⟨1, ![1]⟩
abbrev S_ : Shape := ⟨0, ![]⟩
abbrev S1x1857x1024 : Shape := ⟨3, ![1, 1857, 1024]⟩
abbrev S1857x1024 : Shape := ⟨2, ![1857, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x1857x1024, .f32⟩
  | .hbm, ⟨1, _⟩ => ⟨S4x1857x1024, .f32⟩
  | _, _ => ⟨S4x1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v13 : BitVec 32 := Scalar.muli v2 c4_i32_10
  let v14 : BitVec 32 := Scalar.addi c0_i32_11 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v15 : BitVec 32 := Scalar.muli v5 c2_i32_12
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v17 : BitVec 32 := Scalar.muli v9 c1_i32_13
  let v18 : BitVec 32 := Scalar.addi v16 v17
  v18.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v27 : BitVec 32 := Scalar.muli v2 c4_i32_22
  let v28 : BitVec 32 := Scalar.addi c0_i32_23 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v29 : BitVec 32 := Scalar.muli v5 c2_i32_24
  let v30 : BitVec 32 := Scalar.addi v28 v29
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_25 : BitVec 32 := 1#32
  let v31 : BitVec 32 := Scalar.muli v10 c1_i32_25
  let v32 : BitVec 32 := Scalar.addi v30 v31
  v32.toNat
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v41 : BitVec 32 := Scalar.muli v2 c4_i32_34
  let v42 : BitVec 32 := Scalar.addi c0_i32_35 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v43 : BitVec 32 := Scalar.muli v5 c2_i32_36
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_37 : BitVec 32 := 1#32
  let v45 : BitVec 32 := Scalar.muli v11 c1_i32_37
  let v46 : BitVec 32 := Scalar.addi v44 v45
  v46.toNat
def k0_dev4 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v55 : BitVec 32 := Scalar.muli v2 c4_i32_45
  let v56 : BitVec 32 := Scalar.addi c0_i32_46 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v57 : BitVec 32 := Scalar.muli v5 c2_i32_47
  let v58 : BitVec 32 := Scalar.addi v56 v57
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_48 : BitVec 32 := 1#32
  let v59 : BitVec 32 := Scalar.muli v12 c1_i32_48
  let v60 : BitVec 32 := Scalar.addi v58 v59
  v60.toNat
-- ==== SwapRef.lean ====
abbrev S32x1857x1024 : Shape := ⟨3, ![32, 1857, 1024]⟩
abbrev S4x2x4x1857x1024 : Shape := ⟨5, ![4, 2, 4, 1857, 1024]⟩
abbrev S4x1x4x1857x1024 : Shape := ⟨5, ![4, 1, 4, 1857, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x1857x1024, .f32⟩
  | .hbm, ⟨1, _⟩ => ⟨S4x2x4x1857x1024, .f32⟩
  | .hbm, ⟨2, _⟩ => ⟨S4x1x4x1857x1024, .f32⟩
  | .hbm, ⟨3, _⟩ => ⟨S4x1x4x1857x1024, .f32⟩
  | .hbm, ⟨4, _⟩ => ⟨S4x2x4x1857x1024, .f32⟩
  | .hbm, ⟨5, _⟩ => ⟨S32x1857x1024, .f32⟩
  | _, _ => ⟨S32x1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Scatter.lean ====
abbrev S4x1857x1024 : Shape := ⟨3, ![4, 1857, 1024]⟩
abbrev S3 : Shape := ⟨1, ![3]⟩
abbrev S_ : Shape := ⟨0, ![]⟩
abbrev S1x1857x1024 : Shape := ⟨3, ![1, 1857, 1024]⟩
abbrev S1857x1024 : Shape := ⟨2, ![1857, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x1857x1024, .f32⟩
  | .hbm, ⟨1, _⟩ => ⟨S4x1857x1024, .f32⟩
  | _, _ => ⟨S4x1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_20 : BitVec 32 := 0#32
  let c0_i32_21 : BitVec 32 := 0#32
  ![v20.toNat, 0, 0]
def k0_dev1 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v21 : BitVec 32 := Scalar.muli v9 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v25 : BitVec 32 := Scalar.muli v8 c1_i32_17
  let v26 : BitVec 32 := Scalar.addi v24 v25
  v26.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c2_i32_22 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v36 : BitVec 32 := Scalar.addi v35 v10
  let c0_i32_31 : BitVec 32 := 0#32
  let c0_i32_32 : BitVec 32 := 0#32
  ![v36.toNat, 0, 0]
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v37 : BitVec 32 := Scalar.muli v2 c4_i32_25
  let v38 : BitVec 32 := Scalar.addi c0_i32_26 v37
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_27 : BitVec 32 := 2#32
  let v39 : BitVec 32 := Scalar.muli v10 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_off4 (d0 : Dev nD) : Fin 3 → Nat :=
  let c2_i32_33 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v51 : BitVec 32 := Scalar.muli c2_i32_33 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v52 : BitVec 32 := Scalar.addi v51 v12
  let c0_i32_42 : BitVec 32 := 0#32
  let c0_i32_43 : BitVec 32 := 0#32
  ![v52.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ScatterRef.lean ====
abbrev S32x1857x1024 : Shape := ⟨3, ![32, 1857, 1024]⟩
abbrev S4x2x4x1857x1024 : Shape := ⟨5, ![4, 2, 4, 1857, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x1857x1024, .f32⟩
  | .hbm, ⟨1, _⟩ => ⟨S4x2x4x1857x1024, .f32⟩
  | .hbm, ⟨2, _⟩ => ⟨S4x2x4x1857x1024, .f32⟩
  | .hbm, ⟨3, _⟩ => ⟨S32x1857x1024, .f32⟩
  | _, _ => ⟨S32x1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Gather.lean ====
abbrev S2x1857x1024 : Shape := ⟨3, ![2, 1857, 1024]⟩
abbrev S4x2x1857x1024 : Shape := ⟨4, ![4, 2, 1857, 1024]⟩
abbrev S6 : Shape := ⟨1, ![6]⟩
abbrev S_ : Shape := ⟨0, ![]⟩
abbrev S1x2x1857x1024 : Shape := ⟨4, ![1, 2, 1857, 1024]⟩
abbrev S1 : Shape := ⟨1, ![1]⟩
abbrev S1x1x1857x1024 : Shape := ⟨4, ![1, 1, 1857, 1024]⟩
abbrev S1857x1024 : Shape := ⟨2, ![1857, 1024]⟩
abbrev S1x1857x1024 : Shape := ⟨3, ![1, 1857, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x1857x1024, .bf16⟩
  | .hbm, ⟨1, _⟩ => ⟨S4x2x1857x1024, .bf16⟩
  | _, _ => ⟨S2x1857x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_9 : BitVec 32 := 0#32
  let c0_i32_10 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let c0_i32_18 : BitVec 32 := 0#32
  ![v14.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let c0_i32_20 : BitVec 32 := 0#32
  ![v8.toNat, 0, 0]
def k0_dev1 (d0 : Dev nD) : Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_13 : BitVec 32 := 4#32
  let v18 : BitVec 32 := Scalar.muli v9 c4_i32_13
  let v19 : BitVec 32 := Scalar.addi c0_i32_14 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v20 : BitVec 32 := Scalar.muli v5 c2_i32_15
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v22 : BitVec 32 := Scalar.muli v8 c1_i32_16
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v32 : BitVec 32 := Scalar.muli v2 c4_i32_23
  let v33 : BitVec 32 := Scalar.addi c0_i32_24 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v34 : BitVec 32 := Scalar.muli v10 c2_i32_25
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v36 : BitVec 32 := Scalar.muli v8 c1_i32_26
  let v37 : BitVec 32 := Scalar.addi v35 v36
  v37.toNat
def k0_dev3 (d0 : Dev nD) : Nat :=
  let c0_i32_34 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_33 : BitVec 32 := 4#32
  let v46 : BitVec 32 := Scalar.muli v11 c4_i32_33
  let v47 : BitVec 32 := Scalar.addi c0_i32_34 v46
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_35 : BitVec 32 := 2#32
  let v48 : BitVec 32 := Scalar.muli v12 c2_i32_35
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v50 : BitVec 32 := Scalar.muli v8 c1_i32_36
  let v51 : BitVec 32 := Scalar.addi v49 v50
  v51.toNat
def k0_off4 (d0 : Dev nD) : Fin 4 → Nat :=
  let c2_i32_41 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v60 : BitVec 32 := Scalar.muli c2_i32_41 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.addi v60 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_48 : BitVec 32 := 0#32
  let c0_i32_49 : BitVec 32 := 0#32
  ![v61.toNat, v8.toNat, 0, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v76 : BitVec 32 := Scalar.muli v2 c4_i32_54
  let v77 : BitVec 32 := Scalar.addi c0_i32_55 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v78 : BitVec 32 := Scalar.muli v5 c2_i32_56
  let v79 : BitVec 32 := Scalar.addi v77 v78
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_57 : BitVec 32 := 1#32
  let v80 : BitVec 32 := Scalar.muli v15 c1_i32_57
  let v81 : BitVec 32 := Scalar.addi v79 v80
  v81.toNat
def k0_off5 (d0 : Dev nD) : Fin 4 → Nat :=
  let c2_i32_62 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v90 : BitVec 32 := Scalar.muli c2_i32_62 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v91 : BitVec 32 := Scalar.addi v90 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let c0_i32_70 : BitVec 32 := 0#32
  ![v91.toNat, v8.toNat, 0, 0]
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v106 : BitVec 32 := Scalar.muli v2 c4_i32_76
  let v107 : BitVec 32 := Scalar.addi c0_i32_77 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v108 : BitVec 32 := Scalar.muli v5 c2_i32_78
  let v109 : BitVec 32 := Scalar.addi v107 v108
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_79 : BitVec 32 := 1#32
  let v110 : BitVec 32 := Scalar.muli v15 c1_i32_79
  let v111 : BitVec 32 := Scalar.addi v109 v110
  v111.toNat
def k0_off6 (d0 : Dev nD) : Fin 4 → Nat :=
  let c2_i32_84 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v120 : BitVec 32 := Scalar.muli c2_i32_84 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v121 : BitVec 32 := Scalar.addi v120 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_91 : BitVec 32 := 0#32
  let c0_i32_92 : BitVec 32 := 0#32
  ![v121.toNat, v8.toNat, 0, 0]
def k0_dev6 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v136 : BitVec 32 := Scalar.muli v2 c4_i32_97
  let v137 : BitVec 32 := Scalar.addi c0_i32_98 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v138 : BitVec 32 := Scalar.muli v5 c2_i32_99
  let v139 : BitVec 32 := Scalar.addi v137 v138
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_100 : BitVec 32 := 1#32
  let v140 : BitVec 32 := Scalar.muli v15 c1_i32_100
  let v141 : BitVec 32 := Scalar.addi v139 v140
  v141.toNat
def k0_off7 (d0 : Dev nD) : Fin 4 → Nat :=
  let c2_i32_105 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v150 : BitVec 32 := Scalar.muli c2_i32_105 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v151 : BitVec 32 := Scalar.addi v150 v5
  let c1_i32_106 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v152 : BitVec 32 := Scalar.subi c1_i32_106 v8
  let c0_i32_113 : BitVec 32 := 0#32
  let c0_i32_114 : BitVec 32 := 0#32
  ![v151.toNat, v152.toNat, 0, 0]
def k0_off8 (d0 : Dev nD) : Fin 4 → Nat :=
  let c2_i32_117 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v165 : BitVec 32 := Scalar.muli c2_i32_117 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v166 : BitVec 32 := Scalar.addi v165 v10
  let c1_i32_118 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v167 : BitVec 32 := Scalar.subi c1_i32_118 v8
  let c0_i32_125 : BitVec 32 := 0#32
  let c0_i32_126 : BitVec 32 := 0#32
  ![v166.toNat, v167.toNat, 0, 0]
def k0_off9 (d0 : Dev nD) : Fin 4 → Nat :=
  let c2_i32_129 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v180 : BitVec 32 := Scalar.muli c2_i32_129 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v181 : BitVec 32 := Scalar.addi v180 v12
  let c1_i32_130 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v182 : BitVec 32 := Scalar.subi c1_i32_130 v8
  let c0_i32_137 : BitVec 32 := 0#32
  let c0_i32_138 : BitVec 32 := 0#32
  ![v181.toNat, v182.toNat, 0, 0]
-- ==== GatherRef.lean ====
abbrev S8x1857x1024 : Shape := ⟨3, ![8, 1857, 1024]⟩
abbrev S4x2x1857x1024 : Shape := ⟨4, ![4, 2, 1857, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x1857x1024, .bf16⟩
  | .hbm, ⟨1, _⟩ => ⟨S4x2x1857x1024, .bf16⟩
  | _, _ => ⟨S8x1857x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamIn.lean ====
abbrev S1024x2818 : Shape := ⟨2, ![1024, 2818]⟩
abbrev S128x2818 : Shape := ⟨2, ![128, 2818]⟩

abbrev nBuf : Space → Nat
  | .hbm => 7
  | .vmem => 14
  | .smem => 0
  | _ => 0

abbrev bufTy : (tb : Table) → Fin (tcTables nBuf tb) → BufTy
  | .hbm, ⟨0, _⟩ => ⟨S1024x2818, .f32⟩
  | .hbm, ⟨1, _⟩ => ⟨S1024x2818, .f32⟩
  | .hbm, ⟨2, _⟩ => ⟨S1024x2818, .f32⟩
  | .hbm, ⟨3, _⟩ => ⟨S1024x2818, .f32⟩
  | .hbm, ⟨4, _⟩ => ⟨S1024x2818, .f32⟩
  | .hbm, ⟨5, _⟩ => ⟨S1024x2818, .f32⟩
  | .hbm, ⟨6, _⟩ => ⟨S1024x2818, .f32⟩
  | .local _ .vmem, ⟨0, _⟩ => ⟨S128x2818, .f32⟩
  | .local _ .vmem, ⟨1, _⟩ => ⟨S128x2818, .f32⟩
  | .local _ .vmem, ⟨2, _⟩ => ⟨S128x2818, .f32⟩
  | .local _ .vmem, ⟨3, _⟩ => ⟨S128x2818, .f32⟩
  | .local _ .vmem, ⟨4, _⟩ => ⟨S128x2818, .f32⟩
  | .local _ .vmem, ⟨5, _⟩ => ⟨S128x2818, .f32⟩
  | .local _ .vmem, ⟨6, _⟩ => ⟨S128x2818, .f32⟩
  | .local _ .vmem, ⟨7, _⟩ => ⟨S128x2818, .f32⟩
  | .local _ .vmem, ⟨8, _⟩ => ⟨S128x2818, .f32⟩
  | .local _ .vmem, ⟨9, _⟩ => ⟨S128x2818, .f32⟩
  | .local _ .vmem, ⟨10, _⟩ => ⟨S128x2818, .f32⟩
  | .local _ .vmem, ⟨11, _⟩ => ⟨S128x2818, .f32⟩
  | .local _ .vmem, ⟨12, _⟩ => ⟨S128x2818, .f32⟩
  | .local _ .vmem, ⟨13, _⟩ => ⟨S128x2818, .f32⟩
  | _, _ => ⟨S1024x2818, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2818 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2818 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2818 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2818 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2818 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2818 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2818 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x2818 : Shape := ⟨2, ![1024, 2818]⟩
abbrev S128x2818 : Shape := ⟨2, ![128, 2818]⟩

abbrev nBuf : Space → Nat
  | .hbm => 7
  | .vmem => 14
  | .smem => 0
  | _ => 0

abbrev bufTy : (tb : Table) → Fin (tcTables nBuf tb) → BufTy
  | .hbm, ⟨0, _⟩ => ⟨S1024x2818, .f32⟩
  | .hbm, ⟨1, _⟩ => ⟨S1024x2818, .f32⟩
  | .hbm, ⟨2, _⟩ => ⟨S1024x2818, .f32⟩
  | .hbm, ⟨3, _⟩ => ⟨S1024x2818, .f32⟩
  | .hbm, ⟨4, _⟩ => ⟨S1024x2818, .f32⟩
  | .hbm, ⟨5, _⟩ => ⟨S1024x2818, .f32⟩
  | .hbm, ⟨6, _⟩ => ⟨S1024x2818, .f32⟩
  | .local _ .vmem, ⟨0, _⟩ => ⟨S128x2818, .f32⟩
  | .local _ .vmem, ⟨1, _⟩ => ⟨S128x2818, .f32⟩
  | .local _ .vmem, ⟨2, _⟩ => ⟨S128x2818, .f32⟩
  | .local _ .vmem, ⟨3, _⟩ => ⟨S128x2818, .f32⟩
  | .local _ .vmem, ⟨4, _⟩ => ⟨S128x2818, .f32⟩
  | .local _ .vmem, ⟨5, _⟩ => ⟨S128x2818, .f32⟩
  | .local _ .vmem, ⟨6, _⟩ => ⟨S128x2818, .f32⟩
  | .local _ .vmem, ⟨7, _⟩ => ⟨S128x2818, .f32⟩
  | .local _ .vmem, ⟨8, _⟩ => ⟨S128x2818, .f32⟩
  | .local _ .vmem, ⟨9, _⟩ => ⟨S128x2818, .f32⟩
  | .local _ .vmem, ⟨10, _⟩ => ⟨S128x2818, .f32⟩
  | .local _ .vmem, ⟨11, _⟩ => ⟨S128x2818, .f32⟩
  | .local _ .vmem, ⟨12, _⟩ => ⟨S128x2818, .f32⟩
  | .local _ .vmem, ⟨13, _⟩ => ⟨S128x2818, .f32⟩
  | _, _ => ⟨S1024x2818, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2818 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2818 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2818 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2818 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2818 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2818 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2818 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x2818 : Shape := ⟨2, ![1024, 2818]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2818, .f32⟩
  | .hbm, ⟨1, _⟩ => ⟨S1024x2818, .f32⟩
  | .hbm, ⟨2, _⟩ => ⟨S1024x2818, .f32⟩
  | .hbm, ⟨3, _⟩ => ⟨S1024x2818, .f32⟩
  | .hbm, ⟨4, _⟩ => ⟨S_, .f32⟩
  | .hbm, ⟨5, _⟩ => ⟨S1024x2818, .f32⟩
  | .hbm, ⟨6, _⟩ => ⟨S1024x2818, .f32⟩
  | .hbm, ⟨7, _⟩ => ⟨S_, .f32⟩
  | .hbm, ⟨8, _⟩ => ⟨S1024x2818, .f32⟩
  | .hbm, ⟨9, _⟩ => ⟨S1024x2818, .f32⟩
  | .hbm, ⟨10, _⟩ => ⟨S1024x2818, .f32⟩
  | .hbm, ⟨11, _⟩ => ⟨S_, .f32⟩
  | .hbm, ⟨12, _⟩ => ⟨S1024x2818, .f32⟩
  | .hbm, ⟨13, _⟩ => ⟨S1024x2818, .f32⟩
  | .hbm, ⟨14, _⟩ => ⟨S1024x2818, .f32⟩
  | .hbm, ⟨15, _⟩ => ⟨S_, .f32⟩
  | .hbm, ⟨16, _⟩ => ⟨S1024x2818, .f32⟩
  | .hbm, ⟨17, _⟩ => ⟨S1024x2818, .f32⟩
  | .hbm, ⟨18, _⟩ => ⟨S1024x2818, .f32⟩
  | .hbm, ⟨19, _⟩ => ⟨S_, .f32⟩
  | .hbm, ⟨20, _⟩ => ⟨S1024x2818, .f32⟩
  | .hbm, ⟨21, _⟩ => ⟨S1024x2818, .f32⟩
  | .hbm, ⟨22, _⟩ => ⟨S_, .f32⟩
  | .hbm, ⟨23, _⟩ => ⟨S1024x2818, .f32⟩
  | .hbm, ⟨24, _⟩ => ⟨S1024x2818, .f32⟩
  | .hbm, ⟨25, _⟩ => ⟨S1024x2818, .f32⟩
  | .hbm, ⟨26, _⟩ => ⟨S_, .f32⟩
  | .hbm, ⟨27, _⟩ => ⟨S1024x2818, .f32⟩
  | .hbm, ⟨28, _⟩ => ⟨S1024x2818, .f32⟩
  | .hbm, ⟨29, _⟩ => ⟨S1024x2818, .f32⟩
  | .hbm, ⟨30, _⟩ => ⟨S_, .f32⟩
  | .hbm, ⟨31, _⟩ => ⟨S1024x2818, .f32⟩
  | .hbm, ⟨32, _⟩ => ⟨S1024x2818, .f32⟩
  | .hbm, ⟨33, _⟩ => ⟨S1024x2818, .f32⟩
  | .hbm, ⟨34, _⟩ => ⟨S_, .f32⟩
  | .hbm, ⟨35, _⟩ => ⟨S1024x2818, .f32⟩
  | .hbm, ⟨36, _⟩ => ⟨S1024x2818, .f32⟩
  | _, _ => ⟨S1024x2818, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchIdeal.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBranchRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AddPair.lean ====
abbrev S4x1857x1024 : Shape := ⟨3, ![4, 1857, 1024]⟩
abbrev S1x1857x256 : Shape := ⟨3, ![1, 1857, 256]⟩
abbrev S1857x256 : Shape := ⟨2, ![1857, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x1857x1024, .f32⟩
  | .hbm, ⟨1, _⟩ => ⟨S4x1857x1024, .f32⟩
  | .hbm, ⟨2, _⟩ => ⟨S4x1857x1024, .f32⟩
  | .local _ .vmem, ⟨0, _⟩ => ⟨S1x1857x256, .f32⟩
  | .local _ .vmem, ⟨1, _⟩ => ⟨S1x1857x256, .f32⟩
  | .local _ .vmem, ⟨2, _⟩ => ⟨S1x1857x256, .f32⟩
  | .local _ .vmem, ⟨3, _⟩ => ⟨S1x1857x256, .f32⟩
  | .local _ .vmem, ⟨4, _⟩ => ⟨S1x1857x256, .f32⟩
  | .local _ .vmem, ⟨5, _⟩ => ⟨S1x1857x256, .f32⟩
  | _, _ => ⟨S4x1857x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1857x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1857x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1857x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddPairRefIdeal.lean ====
abbrev S4x1857x1024 : Shape := ⟨3, ![4, 1857, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1857x1024, .f32⟩
  | .hbm, ⟨1, _⟩ => ⟨S4x1857x1024, .f32⟩
  | .hbm, ⟨2, _⟩ => ⟨S4x1857x1024, .f32⟩
  | _, _ => ⟨S4x1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddChips.lean ====
abbrev S4x1857x1024 : Shape := ⟨3, ![4, 1857, 1024]⟩
abbrev S1x1857x1024 : Shape := ⟨3, ![1, 1857, 1024]⟩
abbrev S1x1857x256 : Shape := ⟨3, ![1, 1857, 256]⟩
abbrev S1857x256 : Shape := ⟨2, ![1857, 256]⟩

abbrev nBuf : Space → Nat
  | .hbm => 2
  | .vmem => 10
  | .smem => 0
  | _ => 0

abbrev bufTy : (tb : Table) → Fin (tcTables nBuf tb) → BufTy
  | .hbm, ⟨0, _⟩ => ⟨S4x1857x1024, .f32⟩
  | .hbm, ⟨1, _⟩ => ⟨S1x1857x1024, .f32⟩
  | .local _ .vmem, ⟨0, _⟩ => ⟨S1x1857x256, .f32⟩
  | .local _ .vmem, ⟨1, _⟩ => ⟨S1x1857x256, .f32⟩
  | .local _ .vmem, ⟨2, _⟩ => ⟨S1x1857x256, .f32⟩
  | .local _ .vmem, ⟨3, _⟩ => ⟨S1x1857x256, .f32⟩
  | .local _ .vmem, ⟨4, _⟩ => ⟨S1x1857x256, .f32⟩
  | .local _ .vmem, ⟨5, _⟩ => ⟨S1x1857x256, .f32⟩
  | .local _ .vmem, ⟨6, _⟩ => ⟨S1x1857x256, .f32⟩
  | .local _ .vmem, ⟨7, _⟩ => ⟨S1x1857x256, .f32⟩
  | .local _ .vmem, ⟨8, _⟩ => ⟨S1x1857x256, .f32⟩
  | .local _ .vmem, ⟨9, _⟩ => ⟨S1x1857x256, .f32⟩
  | _, _ => ⟨S4x1857x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1857x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1857x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1857x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1857x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1857x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AddChipsRefIdeal.lean ====
abbrev S4x1857x1024 : Shape := ⟨3, ![4, 1857, 1024]⟩
abbrev S_ : Shape := ⟨0, ![]⟩
abbrev S1857x1024 : Shape := ⟨2, ![1857, 1024]⟩
abbrev S1x1857x1024 : Shape := ⟨3, ![1, 1857, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x1857x1024, .f32⟩
  | .hbm, ⟨1, _⟩ => ⟨S_, .f32⟩
  | .hbm, ⟨2, _⟩ => ⟨S1857x1024, .f32⟩
  | .hbm, ⟨3, _⟩ => ⟨S1x1857x1024, .f32⟩
  | _, _ => ⟨S4x1857x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Tail.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TailRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== PreBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PreBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== GradMem.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradMemIdeal.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S1024x1024, .f32⟩
  | .local _ .vmem, ⟨0, _⟩ => ⟨S256x1024, .bf16⟩
  | .local _ .vmem, ⟨1, _⟩ => ⟨S256x1024, .f32⟩
  | .local _ .vmem, ⟨2, _⟩ => ⟨S1024x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradMemRefIdeal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x1024, .f32⟩
  | .hbm, ⟨2, _⟩ => ⟨S256x1024, .f32⟩
  | .hbm, ⟨3, _⟩ => ⟨S1024x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutIdeal.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradBranch.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranchIdeal.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradBranchRefIdeal.lean ====
abbrev S8192x512 : Shape := ⟨2, ![8192, 512]⟩
abbrev S8192x1024 : Shape := ⟨2, ![8192, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradMain.lean ====
abbrev S8192x1024 : Shape := ⟨2, ![8192, 1024]⟩
abbrev S8192x11264 : Shape := ⟨2, ![8192, 11264]⟩
abbrev S1024x11264 : Shape := ⟨2, ![1024, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x11264, .bf16⟩
  | .hbm, ⟨2, _⟩ => ⟨S1024x11264, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMainIdeal.lean ====
abbrev S8192x1024 : Shape := ⟨2, ![8192, 1024]⟩
abbrev S8192x11264 : Shape := ⟨2, ![8192, 11264]⟩
abbrev S1024x11264 : Shape := ⟨2, ![1024, 11264]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x11264, .bf16⟩
  | .hbm, ⟨2, _⟩ => ⟨S1024x11264, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMainRefIdeal.lean ====
abbrev S8192x1024 : Shape := ⟨2, ![8192, 1024]⟩
abbrev S8192x11264 : Shape := ⟨2, ![8192, 11264]⟩
abbrev S1024x11264 : Shape := ⟨2, ![1024, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x11264, .bf16⟩
  | .hbm, ⟨2, _⟩ => ⟨S8192x1024, .f32⟩
  | .hbm, ⟨3, _⟩ => ⟨S8192x11264, .f32⟩
  | .hbm, ⟨4, _⟩ => ⟨S1024x11264, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradFb.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradFbIdeal.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradFbRefIdeal.lean ====
abbrev S8192x1024 : Shape := ⟨2, ![8192, 1024]⟩
abbrev S8192x128 : Shape := ⟨2, ![8192, 128]⟩
abbrev S1024x128 : Shape := ⟨2, ![1024, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== NormMemRefIdeal.lean ====
abbrev S256x1024 : Shape := ⟨2, ![256, 1024]⟩
abbrev S_ : Shape := ⟨0, ![]⟩
abbrev S256 : Shape := ⟨1, ![256]⟩
abbrev S256x1 : Shape := ⟨2, ![256, 1]⟩
abbrev S1024 : Shape := ⟨1, ![1024]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S1024, .f32⟩
  | .hbm, ⟨18, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== MergeBwd.lean ====
abbrev S8192x1024 : Shape := ⟨2, ![8192, 1024]⟩
abbrev S8192x11264 : Shape := ⟨2, ![8192, 11264]⟩
abbrev S3x1024 : Shape := ⟨2, ![3, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 15
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x11264, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S3x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S3x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeBwdRefIdeal.lean ====
abbrev S8192x1024 : Shape := ⟨2, ![8192, 1024]⟩
abbrev S8192x11264 : Shape := ⟨2, ![8192, 11264]⟩
abbrev S3x1024 : Shape := ⟨2, ![3, 1024]⟩
abbrev S1x1024 : Shape := ⟨2, ![1, 1024]⟩
abbrev S_ : Shape := ⟨0, ![]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x11264, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S3x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .bf16⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .bf16⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .bf16⟩
  | .hbm, ⟨82, _⟩ => ⟨S_, .f32⟩
  | .hbm, ⟨83, _⟩ => ⟨S1024, .f32⟩
  | .hbm, ⟨84, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== NormPre.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPreIdeal.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPreRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormKv.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormKvRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjIn.lean ====
abbrev S8192x1024 : Shape := ⟨2, ![8192, 1024]⟩
abbrev S1024x11264 : Shape := ⟨2, ![1024, 11264]⟩
abbrev S8192x11264 : Shape := ⟨2, ![8192, 11264]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x11264, .bf16⟩
  | .hbm, ⟨2, _⟩ => ⟨S8192x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInIdeal.lean ====
abbrev S8192x1024 : Shape := ⟨2, ![8192, 1024]⟩
abbrev S1024x11264 : Shape := ⟨2, ![1024, 11264]⟩
abbrev S8192x11264 : Shape := ⟨2, ![8192, 11264]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x11264, .bf16⟩
  | .hbm, ⟨2, _⟩ => ⟨S8192x11264, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x1024 : Shape := ⟨2, ![8192, 1024]⟩
abbrev S1024x11264 : Shape := ⟨2, ![1024, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x11264, .bf16⟩
  | .hbm, ⟨2, _⟩ => ⟨S8192x1024, .f32⟩
  | .hbm, ⟨3, _⟩ => ⟨S1024x11264, .f32⟩
  | .hbm, ⟨4, _⟩ => ⟨S8192x11264, .f32⟩
  | .hbm, ⟨5, _⟩ => ⟨S8192x11264, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjFb.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFbIdeal.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFbRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjMem.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjMemIdeal.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .bf16⟩
  | .local _ .vmem, ⟨0, _⟩ => ⟨S256x1024, .bf16⟩
  | .local _ .vmem, ⟨1, _⟩ => ⟨S1024x1024, .bf16⟩
  | .local _ .vmem, ⟨2, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjMemRefIdeal.lean ====
abbrev S256x1024 : Shape := ⟨2, ![256, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1024x1024, .f32⟩
  | .hbm, ⟨4, _⟩ => ⟨S256x1024, .f32⟩
  | .hbm, ⟨5, _⟩ => ⟨S256x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjBranch.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBranchIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBranchRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackMerged.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackMergedIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackMergedRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackBranch.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackBranchIdeal.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackBranchRefIdeal.lean ====
abbrev S8192x1024 : Shape := ⟨2, ![8192, 1024]⟩
abbrev S512x1024 : Shape := ⟨2, ![512, 1024]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S8192x512, .f32⟩
  | .hbm, ⟨5, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackMem.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BackMemIdeal.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S256x1024, .f32⟩
  | .local _ .vmem, ⟨0, _⟩ => ⟨S256x1024, .f32⟩
  | .local _ .vmem, ⟨1, _⟩ => ⟨S1024x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BackMemRefIdeal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .bf16⟩
  | .hbm, ⟨2, _⟩ => ⟨S1024x1024, .f32⟩
  | .hbm, ⟨3, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BackIn.lean ====
abbrev S8192x11264 : Shape := ⟨2, ![8192, 11264]⟩
abbrev S1024x11264 : Shape := ⟨2, ![1024, 11264]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S1024x11264, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackInIdeal.lean ====
abbrev S8192x11264 : Shape := ⟨2, ![8192, 11264]⟩
abbrev S1024x11264 : Shape := ⟨2, ![1024, 11264]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S1024x11264, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackInRefIdeal.lean ====
abbrev S8192x11264 : Shape := ⟨2, ![8192, 11264]⟩
abbrev S1024x11264 : Shape := ⟨2, ![1024, 11264]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S1024x11264, .bf16⟩
  | .hbm, ⟨2, _⟩ => ⟨S8192x11264, .f32⟩
  | .hbm, ⟨3, _⟩ => ⟨S1024x11264, .f32⟩
  | .hbm, ⟨4, _⟩ => ⟨S8192x1024, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BackFb.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackFbRefIdeal.lean ====
abbrev S8192x128 : Shape := ⟨2, ![8192, 128]⟩
abbrev S1024x128 : Shape := ⟨2, ![1024, 128]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x128, .f32⟩
  | .hbm, ⟨3, _⟩ => ⟨S1024x128, .f32⟩
  | .hbm, ⟨4, _⟩ => ⟨S8192x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateB.lean ====
abbrev S8192x512 : Shape := ⟨2, ![8192, 512]⟩
abbrev S8192x11264 : Shape := ⟨2, ![8192, 11264]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x11264, .bf16⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateBIdeal.lean ====
  let c13_i32 : BitVec 32 := 13#32
  ![arg0.toNat, c13_i32.toNat]
-- ==== GateBRefIdeal.lean ====
abbrev S8192x512 : Shape := ⟨2, ![8192, 512]⟩
abbrev S8192x11264 : Shape := ⟨2, ![8192, 11264]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x11264, .bf16⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== GateM.lean ====
abbrev S8192x512 : Shape := ⟨2, ![8192, 512]⟩
abbrev S8192x11264 : Shape := ⟨2, ![8192, 11264]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x11264, .bf16⟩
  | .hbm, ⟨2, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateMRefIdeal.lean ====
abbrev S8192x512 : Shape := ⟨2, ![8192, 512]⟩
abbrev S8192x11264 : Shape := ⟨2, ![8192, 11264]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x11264, .bf16⟩
  | .hbm, ⟨2, _⟩ => ⟨S8192x512, .f32⟩
  | .hbm, ⟨3, _⟩ => ⟨S8192x512, .bf16⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== GateBwdB.lean ====
abbrev S8192x512 : Shape := ⟨2, ![8192, 512]⟩
abbrev S8192x11264 : Shape := ⟨2, ![8192, 11264]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x11264, .bf16⟩
  | .hbm, ⟨3, _⟩ => ⟨S8192x512, .bf16⟩
  | .hbm, ⟨4, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateBwdBIdeal.lean ====
  let c13_i32 : BitVec 32 := 13#32
  ![arg0.toNat, c13_i32.toNat]
-- ==== GateBwdBRefIdeal.lean ====
abbrev S8192x512 : Shape := ⟨2, ![8192, 512]⟩
abbrev S8192x11264 : Shape := ⟨2, ![8192, 11264]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x11264, .bf16⟩
  | .hbm, ⟨3, _⟩ => ⟨S8192x512, .f32⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .bf16⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== GateBwdM.lean ====
abbrev S8192x512 : Shape := ⟨2, ![8192, 512]⟩
abbrev S8192x11264 : Shape := ⟨2, ![8192, 11264]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x11264, .bf16⟩
  | .hbm, ⟨3, _⟩ => ⟨S8192x512, .bf16⟩
  | .hbm, ⟨4, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateBwdMRefIdeal.lean ====
abbrev S8192x512 : Shape := ⟨2, ![8192, 512]⟩
abbrev S8192x11264 : Shape := ⟨2, ![8192, 11264]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x11264, .bf16⟩
  | .hbm, ⟨3, _⟩ => ⟨S8192x512, .f32⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .bf16⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Merge.lean ====
abbrev S8192x11264 : Shape := ⟨2, ![8192, 11264]⟩
abbrev S8192x1024 : Shape := ⟨2, ![8192, 1024]⟩
abbrev S3x1024 : Shape := ⟨2, ![3, 1024]⟩
abbrev S512x1024 : Shape := ⟨2, ![512, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S8192x11264, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S8192x11264 : Shape := ⟨2, ![8192, 11264]⟩
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S3x1024, .f32⟩
  | .hbm, ⟨5, _⟩ => ⟨S8192x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== FoxDelta.lean ====
abbrev S65536x64 : Shape := ⟨2, ![65536, 64]⟩
abbrev S65536x1 : Shape := ⟨2, ![65536, 1]⟩
abbrev S2048x64 : Shape := ⟨2, ![2048, 64]⟩
abbrev S2048x1 : Shape := ⟨2, ![2048, 1]⟩
abbrev S2048 : Shape := ⟨1, ![2048]⟩

abbrev nBuf : Space → Nat
  | .hbm => 3
  | .vmem => 6
  | .smem => 0
  | _ => 0

abbrev bufTy : (tb : Table) → Fin (tcTables nBuf tb) → BufTy
  | .hbm, ⟨0, _⟩ => ⟨S65536x64, .bf16⟩
  | .hbm, ⟨1, _⟩ => ⟨S65536x64, .bf16⟩
  | .hbm, ⟨2, _⟩ => ⟨S65536x1, .f32⟩
  | .local _ .vmem, ⟨0, _⟩ => ⟨S2048x64, .bf16⟩
  | .local _ .vmem, ⟨1, _⟩ => ⟨S2048x64, .bf16⟩
  | .local _ .vmem, ⟨2, _⟩ => ⟨S2048x64, .bf16⟩
  | .local _ .vmem, ⟨3, _⟩ => ⟨S2048x64, .bf16⟩
  | .local _ .vmem, ⟨4, _⟩ => ⟨S2048x1, .f32⟩
  | .local _ .vmem, ⟨5, _⟩ => ⟨S2048x1, .f32⟩
  | _, _ => ⟨S65536x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxDeltaRefIdeal.lean ====
abbrev S65536x64 : Shape := ⟨2, ![65536, 64]⟩
abbrev S_ : Shape := ⟨0, ![]⟩
abbrev S65536 : Shape := ⟨1, ![65536]⟩
abbrev S65536x1 : Shape := ⟨2, ![65536, 1]⟩

abbrev nBuf : Space → Nat
  | .hbm => 8
  | .vmem => 0
  | .smem => 0
  | _ => 0

abbrev bufTy : (tb : Table) → Fin (tcTables nBuf tb) → BufTy
  | .hbm, ⟨0, _⟩ => ⟨S65536x64, .bf16⟩
  | .hbm, ⟨1, _⟩ => ⟨S65536x64, .bf16⟩
  | .hbm, ⟨2, _⟩ => ⟨S65536x64, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | _, _ => ⟨S65536x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateBwdA.lean ====
abbrev S8192x512 : Shape := ⟨2, ![8192, 512]⟩
abbrev S8192x11264 : Shape := ⟨2, ![8192, 11264]⟩
abbrev S8192x128 : Shape := ⟨2, ![8192, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x11264, .bf16⟩
  | .hbm, ⟨3, _⟩ => ⟨S8192x512, .bf16⟩
  | .hbm, ⟨4, _⟩ => ⟨S8192x512, .bf16⟩
  | .hbm, ⟨5, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateBwdARefIdeal.lean ====
abbrev S8192x512 : Shape := ⟨2, ![8192, 512]⟩
abbrev S8192x11264 : Shape := ⟨2, ![8192, 11264]⟩
abbrev S_ : Shape := ⟨0, ![]⟩
abbrev S8192x4x128 : Shape := ⟨3, ![8192, 4, 128]⟩
abbrev S8192x4 : Shape := ⟨2, ![8192, 4]⟩
abbrev S8192x128 : Shape := ⟨2, ![8192, 128]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x11264, .bf16⟩
  | .hbm, ⟨3, _⟩ => ⟨S8192x512, .f32⟩
  | .hbm, ⟨4, _⟩ => ⟨S8192x512, .f32⟩
  | .hbm, ⟨5, _⟩ => ⟨S8192x512, .bf16⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x4x128, .f32⟩
  | .hbm, ⟨37, _⟩ => ⟨S_, .f32⟩
  | .hbm, ⟨38, _⟩ => ⟨S8192x4, .f32⟩
  | .hbm, ⟨39, _⟩ => ⟨S8192x512, .bf16⟩
  | .hbm, ⟨40, _⟩ => ⟨S8192x512, .bf16⟩
  | .hbm, ⟨41, _⟩ => ⟨S_, .i32⟩
  | .hbm, ⟨42, _⟩ => ⟨S_, .f32⟩
  | .hbm, ⟨43, _⟩ => ⟨S8192x128, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_call1_v0 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== RopeBwd.lean ====
abbrev S8192x1536 : Shape := ⟨2, ![8192, 1536]⟩
abbrev S8192x1 : Shape := ⟨2, ![8192, 1]⟩
abbrev S1x128 : Shape := ⟨2, ![1, 128]⟩
abbrev S256x1536 : Shape := ⟨2, ![256, 1536]⟩
abbrev S256x1 : Shape := ⟨2, ![256, 1]⟩
abbrev S256x128 : Shape := ⟨2, ![256, 128]⟩

abbrev nBuf : Space → Nat
  | .hbm => 6
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1, .i32⟩
  | .hbm, ⟨3, _⟩ => ⟨S1x128, .f32⟩
  | .hbm, ⟨4, _⟩ => ⟨S8192x1536, .bf16⟩
  | .hbm, ⟨5, _⟩ => ⟨S8192x1536, .bf16⟩
  | .local _ .vmem, ⟨0, _⟩ => ⟨S256x1536, .bf16⟩
  | .local _ .vmem, ⟨1, _⟩ => ⟨S256x1536, .bf16⟩
  | .local _ .vmem, ⟨2, _⟩ => ⟨S256x1536, .bf16⟩
  | .local _ .vmem, ⟨3, _⟩ => ⟨S256x1536, .bf16⟩
  | .local _ .vmem, ⟨4, _⟩ => ⟨S256x1, .i32⟩
  | .local _ .vmem, ⟨5, _⟩ => ⟨S256x1, .i32⟩
  | .local _ .vmem, ⟨6, _⟩ => ⟨S1x128, .f32⟩
  | .local _ .vmem, ⟨7, _⟩ => ⟨S256x1536, .bf16⟩
  | .local _ .vmem, ⟨8, _⟩ => ⟨S256x1536, .bf16⟩
  | .local _ .vmem, ⟨9, _⟩ => ⟨S256x1536, .bf16⟩
  | .local _ .vmem, ⟨10, _⟩ => ⟨S256x1536, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeBwdRefIdeal.lean ====
abbrev S8192x1536 : Shape := ⟨2, ![8192, 1536]⟩
abbrev S8192x1 : Shape := ⟨2, ![8192, 1]⟩
abbrev S1x128 : Shape := ⟨2, ![1, 128]⟩
abbrev S1x32 : Shape := ⟨2, ![1, 32]⟩
abbrev S8192x32 : Shape := ⟨2, ![8192, 32]⟩
abbrev S8192x1x32 : Shape := ⟨3, ![8192, 1, 32]⟩
abbrev S_ : Shape := ⟨0, ![]⟩
abbrev S8192x12x128 : Shape := ⟨3, ![8192, 12, 128]⟩
abbrev S8192x12x16 : Shape := ⟨3, ![8192, 12, 16]⟩
abbrev S8192x1x16 : Shape := ⟨3, ![8192, 1, 16]⟩
abbrev S8192x12x96 : Shape := ⟨3, ![8192, 12, 96]⟩

abbrev nBuf : Space → Nat
  | .hbm => 72
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1, .i32⟩
  | .hbm, ⟨3, _⟩ => ⟨S1x128, .f32⟩
  | .hbm, ⟨4, _⟩ => ⟨S8192x1, .f32⟩
  | .hbm, ⟨5, _⟩ => ⟨S1x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x1x32, .f32⟩
  | .hbm, ⟨11, _⟩ => ⟨S8192x32, .f32⟩
  | .hbm, ⟨12, _⟩ => ⟨S8192x1x32, .f32⟩
  | .hbm, ⟨13, _⟩ => ⟨S_, .f32⟩
  | .hbm, ⟨14, _⟩ => ⟨S8192x1x32, .f32⟩
  | .hbm, ⟨15, _⟩ => ⟨S8192x1x32, .f32⟩
  | .hbm, ⟨16, _⟩ => ⟨S8192x1536, .f32⟩
  | .hbm, ⟨17, _⟩ => ⟨S8192x12x128, .f32⟩
  | .hbm, ⟨18, _⟩ => ⟨S8192x12x16, .f32⟩
  | .hbm, ⟨19, _⟩ => ⟨S8192x12x16, .f32⟩
  | .hbm, ⟨20, _⟩ => ⟨S8192x1x16, .f32⟩
  | .hbm, ⟨21, _⟩ => ⟨S8192x12x16, .f32⟩
  | .hbm, ⟨22, _⟩ => ⟨S8192x12x16, .f32⟩
  | .hbm, ⟨23, _⟩ => ⟨S8192x1x16, .f32⟩
  | .hbm, ⟨24, _⟩ => ⟨S8192x12x16, .f32⟩
  | .hbm, ⟨25, _⟩ => ⟨S8192x12x16, .f32⟩
  | .hbm, ⟨26, _⟩ => ⟨S8192x12x16, .f32⟩
  | .hbm, ⟨27, _⟩ => ⟨S8192x1x16, .f32⟩
  | .hbm, ⟨28, _⟩ => ⟨S8192x12x16, .f32⟩
  | .hbm, ⟨29, _⟩ => ⟨S8192x12x16, .f32⟩
  | .hbm, ⟨30, _⟩ => ⟨S8192x1x16, .f32⟩
  | .hbm, ⟨31, _⟩ => ⟨S8192x12x16, .f32⟩
  | .hbm, ⟨32, _⟩ => ⟨S8192x12x16, .f32⟩
  | .hbm, ⟨33, _⟩ => ⟨S8192x12x16, .f32⟩
  | .hbm, ⟨34, _⟩ => ⟨S8192x12x96, .f32⟩
  | .hbm, ⟨35, _⟩ => ⟨S8192x12x128, .f32⟩
  | .hbm, ⟨36, _⟩ => ⟨S8192x1536, .f32⟩
  | .hbm, ⟨37, _⟩ => ⟨S8192x1536, .bf16⟩
  | .hbm, ⟨38, _⟩ => ⟨S8192x1, .f32⟩
  | .hbm, ⟨39, _⟩ => ⟨S1x32, .f32⟩
  | .hbm, ⟨40, _⟩ => ⟨S8192x32, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x1x32, .f32⟩
  | .hbm, ⟨45, _⟩ => ⟨S8192x32, .f32⟩
  | .hbm, ⟨46, _⟩ => ⟨S8192x1x32, .f32⟩
  | .hbm, ⟨47, _⟩ => ⟨S_, .f32⟩
  | .hbm, ⟨48, _⟩ => ⟨S8192x1x32, .f32⟩
  | .hbm, ⟨49, _⟩ => ⟨S8192x1x32, .f32⟩
  | .hbm, ⟨50, _⟩ => ⟨S8192x1536, .f32⟩
  | .hbm, ⟨51, _⟩ => ⟨S8192x12x128, .f32⟩
  | .hbm, ⟨52, _⟩ => ⟨S8192x12x16, .f32⟩
  | .hbm, ⟨53, _⟩ => ⟨S8192x12x16, .f32⟩
  | .hbm, ⟨54, _⟩ => ⟨S8192x1x16, .f32⟩
  | .hbm, ⟨55, _⟩ => ⟨S8192x12x16, .f32⟩
  | .hbm, ⟨56, _⟩ => ⟨S8192x12x16, .f32⟩
  | .hbm, ⟨57, _⟩ => ⟨S8192x1x16, .f32⟩
  | .hbm, ⟨58, _⟩ => ⟨S8192x12x16, .f32⟩
  | .hbm, ⟨59, _⟩ => ⟨S8192x12x16, .f32⟩
  | .hbm, ⟨60, _⟩ => ⟨S8192x12x16, .f32⟩
  | .hbm, ⟨61, _⟩ => ⟨S8192x1x16, .f32⟩
  | .hbm, ⟨62, _⟩ => ⟨S8192x12x16, .f32⟩
  | .hbm, ⟨63, _⟩ => ⟨S8192x12x16, .f32⟩
  | .hbm, ⟨64, _⟩ => ⟨S8192x1x16, .f32⟩
  | .hbm, ⟨65, _⟩ => ⟨S8192x12x16, .f32⟩
  | .hbm, ⟨66, _⟩ => ⟨S8192x12x16, .f32⟩
  | .hbm, ⟨67, _⟩ => ⟨S8192x12x16, .f32⟩
  | .hbm, ⟨68, _⟩ => ⟨S8192x12x96, .f32⟩
  | .hbm, ⟨69, _⟩ => ⟨S8192x12x128, .f32⟩
  | .hbm, ⟨70, _⟩ => ⟨S8192x1536, .f32⟩
  | .hbm, ⟨71, _⟩ => ⟨S8192x1536, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_0 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩

abbrev nD : Nat := 1
abbrev τ : Topo := Topo.v7x

variable {F : FTy → Type} [FloatOps F]
-- ==== FoxBwd.lean ====
abbrev S8x8192 : Shape := ⟨2, ![8, 8192]⟩
abbrev S8x1 : Shape := ⟨2, ![8, 1]⟩
abbrev S512x512 : Shape := ⟨2, ![512, 512]⟩
abbrev S8x512 : Shape := ⟨2, ![8, 512]⟩
abbrev S8 : Shape := ⟨1, ![8]⟩

abbrev nBuf : Space → Nat
  | .hbm => 6
  | .vmem => 6
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8x8192, .f32⟩
  | .hbm, ⟨3, _⟩ => ⟨S8x1, .f32⟩
  | .hbm, ⟨4, _⟩ => ⟨S8x8192, .f32⟩
  | .hbm, ⟨5, _⟩ => ⟨S8x1, .f32⟩
  | .local _ .vmem, ⟨0, _⟩ => ⟨S8x8192, .f32⟩
  | .local _ .vmem, ⟨1, _⟩ => ⟨S8x8192, .f32⟩
  | .local _ .vmem, ⟨2, _⟩ => ⟨S8x8192, .f32⟩
  | .local _ .vmem, ⟨3, _⟩ => ⟨S8x1, .f32⟩
  | .local _ .vmem, ⟨4, _⟩ => ⟨S8x8192, .f32⟩
  | .local _ .vmem, ⟨5, _⟩ => ⟨S8x1, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== FoxBwdRefIdeal.lean ====
abbrev S8x8192 : Shape := ⟨2, ![8, 8192]⟩
abbrev S8x1 : Shape := ⟨2, ![8, 1]⟩
abbrev S_ : Shape := ⟨0, ![]⟩
abbrev S8 : Shape := ⟨1, ![8]⟩

abbrev nBuf : Space → Nat
  | .hbm => 23
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S8x8192, .f32⟩
  | .hbm, ⟨2, _⟩ => ⟨S8x8192, .f32⟩
  | .hbm, ⟨3, _⟩ => ⟨S8x1, .f32⟩
  | .hbm, ⟨4, _⟩ => ⟨S8x8192, .f32⟩
  | .hbm, ⟨5, _⟩ => ⟨S_, .f32⟩
  | .hbm, ⟨6, _⟩ => ⟨S_, .f32⟩
  | .hbm, ⟨7, _⟩ => ⟨S8x8192, .f32⟩
  | .hbm, ⟨8, _⟩ => ⟨S8x8192, .f32⟩
  | .hbm, ⟨9, _⟩ => ⟨S8x8192, .f32⟩
  | .hbm, ⟨10, _⟩ => ⟨S8x8192, .f32⟩
  | .hbm, ⟨11, _⟩ => ⟨S8x8192, .f32⟩
  | .hbm, ⟨12, _⟩ => ⟨S8x8192, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8, .f32⟩
  | .hbm, ⟨22, _⟩ => ⟨S8x1, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== MemFwd.lean ====
abbrev S8192x11264 : Shape := ⟨2, ![8192, 11264]⟩
abbrev S256x1024 : Shape := ⟨2, ![256, 1024]⟩
abbrev S8192x512 : Shape := ⟨2, ![8192, 512]⟩
abbrev S8192x128 : Shape := ⟨2, ![8192, 128]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x11264, .bf16⟩
  | .hbm, ⟨1, _⟩ => ⟨S256x1024, .bf16⟩
  | .hbm, ⟨2, _⟩ => ⟨S8192x512, .bf16⟩
  | .hbm, ⟨3, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemFwdRefIdeal.lean ====
abbrev S8192x11264 : Shape := ⟨2, ![8192, 11264]⟩
abbrev S256x1024 : Shape := ⟨2, ![256, 1024]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S8192x4 : Shape := ⟨2, ![8192, 4]⟩
abbrev S8192x128 : Shape := ⟨2, ![8192, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S256x1024, .bf16⟩
  | .hbm, ⟨2, _⟩ => ⟨S8192x512, .bf16⟩
  | .hbm, ⟨3, _⟩ => ⟨S8192x4x128, .bf16⟩
  | .hbm, ⟨4, _⟩ => ⟨S8192x4x128, .f32⟩
  | .hbm, ⟨5, _⟩ => ⟨S256x512, .bf16⟩
  | .hbm, ⟨6, _⟩ => ⟨S256x4x128, .bf16⟩
  | .hbm, ⟨7, _⟩ => ⟨S256x4x128, .f32⟩
  | .hbm, ⟨8, _⟩ => ⟨S256x512, .bf16⟩
  | .hbm, ⟨9, _⟩ => ⟨S256x4x128, .bf16⟩
  | .hbm, ⟨10, _⟩ => ⟨S256x4x128, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S_, .f32⟩
  | .hbm, ⟨18, _⟩ => ⟨S4x8192, .f32⟩
  | .hbm, ⟨19, _⟩ => ⟨S4x8192, .f32⟩
  | .hbm, ⟨20, _⟩ => ⟨S4x8192x1, .f32⟩
  | .hbm, ⟨21, _⟩ => ⟨S4x8192x256, .f32⟩
  | .hbm, ⟨22, _⟩ => ⟨S4x8192x256, .f32⟩
  | .hbm, ⟨23, _⟩ => ⟨S4x8192x256, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x256, .f32⟩
  | .hbm, ⟨28, _⟩ => ⟨S4x8192x256, .f32⟩
  | .hbm, ⟨29, _⟩ => ⟨S4x128x8192, .f32⟩
  | .hbm, ⟨30, _⟩ => ⟨S8192x4x128, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S4x8192x256, .f32⟩
  | .hbm, ⟨35, _⟩ => ⟨S4x8192x256, .f32⟩
  | .hbm, ⟨36, _⟩ => ⟨S4x8192x256, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S8192x512, .f32⟩
  | .hbm, ⟨42, _⟩ => ⟨S8192x512, .bf16⟩
  | .hbm, ⟨43, _⟩ => ⟨S8192x4, .f32⟩
  | .hbm, ⟨44, _⟩ => ⟨S_, .i32⟩
  | .hbm, ⟨45, _⟩ => ⟨S_, .f32⟩
  | .hbm, ⟨46, _⟩ => ⟨S8192x128, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_call0_v0 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Launch.lean ====
/-
  A launch for kernels that talk WITHOUT a handshake.

  Each of the exchanges proved here is the one custom call of its @main, has no window and no prefetched table, and starts
  its remote copies at once: nothing tells a device that its peer is ready. So a device's copy needs, from its first step,
  both its peer's landing region (part of the peer's output array) and the peer's receive cell, and both can only be dealt
  before any device runs. `run_dealt` is that launch: ONE global step (`hdeal`) receives, of every device at once, the
  kernel's own semaphores at zero, the arrays at their launch contents, the credit the launch extends for what the devices
  owe, and the certificate's ghost resources, and deals each device what it runs with.
-/
module

public import Idealize.ShloMosaic.Lib.Pipeline.Regions
public import Idealize.ShloMosaic.Lib.Pipeline.Kit
public import Idealize.ShloMosaic.Lib.Rounds
public import Idealize.ShloMosaic.Lib.Tactic

@[expose] public section

set_option Elab.async false

noncomputable section

namespace Cert.Proof.Launch

open Idealize.ShloMosaic Idealize.ShloMosaic.TcCoe Idealize.ShloMosaic.Tactic
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The level facts of the whole machine, from every TensorCore's right to assign its levels: the other threads' cells
    carry no index. -/
theorem levels_assign [Preorder Lvl] (L : GSem nD τ sig → Finset Ix) (lv : GSem nD τ sig → Ix → Lvl)
    (hL : ∀ g : GSem nD τ sig, g.1.2 ≠ .tc → L g = ∅) :
    (bigSep Finset.univ fun c : Dev nD => (levels0 c : sProp 𝕄)) ⊢ |==> levAts L lv := by
  classical
  have other (d : Dev nD) (q : Proc τ) (hq : q ≠ .tc) : (coreLevAts ((d, q) : Thread nD τ) L lv : sProp 𝕄) = BI.emp := by
    unfold coreLevAts
    refine (bigSep_congr (Ψ := fun _ => BI.emp) fun sm _ => ?_).trans (BI.bigSep_emp_const _)
    rw [hL (((d, q) : Thread nD τ), sm) hq, BI.bigSep_empty]
  have whole : (levAts L lv : sProp 𝕄) = bigSep Finset.univ fun d : Dev nD => coreLevAts (d.tc : Thread nD τ) L lv := by
    have h1 : (levAts L lv : sProp 𝕄) = bigSep Finset.univ fun t : Thread nD τ => coreLevAts t L lv :=
      bigSep_univ_prod fun g : GSem nD τ sig => bigSep (L g) fun i => levAt g i (lv g i)
    have h2 : (bigSep Finset.univ fun d : Dev nD => bigSep (Finset.univ.erase Proc.tc)
        fun q : Proc τ => (coreLevAts ((d, q) : Thread nD τ) L lv : sProp 𝕄)) = BI.emp :=
      (bigSep_congr (Ψ := fun _ => BI.emp) fun d _ =>
        (bigSep_congr (Ψ := fun _ => BI.emp) fun q hq => other d q (Finset.ne_of_mem_erase hq)).trans
          (BI.bigSep_emp_const _)).trans (BI.bigSep_emp_const _)
    rw [h1, bigSep_threads (fun t : Thread nD τ => coreLevAts t L lv), h2]
    exact BI.equiv_iff.mp BI.sep_emp
  rw [whole]
  refine (bigSep_mono fun c _ => lev_assign_cells (c.tc : Thread nD τ) L lv).trans
    ((BI.bigSep_bupd _ _).trans (BI.bupd_mono (bigSep_mono fun c _ => ?_)))
  exact (BI.sep_mono_l BI.affine).trans BI.emp_sep.1

variable {Λ₀ : Labels} {P : Type} [Fintype P] [DecidableEq P]
variable (pcs : P → PCfg sig Λ₀ Val) (a : (p : P) → (pcs p).Adm)
  (dats : (p : P) → (c : Dev nD) → Dat τ Val Ix Name U Lvl (pin pcs a p) c) (ι : Ix)
  (inj : Function.Injective (cellOf (nD := nD) (pin pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀
local notation "cfg" => pin pcs a p

set_option maxHeartbeats 1600000 in
include inj hw ho in
/-- The launch of an @main that is one windowless custom call, everything dealt in one global step. -/
theorem run_dealt [Preorder Lvl] [∀ e, Nonempty (Val e)] [Infinite Name] [EP.LandsIn (upEmb : UEmb _ 𝕄)]
    (m : (ℓ : Loc nD τ sig) → Buf Val ℓ) (ρ : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (cfg).W, 0 < ((cfg).win w).block.numel)
    (hstage : ∀ w s, (((cfg).spec w).stage s).IsWhole)
    (harrays : ∀ c Fa, ((dats p c).arrays Fa : sProp 𝕄) = BI.emp)
    (hpref : ∀ (c : Dev nD) q f, (prefHeld (pcs p).pre c q f : sProp 𝕄) = BI.emp)
    (hwaits : ∀ c, (BI.emp : sProp 𝕄) ⊢ cellsWaits (pin pcs a) dats ι p c)
    (O₀ : Dev nD → CellTallies nD τ sig Ix) (howed₀ : ∀ c, (dats p c).owed 0 = O₀ c)
    (howedN : ∀ c, (dats p c).owed (Fin.last _) = 0)
    (L : GSem nD τ sig → Finset Ix) (lv : GSem nD τ sig → Ix → Lvl) (hL : ∀ g : GSem nD τ sig, g.1.2 ≠ .tc → L g = ∅)
    (G G' : Dev nD → sProp 𝕄) (u₀ : U)
    (hu₀ : (ownU u₀ : sProp 𝕄)
      ⊢ |={Set.univ}=> iprop(BI.own (EP (initOf (cells (pin pcs a) inj) (launchToks (pin pcs a) inj))) ∗ bigSep Finset.univ G))
    (hdeal : (bigSep Finset.univ fun c : Dev nD => iprop(ownSems0 osem c
        ∗ unscopedBufs c (fun b => m ((c.tc : Thread nD τ).loc b)) ∗ launchCred O₀ c ∗ G c) : sProp 𝕄)
      ⊢ |={Set.univ}=> bigSep Finset.univ G')
    (hin : ∀ c, iprop(G' c ∗ levAts L lv ∗ scopedRest (cfg).spec c) ⊢ (dats p c).Φ 0)
    (Y : Dev nD → sProp 𝕄)
    (hout : ∀ c, (dats p c).Φ (Fin.last (cfg).N) ⊢ iprop(Y c ∗ ownSems0 osem c ∗ scopedRest (cfg).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g : GSem nD τ sig, (g.1.2 ≠ .tc ∨ g.2.isScoped .tc = true) → s.sem g = 0) → Q (⟨⟩, s)) :
    θ_run 𝔻 (onTc main) ⟨m, fun _ => 0, ρ⟩ Q := by
  classical
  have semsEq := fun c : Dev nD =>
    scopedSems0_split (pin pcs a) inj p hw ho (Ix := Ix) (Val := Val) (Name := Name) (U := U) (Lvl := Lvl) c
  have bufsEq := fun c : Dev nD =>
    scopedBufs_split (pin pcs a) p hw.stage_scoped hw.stage_inj hstage c (τ := τ) (Ix := Ix) (Val := Val) (Name := Name) (U := U) (Lvl := Lvl)
  -- what stays with device c from the start, and all of what it starts and ends with
  let kept : Dev nD → sProp 𝕄 := fun c => iprop(scopedBufs (c.tc : Thread nD τ) ∗ cellsSems0 (pin pcs a) p c
    ∗ idleSems0 (pin pcs a) inj p ho c ∗ owes (c.tc : Thread nD τ) (O₀ c) ∅)
  let first : Dev nD → sProp 𝕄 := fun c => iprop(kept c ∗ levAts L lv
    ∗ cellsGhost (pin pcs a) EP p c ∗ toksInit (pin pcs a) EP p c ∗ G' c)
  let last : Dev nD → sProp 𝕄 := fun c => iprop(Y c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g : GSem nD τ sig, g.1.2 ≠ .tc → r.2.sem g = 0)
    (fun r hr => hQ r.2 (fun c => (hr.1 c).1) (sems_of_reads (fun c => (hr.1 c).2) hr.2))
    (adequate_tpu 𝔻 _ _ _ (reflect_intro_fupd_tc_sems (X := Unit) 𝕍 (owing O₀) 0 (noBookings fun _ => le_rfl) (owing_of_ne O₀) u₀
      (fun _ => first) (fun _ => last) (fun _ => iprop(emp)) Set.univ ?_ (fun _ c => ?_) fun _ => ?_))
  · -- the launch
    have one (c : Dev nD) :
        coreInit (Ix := Ix) (Name := Name) (U := U) (Lvl := Lvl) (owing O₀) 0 (⟨m, fun _ => 0, ρ⟩ : MemSt nD τ sig Val) (c.tc : Thread nD τ)
          ⊢ iprop(kept c ∗ levels0 c ∗ (ownSems0 osem c ∗ unscopedBufs c (fun b => m ((c.tc : Thread nD τ).loc b)) ∗ launchCred O₀ c) : sProp 𝕄) := by
      refine (coreInit_boundary_owing O₀ m ρ c).trans ?_
      unfold boundary
      rw [semsEq c]
      simp only [kept]
      iintro ⟨⟨Hs, ⟨⟨Hcells, Hown⟩, Hidle⟩, -⟩, Hbufs, -, HO, Hlev, -, Hcr⟩
      isplitl [Hs Hcells Hidle HO]
      · isplitl [Hs]; · iexact Hs
        isplitl [Hcells]; · iexact Hcells
        isplitl [Hidle] <;> iassumption
      isplitl [Hlev]; · iexact Hlev
      isplitl [Hown]; · iexact Hown
      isplitl [Hbufs] <;> iassumption
    have all : (bigSep Finset.univ fun c : Dev nD =>
          coreInit (Ix := Ix) (Name := Name) (U := U) (Lvl := Lvl) (owing O₀) 0 (⟨m, fun _ => 0, ρ⟩ : MemSt nD τ sig Val) (c.tc : Thread nD τ))
        ⊢ iprop(bigSep Finset.univ kept ∗ (bigSep Finset.univ fun c : Dev nD => (levels0 c : sProp 𝕄))
          ∗ bigSep Finset.univ fun c : Dev nD => iprop(ownSems0 osem c ∗ unscopedBufs c (fun b => m ((c.tc : Thread nD τ).loc b)) ∗ launchCred O₀ c) : sProp 𝕄) := by
      refine (bigSep_mono fun c _ => one c).trans ?_
      refine (Entails.of_eq (bigSep_sep' ..)).trans (BI.sep_mono_r (Entails.of_eq (bigSep_sep' ..)))
    have regroup : iprop((bigSep Finset.univ fun c : Dev nD => iprop(ownSems0 osem c ∗ unscopedBufs c (fun b => m ((c.tc : Thread nD τ).loc b)) ∗ launchCred O₀ c))
          ∗ bigSep Finset.univ G)
        ⊢ (bigSep Finset.univ fun c : Dev nD => iprop(ownSems0 osem c
            ∗ unscopedBufs c (fun b => m ((c.tc : Thread nD τ).loc b)) ∗ launchCred O₀ c ∗ G c) : sProp 𝕄) := by
      simp only [bigSep_sep']
      iintro ⟨⟨H1, H2, H3⟩, H4⟩
      isplitl [H1]; · iexact H1
      isplitl [H2]; · iexact H2
      isplitl [H3] <;> iassumption
    have pick (Ψ : P → Dev nD → sProp 𝕄) :
        (bigSep Finset.univ fun c : Dev nD => bigSep Finset.univ fun p' => Ψ p' c) ⊢ bigSep Finset.univ fun c : Dev nD => Ψ p c :=
      bigSep_mono fun c _ => bigSep_elim (Finset.mem_univ p)
    iintro ⟨Hcores, Hu⟩
    ihave H := all $$ Hcores
    icases H with ⟨Hkept, Hlev, Hown⟩
    imod (levels_assign L lv hL) $$ Hlev with Hla
    imod hu₀ $$ Hu with ⟨HP, HG⟩
    imod (fund_ghost (pin pcs a) EP inj) $$ HP with ⟨Hg, Ht⟩
    imod (regroup.trans hdeal) $$ [Hown HG] with HG'
    · isplitl [Hown] <;> iassumption
    imodintro
    iexists ()
    isplitr []
    · simp only [first, bigSep_sep']
      isplitl [Hkept]; · iexact Hkept
      isplitl [Hla]
      · iapply (BI.bigSep_intro_persistent (S := Finset.univ) fun (c : Dev nD) _ => (BI.Entails.refl (levAts L lv : sProp 𝕄)))
        iexact Hla
      isplitl [Hg]; · iapply (pick fun p' c => cellsGhost (pin pcs a) EP p' c); iexact Hg
      isplitl [Ht]; · iapply (pick fun p' c => toksInit (pin pcs a) EP p' c); iexact Ht
      iexact HG'
    · iempintro
  · -- device c's run: the call, then the return
    have leave : iprop((dats p c).Φ (Fin.last (cfg).N) ∗ cellsSems0 (pin pcs a) p c ∗ Dat.staging (cfg) c ∗ idleSems0 (pin pcs a) inj p ho c)
        ⊢ iprop(Y c ∗ scopedSems0 (c.tc : Thread nD τ) ∗ scopedBufs (c.tc : Thread nD τ)) := by
      rw [semsEq c, bufsEq c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    simp only [first, kept]
    rw [hmain c]
    iintro ⟨⟨Hs, Hcells, Hidle, HO⟩, Hla, Hg, Ht, HG⟩
    iapply (fupd_wp frame (wpE 𝔻 𝕍 (c.tc : Thread nD τ) none) Set.univ _ _)
    imod (cellsInit_alloc (pin pcs a) dats EP inj p c) $$ [Hcells Hg] with ⟨%κ, -, Hinit⟩
    · isplitl [Hcells] <;> iassumption
    imodintro
    iapply (wp_customCall_entry_frame pcs a dats ι EP κ inj p defs₀ 𝒱₀ (fun _ => fullShare) c Set.univ (fun _ _ => Set.mem_univ _)
        (hbody c) hne none (fun u h => nomatch h) (X := iprop(G' c ∗ levAts L lv)) (Y := Y c) (R := scopedRest (cfg).spec c)
        (I := idleSems0 (pin pcs a) inj p ho c) (Entails.of_eq (bufsEq c))
        (by rw [hpref]
            iintro ⟨⟨H1, H2⟩, -, H3⟩
            iapply (hin c)
            isplitl [H1]; · iexact H1
            isplitl [H2] <;> iassumption) leave
        (k := fun _ => .ret ⟨⟩) (Q := fun _ => post (liftTc last BI.emp) (c.tc : Thread nD τ))) $$ [Hs Hidle HO Hla Ht HG Hinit]
    · rw [hpref]
      isplitl [HO Hinit Ht]
      · unfold EntryPre PerCore.EntryPre Dat.owesAt owesWithin
        rw [howed₀ c, harrays]
        isplitr; · iempintro
        isplitl [HO]
        · iexists ∅; isplitr; · ipureintro; rw [Finset.coe_empty]; exact Set.empty_subset _
          iexact HO
        isplitr
        · iapply (hwaits c); iempintro
        isplitl [Hinit] <;> iassumption
      isplitr; · iempintro
      isplitl [HG Hla]; · isplitl [HG] <;> iassumption
      isplitl [Hidle] <;> iassumption
    iintro ⟨Hend, HY, Hss, -⟩
    rw [wp_ret]; imodintro
    unfold post EntryPost PerCore.EntryPost Dat.owesAt owesWithin
    simp only [liftTc_tc, last]
    rw [howedN c]
    icases Hend with ⟨-, ⟨%W, -, HW⟩⟩
    isplitr [HW]
    · isplitl [HY] <;> iassumption
    · iexists W; iexact HW
  · -- the final state, read
    have read (c : Dev nD) (s' : Phys nD τ sig Val) : iprop(last c ∗ SI s') ⊢ |={Set.univ}=>
        iprop(⌜QY c s'.mem ∧ ∀ sm : SemLoc sig, sm.isScoped .tc = true → s'.mem.sem ((c.tc : Thread nD τ), sm) = 0⌝ ∗ SI s') := by
      simp only [last]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ read s') $$ [H HSI] with %h
    · isplitl [H] <;> iassumption
    imodintro
    ipureintro
    exact ⟨fun c => h c (Finset.mem_univ c), hsc⟩

end Cert.Proof.Launch

end
-- ==== Proof.Common.lean ====
/-
  The protocol shared by the exchanges: each device has `n` DMA semaphores of its own, each of them a cell that receives
  ONE contribution and is waited on ONCE. A cell's contribution is a copy's: the local copy's, a remote copy's on the
  issuer's side (its source read), or a remote copy's on the receiver's side (its destination written). `Plan` names, per
  cell, who pays it, how many units, and what the payment hands the waiter; `Plan.run` launches a call that follows a plan.
-/
module

public import proofs.«01_k».proof.Proof.Launch

@[expose] public section

set_option Elab.async false

noncomputable section

namespace Cert.Proof

open Idealize.ShloMosaic Idealize.ShloMosaic.TcCoe Idealize.ShloMosaic.Tactic
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline

/-- The ghost state: the call's pipeline (which stages nothing here) and the exchange's cells. -/
abbrev UU (nD : Nat) (τ : Topo) (sig : RefSig) : Type := UR sig nD τ × UR sig nD τ

section Generic

variable {nD : Nat} {τ : Topo} {sig : RefSig} {Val : EltTy → Type}

local notation "𝕄" => MT nD τ sig Unit Val ℕ (UU nD τ sig) ℕ

variable (nD τ sig Val) in
abbrev EP : Emb (UR sig nD τ) (MT nD τ sig Unit Val ℕ (UU nD τ sig) ℕ) := embL
variable (nD τ sig Val) in
abbrev ER : Emb (UR sig nD τ) (MT nD τ sig Unit Val ℕ (UU nD τ sig) ℕ) := embR

variable (nD τ sig Val) in
/-- An exchange over `n` cells per device. -/
structure Plan (n : ℕ) where
  /-- Cell `k`'s semaphore. -/
  sem : Fin n → DmaSem sig
  sem_inj : Function.Injective sem
  /-- Device `c` pays cell `k` of device `payee k c`. -/
  payee : Fin n → Dev nD ≃ Dev nD
  /-- The units of cell `k`'s one contribution. -/
  amt : Fin n → ℕ
  amt_pos : ∀ k, 0 < amt k
  /-- What the contribution to cell `k` of device `c` hands the waiter. -/
  pay : Dev nD → Fin n → sProp 𝕄
  /-- The cells another device pays: owed from the start. -/
  far : Finset (Fin n)
  /-- A cell's level: a device may wait on a cell while it owes cells of greater levels only. -/
  lvl : SemLoc sig → ℕ

namespace Plan

variable {n : ℕ} (PL : Plan nD τ sig Val n)

/-- Cell `k` of device `c`. -/
abbrev cell (c : Dev nD) (k : Fin n) : GSem nD τ sig := ((c.tc : Thread nD τ), .dma (PL.sem k))

theorem cell_inj : Function.Injective fun x : Dev nD × Fin n => PL.cell x.1 x.2 := fun x y h => by
  have h1 : x.1 = y.1 := congrArg (fun g : GSem nD τ sig => g.1.1) h
  have h2 : (SemLoc.dma (PL.sem x.2) : SemLoc sig) = .dma (PL.sem y.2) := congrArg (fun g : GSem nD τ sig => g.2) h
  exact Prod.ext h1 (PL.sem_inj (SemLoc.dma.inj h2))

/-- One round, one duty per cell. -/
def sched : Schedule (GSem nD τ sig) Unit 𝕄 where
  duties g r := if r = 0 then Function.extend (fun x : Dev nD × Fin n => PL.cell x.1 x.2) (fun _ => {()}) (fun _ => ∅) g else ∅
  amount g _ _ := Function.extend (fun x : Dev nD × Fin n => PL.cell x.1 x.2) (fun x => PL.amt x.2) (fun _ => 1) g
  payload g _ _ := Function.extend (fun x : Dev nD × Fin n => PL.cell x.1 x.2) (fun x => PL.pay x.1 x.2) (fun _ => BI.emp) g
  amount_pos g r d _ := by
    classical
    by_cases h : ∃ x : Dev nD × Fin n, PL.cell x.1 x.2 = g
    · obtain ⟨x, rfl⟩ := h
      rw [PL.cell_inj.extend_apply (fun x => PL.amt x.2) (fun _ => 1) x]
      exact PL.amt_pos _
    · rw [Function.extend_apply' _ _ _ h]; exact Nat.one_pos

theorem duties_cell (c : Dev nD) (k : Fin n) : PL.sched.duties (PL.cell c k) 0 = {()} := by
  show (if (0 : ℕ) = 0 then Function.extend (fun x : Dev nD × Fin n => PL.cell x.1 x.2) (fun _ => ({()} : Finset Unit)) (fun _ => ∅) (PL.cell c k) else ∅) = _
  rw [if_pos rfl]
  exact PL.cell_inj.extend_apply (fun _ => ({()} : Finset Unit)) (fun _ => ∅) (c, k)
theorem duties_later (g : GSem nD τ sig) (r : ℕ) (h : 0 + 1 ≤ r) : PL.sched.duties g r = ∅ := if_neg (by omega)
theorem amount_cell (c : Dev nD) (k : Fin n) (r : ℕ) (d : Unit) : PL.sched.amount (PL.cell c k) r d = PL.amt k :=
  PL.cell_inj.extend_apply (fun x : Dev nD × Fin n => PL.amt x.2) (fun _ => 1) (c, k)
theorem payload_cell (c : Dev nD) (k : Fin n) (r : ℕ) (d : Unit) : PL.sched.payload (PL.cell c k) r d = PL.pay c k :=
  PL.cell_inj.extend_apply (fun x : Dev nD × Fin n => PL.pay x.1 x.2) (fun _ => BI.emp) (c, k)
theorem expect_cell (c : Dev nD) (k : Fin n) : PL.sched.expect (PL.cell c k) 0 = PL.amt k := by
  unfold Schedule.expect Schedule.amountOf; rw [PL.duties_cell, Finset.sum_singleton, PL.amount_cell]
theorem rest_cell (c : Dev nD) (k : Fin n) :
    (bigSep (PL.sched.duties (PL.cell c k) 0 \ ∅) fun d => PL.sched.payload (PL.cell c k) 0 d) = PL.pay c k := by
  rw [PL.duties_cell, Finset.sdiff_empty, BI.bigSep_singleton, PL.payload_cell]

theorem storable (h : ∀ c k, BI.Storable (upEmb : UEmb _ 𝕄) (PL.pay c k)) (g : GSem nD τ sig) (r : ℕ) (d : Unit) :
    BI.Storable (upEmb : UEmb _ 𝕄) (PL.sched.payload g r d) := by
  classical
  by_cases hg : ∃ x : Dev nD × Fin n, PL.cell x.1 x.2 = g
  · obtain ⟨x, rfl⟩ := hg
    rw [PL.payload_cell]; exact h _ _
  · have he : PL.sched.payload g r d = BI.emp := by
      show Function.extend (fun x : Dev nD × Fin n => PL.cell x.1 x.2) (fun x => PL.pay x.1 x.2) (fun _ => BI.emp) g = _
      exact Function.extend_apply' _ _ _ hg
    rw [he]; exact (inferInstance : BI.Storable (upEmb : UEmb _ 𝕄) (iprop(emp) : sProp 𝕄))

/-! ## Levels and dues -/

/-- Every cell of a TensorCore carries the one index. -/
def idx (g : GSem nD τ sig) : Finset Unit := if g.1.2 = .tc then {()} else ∅
/-- Its level. -/
def lev (g : GSem nD τ sig) (_ : Unit) : ℕ := PL.lvl g.2

theorem idx_ne (g : GSem nD τ sig) (h : g.1.2 ≠ .tc) : idx g = ∅ := if_neg h

/-- What device `c` owes when the cells `S` are still to be paid by it. -/
def due (c : Dev nD) (S : Finset (Fin n)) : CellTallies nD τ sig Unit :=
  ∑ k ∈ S, tallyAt (PL.cell (PL.payee k c) k) () (PL.amt k)

theorem due_erase (c : Dev nD) (S : Finset (Fin n)) (k : Fin n) (h : k ∈ S) :
    PL.due c S = PL.due c (S.erase k) + tallyAt (PL.cell (PL.payee k c) k) () (PL.amt k) :=
  (Finset.sum_erase_add S _ h).symm

theorem due_pos (c : Dev nD) (S : Finset (Fin n)) (g : GSem nD τ sig) (i : Unit) (h : 0 < PL.due c S g i) :
    ∃ k ∈ S, g = PL.cell (PL.payee k c) k := by
  unfold due at h
  rw [Finset.sum_apply, Finsupp.finset_sum_apply] at h
  obtain ⟨k, hk, h'⟩ := Finset.exists_ne_zero_of_sum_ne_zero (Nat.pos_iff_ne_zero.mp h)
  exact ⟨k, hk, (tallyAt_pos (Nat.pos_of_ne_zero h')).1⟩

/-- Device `c`'s dues, whatever it has waited on. -/
def owing (c : Dev nD) (S : Finset (Fin n)) : sProp 𝕄 := iprop(∃ W, owes (c.tc : Thread nD τ) (PL.due c S) W)

/-- Device `c` may wait on its cell `k` while it owes cells of greater levels only. -/
theorem mayWait (c : Dev nD) (k : Fin n) (S : Finset (Fin n)) (h : ∀ j ∈ S, PL.lvl (.dma (PL.sem k)) < PL.lvl (.dma (PL.sem j))) :
    (levAts idx PL.lev : sProp 𝕄) ⊢ MayWait (c.tc : Thread nD τ) (.dma (PL.sem k)) () (PL.due c S) := by
  refine MayOwe.of_cut (PL.lvl (.dma (PL.sem k))) (fun q hq => ?_) (fun g i hg => ?_) (fun q hq => ?_) (fun g i hg => ?_)
  · rw [Finset.mem_singleton.mp hq]; exact Finset.mem_singleton_self _
  · obtain ⟨j, -, rfl⟩ := PL.due_pos c S g i hg
    exact Finset.mem_singleton_self _
  · rw [Finset.mem_singleton.mp hq]; exact le_rfl
  · obtain ⟨j, hj, rfl⟩ := PL.due_pos c S g i hg
    exact h j hj

/-! ## What a device runs with -/

/-- Every cell's invariant, its first round begun, and the levels: known to every device. -/
def records (K : GSem nD τ sig → ℕ) : sProp 𝕄 :=
  iprop((bigSep Finset.univ fun x : Dev nD × Fin n => cellInv (ER nD τ sig Val) PL.sched (K (PL.cell x.1 x.2)) (PL.cell x.1 x.2))
    ∗ (bigSep Finset.univ fun x : Dev nD × Fin n => reached (ER nD τ sig Val) (PL.cell x.1 x.2) 0)
    ∗ levAts idx PL.lev)

instance (K : GSem nD τ sig → ℕ) : BI.Persistent (PL.records K) := by unfold records; infer_instance

/-- The right to wait on cell `k`, held by its device. -/
abbrev pos (c : Dev nD) (k : Fin n) : sProp 𝕄 := atPos (ER nD τ sig Val) (PL.cell c k) 0 ∅ 0
/-- The right to pay cell `k` of device `c`. -/
abbrev tok (c : Dev nD) (k : Fin n) : sProp 𝕄 := dutyTok (ER nD τ sig Val) (PL.cell c k) 0 ()
/-- The credit a wait on cell `k` of device `c` spends. -/
abbrev due1 (c : Dev nD) (k : Fin n) : sProp 𝕄 := cred (tallyAt (PL.cell c k) () (PL.amt k))

theorem records_inv (K : GSem nD τ sig → ℕ) (c : Dev nD) (k : Fin n) :
    PL.records K ⊢ cellInv (ER nD τ sig Val) PL.sched (K (PL.cell c k)) (PL.cell c k) := by
  classical
  unfold records
  iintro ⟨H, -⟩
  iapply (show _ ⊢ cellInv (ER nD τ sig Val) PL.sched (K (PL.cell c k)) (PL.cell c k) from bigSep_elim (Finset.mem_univ ((c, k) : Dev nD × Fin n))
    (Φ := fun x : Dev nD × Fin n => cellInv (ER nD τ sig Val) PL.sched (K (PL.cell x.1 x.2)) (PL.cell x.1 x.2)))
  iexact H
theorem records_reached (K : GSem nD τ sig → ℕ) (c : Dev nD) (k : Fin n) :
    PL.records K ⊢ reached (ER nD τ sig Val) (PL.cell c k) 0 := by
  classical
  unfold records
  iintro ⟨-, H, -⟩
  iapply (show _ ⊢ reached (ER nD τ sig Val) (PL.cell c k) 0 from bigSep_elim (Finset.mem_univ ((c, k) : Dev nD × Fin n))
    (Φ := fun x : Dev nD × Fin n => reached (ER nD τ sig Val) (PL.cell x.1 x.2) 0))
  iexact H
theorem records_lev (K : GSem nD τ sig → ℕ) : PL.records K ⊢ (levAts idx PL.lev : sProp 𝕄) := by
  unfold records
  iintro ⟨-, -, H⟩
  iexact H

/-! ## The steps -/

section Steps

variable {Λ : Labels} {defs : Defs nD τ sig Val Λ} (𝒱 : Variants) {α : Type} {Q : α → sProp (MT nD τ sig Unit Val ℕ (UU nD τ sig) ℕ)} {sp sp' : Space} {s : Shape} {e : EltTy}

/-- A LOCAL COPY paying device `c`'s own cell `k`. -/
theorem copy_step (K : GSem nD τ sig → ℕ) (c : Dev nD) (k : Fin n)
    {src : Memref sig .tc sp s e} {dst : Memref sig .tc sp' s e}
    {hsrc : src.view.WordExact} {hdst : dst.view.WordExact} {hsem : DmaTarget.Typed (nD := nD) (p := (c.tc : Thread nD τ).2) sp (.dma (PL.sem k)) (.here dst)}
    {f : PUnit → Prog (TpuEff nD τ sig Val Λ .tc) α} (q : PosShare TreeShare) (fs : Buf Val (src.view.loc (c.tc : Thread nD τ)))
    (fd : Buf Val (dst.view.loc (c.tc : Thread nD τ))) (hN : dst.view.dmaCredit = PL.amt k)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ PL.pay c k) :
    iprop(PL.records K ∗ (src.view.loc (c.tc : Thread nD τ) ↦[src.view.set]{q} fs)
        ∗ (dst.view.loc (c.tc : Thread nD τ) ↦[dst.view.set]{fullShare} fd) ∗ PL.tok c k)
      ⊢ iprop((PL.due1 c k -∗ wp frame (wpE defs 𝒱 (c.tc : Thread nD τ) none) Set.univ (f ⟨⟩) Q)
          -∗ wp frame (wpE defs 𝒱 (c.tc : Thread nD τ) none) Set.univ (.op (.enqueueDma src (.here dst) (.dma (PL.sem k)) hsrc hdst hsem) f) Q) := by
  iintro ⟨#Hr, Hs, Hd, Ht⟩
  iapply (Rounds.wp_copy_pointsTo 𝒱 (ER nD τ sig Val) PL.sched (c.tc : Thread nD τ) none (src := src) (dst := dst) (sem := .dma (PL.sem k))
    (q := q) (fs := fs) (fd := fd) (r := 0) (d := ()) (κ := K (PL.cell c k))
    (by rw [PL.duties_cell]; exact Finset.mem_singleton_self _) () (PL.amt k) hN (PL.amount_cell c k 0 ())
    (by rw [PL.payload_cell]; exact hpay)) $$ [Hs Hd Ht]
  isplitr; · iapply (PL.records_inv K c k); iexact Hr
  isplitl [Hs]; · iexact Hs
  isplitl [Hd]; · iexact Hd
  isplitl [Ht]; · iexact Ht
  iapply (PL.records_reached K c k); iexact Hr

/-- A REMOTE COPY from device `c` paying its own cell `k` with the source and cell `k'` of device `payee k' c`, one of its
    dues, with the destination rewritten. -/
theorem send_step (K : GSem nD τ sig → ℕ) (c c' : Dev nD) (k k' : Fin n) (S : Finset (Fin n)) (hS : k' ∈ S) (hc' : PL.payee k' c = c')
    {src : Memref sig .tc sp s e} {dst : Memref sig .tc sp' s e} {hsc : dst.view.ref.isScScratch = false}
    {hsrc : src.view.WordExact} {hdst : dst.view.WordExact}
    {hsem : DmaTarget.Typed (p := (c.tc : Thread nD τ).2) sp (.dma (PL.sem k')) (.remote (c'.tc : Thread nD τ) dst (.dma (PL.sem k)) hsc)}
    {f : PUnit → Prog (TpuEff nD τ sig Val Λ .tc) α} (q : PosShare TreeShare) (fs : Buf Val (src.view.loc (c.tc : Thread nD τ)))
    (fd : Buf Val (dst.view.loc (c'.tc : Thread nD τ))) (hN : dst.view.dmaCredit = PL.amt k') (hk : PL.amt k = PL.amt k')
    (hpay : (src.view.loc (c.tc : Thread nD τ) ↦[src.view.set]{q} fs) ⊢ PL.pay c k)
    (hpay' : (dst.view.loc (c'.tc : Thread nD τ) ↦[dst.view.set]{fullShare} (dst.view.write Val fd (src.view.read Val fs) Finset.univ))
      ⊢ PL.pay c' k') (hr : τ.routes (c.tc : Thread nD τ) (c'.tc : Thread nD τ) = true := by routes) :
    iprop(PL.records K ∗ (src.view.loc (c.tc : Thread nD τ) ↦[src.view.set]{q} fs)
        ∗ (dst.view.loc (c'.tc : Thread nD τ) ↦[dst.view.set]{fullShare} fd) ∗ PL.owing c S ∗ PL.tok c k ∗ PL.tok c' k')
      ⊢ iprop((iprop(PL.due1 c k ∗ PL.owing c (S.erase k')) -∗ wp frame (wpE defs 𝒱 (c.tc : Thread nD τ) none) Set.univ (f ⟨⟩) Q)
          -∗ wp frame (wpE defs 𝒱 (c.tc : Thread nD τ) none) Set.univ
            (.op (.enqueueDma src (.remote (c'.tc : Thread nD τ) dst (.dma (PL.sem k)) hsc) (.dma (PL.sem k')) hsrc hdst hsem) f) Q) := by
  subst hc'
  unfold owing
  iintro ⟨#Hr, Hs, Hd, ⟨%W, HO⟩, Ht, Ht'⟩ Hf
  iapply (Rounds.wp_send_pointsTo 𝒱 (ER nD τ sig Val) PL.sched (c.tc : Thread nD τ) none (c' := ((PL.payee k' c).tc : Thread nD τ)) (src := src) (dst := dst)
    (sS := .dma (PL.sem k)) (sem := .dma (PL.sem k')) (q := q) (fs := fs) (fd := fd) (r₁ := 0) (r₂ := 0) (d₁ := ()) (d₂ := ())
    (κ₁ := K (PL.cell c k)) (κ₂ := K (PL.cell (PL.payee k' c) k'))
    (by rw [PL.duties_cell]; exact Finset.mem_singleton_self _) (by rw [PL.duties_cell]; exact Finset.mem_singleton_self _)
    () () (PL.amt k') hN ((PL.amount_cell c k 0 ()).trans hk) (PL.amount_cell (PL.payee k' c) k' 0 ())
    (PL.due c (S.erase k')) (PL.due_erase c S k' hS) (W := W)
    (by rw [PL.payload_cell]; exact hpay) (by rw [PL.payload_cell]; exact hpay') hr) $$ [Hs Hd HO Ht Ht']
  · isplitr; · iapply (PL.records_inv K c k); iexact Hr
    isplitr; · iapply (PL.records_inv K (PL.payee k' c) k'); iexact Hr
    isplitl [Hs]; · iexact Hs
    isplitl [Hd]; · iexact Hd
    isplitl [HO]; · iexact HO
    isplitl [Ht]; · iexact Ht
    isplitr; · iapply (PL.records_reached K c k); iexact Hr
    isplitl [Ht']; · iexact Ht'
    iapply (PL.records_reached K (PL.payee k' c) k'); iexact Hr
  rw [← hk]
  iintro ⟨Hc, HO⟩
  iapply Hf
  isplitl [Hc]; · iexact Hc
  iexists W; iexact HO

/-- A WAIT on device `c`'s cell `k`: the payload comes, and the cell, having had its one contribution, is closed. -/
theorem wait_step (K : GSem nD τ sig → ℕ) (c : Dev nD) (k : Fin n) (S : Finset (Fin n))
    (h : ∀ j ∈ S, PL.lvl (.dma (PL.sem k)) < PL.lvl (.dma (PL.sem j)))
    {s' : Shape} {e' : EltTy} {src : Memref sig .tc sp' s' e'} {κ' : Kind} {dst : Memref sig κ' sp s e} {hsrc : src.view.WordExact} {hdst : dst.view.WordExact}
    {f : PUnit → Prog (TpuEff nD τ sig Val Λ .tc) α} (hN : dst.view.dmaCredit = PL.amt k) :
    iprop(PL.records K ∗ PL.pos c k ∗ PL.due1 c k ∗ PL.owing c S)
      ⊢ iprop((iprop(PL.pay c k ∗ semVal (PL.cell c k) 0 ∗ PL.owing c S) -∗ wp frame (wpE defs 𝒱 (c.tc : Thread nD τ) none) Set.univ (f ⟨⟩) Q)
          -∗ wp frame (wpE defs 𝒱 (c.tc : Thread nD τ) none) Set.univ (.op (.waitDma2 (PL.sem k) src dst hsrc hdst) f) Q) := by
  unfold owing
  iintro ⟨#Hr, Hp, Hc, ⟨%W, HO⟩⟩ Hf
  iapply (Rounds.wp_wait_rest_token 𝒱 (ER nD τ sig Val) PL.sched (c.tc : Thread nD τ) none (κ := K (PL.cell c k)) (k' := PL.amt k)
    (fun K' => (wpE_waitDma2_eq 𝒱 (c.tc : Thread nD τ) none Set.univ K').trans (by rw [hN])) (Set.mem_univ _) () (O := PL.due c S) (W := W)
    (R := 0) (m := 0) (T := ∅) ((Nat.zero_add _).trans (PL.expect_cell c k).symm)) $$ [Hp Hc HO]
  · isplitr; · iapply (PL.records_inv K c k); iexact Hr
    isplitl [Hc]; · iexact Hc
    isplitl [HO]; · iexact HO
    isplitr; · iapply (PL.mayWait c k S h); iapply (PL.records_lev K); iexact Hr
    iexact Hp
  iintro ⟨HO, Hp, -, Hpay⟩
  ihave Hpay := (Entails.of_eq (PL.rest_cell c k)) $$ Hpay
  iapply (fupd_wp frame (wpE defs 𝒱 (c.tc : Thread nD τ) none) Set.univ _ _)
  imod (Rounds.cell_close (ER nD τ sig Val) PL.sched (Set.mem_univ (K (PL.cell c k))) id (PL.duties_later (PL.cell c k))) $$ [Hp] with Hz
  · isplitr; · iapply (PL.records_inv K c k); iexact Hr
    iexact Hp
  imodintro
  iapply Hf
  isplitl [Hpay]; · iexact Hpay
  isplitl [Hz]; · iexact Hz
  iexists _; iexact HO

end Steps

/-! ## The launch -/

/-- Device `c`'s cells to wait on, the cells it pays, and the credit for what others owe it. -/
def dealt (c : Dev nD) : sProp 𝕄 :=
  iprop((∃ K, PL.records K) ∗ (bigSep Finset.univ fun k => PL.pos c k)
    ∗ (bigSep Finset.univ fun k => PL.tok (PL.payee k c) k) ∗ bigSep PL.far fun k => PL.due1 c k)

/-- The launch element of the cells. -/
def cells0 : Finset (GSem nD τ sig) := Finset.univ.map ⟨fun x : Dev nD × Fin n => PL.cell x.1 x.2, PL.cell_inj⟩
def toks0 : Finset (GSem nD τ sig × ℕ × Unit) :=
  Finset.univ.map ⟨fun x : Dev nD × Fin n => (PL.cell x.1 x.2, 0, ()), fun _ _ h => PL.cell_inj (congrArg Prod.fst h)⟩

/-- Device `c`'s part of it. -/
def ghost (c : Dev nD) : sProp 𝕄 :=
  iprop((bigSep Finset.univ fun k => roundState (ER nD τ sig Val) PL.sched (PL.cell c k) 0)
    ∗ (bigSep Finset.univ fun k => reached (ER nD τ sig Val) (PL.cell c k) 0)
    ∗ (bigSep Finset.univ fun k => PL.pos c k) ∗ (bigSep Finset.univ fun k => PL.tok (PL.payee k c) k))

theorem fund_cells : BI.own ((ER nD τ sig Val) (initOf PL.cells0 PL.toks0)) ⊢ (|==> bigSep Finset.univ PL.ghost : sProp 𝕄) := by
  refine (Rounds.fund (ER nD τ sig Val) PL.sched PL.cells0 PL.toks0).trans (BI.bupd_mono ?_)
  unfold cells0 toks0
  rw [BI.bigSep_map, BI.bigSep_map, BI.bigSep_map, BI.bigSep_map]
  have htok : (bigSep Finset.univ fun x : Dev nD × Fin n => (PL.tok x.1 x.2 : sProp 𝕄))
      = bigSep Finset.univ fun c => bigSep Finset.univ fun k => PL.tok (PL.payee k c) k := by
    rw [bigSep_univ_prod, BI.bigSep_univ_comm]
    rw [BI.bigSep_univ_comm (fun c k => PL.tok (PL.payee k c) k)]
    exact bigSep_congr fun k _ => BI.bigSep_univ_equiv (PL.payee k) (fun c => PL.tok c k)
  have hst : (bigSep Finset.univ fun x : Dev nD × Fin n => (roundState (ER nD τ sig Val) PL.sched (PL.cell x.1 x.2) 0 : sProp 𝕄))
      = bigSep Finset.univ fun c => bigSep Finset.univ fun k => roundState (ER nD τ sig Val) PL.sched (PL.cell c k) 0 := bigSep_univ_prod _
  have hre : (bigSep Finset.univ fun x : Dev nD × Fin n => (reached (ER nD τ sig Val) (PL.cell x.1 x.2) 0 : sProp 𝕄))
      = bigSep Finset.univ fun c => bigSep Finset.univ fun k => reached (ER nD τ sig Val) (PL.cell c k) 0 := bigSep_univ_prod _
  have hpos : (bigSep Finset.univ fun x : Dev nD × Fin n => (PL.pos x.1 x.2 : sProp 𝕄))
      = bigSep Finset.univ fun c => bigSep Finset.univ fun k => PL.pos c k := bigSep_univ_prod _
  show iprop((bigSep Finset.univ fun x : Dev nD × Fin n => roundState (ER nD τ sig Val) PL.sched (PL.cell x.1 x.2) 0)
      ∗ (bigSep Finset.univ fun x : Dev nD × Fin n => reached (ER nD τ sig Val) (PL.cell x.1 x.2) 0)
      ∗ (bigSep Finset.univ fun x : Dev nD × Fin n => PL.pos x.1 x.2)
      ∗ (bigSep Finset.univ fun x : Dev nD × Fin n => PL.tok x.1 x.2)) ⊢ _
  rw [htok, hst, hre, hpos]
  unfold ghost
  rw [bigSep_sep', bigSep_sep', bigSep_sep']

/-- The launch credit for the dues. -/
theorem credits (c : Dev nD) : (launchCred (fun c => PL.due c PL.far) c : sProp 𝕄) ⊢ bigSep PL.far fun k => PL.due1 c k := by
  have h := launchCred_sum (Name := ℕ) (U := UU nD τ sig) (Lvl := ℕ) (Val := Val) PL.far
    (fun k c => (tallyAt (PL.cell (PL.payee k c) k) () (PL.amt k) : CellTallies nD τ sig Unit)) c
  refine (Entails.of_eq h).trans (bigSep_mono fun k _ => ?_)
  exact launchCred_tallyAt (.dma (PL.sem k)) (PL.payee k) (PL.payee k).symm (fun c => (PL.payee k).apply_symm_apply c)
    (fun c => (PL.payee k).symm_apply_apply c) () (PL.amt k) c

/-- What device `c` takes into its body, the levels apart. -/
def dealing (D : Dev nD → sProp 𝕄) (c : Dev nD) : sProp 𝕄 := iprop((levAts idx PL.lev -∗ PL.dealt c) ∗ D c)

/-- The own semaphores of every device and the cells' ghost state make every device's share of the exchange. -/
theorem deal (hst : ∀ c k, BI.Storable (upEmb : UEmb _ 𝕄) (PL.pay c k)) (A : Dev nD → sProp 𝕄) (D : Dev nD → sProp 𝕄)
    (hD : (bigSep Finset.univ A : sProp 𝕄) ⊢ bigSep Finset.univ D) :
    (bigSep Finset.univ fun c : Dev nD => iprop(ownSems0 (fun k => .dma (PL.sem k)) c ∗ A c ∗ launchCred (fun c => PL.due c PL.far) c ∗ PL.ghost c) : sProp 𝕄)
      ⊢ (|={Set.univ}=> bigSep Finset.univ (PL.dealing D) : sProp 𝕄) := by
  classical
  haveI := fun g r d => PL.storable hst g r d
  have hsems : (bigSep Finset.univ fun c : Dev nD => (ownSems0 (fun k => .dma (PL.sem k)) c : sProp 𝕄))
      = bigSep Finset.univ fun x : Dev nD × Fin n => semVal (PL.cell x.1 x.2) 0 :=
    (bigSep_univ_prod (fun x : Dev nD × Fin n => (semVal (PL.cell x.1 x.2) 0 : sProp 𝕄))).symm
  have hstate : (bigSep Finset.univ fun c : Dev nD => bigSep Finset.univ fun k => (roundState (ER nD τ sig Val) PL.sched (PL.cell c k) 0 : sProp 𝕄))
      = bigSep Finset.univ fun x : Dev nD × Fin n => roundState (ER nD τ sig Val) PL.sched (PL.cell x.1 x.2) 0 :=
    (bigSep_univ_prod (fun x : Dev nD × Fin n => (roundState (ER nD τ sig Val) PL.sched (PL.cell x.1 x.2) 0 : sProp 𝕄))).symm
  have hreach : (bigSep Finset.univ fun c : Dev nD => bigSep Finset.univ fun k => (reached (ER nD τ sig Val) (PL.cell c k) 0 : sProp 𝕄))
      = bigSep Finset.univ fun x : Dev nD × Fin n => reached (ER nD τ sig Val) (PL.cell x.1 x.2) 0 :=
    (bigSep_univ_prod (fun x : Dev nD × Fin n => (reached (ER nD τ sig Val) (PL.cell x.1 x.2) 0 : sProp 𝕄))).symm
  unfold ghost
  rw [bigSep_sep', bigSep_sep', bigSep_sep', bigSep_sep', bigSep_sep', bigSep_sep', hsems, hstate, hreach]
  iintro ⟨Hs, HA, Hc, Hst, #Hre, Hpos, Htok⟩
  ihave Hb := (Entails.of_eq (bigSep_sep' Finset.univ (fun x : Dev nD × Fin n => (semVal (PL.cell x.1 x.2) 0 : sProp 𝕄))
      (fun x => roundState (ER nD τ sig Val) PL.sched (PL.cell x.1 x.2) 0)).symm) $$ [Hs Hst]
  · isplitl [Hs] <;> iassumption
  have hbi : (bigSep Finset.univ fun x : Dev nD × Fin n => iprop(semVal (PL.cell x.1 x.2) 0 ∗ roundState (ER nD τ sig Val) PL.sched (PL.cell x.1 x.2) 0) : sProp 𝕄)
      ⊢ bigSep Finset.univ fun x : Dev nD × Fin n => Rounds.body (ER nD τ sig Val) PL.sched (PL.cell x.1 x.2) :=
    bigSep_mono fun x _ => Rounds.body_intro (ER nD τ sig Val) PL.sched (PL.cell x.1 x.2)
  ihave Hb2 := hbi $$ Hb
  imod (inv_alloc_family Finset.univ (fun x : Dev nD × Fin n => Rounds.body (ER nD τ sig Val) PL.sched (PL.cell x.1 x.2)) ∅ (E := Set.univ)) $$ Hb2 with ⟨%κ, -, #Hinv⟩
  ihave HD := hD $$ HA
  have hcr : (bigSep Finset.univ fun c : Dev nD => (launchCred (fun c => PL.due c PL.far) c : sProp 𝕄))
      ⊢ bigSep Finset.univ fun c : Dev nD => bigSep PL.far fun k => PL.due1 c k := bigSep_mono fun c _ => PL.credits c
  ihave Hcr := hcr $$ Hc
  imodintro
  have hK : ∀ x : Dev nD × Fin n, Function.extend (fun x : Dev nD × Fin n => PL.cell x.1 x.2) κ (fun _ => 0) (PL.cell x.1 x.2) = κ x :=
    fun x => PL.cell_inj.extend_apply κ (fun _ => 0) x
  have key : ∀ c : Dev nD, iprop(((bigSep Finset.univ fun x : Dev nD × Fin n => inv (κ x) (Rounds.body (ER nD τ sig Val) PL.sched (PL.cell x.1 x.2)))
        ∗ (bigSep Finset.univ fun x : Dev nD × Fin n => reached (ER nD τ sig Val) (PL.cell x.1 x.2) 0))
        ∗ (bigSep Finset.univ fun k => PL.pos c k) ∗ (bigSep Finset.univ fun k => PL.tok (PL.payee k c) k) ∗ (bigSep PL.far fun k => PL.due1 c k) ∗ D c)
      ⊢ PL.dealing D c := by
    intro c
    unfold dealing dealt records cellInv
    iintro ⟨⟨#Hi, #Hre⟩, Hp, Ht, Hc, HD⟩
    isplitr [HD]
    · iintro Hl
      isplitl [Hl]
      · iexists Function.extend (fun x : Dev nD × Fin n => PL.cell x.1 x.2) κ (fun _ => 0)
        simp only [hK]
        isplitr; · iexact Hi
        isplitr; · iexact Hre
        iexact Hl
      isplitl [Hp]; · iexact Hp
      isplitl [Ht] <;> iassumption
    iexact HD
  ihave Hall := (BI.bigSep_intro_persistent (S := (Finset.univ : Finset (Dev nD))) (Φ := fun _ => iprop((bigSep Finset.univ fun x : Dev nD × Fin n => inv (κ x) (Rounds.body (ER nD τ sig Val) PL.sched (PL.cell x.1 x.2)))
        ∗ (bigSep Finset.univ fun x : Dev nD × Fin n => reached (ER nD τ sig Val) (PL.cell x.1 x.2) 0))) (fun _ _ => Entails.rfl)) $$ [Hinv Hre]
  · isplitr
    · iexact Hinv
    · iexact Hre
  have hall : (bigSep Finset.univ fun c : Dev nD => iprop(((bigSep Finset.univ fun x : Dev nD × Fin n => inv (κ x) (Rounds.body (ER nD τ sig Val) PL.sched (PL.cell x.1 x.2)))
        ∗ (bigSep Finset.univ fun x : Dev nD × Fin n => reached (ER nD τ sig Val) (PL.cell x.1 x.2) 0))
        ∗ (bigSep Finset.univ fun k => PL.pos c k) ∗ (bigSep Finset.univ fun k => PL.tok (PL.payee k c) k) ∗ (bigSep PL.far fun k => PL.due1 c k) ∗ D c) : sProp 𝕄)
      ⊢ bigSep Finset.univ (PL.dealing D) := bigSep_mono fun c _ => key c
  have hsplit : iprop((bigSep Finset.univ fun _ : Dev nD => iprop((bigSep Finset.univ fun x : Dev nD × Fin n => inv (κ x) (Rounds.body (ER nD τ sig Val) PL.sched (PL.cell x.1 x.2)))
        ∗ (bigSep Finset.univ fun x : Dev nD × Fin n => reached (ER nD τ sig Val) (PL.cell x.1 x.2) 0)))
      ∗ (bigSep Finset.univ fun c : Dev nD => bigSep Finset.univ fun k => PL.pos c k)
      ∗ (bigSep Finset.univ fun c : Dev nD => bigSep Finset.univ fun k => PL.tok (PL.payee k c) k)
      ∗ (bigSep Finset.univ fun c : Dev nD => bigSep PL.far fun k => PL.due1 c k) ∗ (bigSep Finset.univ D))
      ⊢ bigSep Finset.univ (PL.dealing D) := by
    refine Entails.trans (Entails.of_eq ?_) hall
    exact ((bigSep_sep' ..).trans (congrArg _ ((bigSep_sep' ..).trans (congrArg _ ((bigSep_sep' ..).trans (congrArg _ (bigSep_sep' ..))))))).symm
  iapply hsplit
  isplitl [Hall]; · iexact Hall
  isplitl [Hpos]; · iexact Hpos
  isplitl [Htok]; · iexact Htok
  isplitl [Hcr] <;> iassumption

end Plan

/-! ## The call -/

section Run

variable {Λ₀ : Labels} (pcs : Fin 1 → PCfg sig Λ₀ Val) (a : (p : Fin 1) → (pcs p).Adm)

/-- The call stages nothing: its pipeline's data is the body's invariant, `A` before its one point and `B` after, and
    what the device owes before it. -/
def dat {n : ℕ} (PL : Plan nD τ sig Val n) (hW : ∀ p, IsEmpty (Fin (pin pcs a p).W)) (A B : Dev nD → sProp 𝕄) (p : Fin 1) (c : Dev nD) :
    Dat τ Val Unit ℕ (UU nD τ sig) ℕ (pin pcs a p) c where
  A w := (hW p).elim w
  after w := (hW p).elim w
  Φ t := if t.val = 0 then A c else B c
  q w := (hW p).elim w
  owed t := if t.val = 0 then PL.due c PL.far else 0

section
variable {n : ℕ} (PL : Plan nD τ sig Val n) (hW : ∀ p, IsEmpty (Fin (pin pcs a p).W))
  (A B : Dev nD → sProp (MT nD τ sig Unit Val ℕ (UU nD τ sig) ℕ)) (c : Dev nD) (t : Fin ((pin pcs a 0).N + 1))
theorem dat_owed_zero (h : t.val = 0) : (dat pcs a PL hW A B 0 c).owed t = PL.due c PL.far := if_pos h
theorem dat_owed_pos (h : ¬t.val = 0) : (dat pcs a PL hW A B 0 c).owed t = 0 := if_neg h
theorem dat_inv_zero (h : t.val = 0) : (dat pcs a PL hW A B 0 c).Φ t = A c := if_pos h
theorem dat_inv_pos (h : ¬t.val = 0) : (dat pcs a PL hW A B 0 c).Φ t = B c := if_neg h
end

theorem owesAt_intro {cfg : Cfg sig Λ₀} {c : Dev nD} (d : Dat τ Val Unit ℕ (UU nD τ sig) ℕ cfg c) (t : Fin (cfg.N + 1))
    (O : CellTallies nD τ sig Unit) (h0 : d.owed t = O) (hr : d.recorded t = Set.univ) :
    iprop(∃ W, owes (c.tc : Thread nD τ) O W) ⊢ (d.owesAt () t : sProp 𝕄) := by
  unfold Dat.owesAt owesWithin Dat.bound
  rw [h0, hr]
  iintro ⟨%W, HO⟩
  iexists W
  isplitr
  · ipureintro; exact fun _ _ => Or.inl trivial
  iexact HO

theorem owesAt_elim {cfg : Cfg sig Λ₀} {c : Dev nD} (d : Dat τ Val Unit ℕ (UU nD τ sig) ℕ cfg c) (t : Fin (cfg.N + 1))
    (O : CellTallies nD τ sig Unit) (h0 : d.owed t = O) :
    (d.owesAt () t : sProp 𝕄) ⊢ iprop(∃ W, owes (c.tc : Thread nD τ) O W) := by
  unfold Dat.owesAt owesWithin
  rw [h0]
  iintro ⟨%W, -, HO⟩
  iexists W
  iexact HO

/-- THE CALL: from any memory with zero counters the call `main` terminates on every device, nothing faults, and what each
    device ends with (`Y`) holds of the final memory. -/
theorem Plan.run {n : ℕ} (PL : Plan nD τ sig Val n) [∀ e, Nonempty (Val e)]
    (inj : Function.Injective (cellOf (nD := nD) (τ := τ) (pin pcs a)))
    (hw : WinFacts₀ (pcs 0).spec) (ho : OwnSemFacts (pcs 0).spec (fun k => .dma (PL.sem k)))
    (defs₀ : Defs nD τ sig Val Λ₀) (𝒱₀ : Variants)
    (hW : ∀ p, IsEmpty (Fin (pin pcs a p).W)) (hN : (pin pcs a 0).N = 1)
    (hpref : ∀ (c : Dev nD) q f, (prefHeld (pcs 0).pre c q f : sProp 𝕄) = BI.emp)
    (hrest : ∀ c : Dev nD, (scopedRest (pin pcs a 0).spec c : sProp 𝕄) = BI.emp)
    (m : (ℓ : Loc nD τ sig) → Buf Val ℓ) (ρ : Dev nD → PrngReg)
    (main : Dev nD → Prog (TpuEff nD τ sig Val (Sig Λ₀ (Fin 1) fun p => (pcs p).Adm) .tc) PUnit)
    (hmain : ∀ c, main c = .op (.customCall (entry 0) ()) fun _ => .ret ⟨⟩)
    (hst : ∀ c k, BI.Storable (upEmb : UEmb _ 𝕄) (PL.pay c k))
    (D : Dev nD → sProp 𝕄)
    (hD : (bigSep Finset.univ fun c : Dev nD => (unscopedBufs c (fun b => m ((c.tc : Thread nD τ).loc b)) : sProp 𝕄)) ⊢ bigSep Finset.univ D)
    (Y : Dev nD → sProp 𝕄)
    (hbody : ∀ c (t : Fin (pin pcs a 0).N), iprop(PL.dealt c ∗ D c ∗ PL.owing c PL.far)
      ⊢ wp frame (wpE defs₀ 𝒱₀ (c.tc : Thread nD τ) none) Set.univ (defs₀ .tc (pin pcs a 0).body ((pin pcs a 0).bodyArgs t ((pin pcs a 0).slots t)))
          fun _ => iprop(PL.owing c ∅ ∗ (bigSep Finset.univ fun k => semVal (PL.cell c k) 0) ∗ Y c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g : GSem nD τ sig, (g.1.2 ≠ .tc ∨ g.2.isScoped .tc = true) → s.sem g = 0) → Q (⟨⟩, s)) :
    θ_run (Pipeline.defs pcs defs₀) (onTc main) ⟨m, fun _ => 0, ρ⟩ Q := by
  classical
  haveI := hW
  set A : Dev nD → sProp 𝕄 := fun c => iprop(PL.dealt c ∗ D c) with hA
  set B : Dev nD → sProp 𝕄 := fun c => iprop((bigSep Finset.univ fun k => semVal (PL.cell c k) 0) ∗ Y c) with hB
  have hbig : ∀ Φ : Fin (pin pcs a 0).W → sProp 𝕄, bigSep Finset.univ Φ = BI.emp := fun Φ => by
    rw [Finset.univ_eq_empty]; exact BI.bigSep_empty
  have hlast : ¬(Fin.last (pin pcs a 0).N).val = 0 := by rw [Fin.val_last, hN]; exact Nat.one_ne_zero
  have hobl : ∀ c, BodyObligation (dat pcs a PL hW A B 0 c) defs₀ 𝒱₀ () Set.univ := fun c t => by
    have ht0 : t.castSucc.val = 0 := by have := t.isLt; rw [Fin.val_castSucc]; omega
    have ht1 : ¬t.succ.val = 0 := by rw [Fin.val_succ]; omega
    rw [hbig, hbig]
    rw [dat_inv_zero pcs a PL hW A B c _ ht0, dat_inv_pos pcs a PL hW A B c _ ht1]
    iintro ⟨⟨Hd, HD⟩, HO, -⟩
    ihave HO := (owesAt_elim (dat pcs a PL hW A B 0 c) _ (PL.due c PL.far) (dat_owed_zero pcs a PL hW A B c _ ht0)) $$ HO
    have ho1 := owesAt_intro (dat pcs a PL hW A B 0 c) t.succ 0 (dat_owed_pos pcs a PL hW A B c _ ht1) rfl
    have hb := hbody c t
    unfold Plan.owing at hb
    rw [show PL.due c ∅ = 0 from Finset.sum_empty] at hb
    iapply (wp_wand_r frame (wpE defs₀ 𝒱₀ (c.tc : Thread nD τ) none) Set.univ)
    isplitl [Hd HD HO]
    · iapply hb
      isplitl [Hd]; · iexact Hd
      isplitl [HD]; · iexact HD
      iexact HO
    iintro %_ ⟨HO, Hs, Hy⟩
    isplitr [HO]
    · isplitl [Hs] <;> iassumption
    isplitl [HO]
    · iapply ho1
      iexact HO
    iempintro
  refine Launch.run_dealt pcs a (dat pcs a PL hW A B) () inj 0 hw ho (EP nD τ sig Val) defs₀ 𝒱₀ m ρ main hmain
    (fun c => (hobl c).loose) (fun w => (hW 0).elim w) (fun w => (hW 0).elim w) (fun c Fa => hbig _) hpref
    (fun c => cellsWaits_intro (R := iprop(emp)) _ _ () 0 c fun w => (hW 0).elim w)
    (fun c => PL.due c PL.far) (fun c => dat_owed_zero pcs a PL hW A B c _ (Fin.val_zero _)) (fun c => dat_owed_pos pcs a PL hW A B c _ hlast)
    Plan.idx PL.lev Plan.idx_ne PL.ghost (PL.dealing D)
    (initOf (cells (pin pcs a) inj) (launchToks (pin pcs a) inj), initOf PL.cells0 PL.toks0) ?_
    (PL.deal hst _ D hD) (fun c => ?_) Y (fun c => ?_) QY hY hQ
  · refine (ownU_pair _ _).trans ?_
    iintro ⟨H1, H2⟩
    imod (PL.fund_cells) $$ H2 with Hg
    imodintro
    isplitl [H1] <;> iassumption
  · rw [hrest, dat_inv_zero pcs a PL hW A B c _ (Fin.val_zero _)]
    unfold Plan.dealing
    iintro ⟨⟨Hd, HD⟩, Hl, -⟩
    isplitl [Hd Hl]
    · iapply Hd; iexact Hl
    iexact HD
  · rw [hrest, dat_inv_pos pcs a PL hW A B c _ hlast]
    unfold ownSems0
    iintro ⟨Hs, Hy⟩
    isplitl [Hy]; · iexact Hy
    isplitl [Hs]; · iexact Hs
    iempintro

end Run

end Generic

end Cert.Proof

end
-- ==== Proof.Geometry.lean ====
/-
  The slabs the exchanges move: one leading index (or two) of an array, all of the other two dimensions, as the kernels slice
  them (a unit-stride rectangle with its unit axes squeezed away): its elements, and where each is in the array. What a copy
  leaves at its destination, and a whole buffer as its slabs.
-/
module

public import proofs.«01_k».proof.Proof.Common
public import Idealize.ShloMosaic.Lib.ValueIdxCore
public import Idealize.ShloMosaic.Lib.ValueLayout
public import Idealize.ShloMosaic.Lib.Layout

@[expose] public section

set_option Elab.async false

noncomputable section

namespace Cert.Proof

open Idealize.ShloMosaic Idealize.ShloMosaic.TcCoe Idealize.ShloMosaic.Tactic
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline
open Idealize.ShloMosaic.ValueIdx

/-! ## Slabs of a rank-3 array -/

section Three
variable {n R W : ℕ}

/-- The elements of leading index `k`. -/
def slab3 (k : Fin n) : Finset (⟨3, ![n, R, W]⟩ : Shape).Idx := @Finset.filter _ (fun i => i 0 = k) (Classical.decPred _) Finset.univ

theorem mem_slab3 {k : Fin n} {i : (⟨3, ![n, R, W]⟩ : Shape).Idx} : i ∈ slab3 k ↔ i 0 = k := by
  unfold slab3; rw [@Finset.mem_filter _ _ (Classical.decPred _)]; exact and_iff_right (Finset.mem_univ _)

variable {off : Fin 3 → ℕ} (k : Fin n) (h : off = ![k.val, 0, 0])
  (inb : ∀ a, off a + (⟨3, ![1, R, W]⟩ : Shape).size a ≤ (⟨3, ![n, R, W]⟩ : Shape).size a)

include h in
theorem slab3_set : (Rect.unit (s := ⟨3, ![n, R, W]⟩) off (⟨3, ![1, R, W]⟩ : Shape).size inb).set = slab3 k := by
  subst h
  ext i
  rw [Rect.mem_set_unit, mem_slab3]
  constructor
  · intro hi
    have h0 := hi 0
    have h1 : k.val ≤ (i 0).val ∧ (i 0).val < k.val + 1 := h0
    exact Fin.ext (by omega)
  · rintro hi a
    match a with
    | ⟨0, _⟩ => show k.val ≤ (i 0).val ∧ (i 0).val < k.val + 1; rw [hi]; omega
    | ⟨1, _⟩ => show 0 ≤ (i 1).val ∧ (i 1).val < 0 + R; have := (i 1).isLt; change (i 1).val < R at this; omega
    | ⟨2, _⟩ => show 0 ≤ (i 2).val ∧ (i 2).val < 0 + W; have := (i 2).isLt; change (i 2).val < W at this; omega

include h in
theorem slab3_emb (hn : (⟨2, ![R, W]⟩ : Shape).numel = (⟨3, ![1, R, W]⟩ : Shape).numel) (x : (⟨2, ![R, W]⟩ : Shape).Idx) :
    (Rect.unit (s := ⟨3, ![n, R, W]⟩) off (⟨3, ![1, R, W]⟩ : Shape).size inb).emb (Shape.reshapeEquiv hn x) = ix3 k (x 0) (x 1) := by
  subst h
  have hx := (congrArg (Shape.reshapeEquiv hn) (eq_ix2 x)).trans (reshapeEquiv_ix2_1ab hn (x 0) (x 1))
  rw [hx]
  funext a
  apply Fin.ext
  match a with
  | ⟨0, _⟩ => show k.val + 1 * 0 = k.val; omega
  | ⟨1, _⟩ => show 0 + 1 * (x 0).val = (x 0).val; omega
  | ⟨2, _⟩ => show 0 + 1 * (x 1).val = (x 1).val; omega

end Three

/-! ## Slabs of a rank-4 array -/

section Four
variable {n n' R W : ℕ}

/-- The elements of leading indices `k`, `k'`. -/
def slab4 (k : Fin n) (k' : Fin n') : Finset (⟨4, ![n, n', R, W]⟩ : Shape).Idx := @Finset.filter _ (fun i => i 0 = k ∧ i 1 = k') (Classical.decPred _) Finset.univ

theorem mem_slab4 {k : Fin n} {k' : Fin n'} {i : (⟨4, ![n, n', R, W]⟩ : Shape).Idx} : i ∈ slab4 k k' ↔ i 0 = k ∧ i 1 = k' := by
  unfold slab4; rw [@Finset.mem_filter _ _ (Classical.decPred _)]; exact and_iff_right (Finset.mem_univ _)

variable {off : Fin 4 → ℕ} (k : Fin n) (k' : Fin n') (h : off = ![k.val, k'.val, 0, 0])
  (inb : ∀ a, off a + (⟨4, ![1, 1, R, W]⟩ : Shape).size a ≤ (⟨4, ![n, n', R, W]⟩ : Shape).size a)

include h in
theorem slab4_set : (Rect.unit (s := ⟨4, ![n, n', R, W]⟩) off (⟨4, ![1, 1, R, W]⟩ : Shape).size inb).set = slab4 k k' := by
  subst h
  ext i
  rw [Rect.mem_set_unit, mem_slab4]
  constructor
  · intro hi
    have h0 : k.val ≤ (i 0).val ∧ (i 0).val < k.val + 1 := hi 0
    have h1 : k'.val ≤ (i 1).val ∧ (i 1).val < k'.val + 1 := hi 1
    exact ⟨Fin.ext (by omega), Fin.ext (by omega)⟩
  · rintro ⟨hi, hi'⟩ a
    match a with
    | ⟨0, _⟩ => show k.val ≤ (i 0).val ∧ (i 0).val < k.val + 1; rw [hi]; omega
    | ⟨1, _⟩ => show k'.val ≤ (i 1).val ∧ (i 1).val < k'.val + 1; rw [hi']; omega
    | ⟨2, _⟩ => show 0 ≤ (i 2).val ∧ (i 2).val < 0 + R; have := (i 2).isLt; change (i 2).val < R at this; omega
    | ⟨3, _⟩ => show 0 ≤ (i 3).val ∧ (i 3).val < 0 + W; have := (i 3).isLt; change (i 3).val < W at this; omega

include h in
theorem slab4_emb (hn : (⟨2, ![R, W]⟩ : Shape).numel = (⟨4, ![1, 1, R, W]⟩ : Shape).numel) (x : (⟨2, ![R, W]⟩ : Shape).Idx) :
    (Rect.unit (s := ⟨4, ![n, n', R, W]⟩) off (⟨4, ![1, 1, R, W]⟩ : Shape).size inb).emb (Shape.reshapeEquiv hn x) = ix4 k k' (x 0) (x 1) := by
  subst h
  have hx := (congrArg (Shape.reshapeEquiv hn) (eq_ix2 x)).trans (reshapeEquiv_ix2_11ab hn (x 0) (x 1))
  rw [hx]
  funext a
  apply Fin.ext
  match a with
  | ⟨0, _⟩ => show k.val + 1 * 0 = k.val; omega
  | ⟨1, _⟩ => show k'.val + 1 * 0 = k'.val; omega
  | ⟨2, _⟩ => show 0 + 1 * (x 0).val = (x 0).val; omega
  | ⟨3, _⟩ => show 0 + 1 * (x 1).val = (x 1).val; omega

end Four

/-! ## All slabs of one leading index of a rank-4 array -/

section Row
variable {n n' R W : ℕ} {off : Fin 4 → ℕ} (k : Fin n) (h : off = ![k.val, 0, 0, 0])
  (inb : ∀ a, off a + (⟨4, ![1, n', R, W]⟩ : Shape).size a ≤ (⟨4, ![n, n', R, W]⟩ : Shape).size a)
include h

theorem mem_row4 (i : (⟨4, ![n, n', R, W]⟩ : Shape).Idx) :
    i ∈ (Rect.unit (s := ⟨4, ![n, n', R, W]⟩) off (⟨4, ![1, n', R, W]⟩ : Shape).size inb).set ↔ i 0 = k := by
  subst h
  rw [Rect.mem_set_unit]
  constructor
  · intro hi
    have h0 : k.val ≤ (i 0).val ∧ (i 0).val < k.val + 1 := hi 0
    exact Fin.ext (by omega)
  · rintro hi a
    match a with
    | ⟨0, _⟩ => show k.val ≤ (i 0).val ∧ (i 0).val < k.val + 1; rw [hi]; omega
    | ⟨1, _⟩ => show 0 ≤ (i 1).val ∧ (i 1).val < 0 + n'; have := (i 1).isLt; change (i 1).val < n' at this; omega
    | ⟨2, _⟩ => show 0 ≤ (i 2).val ∧ (i 2).val < 0 + R; have := (i 2).isLt; change (i 2).val < R at this; omega
    | ⟨3, _⟩ => show 0 ≤ (i 3).val ∧ (i 3).val < 0 + W; have := (i 3).isLt; change (i 3).val < W at this; omega

theorem row4_emb (hn : (⟨3, ![n', R, W]⟩ : Shape).numel = (⟨4, ![1, n', R, W]⟩ : Shape).numel) (x : (⟨3, ![n', R, W]⟩ : Shape).Idx) :
    (Rect.unit (s := ⟨4, ![n, n', R, W]⟩) off (⟨4, ![1, n', R, W]⟩ : Shape).size inb).emb (Shape.reshapeEquiv hn x) = ix4 k (x 0) (x 1) (x 2) := by
  subst h
  have hx := (congrArg (Shape.reshapeEquiv hn) (eq_ix3 x)).trans (reshapeEquiv_ix3_1abc hn (x 0) (x 1) (x 2))
  rw [hx]
  funext a
  apply Fin.ext
  match a with
  | ⟨0, _⟩ => show k.val + 1 * 0 = k.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega
end Row

/-! ## What a copy leaves, and a buffer as its slabs -/

section Memory
variable {nD : Nat} {τ : Topo} {sig : RefSig} {Val : EltTy → Type}
local notation "𝕄" => MT nD τ sig Unit Val ℕ (UU nD τ sig) ℕ

/-- Contents `g` that read as `w` through the view are what writing `w` there leaves on its elements. -/
theorem landed {κ : Kind} {sp : Space} {s : Shape} {e : EltTy} (v : View sig κ sp s e) (fd g : v.ty.Contents Val) (w : s.Idx → Val e)
    (h : ∀ x, v.read Val g x = w x) : ∀ i ∈ v.set, v.write Val fd w Finset.univ i = g i := by
  intro i hi
  obtain ⟨x, -, rfl⟩ := Finset.mem_map.mp hi
  rw [View.write_emb_of_mem _ _ (Finset.mem_univ x), ← h x, View.read_apply, cast_cast, cast_eq]

/-- A whole buffer is its parts, when every element is in exactly one. -/
theorem parts {T : Type} [Fintype T] {ℓ : Loc nD τ sig} (K : T → Finset (Idx ℓ)) (κ : Idx ℓ → T) (h : ∀ t i, i ∈ K t ↔ κ i = t)
    (q : PosShare TreeShare) (f : Buf Val ℓ) : (ℓ ↦{q} f : sProp 𝕄) = bigSep Finset.univ fun t => ℓ ↦[K t]{q} f := by
  classical
  rw [← pointsTo_biUnion]
  · congr 1
    ext i
    simp only [Finset.mem_univ, Finset.mem_biUnion, true_and, true_iff]
    exact ⟨κ i, (h _ _).mpr rfl⟩
  · intro t _ t' _ hne
    refine Finset.disjoint_left.mpr fun i hi hi' => hne ?_
    exact ((h _ _).mp hi).symm.trans ((h _ _).mp hi')

/-- What a copy wrote on a view's elements, read as the contents that agree with it. -/
theorem landed_pts {sp : Space} {s : Shape} {e : EltTy} (t : Thread nD τ) (v : View sig t.2.kind sp s e) (q : PosShare TreeShare)
    (fd g : Buf Val (v.loc t)) (w : s.Idx → Val e) (h : ∀ x, v.read Val g x = w x) :
    (v.loc t ↦[v.set]{q} v.write Val fd w Finset.univ : sProp 𝕄) = v.loc t ↦[v.set]{q} g :=
  pointsTo_congr (landed v fd g w h)

/-- The two arrays of @main, at launch, on every device. -/
theorem bufs_two (x y : Ref sig .tc) (h : (Finset.univ.filter fun b : Ref sig .tc => ¬ b.isScoped) = [x, y].toFinset) (hn : [x, y].Nodup)
    (V : (c : Dev nD) → (b : Ref sig .tc) → Buf Val ((c.tc : Thread nD τ).loc b)) :
    (bigSep Finset.univ fun c : Dev nD => (unscopedBufs c (V c) : sProp 𝕄))
      = iprop((bigSep Finset.univ fun c : Dev nD => (c.tc : Thread nD τ).loc x ↦{fullShare} V c x)
        ∗ (bigSep Finset.univ fun c : Dev nD => (c.tc : Thread nD τ).loc y ↦{fullShare} V c y)) := by
  rw [← bigSep_sep']
  refine bigSep_congr fun c _ => ?_
  unfold unscopedBufs
  rw [BI.bigSep_eq_bigSepL_of_eq [x, y] h hn]
  rfl

/-- Pieces held by owner and role, dealt to who writes them. -/
theorem deal_roles {T : Type} [Fintype T] (W : T → Dev nD ≃ Dev nD) (Φ : Dev nD → T → sProp 𝕄) :
    (bigSep Finset.univ fun c => bigSep Finset.univ fun t => Φ c t) = bigSep Finset.univ fun c => bigSep Finset.univ fun t => Φ (W t c) t := by
  rw [BI.bigSep_univ_comm, BI.bigSep_univ_comm (fun c t => Φ (W t c) t)]
  exact bigSep_congr fun t _ => BI.bigSep_univ_equiv (W t) (fun c => Φ c t)

end Memory

/-! ## A block of slabs in the whole array -/

section Blocks
variable {n N k R W : ℕ} (h : Layout.Tiles ⟨3, ![n, R, W]⟩ ⟨3, ![N, R, W]⟩ 0 k) (c : Fin k) (i : (⟨3, ![n, R, W]⟩ : Shape).Idx)
theorem block_slab : (h.idx c i 0).val = c.val * n + (i 0).val := rfl
theorem block_row : (h.idx c i 1).val = (i 1).val := rfl
theorem block_col : (h.idx c i 2).val = (i 2).val := rfl
end Blocks

end Cert.Proof

end
-- ==== Proof.Share.lean ====
/-
  `_share_with_sibling`, one run: each device puts its slice in its own row of its result and in the same row of its sibling's.
-/
module

public import proofs.«01_k».proof.Proof.Geometry
public import proofs.«01_k».proof.Proof.Gen.ShareIdeal.Skeleton
public import proofs.«01_k».proof.Proof.Gen.ShareIdeal.Launch

@[expose] public section

set_option Elab.async false

noncomputable section

namespace Cert.Proof.Share

open Cert.ShareIdeal
open Cert.ShareIdeal.Gen (k0_off1_eq k0_off2_eq k0_dev1_eq k0_off1_inb k0_off2_inb k0_dev1_lt cc0_share_with_sibling_eq_skeleton
  cc0_share_with_sibling_skel k0_part1_eq_skeleton k0_part1_skel)
open Idealize.ShloMosaic Idealize.ShloMosaic.TcCoe Idealize.ShloMosaic.Tactic Idealize.ShloMosaic.ValueIdx
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ sig) ℕ

/-! ## Who is who -/

/-- The row of a chip's result that device `c` fills. -/
def me (c : Dev nD) : Fin 2 := ⟨c.val % 2, Nat.mod_lt _ (by decide)⟩
/-- The device of `c`'s chip that fills row `j`. -/
def twin (c : Dev nD) (j : Fin 2) : Dev nD := ⟨2 * (c.val / 2) + j.val, by have h := c.isLt; have hj := j.isLt; change c.val < 8 at h; change _ < 8; omega⟩
/-- The other device of the chip. -/
def sib : Dev nD ≃ Dev nD where
  toFun c := twin c (1 - me c)
  invFun c := twin c (1 - me c)
  left_inv := by decide
  right_inv := by decide
/-- Rows of `c`'s result by who fills them: 0 the device itself, 1 its sibling. -/
def place (c : Dev nD) (t : Fin 2) : Fin 2 := if t = 0 then me c else 1 - me c
/-- Who fills a row, and as which part. -/
def filler (t : Fin 2) : Dev nD ≃ Dev nD := if t = 0 then Equiv.refl _ else sib

theorem place_iff : ∀ (c : Dev nD) (t k : Fin 2), place c t = k ↔ place c k = t := by decide
theorem place_filler : ∀ (c : Dev nD) (t : Fin 2), place (filler t c) t = me c := by decide
theorem twin_place : ∀ (c : Dev nD) (t : Fin 2), twin (filler t c) (me c) = c := by decide
theorem off1 (c : Dev nD) : k0_off1 c = ![(me c).val, 0, 0] := k0_off1_eq c
theorem off2 (c : Dev nD) : k0_off2 c = ![(place c 1).val, 0, 0] := by
  rw [k0_off2_eq]
  have : ∀ c : Dev nD, 1 - c.val % 2 = (place c 1).val := by decide
  rw [this]
/-- The device the kernel sends to. -/
abbrev peer (c : Dev nD) : Dev nD := ⟨k0_dev1 c, k0_dev1_lt c⟩
theorem dev1 (c : Dev nD) : peer c = sib c := by
  apply Fin.ext
  show k0_dev1 c = _
  rw [k0_dev1_eq]
  revert c
  decide

/-! ## The memrefs -/

abbrev inp : Memref sig .tc .hbm S1857x1024 .f32 := Memref.whole main_arg0
abbrev row (off : Fin 3 → ℕ) (inb : ∀ a, off a + S1x1857x1024.size a ≤ S2x1857x1024.size a) : Memref sig .tc .hbm S1857x1024 .f32 :=
  ((Memref.whole main_v1).slice (Rect.unit (s := S2x1857x1024) off S1x1857x1024.size inb) (fun _ => rfl)).squeeze S1857x1024
    Facts₀.squeezes_S1x1857x1024_S1857x1024

theorem inp_set : inp.view.set = Finset.univ := View.set_whole _
theorem row_set {off : Fin 3 → ℕ} {inb : ∀ a, off a + S1x1857x1024.size a ≤ S2x1857x1024.size a} (k : Fin 2) (h : off = ![k.val, 0, 0]) :
    (row off inb).view.set = slab3 k :=
  (View.set_reshape _ _).trans ((View.set_slice_whole _ _).trans (slab3_set k h inb))
theorem row_read {off : Fin 3 → ℕ} {inb : ∀ a, off a + S1x1857x1024.size a ≤ S2x1857x1024.size a} (k : Fin 2) (h : off = ![k.val, 0, 0])
    (g : S2x1857x1024.Idx → Elt F .f32) (x : S1857x1024.Idx) : (row off inb).view.read (Elt F) g x = g (ix3 k (x 0) (x 1)) := by
  have := slab3_emb k h inb (Shape.Squeezes.numel_eq Facts₀.squeezes_S1x1857x1024_S1857x1024) x
  exact congrArg g this

/-! ## The contents -/

theorem win_facts : WinFacts₀ cfg0.spec := by decide
theorem own_facts : OwnSemFacts cfg0.spec (fun k : Fin 3 => .dma (![cc0_scratch0.sem, cc0_scratch1.sem, cc0_scratch2.sem] k)) := by decide
theorem no_tables (Φ : Fin 0 → sProp 𝕄) : (bigSep Finset.univ Φ : sProp 𝕄) = BI.emp := BI.bigSep_univ_eq_bigSepL [] (by decide) (by decide) Φ

section Run
variable (m : (ℓ : Loc nD τ sig) → Buf (Elt F) ℓ)

/-- Device `c`'s slice. -/
def xin (c : Dev nD) : S1857x1024.Idx → Elt F .f32 := m ((c.tc : Thread nD τ).loc main_arg0)
/-- Device `c`'s result. -/
def final (c : Dev nD) : S2x1857x1024.Idx → Elt F .f32 := fun i => xin m (twin c (i 0)) (ix2 (i 1) (i 2))

/-- The slice of device `c`, held in part. -/
def held (c : Dev nD) (q : PosShare TreeShare) : sProp 𝕄 := inp.view.loc (c.tc : Thread nD τ) ↦[inp.view.set]{q} xin m c
/-- Part `t` of device `c`'s result, at contents `f`. -/
def part (c : Dev nD) (t : Fin 2) (f : S2x1857x1024.Idx → Elt F .f32) : sProp 𝕄 :=
  (c.tc : Thread nD τ).loc main_v1 ↦[slab3 (place c t)]{fullShare} f

theorem held_full (c : Dev nD) : (held m c fullShare : sProp 𝕄) = ((c.tc : Thread nD τ).loc main_arg0 ↦{fullShare} m ((c.tc : Thread nD τ).loc main_arg0)) := by
  unfold held; rw [inp_set]; rfl
theorem held_halves (c : Dev nD) : (held m c fullShare : sProp 𝕄) ⊣⊢ iprop(held m c fullShare.left ∗ held m c fullShare.right) :=
  pointsTo_share (PosShare.mem_left_op_right fullShare)
theorem whole_parts (c : Dev nD) (f : S2x1857x1024.Idx → Elt F .f32) :
    ((c.tc : Thread nD τ).loc main_v1 ↦{fullShare} f : sProp 𝕄) = bigSep Finset.univ fun t => part c t f :=
  have hk (t k : Fin 2) : k = place c t ↔ place c k = t := by rw [eq_comm, place_iff]
  parts (ℓ := (c.tc : Thread nD τ).loc main_v1) (fun t => (slab3 (place c t) : Finset S2x1857x1024.Idx))
    (fun i : S2x1857x1024.Idx => place c (i 0)) (fun t (i : S2x1857x1024.Idx) => (mem_slab3 (k := place c t) (i := i)).trans (hk t (i 0))) fullShare f

/-- The exchange's cells: 0 its send, 1 its receipt, 2 its own copy. -/
def PL : Plan nD τ sig (Elt F) 3 where
  sem := ![cc0_scratch0.sem, cc0_scratch1.sem, cc0_scratch2.sem]
  sem_inj := by decide
  payee k := filler (if k = 1 then 1 else 0)
  amt _ := inp.view.dmaCredit
  amt_pos _ := by decide
  pay c k := if k = 0 then held m c fullShare.right else if k = 1 then part c 1 (final m c) else iprop(part c 0 (final m c) ∗ held m c fullShare.left)
  far := {1}
  lvl _ := 0

theorem storable (c : Dev nD) (k : Fin 3) : BI.Storable (upEmb : UEmb _ 𝕄) ((PL m).pay c k) := by
  fin_cases k
  · show BI.Storable _ (held m c _); unfold held; infer_instance
  · show BI.Storable _ (part c _ _); unfold part; infer_instance
  · show BI.Storable _ iprop(part c _ _ ∗ held m c _); unfold held part; infer_instance

/-- What landed in a row of `c'`'s result from device `c` is that part of the result. -/
theorem land (c c' : Dev nD) (t : Fin 2) (hc : filler t c = c') (inb : ∀ a, k0_off1 c a + S1x1857x1024.size a ≤ S2x1857x1024.size a)
    (fd : S2x1857x1024.Idx → Elt F .f32) :
    ((row (k0_off1 c) inb).view.loc (c'.tc : Thread nD τ) ↦[(row (k0_off1 c) inb).view.set]{fullShare}
        (row (k0_off1 c) inb).view.write (Elt F) fd (inp.view.read (Elt F) (xin m c)) Finset.univ : sProp 𝕄) = part c' t (final m c') := by
  subst hc
  have h := landed_pts (Val := Elt F) ((filler t c).tc : Thread nD τ) (row (k0_off1 c) inb).view fullShare fd (final m (filler t c))
    (inp.view.read (Elt F) (xin m c)) (fun x => by
      refine (row_read (me c) (off1 c) _ x).trans ?_
      show xin m (twin (filler t c) (me c)) (ix2 (x 0) (x 1)) = xin m c x
      rw [twin_place]
      exact congrArg (xin m c) (eq_ix2 x).symm)
  refine h.trans ?_
  unfold part
  rw [row_set (me c) (off1 c), place_filler]
theorem open_row (c c' : Dev nD) (t : Fin 2) (hc : filler t c = c') (inb : ∀ a, k0_off1 c a + S1x1857x1024.size a ≤ S2x1857x1024.size a)
    (fd : S2x1857x1024.Idx → Elt F .f32) :
    (part c' t fd : sProp 𝕄) = ((row (k0_off1 c) inb).view.loc (c'.tc : Thread nD τ) ↦[(row (k0_off1 c) inb).view.set]{fullShare} fd) := by
  subst hc
  unfold part
  rw [row_set (me c) (off1 c), place_filler]

/-- What device `c` starts with: its slice, its own row of its result and the same row of its sibling's. -/
def start (c : Dev nD) : sProp 𝕄 :=
  iprop(held m c fullShare ∗ bigSep Finset.univ fun t => part (filler t c) t (m (((filler t c).tc : Thread nD τ).loc main_v1)))

theorem start_of : (bigSep Finset.univ fun c : Dev nD => (unscopedBufs c (fun b => m ((c.tc : Thread nD τ).loc b)) : sProp 𝕄)) ⊢ bigSep Finset.univ (start m) := by
  rw [bufs_two main_arg0 main_v1 (by decide) (by decide)]
  unfold start
  rw [bigSep_sep', ← deal_roles filler (fun c t => part c t (m ((c.tc : Thread nD τ).loc main_v1))),
    bigSep_congr fun c _ => held_full m c, bigSep_congr fun c _ => whole_parts c (m ((c.tc : Thread nD τ).loc main_v1))]

/-- What it ends with. -/
def finish (c : Dev nD) : sProp 𝕄 := iprop(held m c fullShare ∗ (c.tc : Thread nD τ).loc main_v1 ↦{fullShare} final m c)

/-- The body, from its dealt cells and memory. -/
theorem body (𝒱 : Variants) (c : Dev nD) :
    iprop((PL m).dealt c ∗ start m c ∗ (PL m).owing c (PL m).far)
      ⊢ wp frame (wpE (defs₀ (F := F)) 𝒱 (c.tc : Thread nD τ) none) Set.univ
          (cc0_share_with_sibling inp (Memref.isWhole_whole _) (Memref.whole main_v1) (Memref.isWhole_whole _) cc0_scratch0 cc0_scratch1 cc0_scratch2)
          fun _ => iprop((PL m).owing c ∅ ∗ (bigSep Finset.univ fun k => semVal ((PL m).cell c k) 0) ∗ finish m c) := by
  have hl3 (Φ : Fin 3 → sProp 𝕄) : bigSep Finset.univ Φ = iprop(Φ 0 ∗ Φ 1 ∗ Φ 2) := BI.bigSep_univ_eq_bigSepL [0, 1, 2] (by decide) (by decide) Φ
  have hl2 (Φ : Fin 2 → sProp 𝕄) : bigSep Finset.univ Φ = iprop(Φ 0 ∗ Φ 1) := BI.bigSep_univ_eq_bigSepL [0, 1] (by decide) (by decide) Φ
  have hfar : (bigSep (PL m).far fun k => (PL m).due1 c k : sProp 𝕄) = (PL m).due1 c 1 := BI.bigSep_singleton
  unfold Plan.dealt start finish
  rw [hl3, hl3, hl3, hfar, whole_parts c (final m c), hl2, hl2, show filler 0 c = c from rfl, show filler 1 c = peer c from (dev1 c).symm,
    show (PL m).payee 0 c = c from rfl, show (PL m).payee 1 c = peer c from (dev1 c).symm, show (PL m).payee 2 c = c from rfl]
  simp only [cc0_share_with_sibling_eq_skeleton]
  unfold cc0_share_with_sibling_skel
  simp only [k0_part1_eq_skeleton]
  unfold k0_part1_skel
  simp only [Prog.lift, Prog.bind_op, Prog.bind_ret, Prog.pure_eq_ret, Prog.bind_assoc, wp_deviceId]
  iintro ⟨⟨⟨%K, #Hr⟩, ⟨Hp0, Hp1, Hp2⟩, ⟨Ht0, Ht1, Ht2⟩, Hc1⟩, ⟨Hin, Hown, Hsib⟩, HO⟩
  ihave Hin := (held_halves m c).1 $$ Hin
  icases Hin with ⟨HL, HR⟩
  ihave Hown := (Entails.of_eq (open_row c c 0 rfl (k0_off1_inb c) _)) $$ Hown
  ihave Hsib := (Entails.of_eq (open_row c (peer c) 1 (dev1 c).symm (k0_off1_inb c) _)) $$ Hsib
  have hpay0 := Entails.of_eq (show (PL m).pay c 0 = held m c fullShare.right from rfl)
  have hjoin := (held_halves m c).2
  have hpay2 : (PL m).pay c 2 = iprop(part c 0 (final m c) ∗ held m c fullShare.left) := rfl
  unfold held at *
  iapply ((PL m).copy_step 𝒱 K c 2 (src := inp) (dst := row (k0_off1 c) (k0_off1_inb c)) fullShare.left (xin m c) (m ((c.tc : Thread nD τ).loc main_v1)) rfl
    (by rw [land m c c 0 rfl]; exact Entails.of_eq rfl)) $$ [HL Hown Ht2]
  · isplitr; · iexact Hr
    isplitl [HL]; · iexact HL
    isplitl [Hown]; · iexact Hown
    iexact Ht2
  iintro Hc2
  have hmem : (1 : Fin 3) ∈ (PL m).far := Finset.mem_singleton_self _
  have hsib : (PL m).payee 1 c = peer c := (dev1 c).symm
  have hcr : (row (k0_off1 c) (k0_off1_inb c)).view.dmaCredit = (PL m).amt 1 := rfl
  have hpay : (inp.view.loc (c.tc : Thread nD τ) ↦[inp.view.set]{fullShare.right} xin m c : sProp 𝕄) ⊢ (PL m).pay c 0 := Entails.of_eq rfl
  have hpay' := Entails.of_eq (land m c (peer c) 1 (dev1 c).symm (k0_off1_inb c) (m (((peer c).tc : Thread nD τ).loc main_v1)))
  have hr : τ.routes (c.tc : Thread nD τ) ((peer c).tc : Thread nD τ) = true := by routes
  iapply ((PL m).send_step 𝒱 K c (peer c) 0 1 (PL m).far hmem hsib (src := inp) (dst := row (k0_off1 c) (k0_off1_inb c))
    fullShare.right (xin m c) (m (((peer c).tc : Thread nD τ).loc main_v1)) hcr rfl hpay hpay' hr) $$ [HR Hsib HO Ht0 Ht1]
  · isplitr; · iexact Hr
    isplitl [HR]; · iexact HR
    isplitl [Hsib]; · iexact Hsib
    isplitl [HO]; · iexact HO
    isplitl [Ht0]; · iexact Ht0
    iexact Ht1
  rw [show (PL m).far.erase 1 = ∅ from rfl]
  iintro ⟨Hc0, HO⟩
  iapply ((PL m).wait_step 𝒱 K c 1 ∅ (fun j hj => absurd hj (Finset.notMem_empty j)) rfl) $$ [Hp1 Hc1 HO]
  · isplitr; · iexact Hr
    isplitl [Hp1]; · iexact Hp1
    isplitl [Hc1]; · iexact Hc1
    iexact HO
  iintro ⟨Hy1, Hz1, HO⟩
  iapply ((PL m).wait_step 𝒱 K c 0 ∅ (fun j hj => absurd hj (Finset.notMem_empty j)) rfl) $$ [Hp0 Hc0 HO]
  · isplitr; · iexact Hr
    isplitl [Hp0]; · iexact Hp0
    isplitl [Hc0]; · iexact Hc0
    iexact HO
  iintro ⟨Hy0, Hz0, HO⟩
  iapply ((PL m).wait_step 𝒱 K c 2 ∅ (fun j hj => absurd hj (Finset.notMem_empty j)) rfl) $$ [Hp2 Hc2 HO]
  · isplitr; · iexact Hr
    isplitl [Hp2]; · iexact Hp2
    isplitl [Hc2]; · iexact Hc2
    iexact HO
  iintro ⟨Hy2, Hz2, HO⟩
  ihave Hy2 := (Entails.of_eq hpay2) $$ Hy2
  icases Hy2 with ⟨Hy2, HL⟩
  rw [wp_ret]
  imodintro
  isplitl [HO]; · iexact HO
  isplitl [Hz0 Hz1 Hz2]
  · isplitl [Hz0]; · iexact Hz0
    isplitl [Hz1]; · iexact Hz1
    iexact Hz2
  isplitl [HL Hy0]
  · iapply hjoin
    isplitl [HL]; · iexact HL
    iapply hpay0; iexact Hy0
  isplitl [Hy2]; · iexact Hy2
  iapply (Entails.of_eq (show (PL m).pay c 1 = part c 1 (final m c) from rfl))
  iexact Hy1

/-- Every device's result is its chip's two slices, its own slice is as it was, and every semaphore is back at zero. -/
theorem run (ρ : Dev nD → PrngReg) :
    θ_run (defs (F := F)) (onTc (τ := τ) (main (F := F))) ⟨m, fun _ => 0, ρ⟩ fun r =>
      (∀ c : Dev nD, r.2.mem ((c.tc : Thread nD τ).loc main_v1) = final m c
        ∧ r.2.mem ((c.tc : Thread nD τ).loc main_arg0) = m ((c.tc : Thread nD τ).loc main_arg0)) ∧ r.2.sem = fun _ => 0 := by
  refine Plan.run (pcfgs (F := F)) (fun p => (cfgs p).toPCfg_adm) (PL m) Gen.cellOf_inj win_facts own_facts (defs₀ (F := F)) .none
    (fun _ => inferInstanceAs (IsEmpty (Fin 0))) Gen.N_0 (fun c q f => no_tables _)
    (fun c => Gen.scopedRest0_eq c) m ρ (main (F := F)) (fun c => (Gen.main_chain c).trans rfl) (storable m) (start m) (start_of m) (finish m)
    (fun c t => body m _ c)
    (fun c s => s.mem ((c.tc : Thread nD τ).loc main_v1) = final m c
        ∧ s.mem ((c.tc : Thread nD τ).loc main_arg0) = m ((c.tc : Thread nD τ).loc main_arg0))
    (fun c s' => ?_) (fun s hs hz => ⟨hs, ?_⟩)
  · unfold finish
    rw [held_full]
    iintro ⟨⟨Ha, Ho⟩, HSI⟩
    icombine HSI Ha gives %ha
    icombine HSI Ho gives %ho
    imodintro
    isplitr
    · ipureintro; exact ⟨Buf.eq_of_forall_mem_univ ho, Buf.eq_of_forall_mem_univ ha⟩
    iexact HSI
  · exact sem_eq_zero_of_scoped (by decide) hz

end Run

end Cert.Proof.Share

end
-- ==== Proof.ShareRef.lean ====
/-
  The sharing's reference — the eight slices as eight rows —, its run, and what the claims of the sharing say.
-/
module

public import proofs.«01_k».proof.Proof.Share
public import proofs.«01_k».proof.Proof.Gen.ShareRefIdeal
public import Idealize.ShloMosaic.Lib.StableHlo.Run

@[expose] public section

set_option Elab.async false

noncomputable section

namespace Cert.Proof.Share.Ref

open Cert.ShareRefIdeal
open Idealize.ShloMosaic Idealize.ShloMosaic.TcCoe Idealize.ShloMosaic.StableHlo Idealize.ShloMosaic.ValueIdx Idealize.SL.Sem

variable {F : FTy → Type} [FloatOps F]

/-- The reference's result from its argument. -/
abbrev refOut (x : S14856x1024.Idx → Elt F .f32) : S8x1857x1024.Idx → Elt F .f32 :=
  shapeCast S8x1857x1024 x Facts₀.shapeCasts_S14856x1024_S8x1857x1024

/-- @main's operations. -/
abbrev ops : List (HloOp τ sig (Elt F)) :=
  [reshape main_arg0 main_v0 (rfl : (.f32 : EltTy) = .f32) Facts₀.shapeCasts_S14856x1024_S8x1857x1024]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops (F := F)).Forall fun op => op.bufs ⊆ tcRefs τ sig := reshape_bufs_sub ..
theorem out_eq (V : (b : DevRef τ sig) → b.ty.Contents (Elt F)) :
    after ops V (main_v0 : DevRef τ sig) = refOut (V (main_arg0 : DevRef τ sig)) := by after_results; rfl
theorem arg0_eq (V : (b : DevRef τ sig) → b.ty.Contents (Elt F)) :
    after ops V (main_arg0 : DevRef τ sig) = V (main_arg0 : DevRef τ sig) := by after_results

/-- The reference's run. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v0).trans (out_eq _), (h c main_arg0).trans (arg0_eq _)⟩, sem_eq_zero_of_no_sems rfl r.2⟩)
    (run_seq scopedRefs_eq scopedSems_eq defs main (fun _ => ops) main_eq (fun _ => ops_sub) m ρ)

/-! ## A device's result as its part of the reference's -/

/-- Row `k` of the eight is slice `k`. -/
theorem refOut_apply (x : S14856x1024.Idx → Elt F .f32) (i : S8x1857x1024.Idx) (y : S14856x1024.Idx)
    (h0 : (y 0).val = 1857 * (i 0).val + (i 1).val) (h1 : (y 1).val = (i 2).val) : refOut x i = x y := by
  refine congrArg x (Shape.reshapeEquiv_eq_of_rowMajor _ ?_)
  rw [Shape.rowMajor_val_two, Shape.rowMajor_val_three, h0, h1]
  show (1857 * (i 0).val + (i 1).val) * 1024 + (i 2).val = ((i 0).val * 1857 + (i 1).val) * 1024 + (i 2).val
  rw [Nat.mul_comm 1857]

/-- From slices that are the blocks of the whole, a device's result is its block of the reference's. -/
theorem final_eq (m : (ℓ : Loc ShareIdeal.nD ShareIdeal.τ ShareIdeal.sig) → Buf (Elt F) ℓ) (x : S14856x1024.Idx → Elt F .f32)
    (h : ∀ c : Dev ShareIdeal.nD, xin m c = Layout.block ⟨2, ![1857, 1024]⟩ ⟨2, ![14856, 1024]⟩ 0 8 c x) (c : Dev ShareIdeal.nD) :
    final m c = Layout.blockN ⟨3, ![2, 1857, 1024]⟩ ⟨3, ![8, 1857, 1024]⟩ (Layout.meshBlock [2, 2, 2] ![[0, 1], [], []] c) (refOut x) := by
  funext i
  show xin m (twin c (i 0)) (ix2 (i 1) (i 2)) = _
  rw [h]
  refine (refOut_apply x _ _ ?_ ?_).symm
  · show (twin c (i 0)).val * 1857 + (i 1).val = 1857 * (Layout.meshLin [2, 2, 2] c.val [0, 1] * 2 + (i 0).val) + (0 * 1857 + (i 1).val)
    have hc : ∀ c : Dev ShareIdeal.nD, Layout.meshLin [2, 2, 2] c.val [0, 1] * 2 = 2 * (c.val / 2) := by decide
    rw [hc, Nat.zero_mul, Nat.zero_add, Nat.mul_comm]
    rfl
  · show (i 2).val = 0 * 1024 + (i 2).val
    omega

/-- The sharing against its reference, over any float values. -/
theorem value (m : (ℓ : Loc ShareIdeal.nD ShareIdeal.τ ShareIdeal.sig) → Buf (Elt F) ℓ) (g : Dev ShareIdeal.nD → PrngReg)
    (m' : (ℓ : Loc nD τ sig) → Buf (Elt F) ℓ) (g' : Dev nD → PrngReg)
    (h : ∀ c : Dev ShareIdeal.nD, m ((c.tc : Thread ShareIdeal.nD ShareIdeal.τ).loc ShareIdeal.main_arg0)
      = Layout.block ⟨2, ![1857, 1024]⟩ ⟨2, ![14856, 1024]⟩ 0 8 c (m' (((0 : Dev nD).tc : Thread nD τ).loc main_arg0))) :
    ∃ v0 : Buf (Elt F) (((0 : Dev nD).tc : Thread nD τ).loc main_v0),
      θ_run (ShareIdeal.defs (F := F)) (onTc (τ := ShareIdeal.τ) (ShareIdeal.main (F := F))) ⟨m, fun _ => 0, g⟩ (fun r => ∀ c : Dev ShareIdeal.nD,
          r.2.mem ((c.tc : Thread ShareIdeal.nD ShareIdeal.τ).loc ShareIdeal.main_v1)
            = Layout.blockN ⟨3, ![2, 1857, 1024]⟩ ⟨3, ![8, 1857, 1024]⟩ (Layout.meshBlock [2, 2, 2] ![[0, 1], [], []] c) v0
          ∧ r.2.mem ((c.tc : Thread ShareIdeal.nD ShareIdeal.τ).loc ShareIdeal.main_arg0)
            = m ((c.tc : Thread ShareIdeal.nD ShareIdeal.τ).loc ShareIdeal.main_arg0))
      ∧ θ_run (defs (F := F)) (onTc (τ := τ) (main (F := F))) ⟨m', fun _ => 0, g'⟩ (fun r =>
          r.2.mem (((0 : Dev nD).tc : Thread nD τ).loc main_v0) = v0
          ∧ r.2.mem (((0 : Dev nD).tc : Thread nD τ).loc main_arg0) = m' (((0 : Dev nD).tc : Thread nD τ).loc main_arg0)) :=
  ⟨refOut (m' (((0 : Dev nD).tc : Thread nD τ).loc main_arg0)),
    (θ_run _ _ _).mono (fun r hr c => ⟨(hr.1 c).1.trans (final_eq m _ h c), (hr.1 c).2⟩) (Share.run m g),
    (θ_run _ _ _).mono (fun r hr => hr.1 0) (run m' g')⟩

end Cert.Proof.Share.Ref

end
-- ==== Proof.Swap.lean ====
/-
  `_swap_with_sibling`, one run: each device's four slabs go to the same places of its sibling's result.
-/
module

public import proofs.«01_k».proof.Proof.Geometry
public import proofs.«01_k».proof.Proof.Gen.SwapIdeal.Skeleton
public import proofs.«01_k».proof.Proof.Gen.SwapIdeal.Launch

@[expose] public section

set_option Elab.async false

noncomputable section

namespace Cert.Proof.Swap

open Cert.SwapIdeal
open Facts₀
open Idealize.ShloMosaic Idealize.ShloMosaic.TcCoe Idealize.ShloMosaic.Tactic Idealize.ShloMosaic.ValueIdx
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ sig) ℕ

/-! ## Who is who -/

/-- The other device of the chip. -/
def sib : Dev nD ≃ Dev nD where
  toFun c := ⟨c.val + 1 - 2 * (c.val % 2), by have h := c.isLt; change c.val < 8 at h; change _ < 8; omega⟩
  invFun c := ⟨c.val + 1 - 2 * (c.val % 2), by have h := c.isLt; change c.val < 8 at h; change _ < 8; omega⟩
  left_inv := by decide
  right_inv := by decide
theorem sib_sib : ∀ c : Dev nD, sib (sib c) = c := by decide

/-- The device copy 0 goes to. -/
abbrev peer1 (c : Dev nD) : Dev nD := ⟨k0_dev1 c, k0_dev1_lt c⟩
theorem dev1 (c : Dev nD) : peer1 c = sib c := by
  apply Fin.ext; show k0_dev1 c = _; rw [Gen.k0_dev1_eq]; revert c; decide
/-- The device copy 1 goes to. -/
abbrev peer2 (c : Dev nD) : Dev nD := ⟨k0_dev2 c, k0_dev2_lt c⟩
theorem dev2 (c : Dev nD) : peer2 c = sib c := by
  apply Fin.ext; show k0_dev2 c = _; rw [Gen.k0_dev2_eq]; revert c; decide
/-- The device copy 2 goes to. -/
abbrev peer3 (c : Dev nD) : Dev nD := ⟨k0_dev3 c, k0_dev3_lt c⟩
theorem dev3 (c : Dev nD) : peer3 c = sib c := by
  apply Fin.ext; show k0_dev3 c = _; rw [Gen.k0_dev3_eq]; revert c; decide
/-- The device copy 3 goes to. -/
abbrev peer4 (c : Dev nD) : Dev nD := ⟨k0_dev4 c, k0_dev4_lt c⟩
theorem dev4 (c : Dev nD) : peer4 c = sib c := by
  apply Fin.ext; show k0_dev4 c = _; rw [Gen.k0_dev4_eq]; revert c; decide

/-! ## The memrefs and the semaphores -/

abbrev inp (off : Fin 3 → ℕ) (inb : ∀ a, off a + S1x1857x1024.size a ≤ S4x1857x1024.size a) : Memref sig .tc .hbm S1857x1024 .f32 :=
  ((Memref.whole main_arg0).slice (Rect.unit (s := S4x1857x1024) off S1x1857x1024.size inb) (fun _ => rfl)).squeeze S1857x1024 squeezes_S1x1857x1024_S1857x1024
abbrev out (off : Fin 3 → ℕ) (inb : ∀ a, off a + S1x1857x1024.size a ≤ S4x1857x1024.size a) : Memref sig .tc .hbm S1857x1024 .f32 :=
  ((Memref.whole main_v1).slice (Rect.unit (s := S4x1857x1024) off S1x1857x1024.size inb) (fun _ => rfl)).squeeze S1857x1024 squeezes_S1x1857x1024_S1857x1024

section Views
variable {off : Fin 3 → ℕ} {inb : ∀ a, off a + S1x1857x1024.size a ≤ S4x1857x1024.size a} (k : Fin 4) (h : off = ![k.val, 0, 0])
include h
theorem inp_set : (inp off inb).view.set = slab3 k := (View.set_reshape _ _).trans ((View.set_slice_whole _ _).trans (slab3_set k h inb))
theorem out_set : (out off inb).view.set = slab3 k := (View.set_reshape _ _).trans ((View.set_slice_whole _ _).trans (slab3_set k h inb))
theorem inp_read (g : S4x1857x1024.Idx → Elt F .f32) (x : S1857x1024.Idx) : (inp off inb).view.read (Elt F) g x = g (ix3 k (x 0) (x 1)) :=
  congrArg g (slab3_emb k h inb (Shape.Squeezes.numel_eq squeezes_S1x1857x1024_S1857x1024) x)
theorem out_read (g : S4x1857x1024.Idx → Elt F .f32) (x : S1857x1024.Idx) : (out off inb).view.read (Elt F) g x = g (ix3 k (x 0) (x 1)) :=
  congrArg g (slab3_emb k h inb (Shape.Squeezes.numel_eq squeezes_S1x1857x1024_S1857x1024) x)
end Views

/-- The cells: 0 to 3 the sends, 4 to 7 the receipts. -/
abbrev sems : Fin 8 → DmaSem sig := ![((cc0_scratch0.slice (Rect.unit (s := S4) ![0] S1.size inb_S4_S1_0)).squeeze S_ squeezes_S1_S_).sem,
  ((cc0_scratch0.slice (Rect.unit (s := S4) ![1] S1.size inb_S4_S1_1)).squeeze S_ squeezes_S1_S_).sem,
  ((cc0_scratch0.slice (Rect.unit (s := S4) ![2] S1.size inb_S4_S1_2)).squeeze S_ squeezes_S1_S_).sem,
  ((cc0_scratch0.slice (Rect.unit (s := S4) ![3] S1.size inb_S4_S1_3)).squeeze S_ squeezes_S1_S_).sem,
  ((cc0_scratch1.slice (Rect.unit (s := S4) ![0] S1.size inb_S4_S1_0)).squeeze S_ squeezes_S1_S_).sem,
  ((cc0_scratch1.slice (Rect.unit (s := S4) ![1] S1.size inb_S4_S1_1)).squeeze S_ squeezes_S1_S_).sem,
  ((cc0_scratch1.slice (Rect.unit (s := S4) ![2] S1.size inb_S4_S1_2)).squeeze S_ squeezes_S1_S_).sem,
  ((cc0_scratch1.slice (Rect.unit (s := S4) ![3] S1.size inb_S4_S1_3)).squeeze S_ squeezes_S1_S_).sem]
theorem sems_inj : Function.Injective sems := by decide
theorem win_facts : WinFacts₀ cfg0.spec := by decide
theorem own_facts : OwnSemFacts cfg0.spec (fun k : Fin 8 => .dma (sems k)) := by decide
theorem no_tables (Φ : Fin 0 → sProp 𝕄) : (bigSep Finset.univ Φ : sProp 𝕄) = BI.emp := BI.bigSep_univ_eq_bigSepL [] (by decide) (by decide) Φ

/-! ## The contents -/

section Run
variable (m : (ℓ : Loc nD τ sig) → Buf (Elt F) ℓ)

/-- Device `c`'s slabs. -/
def xin (c : Dev nD) : S4x1857x1024.Idx → Elt F .f32 := m ((c.tc : Thread nD τ).loc main_arg0)
/-- Device `c`'s result. -/
def final (c : Dev nD) : S4x1857x1024.Idx → Elt F .f32 := xin m (sib c)

/-- Slab `q` of device `c`'s argument. -/
def held (c : Dev nD) (q : Fin 4) : sProp 𝕄 := (c.tc : Thread nD τ).loc main_arg0 ↦[slab3 q]{fullShare} xin m c
/-- Slab `q` of device `c`'s result, at contents `f`. -/
def part (c : Dev nD) (q : Fin 4) (f : S4x1857x1024.Idx → Elt F .f32) : sProp 𝕄 := (c.tc : Thread nD τ).loc main_v1 ↦[slab3 q]{fullShare} f

instance (c : Dev nD) (q : Fin 4) : BI.Storable (upEmb : UEmb _ 𝕄) (held m c q) := by unfold held; infer_instance
instance (c : Dev nD) (q : Fin 4) (f : S4x1857x1024.Idx → Elt F .f32) : BI.Storable (upEmb : UEmb _ 𝕄) (part c q f) := by unfold part; infer_instance

theorem whole_held (c : Dev nD) :
    ((c.tc : Thread nD τ).loc main_arg0 ↦{fullShare} m ((c.tc : Thread nD τ).loc main_arg0) : sProp 𝕄) = bigSep Finset.univ fun q => held m c q :=
  parts (ℓ := (c.tc : Thread nD τ).loc main_arg0) (fun q => (slab3 q : Finset S4x1857x1024.Idx)) (fun i : S4x1857x1024.Idx => i 0)
    (fun q (i : S4x1857x1024.Idx) => mem_slab3 (k := q) (i := i)) fullShare _
theorem whole_parts (c : Dev nD) (f : S4x1857x1024.Idx → Elt F .f32) :
    ((c.tc : Thread nD τ).loc main_v1 ↦{fullShare} f : sProp 𝕄) = bigSep Finset.univ fun q => part c q f :=
  parts (ℓ := (c.tc : Thread nD τ).loc main_v1) (fun q => (slab3 q : Finset S4x1857x1024.Idx)) (fun i : S4x1857x1024.Idx => i 0)
    (fun q (i : S4x1857x1024.Idx) => mem_slab3 (k := q) (i := i)) fullShare _

/-- The exchange. -/
def PL : Plan nD τ sig (Elt F) 8 where
  sem := sems
  sem_inj := sems_inj
  payee := ![Equiv.refl _, Equiv.refl _, Equiv.refl _, Equiv.refl _, sib, sib, sib, sib]
  amt _ := (inp ![0, 0, 0] inb_S4x1857x1024_S1x1857x1024_0_0_0).view.dmaCredit
  amt_pos _ := by decide
  pay c := ![held m c 0, held m c 1, held m c 2, held m c 3, part c 0 (final m c), part c 1 (final m c), part c 2 (final m c), part c 3 (final m c)]
  far := {4, 5, 6, 7}
  lvl _ := 0

theorem storable (c : Dev nD) : ∀ k : Fin 8, BI.Storable (upEmb : UEmb _ 𝕄) ((PL m).pay c k)
  | 0 => inferInstanceAs (BI.Storable _ (held m c 0))
  | 1 => inferInstanceAs (BI.Storable _ (held m c 1))
  | 2 => inferInstanceAs (BI.Storable _ (held m c 2))
  | 3 => inferInstanceAs (BI.Storable _ (held m c 3))
  | 4 => inferInstanceAs (BI.Storable _ (part c 0 (final m c)))
  | 5 => inferInstanceAs (BI.Storable _ (part c 1 (final m c)))
  | 6 => inferInstanceAs (BI.Storable _ (part c 2 (final m c)))
  | 7 => inferInstanceAs (BI.Storable _ (part c 3 (final m c)))

section Views
variable {off : Fin 3 → ℕ} {inb : ∀ a, off a + S1x1857x1024.size a ≤ S4x1857x1024.size a} (q : Fin 4) (h : off = ![q.val, 0, 0])
include h
theorem open_held (c : Dev nD) : (held m c q : sProp 𝕄) = ((inp off inb).view.loc (c.tc : Thread nD τ) ↦[(inp off inb).view.set]{fullShare} xin m c) := by
  unfold held; rw [inp_set q h]
theorem open_part (c : Dev nD) (f : S4x1857x1024.Idx → Elt F .f32) :
    (part c q f : sProp 𝕄) = ((out off inb).view.loc (c.tc : Thread nD τ) ↦[(out off inb).view.set]{fullShare} f) := by
  unfold part; rw [out_set q h]
/-- A slab landed in the sibling's result from device `c` is that slab of the result. -/
theorem land (c c' : Dev nD) (hc : sib c = c') (fd : S4x1857x1024.Idx → Elt F .f32) :
    ((out off inb).view.loc (c'.tc : Thread nD τ) ↦[(out off inb).view.set]{fullShare}
        (out off inb).view.write (Elt F) fd ((inp off inb).view.read (Elt F) (xin m c)) Finset.univ : sProp 𝕄) = part c' q (final m c') := by
  subst hc
  have hl := landed_pts (Val := Elt F) ((sib c).tc : Thread nD τ) (out off inb).view fullShare fd (final m (sib c))
    ((inp off inb).view.read (Elt F) (xin m c)) (fun x => by
      refine (out_read q h _ x).trans (Eq.trans ?_ (inp_read q h _ x).symm)
      show xin m (sib (sib c)) _ = xin m c _
      rw [sib_sib])
  exact hl.trans (open_part q h _ _).symm
end Views

/-- What device `c` starts with: its slabs, and those of its sibling's result. -/
def start (c : Dev nD) : sProp 𝕄 :=
  iprop((bigSep Finset.univ fun q => held m c q) ∗ bigSep Finset.univ fun q => part (sib c) q (m (((sib c).tc : Thread nD τ).loc main_v1)))

theorem start_of : (bigSep Finset.univ fun c : Dev nD => (unscopedBufs c (fun b => m ((c.tc : Thread nD τ).loc b)) : sProp 𝕄)) ⊢ bigSep Finset.univ (start m) := by
  rw [bufs_two main_arg0 main_v1 (by decide) (by decide)]
  unfold start
  rw [bigSep_sep', ← deal_roles (fun _ => sib) (fun c q => part c q (m ((c.tc : Thread nD τ).loc main_v1))),
    bigSep_congr fun c _ => whole_held m c, bigSep_congr fun c _ => whole_parts c (m ((c.tc : Thread nD τ).loc main_v1))]

theorem routes_all (c c' : Dev nD) : τ.routes (c.tc : Thread nD τ) (c'.tc : Thread nD τ) = true := by routes
/-- What it ends with. -/
def finish (c : Dev nD) : sProp 𝕄 :=
  iprop(((c.tc : Thread nD τ).loc main_arg0 ↦{fullShare} m ((c.tc : Thread nD τ).loc main_arg0)) ∗ (c.tc : Thread nD τ).loc main_v1 ↦{fullShare} final m c)

/-- The body, from its dealt cells and memory. -/
theorem body (𝒱 : Variants) (c : Dev nD) :
    iprop((PL m).dealt c ∗ start m c ∗ (PL m).owing c (PL m).far)
      ⊢ wp frame (wpE (defs₀ (F := F)) 𝒱 (c.tc : Thread nD τ) none) Set.univ
          (cc0_swap_with_sibling (Memref.whole main_arg0) (Memref.isWhole_whole _) (Memref.whole main_v1) (Memref.isWhole_whole _) cc0_scratch0 cc0_scratch1)
          fun _ => iprop((PL m).owing c ∅ ∗ (bigSep Finset.univ fun k => semVal ((PL m).cell c k) 0) ∗ finish m c) := by
  have hl8 (Φ : Fin 8 → sProp 𝕄) : bigSep Finset.univ Φ = iprop(Φ 0 ∗ Φ 1 ∗ Φ 2 ∗ Φ 3 ∗ Φ 4 ∗ Φ 5 ∗ Φ 6 ∗ Φ 7) :=
    BI.bigSep_univ_eq_bigSepL [0, 1, 2, 3, 4, 5, 6, 7] (by decide) (by decide) Φ
  have hl4 (Φ : Fin 4 → sProp 𝕄) : bigSep Finset.univ Φ = iprop(Φ 0 ∗ Φ 1 ∗ Φ 2 ∗ Φ 3) := BI.bigSep_univ_eq_bigSepL [0, 1, 2, 3] (by decide) (by decide) Φ
  have hfar : (bigSep (PL m).far fun k => (PL m).due1 c k : sProp 𝕄) = iprop((PL m).due1 c 4 ∗ (PL m).due1 c 5 ∗ (PL m).due1 c 6 ∗ (PL m).due1 c 7) :=
    show bigSep ({4, 5, 6, 7} : Finset (Fin 8)) _ = _ from BI.bigSep_eq_bigSepL_of_eq [4, 5, 6, 7] (by decide) (by decide) _
  have hf0 : (PL m).far = {4, 5, 6, 7} := rfl
  unfold Plan.dealt start finish
  rw [hl8, hl8, hl8, hfar, whole_held m c, whole_parts c (final m c), hl4, hl4, hl4]
  simp only [Gen.cc0_swap_with_sibling_eq_skeleton]
  unfold Gen.cc0_swap_with_sibling_skel
  simp only [Gen.k0_part5_eq_skeleton]
  unfold Gen.k0_part5_skel
  simp only [Gen.k0_part1_eq_skeleton, Gen.k0_part2_eq_skeleton, Gen.k0_part3_eq_skeleton, Gen.k0_part4_eq_skeleton]
  unfold Gen.k0_part1_skel Gen.k0_part2_skel Gen.k0_part3_skel Gen.k0_part4_skel
  simp only [Prog.lift, Prog.bind_op, Prog.bind_ret, Prog.pure_eq_ret, Prog.bind_assoc, wp_deviceId]
  iintro ⟨⟨⟨%K, #Hr⟩, ⟨Hp0, Hp1, Hp2, Hp3, Hp4, Hp5, Hp6, Hp7⟩, ⟨Ht0, Ht1, Ht2, Ht3, Ht4, Ht5, Ht6, Ht7⟩, ⟨Hc4, Hc5, Hc6, Hc7⟩⟩,
    ⟨⟨Ha0, Ha1, Ha2, Ha3⟩, ⟨Hd0, Hd1, Hd2, Hd3⟩⟩, HO⟩
  rw [hf0]
  -- slab 0 sent
  ihave Ha0 := (Entails.of_eq (open_held m (off := ![0, 0, 0]) (inb := inb_S4x1857x1024_S1x1857x1024_0_0_0) 0 rfl c)) $$ Ha0
  ihave Hd0 := (Entails.of_eq ((congrArg (fun d => part d 0 (m ((d.tc : Thread nD τ).loc main_v1))) (dev1 c).symm).trans
    (open_part (off := ![0, 0, 0]) (inb := inb_S4x1857x1024_S1x1857x1024_0_0_0) 0 rfl (peer1 c) _))) $$ Hd0
  ihave Ht4 := (Entails.of_eq (show (PL m).tok ((PL m).payee 4 c) 4 = (PL m).tok (peer1 c) 4 from
    congrArg (fun d => (PL m).tok d 4) (dev1 c).symm)) $$ Ht4
  have hmem0 : (4 : Fin 8) ∈ ({4, 5, 6, 7} : Finset (Fin 8)) := by decide
  have hpay0 := Entails.of_eq (open_held m (off := ![0, 0, 0]) (inb := inb_S4x1857x1024_S1x1857x1024_0_0_0) 0 rfl c).symm
  have hland0 := Entails.of_eq (land m (off := ![0, 0, 0]) (inb := inb_S4x1857x1024_S1x1857x1024_0_0_0) 0 rfl c (peer1 c) (dev1 c).symm
    (m (((peer1 c).tc : Thread nD τ).loc main_v1)))
  iapply ((PL m).send_step 𝒱 K c (peer1 c) 0 4 _ hmem0 (dev1 c).symm (src := inp ![0, 0, 0] inb_S4x1857x1024_S1x1857x1024_0_0_0)
    (dst := out ![0, 0, 0] inb_S4x1857x1024_S1x1857x1024_0_0_0) fullShare (xin m c) (m (((peer1 c).tc : Thread nD τ).loc main_v1)) rfl rfl
    hpay0 hland0 (routes_all c (peer1 c))) $$ [Ha0 Hd0 HO Ht0 Ht4]
  · isplitr; · iexact Hr
    isplitl [Ha0]; · iexact Ha0
    isplitl [Hd0]; · iexact Hd0
    isplitl [HO]; · iexact HO
    isplitl [Ht0]; · iexact Ht0
    iexact Ht4
  rw [show ({4, 5, 6, 7} : Finset (Fin 8)).erase 4 = {5, 6, 7} from by decide]
  iintro ⟨Hc0, HO⟩
  -- slab 1 sent
  ihave Ha1 := (Entails.of_eq (open_held m (off := ![1, 0, 0]) (inb := inb_S4x1857x1024_S1x1857x1024_1_0_0) 1 rfl c)) $$ Ha1
  ihave Hd1 := (Entails.of_eq ((congrArg (fun d => part d 1 (m ((d.tc : Thread nD τ).loc main_v1))) (dev2 c).symm).trans
    (open_part (off := ![1, 0, 0]) (inb := inb_S4x1857x1024_S1x1857x1024_1_0_0) 1 rfl (peer2 c) _))) $$ Hd1
  ihave Ht5 := (Entails.of_eq (show (PL m).tok ((PL m).payee 5 c) 5 = (PL m).tok (peer2 c) 5 from
    congrArg (fun d => (PL m).tok d 5) (dev2 c).symm)) $$ Ht5
  have hmem1 : (5 : Fin 8) ∈ ({5, 6, 7} : Finset (Fin 8)) := by decide
  have hpay1 := Entails.of_eq (open_held m (off := ![1, 0, 0]) (inb := inb_S4x1857x1024_S1x1857x1024_1_0_0) 1 rfl c).symm
  have hland1 := Entails.of_eq (land m (off := ![1, 0, 0]) (inb := inb_S4x1857x1024_S1x1857x1024_1_0_0) 1 rfl c (peer2 c) (dev2 c).symm
    (m (((peer2 c).tc : Thread nD τ).loc main_v1)))
  iapply ((PL m).send_step 𝒱 K c (peer2 c) 1 5 _ hmem1 (dev2 c).symm (src := inp ![1, 0, 0] inb_S4x1857x1024_S1x1857x1024_1_0_0)
    (dst := out ![1, 0, 0] inb_S4x1857x1024_S1x1857x1024_1_0_0) fullShare (xin m c) (m (((peer2 c).tc : Thread nD τ).loc main_v1)) rfl rfl
    hpay1 hland1 (routes_all c (peer2 c))) $$ [Ha1 Hd1 HO Ht1 Ht5]
  · isplitr; · iexact Hr
    isplitl [Ha1]; · iexact Ha1
    isplitl [Hd1]; · iexact Hd1
    isplitl [HO]; · iexact HO
    isplitl [Ht1]; · iexact Ht1
    iexact Ht5
  rw [show ({5, 6, 7} : Finset (Fin 8)).erase 5 = {6, 7} from by decide]
  iintro ⟨Hc1, HO⟩
  -- slab 2 sent
  ihave Ha2 := (Entails.of_eq (open_held m (off := ![2, 0, 0]) (inb := inb_S4x1857x1024_S1x1857x1024_2_0_0) 2 rfl c)) $$ Ha2
  ihave Hd2 := (Entails.of_eq ((congrArg (fun d => part d 2 (m ((d.tc : Thread nD τ).loc main_v1))) (dev3 c).symm).trans
    (open_part (off := ![2, 0, 0]) (inb := inb_S4x1857x1024_S1x1857x1024_2_0_0) 2 rfl (peer3 c) _))) $$ Hd2
  ihave Ht6 := (Entails.of_eq (show (PL m).tok ((PL m).payee 6 c) 6 = (PL m).tok (peer3 c) 6 from
    congrArg (fun d => (PL m).tok d 6) (dev3 c).symm)) $$ Ht6
  have hmem2 : (6 : Fin 8) ∈ ({6, 7} : Finset (Fin 8)) := by decide
  have hpay2 := Entails.of_eq (open_held m (off := ![2, 0, 0]) (inb := inb_S4x1857x1024_S1x1857x1024_2_0_0) 2 rfl c).symm
  have hland2 := Entails.of_eq (land m (off := ![2, 0, 0]) (inb := inb_S4x1857x1024_S1x1857x1024_2_0_0) 2 rfl c (peer3 c) (dev3 c).symm
    (m (((peer3 c).tc : Thread nD τ).loc main_v1)))
  iapply ((PL m).send_step 𝒱 K c (peer3 c) 2 6 _ hmem2 (dev3 c).symm (src := inp ![2, 0, 0] inb_S4x1857x1024_S1x1857x1024_2_0_0)
    (dst := out ![2, 0, 0] inb_S4x1857x1024_S1x1857x1024_2_0_0) fullShare (xin m c) (m (((peer3 c).tc : Thread nD τ).loc main_v1)) rfl rfl
    hpay2 hland2 (routes_all c (peer3 c))) $$ [Ha2 Hd2 HO Ht2 Ht6]
  · isplitr; · iexact Hr
    isplitl [Ha2]; · iexact Ha2
    isplitl [Hd2]; · iexact Hd2
    isplitl [HO]; · iexact HO
    isplitl [Ht2]; · iexact Ht2
    iexact Ht6
  rw [show ({6, 7} : Finset (Fin 8)).erase 6 = {7} from by decide]
  iintro ⟨Hc2, HO⟩
  -- slab 3 sent
  ihave Ha3 := (Entails.of_eq (open_held m (off := ![3, 0, 0]) (inb := inb_S4x1857x1024_S1x1857x1024_3_0_0) 3 rfl c)) $$ Ha3
  ihave Hd3 := (Entails.of_eq ((congrArg (fun d => part d 3 (m ((d.tc : Thread nD τ).loc main_v1))) (dev4 c).symm).trans
    (open_part (off := ![3, 0, 0]) (inb := inb_S4x1857x1024_S1x1857x1024_3_0_0) 3 rfl (peer4 c) _))) $$ Hd3
  ihave Ht7 := (Entails.of_eq (show (PL m).tok ((PL m).payee 7 c) 7 = (PL m).tok (peer4 c) 7 from
    congrArg (fun d => (PL m).tok d 7) (dev4 c).symm)) $$ Ht7
  have hmem3 : (7 : Fin 8) ∈ ({7} : Finset (Fin 8)) := by decide
  have hpay3 := Entails.of_eq (open_held m (off := ![3, 0, 0]) (inb := inb_S4x1857x1024_S1x1857x1024_3_0_0) 3 rfl c).symm
  have hland3 := Entails.of_eq (land m (off := ![3, 0, 0]) (inb := inb_S4x1857x1024_S1x1857x1024_3_0_0) 3 rfl c (peer4 c) (dev4 c).symm
    (m (((peer4 c).tc : Thread nD τ).loc main_v1)))
  iapply ((PL m).send_step 𝒱 K c (peer4 c) 3 7 _ hmem3 (dev4 c).symm (src := inp ![3, 0, 0] inb_S4x1857x1024_S1x1857x1024_3_0_0)
    (dst := out ![3, 0, 0] inb_S4x1857x1024_S1x1857x1024_3_0_0) fullShare (xin m c) (m (((peer4 c).tc : Thread nD τ).loc main_v1)) rfl rfl
    hpay3 hland3 (routes_all c (peer4 c))) $$ [Ha3 Hd3 HO Ht3 Ht7]
  · isplitr; · iexact Hr
    isplitl [Ha3]; · iexact Ha3
    isplitl [Hd3]; · iexact Hd3
    isplitl [HO]; · iexact HO
    isplitl [Ht3]; · iexact Ht3
    iexact Ht7
  rw [show ({7} : Finset (Fin 8)).erase 7 = ∅ from by decide]
  iintro ⟨Hc3, HO⟩
  -- cell 0 waited on
  iapply ((PL m).wait_step 𝒱 K c 0 ∅ (fun j hj => absurd hj (Finset.notMem_empty j)) rfl) $$ [Hp0 Hc0 HO]
  · isplitr; · iexact Hr
    isplitl [Hp0]; · iexact Hp0
    isplitl [Hc0]; · iexact Hc0
    iexact HO
  iintro ⟨Hy0, Hz0, HO⟩
  ihave Hy0 := (Entails.of_eq (show (PL m).pay c 0 = held m c 0 from rfl)) $$ Hy0
  -- cell 4 waited on
  iapply ((PL m).wait_step 𝒱 K c 4 ∅ (fun j hj => absurd hj (Finset.notMem_empty j)) rfl) $$ [Hp4 Hc4 HO]
  · isplitr; · iexact Hr
    isplitl [Hp4]; · iexact Hp4
    isplitl [Hc4]; · iexact Hc4
    iexact HO
  iintro ⟨Hy4, Hz4, HO⟩
  ihave Hy4 := (Entails.of_eq (show (PL m).pay c 4 = part c 0 (final m c) from rfl)) $$ Hy4
  -- cell 1 waited on
  iapply ((PL m).wait_step 𝒱 K c 1 ∅ (fun j hj => absurd hj (Finset.notMem_empty j)) rfl) $$ [Hp1 Hc1 HO]
  · isplitr; · iexact Hr
    isplitl [Hp1]; · iexact Hp1
    isplitl [Hc1]; · iexact Hc1
    iexact HO
  iintro ⟨Hy1, Hz1, HO⟩
  ihave Hy1 := (Entails.of_eq (show (PL m).pay c 1 = held m c 1 from rfl)) $$ Hy1
  -- cell 5 waited on
  iapply ((PL m).wait_step 𝒱 K c 5 ∅ (fun j hj => absurd hj (Finset.notMem_empty j)) rfl) $$ [Hp5 Hc5 HO]
  · isplitr; · iexact Hr
    isplitl [Hp5]; · iexact Hp5
    isplitl [Hc5]; · iexact Hc5
    iexact HO
  iintro ⟨Hy5, Hz5, HO⟩
  ihave Hy5 := (Entails.of_eq (show (PL m).pay c 5 = part c 1 (final m c) from rfl)) $$ Hy5
  -- cell 2 waited on
  iapply ((PL m).wait_step 𝒱 K c 2 ∅ (fun j hj => absurd hj (Finset.notMem_empty j)) rfl) $$ [Hp2 Hc2 HO]
  · isplitr; · iexact Hr
    isplitl [Hp2]; · iexact Hp2
    isplitl [Hc2]; · iexact Hc2
    iexact HO
  iintro ⟨Hy2, Hz2, HO⟩
  ihave Hy2 := (Entails.of_eq (show (PL m).pay c 2 = held m c 2 from rfl)) $$ Hy2
  -- cell 6 waited on
  iapply ((PL m).wait_step 𝒱 K c 6 ∅ (fun j hj => absurd hj (Finset.notMem_empty j)) rfl) $$ [Hp6 Hc6 HO]
  · isplitr; · iexact Hr
    isplitl [Hp6]; · iexact Hp6
    isplitl [Hc6]; · iexact Hc6
    iexact HO
  iintro ⟨Hy6, Hz6, HO⟩
  ihave Hy6 := (Entails.of_eq (show (PL m).pay c 6 = part c 2 (final m c) from rfl)) $$ Hy6
  -- cell 3 waited on
  iapply ((PL m).wait_step 𝒱 K c 3 ∅ (fun j hj => absurd hj (Finset.notMem_empty j)) rfl) $$ [Hp3 Hc3 HO]
  · isplitr; · iexact Hr
    isplitl [Hp3]; · iexact Hp3
    isplitl [Hc3]; · iexact Hc3
    iexact HO
  iintro ⟨Hy3, Hz3, HO⟩
  ihave Hy3 := (Entails.of_eq (show (PL m).pay c 3 = held m c 3 from rfl)) $$ Hy3
  -- cell 7 waited on
  iapply ((PL m).wait_step 𝒱 K c 7 ∅ (fun j hj => absurd hj (Finset.notMem_empty j)) rfl) $$ [Hp7 Hc7 HO]
  · isplitr; · iexact Hr
    isplitl [Hp7]; · iexact Hp7
    isplitl [Hc7]; · iexact Hc7
    iexact HO
  iintro ⟨Hy7, Hz7, HO⟩
  ihave Hy7 := (Entails.of_eq (show (PL m).pay c 7 = part c 3 (final m c) from rfl)) $$ Hy7
  rw [wp_ret]
  imodintro
  isplitl [HO]; · iexact HO
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    iexact Hz7
  isplitl [Hy0 Hy1 Hy2 Hy3]
  · isplitl [Hy0]; · iexact Hy0
    isplitl [Hy1]; · iexact Hy1
    isplitl [Hy2]; · iexact Hy2
    iexact Hy3
  isplitl [Hy4]; · iexact Hy4
  isplitl [Hy5]; · iexact Hy5
  isplitl [Hy6]; · iexact Hy6
  iexact Hy7

/-- Every device's result is its sibling's argument, its own argument is as it was, and every semaphore is back at zero. -/
theorem run (ρ : Dev nD → PrngReg) :
    θ_run (defs (F := F)) (onTc (τ := τ) (main (F := F))) ⟨m, fun _ => 0, ρ⟩ fun r =>
      (∀ c : Dev nD, r.2.mem ((c.tc : Thread nD τ).loc main_v1) = final m c
        ∧ r.2.mem ((c.tc : Thread nD τ).loc main_arg0) = m ((c.tc : Thread nD τ).loc main_arg0)) ∧ r.2.sem = fun _ => 0 := by
  refine Plan.run (pcfgs (F := F)) (fun p => (cfgs p).toPCfg_adm) (PL m) Gen.cellOf_inj win_facts own_facts (defs₀ (F := F)) .none
    (fun _ => inferInstanceAs (IsEmpty (Fin 0))) Gen.N_0 (fun c q f => no_tables _)
    (fun c => Gen.scopedRest0_eq c) m ρ (main (F := F)) (fun c => (Gen.main_chain c).trans rfl) (storable m) (start m) (start_of m) (finish m)
    (fun c t => body m _ c)
    (fun c s => s.mem ((c.tc : Thread nD τ).loc main_v1) = final m c
        ∧ s.mem ((c.tc : Thread nD τ).loc main_arg0) = m ((c.tc : Thread nD τ).loc main_arg0))
    (fun c s' => ?_) (fun s hs hz => ⟨hs, sem_eq_zero_of_scoped (by decide) hz⟩)
  unfold finish
  iintro ⟨⟨Ha, Ho⟩, HSI⟩
  icombine HSI Ha gives %ha
  icombine HSI Ho gives %ho
  imodintro
  isplitr
  · ipureintro; exact ⟨Buf.eq_of_forall_mem_univ ho, Buf.eq_of_forall_mem_univ ha⟩
  iexact HSI

end Run

end Cert.Proof.Swap

end
-- ==== Proof.SwapRef.lean ====
/-
  The swap's reference — of every chip's two groups of four slabs, the order reversed —, its run, and what the claims of the swap say.
-/
module

public import proofs.«01_k».proof.Proof.Swap
public import proofs.«01_k».proof.Proof.Gen.SwapRefIdeal
public import Idealize.ShloMosaic.Lib.StableHlo.Run
public import Idealize.ShloMosaic.Lib.Pipeline.Value

@[expose] public section

set_option Elab.async false

noncomputable section

namespace Cert.Proof.Swap.Ref

open Cert.SwapRefIdeal
open Idealize.ShloMosaic Idealize.ShloMosaic.TcCoe Idealize.ShloMosaic.StableHlo Idealize.ShloMosaic.ValueIdx Idealize.SL.Sem

variable {F : FTy → Type} [FloatOps F]

/-- The slabs by chip, core and number. -/
abbrev grid (x : S32x1857x1024.Idx → Elt F .f32) : S4x2x4x1857x1024.Idx → Elt F .f32 :=
  shapeCast S4x2x4x1857x1024 x Facts₀.shapeCasts_S32x1857x1024_S4x2x4x1857x1024
/-- Every chip's second group, then its first. -/
abbrev turned (y : S4x2x4x1857x1024.Idx → Elt F .f32) : S4x2x4x1857x1024.Idx → Elt F .f32 :=
  concatenate S4x2x4x1857x1024 1
    [⟨S4x1x4x1857x1024, extractStridedSlice S4x1x4x1857x1024 ![0, 1, 0, 0, 0] y Facts₀.slices_S4x2x4x1857x1024_S4x1x4x1857x1024_0_1_0_0_0⟩,
     ⟨S4x1x4x1857x1024, extractStridedSlice S4x1x4x1857x1024 ![0, 0, 0, 0, 0] y Facts₀.slices_S4x2x4x1857x1024_S4x1x4x1857x1024_0_0_0_0_0⟩]
    Facts₀.concatenates_S4x1x4x1857x1024_S4x1x4x1857x1024_S4x2x4x1857x1024_d1
/-- The reference's result from its argument. -/
abbrev refOut (x : S32x1857x1024.Idx → Elt F .f32) : S32x1857x1024.Idx → Elt F .f32 :=
  shapeCast S32x1857x1024 (turned (grid x)) Facts₀.shapeCasts_S4x2x4x1857x1024_S32x1857x1024

/-- @main's operations. -/
abbrev ops : List (HloOp τ sig (Elt F)) :=
  [reshape main_arg0 main_v0 (rfl : (.f32 : EltTy) = .f32) Facts₀.shapeCasts_S32x1857x1024_S4x2x4x1857x1024,
   unary main_v0 main_v1 ((extractStridedSlice S4x1x4x1857x1024 ![0, 1, 0, 0, 0] · Facts₀.slices_S4x2x4x1857x1024_S4x1x4x1857x1024_0_1_0_0_0) :
     (⟨S4x2x4x1857x1024, .f32⟩ : BufTy).Contents (Elt F) → (⟨S4x1x4x1857x1024, .f32⟩ : BufTy).Contents (Elt F)),
   unary main_v0 main_v2 ((extractStridedSlice S4x1x4x1857x1024 ![0, 0, 0, 0, 0] · Facts₀.slices_S4x2x4x1857x1024_S4x1x4x1857x1024_0_0_0_0_0) :
     (⟨S4x2x4x1857x1024, .f32⟩ : BufTy).Contents (Elt F) → (⟨S4x1x4x1857x1024, .f32⟩ : BufTy).Contents (Elt F)),
   binary main_v1 main_v2 main_v3 ((fun a b => concatenate S4x2x4x1857x1024 1 [⟨S4x1x4x1857x1024, a⟩, ⟨S4x1x4x1857x1024, b⟩]
       Facts₀.concatenates_S4x1x4x1857x1024_S4x1x4x1857x1024_S4x2x4x1857x1024_d1) :
     (⟨S4x1x4x1857x1024, .f32⟩ : BufTy).Contents (Elt F) → (⟨S4x1x4x1857x1024, .f32⟩ : BufTy).Contents (Elt F) →
       (⟨S4x2x4x1857x1024, .f32⟩ : BufTy).Contents (Elt F)),
   reshape main_v3 main_v4 (rfl : (.f32 : EltTy) = .f32) Facts₀.shapeCasts_S4x2x4x1857x1024_S32x1857x1024]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops (F := F)).Forall fun op => op.bufs ⊆ tcRefs τ sig := ⟨reshape_bufs_sub .., unary_bufs_sub .., unary_bufs_sub .., binary_bufs_sub .., reshape_bufs_sub ..⟩
theorem out_eq (V : (b : DevRef τ sig) → b.ty.Contents (Elt F)) :
    after ops V (main_v4 : DevRef τ sig) = refOut (V (main_arg0 : DevRef τ sig)) := by after_results; rfl
theorem arg0_eq (V : (b : DevRef τ sig) → b.ty.Contents (Elt F)) :
    after ops V (main_arg0 : DevRef τ sig) = V (main_arg0 : DevRef τ sig) := by after_results

/-- The reference's run. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v4) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v4).trans (out_eq _), (h c main_arg0).trans (arg0_eq _)⟩, sem_eq_zero_of_no_sems rfl r.2⟩)
    (run_seq scopedRefs_eq scopedSems_eq defs main (fun _ => ops) main_eq (fun _ => ops_sub) m ρ)

/-! ## A device's result as its part of the reference's -/

/-- The first half of the turned groups is the second. -/
theorem turned_zero (y : S4x2x4x1857x1024.Idx → Elt F .f32) (a : Fin 4) (k : Fin 4) (u : Fin 1857) (v : Fin 1024) :
    turned y (ix5 a 0 k u v) = y (ix5 a 1 k u v) := by
  refine (concatenate_pair_apply_left (t := S4x2x4x1857x1024) (s₁ := S4x1x4x1857x1024) (s₂ := S4x1x4x1857x1024) 1 _ _ _ (ix5 a 0 k u v) rfl (ix5 a 0 k u v) ?_).trans
    (extractStridedSlice_apply _ _ _ _ (ix5 a 1 k u v) ?_)
  · intro b; fin_cases b <;> rfl
  · intro b; fin_cases b
    · exact (Nat.zero_add _).symm
    · rfl
    · exact (Nat.zero_add _).symm
    · exact (Nat.zero_add _).symm
    · exact (Nat.zero_add _).symm
/-- And the second is the first. -/
theorem turned_one (y : S4x2x4x1857x1024.Idx → Elt F .f32) (a : Fin 4) (k : Fin 4) (u : Fin 1857) (v : Fin 1024) :
    turned y (ix5 a 1 k u v) = y (ix5 a 0 k u v) := by
  refine (concatenate_pair_apply_right (t := S4x2x4x1857x1024) (s₁ := S4x1x4x1857x1024) (s₂ := S4x1x4x1857x1024) 1 _ _ _ (ix5 a 1 k u v) rfl rfl (ix5 a 0 k u v) ?_ ?_).trans
    (extractStridedSlice_apply _ _ _ _ (ix5 a 0 k u v) ?_)
  · intro b hb
    fin_cases b
    · rfl
    · exact absurd rfl hb
    · rfl
    · rfl
    · rfl
  · rfl
  · intro b; fin_cases b
    · exact (Nat.zero_add _).symm
    · rfl
    · exact (Nat.zero_add _).symm
    · exact (Nat.zero_add _).symm
    · exact (Nat.zero_add _).symm
/-- The grid at a chip, a core and a number. -/
theorem grid_apply (x : S32x1857x1024.Idx → Elt F .f32) (a : Fin 4) (b : Fin 2) (k : Fin 4) (u : Fin 1857) (v : Fin 1024) (y : S32x1857x1024.Idx)
    (h0 : (y 0).val = 8 * a.val + 4 * b.val + k.val) (h1 : (y 1).val = u.val) (h2 : (y 2).val = v.val) : grid x (ix5 a b k u v) = x y := by
  refine shapeCast_apply x _ _ _ ?_
  rw [Shape.rowMajor_val_three, Shape.rowMajor_val_five, h0, h1, h2]
  show ((8 * a.val + 4 * b.val + k.val) * 1857 + u.val) * 1024 + v.val = (((a.val * 2 + b.val) * 4 + k.val) * 1857 + u.val) * 1024 + v.val
  omega
/-- Slab `k` of device `c`'s part of the reference's result is slab `k` of its sibling's part of the argument. -/
theorem refOut_apply (x : S32x1857x1024.Idx → Elt F .f32) (c : Dev SwapIdeal.nD) (k : Fin 4) (i y : S32x1857x1024.Idx)
    (hi : (i 0).val = 4 * c.val + k.val) (h0 : (y 0).val = 4 * (sib c).val + k.val) (h1 : (y 1).val = (i 1).val) (h2 : (y 2).val = (i 2).val) :
    refOut x i = x y := by
  have hc := c.isLt
  change c.val < 8 at hc
  have hs : (sib c).val = c.val + 1 - 2 * (c.val % 2) := rfl
  have hcast (b : Fin 2) (hb : b.val = c.val % 2) :
      refOut x i = turned (grid x) (ix5 (⟨c.val / 2, by omega⟩ : Fin 4) b k (i 1) (i 2)) := by
    refine shapeCast_apply _ _ _ _ ?_
    rw [Shape.rowMajor_val_three, Shape.rowMajor_val_five, hi]
    show (((c.val / 2 * 2 + b.val) * 4 + k.val) * 1857 + (i 1).val) * 1024 + (i 2).val = ((4 * c.val + k.val) * 1857 + (i 1).val) * 1024 + (i 2).val
    rw [hb]
    omega
  rcases Nat.mod_two_eq_zero_or_one c.val with h | h
  · refine (hcast 0 h.symm).trans ((turned_zero (grid x) _ _ _ _).trans ?_)
    refine grid_apply x _ _ _ _ _ y ?_ h1 h2
    show (y 0).val = 8 * (c.val / 2) + 4 * 1 + k.val
    omega
  · refine (hcast 1 h.symm).trans ((turned_one (grid x) _ _ _ _).trans ?_)
    refine grid_apply x _ _ _ _ _ y ?_ h1 h2
    show (y 0).val = 8 * (c.val / 2) + 4 * 0 + k.val
    omega

/-- From slabs that are the blocks of the whole, a device's result is its block of the reference's. -/
theorem final_eq (m : (ℓ : Loc SwapIdeal.nD SwapIdeal.τ SwapIdeal.sig) → Buf (Elt F) ℓ) (x : S32x1857x1024.Idx → Elt F .f32)
    (h : ∀ c : Dev SwapIdeal.nD, xin m c = Layout.block ⟨3, ![4, 1857, 1024]⟩ ⟨3, ![32, 1857, 1024]⟩ 0 8 c x) (c : Dev SwapIdeal.nD) :
    final m c = Layout.block ⟨3, ![4, 1857, 1024]⟩ ⟨3, ![32, 1857, 1024]⟩ 0 8 c (refOut x) := by
  funext i
  show xin m (sib c) i = _
  rw [h, Layout.block_apply, Layout.block_apply]
  refine (refOut_apply x c (i 0) _ _ ?_ ?_ ?_ ?_).symm
  · rw [block_slab]; omega
  · rw [block_slab]; omega
  · exact (block_row _ _ _).trans (block_row _ _ _).symm
  · exact (block_col _ _ _).trans (block_col _ _ _).symm

/-- The swap against its reference, over any float values. -/
theorem value (m : (ℓ : Loc SwapIdeal.nD SwapIdeal.τ SwapIdeal.sig) → Buf (Elt F) ℓ) (g : Dev SwapIdeal.nD → PrngReg)
    (m' : (ℓ : Loc nD τ sig) → Buf (Elt F) ℓ) (g' : Dev nD → PrngReg)
    (h : ∀ c : Dev SwapIdeal.nD, m ((c.tc : Thread SwapIdeal.nD SwapIdeal.τ).loc SwapIdeal.main_arg0)
      = Layout.block ⟨3, ![4, 1857, 1024]⟩ ⟨3, ![32, 1857, 1024]⟩ 0 8 c (m' (((0 : Dev nD).tc : Thread nD τ).loc main_arg0))) :
    ∃ v0 : Buf (Elt F) (((0 : Dev nD).tc : Thread nD τ).loc main_v4),
      θ_run (SwapIdeal.defs (F := F)) (onTc (τ := SwapIdeal.τ) (SwapIdeal.main (F := F))) ⟨m, fun _ => 0, g⟩ (fun r => ∀ c : Dev SwapIdeal.nD,
          r.2.mem ((c.tc : Thread SwapIdeal.nD SwapIdeal.τ).loc SwapIdeal.main_v1)
            = Layout.block ⟨3, ![4, 1857, 1024]⟩ ⟨3, ![32, 1857, 1024]⟩ 0 8 c v0
          ∧ r.2.mem ((c.tc : Thread SwapIdeal.nD SwapIdeal.τ).loc SwapIdeal.main_arg0)
            = m ((c.tc : Thread SwapIdeal.nD SwapIdeal.τ).loc SwapIdeal.main_arg0))
      ∧ θ_run (defs (F := F)) (onTc (τ := τ) (main (F := F))) ⟨m', fun _ => 0, g'⟩ (fun r =>
          r.2.mem (((0 : Dev nD).tc : Thread nD τ).loc main_v4) = v0
          ∧ r.2.mem (((0 : Dev nD).tc : Thread nD τ).loc main_arg0) = m' (((0 : Dev nD).tc : Thread nD τ).loc main_arg0)) :=
  ⟨refOut (m' (((0 : Dev nD).tc : Thread nD τ).loc main_arg0)),
    (θ_run _ _ _).mono (fun r hr c => ⟨(hr.1 c).1.trans (final_eq m _ h c), (hr.1 c).2⟩) (Swap.run m g),
    (θ_run _ _ _).mono (fun r hr => hr.1 0) (run m' g')⟩

end Cert.Proof.Swap.Ref

end
-- ==== Proof.Scatter.lean ====
/-
  `_scatter_to_owners`, one run: slab `p` of a device goes to chip `p`, to the place of the chip it came from.
-/
module

public import proofs.«01_k».proof.Proof.Geometry
public import proofs.«01_k».proof.Proof.Gen.ScatterIdeal.Skeleton
public import proofs.«01_k».proof.Proof.Gen.ScatterIdeal.Launch

@[expose] public section

set_option Elab.async false

noncomputable section

namespace Cert.Proof.Scatter

open Cert.ScatterIdeal
open Facts₀
open Idealize.ShloMosaic Idealize.ShloMosaic.TcCoe Idealize.ShloMosaic.Tactic Idealize.ShloMosaic.ValueIdx
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ sig) ℕ

/-! ## Who is who -/

/-- A device's chip. -/
def chip (c : Dev nD) : Fin 4 := ⟨c.val / 2, by have h := c.isLt; change c.val < 8 at h; omega⟩
/-- The device of chip `k` with device `c`'s core. -/
def owner (c : Dev nD) (k : Fin 4) : Dev nD := ⟨2 * k.val + c.val % 2, by have hk := k.isLt; change _ < 8; omega⟩
/-- The device `c` exchanges with in role `t`: itself, then its neighbours along x, along y, and along both. -/
def mateOf (t : Fin 4) (c : Dev nD) : Dev nD :=
  owner c (![chip c, chip c + 2, if (chip c).val % 2 = 0 then chip c + 1 else chip c - 1,
    if (chip c).val % 2 = 0 then chip c + 2 + 1 else chip c + 2 - 1] t)
theorem mateOf_mateOf : ∀ (t : Fin 4) (c : Dev nD), mateOf t (mateOf t c) = c := by decide
/-- The same, as a rearrangement of the devices. -/
def mate (t : Fin 4) : Dev nD ≃ Dev nD := ⟨mateOf t, mateOf t, mateOf_mateOf t, mateOf_mateOf t⟩
/-- The slab device `c` gives, and fills, in role `t`. -/
def place (c : Dev nD) (t : Fin 4) : Fin 4 := chip (mateOf t c)
/-- The role in which device `c` gives and fills slab `k`. -/
def role (c : Dev nD) (k : Fin 4) : Fin 4 := if k = place c 0 then 0 else if k = place c 1 then 1 else if k = place c 2 then 2 else 3
theorem place_iff : ∀ (c : Dev nD) (t k : Fin 4), k = place c t ↔ role c k = t := by decide
theorem place_mate (c : Dev nD) (t : Fin 4) : place (mate t c) t = chip c := congrArg chip (mateOf_mateOf t c)
theorem owner_mate : ∀ (c : Dev nD) (t : Fin 4), owner (mateOf t c) (chip c) = c := by decide

theorem off1 (c : Dev nD) : k0_off1 c = ![(chip c).val, 0, 0] := by
  have h : ∀ c : Dev nD, 2 * (c.val / 4) + ((c.val / 2) % 2) = (chip c).val := by decide
  rw [Gen.k0_off1_eq, h]
theorem off2 (c : Dev nD) : k0_off2 c = ![(place c 1).val, 0, 0] := by
  have h : ∀ c : Dev nD, (((c.val / 2) % 2) + 2) - 2 * (c.val / 4) = (place c 1).val := by decide
  rw [Gen.k0_off2_eq, h]
theorem off3 (c : Dev nD) : k0_off3 c = ![(place c 2).val, 0, 0] := by
  have h : ∀ c : Dev nD, (2 * (c.val / 4) + 1) - ((c.val / 2) % 2) = (place c 2).val := by decide
  rw [Gen.k0_off3_eq, h]
theorem off4 (c : Dev nD) : k0_off4 c = ![(place c 3).val, 0, 0] := by
  have h : ∀ c : Dev nD, 3 - (2 * (c.val / 4) + ((c.val / 2) % 2)) = (place c 3).val := by decide
  rw [Gen.k0_off4_eq, h]
theorem off1' (c : Dev nD) : k0_off1 c = ![(place c 0).val, 0, 0] := by
  have h : ∀ c : Dev nD, chip c = place c 0 := by decide
  rw [off1, h]
/-- The device the send of role 1 goes to. -/
abbrev peer1 (c : Dev nD) : Dev nD := ⟨k0_dev1 c, k0_dev1_lt c⟩
theorem dev1 (c : Dev nD) : peer1 c = mate 1 c := by
  apply Fin.ext; show k0_dev1 c = _; rw [Gen.k0_dev1_eq]; revert c; decide
/-- The device the send of role 2 goes to. -/
abbrev peer2 (c : Dev nD) : Dev nD := ⟨k0_dev2 c, k0_dev2_lt c⟩
theorem dev2 (c : Dev nD) : peer2 c = mate 2 c := by
  apply Fin.ext; show k0_dev2 c = _; rw [Gen.k0_dev2_eq]; revert c; decide
/-- The device the send of role 3 goes to. -/
abbrev peer3 (c : Dev nD) : Dev nD := ⟨k0_dev3 c, k0_dev3_lt c⟩
theorem dev3 (c : Dev nD) : peer3 c = mate 3 c := by
  apply Fin.ext; show k0_dev3 c = _; rw [Gen.k0_dev3_eq]; revert c; decide

/-! ## The memrefs and the semaphores -/

abbrev inp (off : Fin 3 → ℕ) (inb : ∀ a, off a + S1x1857x1024.size a ≤ S4x1857x1024.size a) : Memref sig .tc .hbm S1857x1024 .f32 :=
  ((Memref.whole main_arg0).slice (Rect.unit (s := S4x1857x1024) off S1x1857x1024.size inb) (fun _ => rfl)).squeeze S1857x1024 squeezes_S1x1857x1024_S1857x1024
abbrev out (off : Fin 3 → ℕ) (inb : ∀ a, off a + S1x1857x1024.size a ≤ S4x1857x1024.size a) : Memref sig .tc .hbm S1857x1024 .f32 :=
  ((Memref.whole main_v1).slice (Rect.unit (s := S4x1857x1024) off S1x1857x1024.size inb) (fun _ => rfl)).squeeze S1857x1024 squeezes_S1x1857x1024_S1857x1024

section Views
variable {off : Fin 3 → ℕ} {inb : ∀ a, off a + S1x1857x1024.size a ≤ S4x1857x1024.size a} (k : Fin 4) (h : off = ![k.val, 0, 0])
include h
theorem inp_set : (inp off inb).view.set = slab3 k := (View.set_reshape _ _).trans ((View.set_slice_whole _ _).trans (slab3_set k h inb))
theorem out_set : (out off inb).view.set = slab3 k := (View.set_reshape _ _).trans ((View.set_slice_whole _ _).trans (slab3_set k h inb))
theorem inp_read (g : S4x1857x1024.Idx → Elt F .f32) (x : S1857x1024.Idx) : (inp off inb).view.read (Elt F) g x = g (ix3 k (x 0) (x 1)) :=
  congrArg g (slab3_emb k h inb (Shape.Squeezes.numel_eq squeezes_S1x1857x1024_S1857x1024) x)
theorem out_read (g : S4x1857x1024.Idx → Elt F .f32) (x : S1857x1024.Idx) : (out off inb).view.read (Elt F) g x = g (ix3 k (x 0) (x 1)) :=
  congrArg g (slab3_emb k h inb (Shape.Squeezes.numel_eq squeezes_S1x1857x1024_S1857x1024) x)
end Views

theorem inb_zero : ∀ a, (![0, 0, 0] : Fin 3 → ℕ) a + S1x1857x1024.size a ≤ S4x1857x1024.size a := by decide
/-- The cells: 0 to 2 the sends, 3 to 5 the receipts, 6 the device's own copy. -/
abbrev sems : Fin 7 → DmaSem sig := ![((cc0_scratch0.slice (Rect.unit (s := S3) ![0] S1.size inb_S3_S1_0)).squeeze S_ squeezes_S1_S_).sem,
  ((cc0_scratch0.slice (Rect.unit (s := S3) ![1] S1.size inb_S3_S1_1)).squeeze S_ squeezes_S1_S_).sem,
  ((cc0_scratch0.slice (Rect.unit (s := S3) ![2] S1.size inb_S3_S1_2)).squeeze S_ squeezes_S1_S_).sem,
  ((cc0_scratch1.slice (Rect.unit (s := S3) ![0] S1.size inb_S3_S1_0)).squeeze S_ squeezes_S1_S_).sem,
  ((cc0_scratch1.slice (Rect.unit (s := S3) ![1] S1.size inb_S3_S1_1)).squeeze S_ squeezes_S1_S_).sem,
  ((cc0_scratch1.slice (Rect.unit (s := S3) ![2] S1.size inb_S3_S1_2)).squeeze S_ squeezes_S1_S_).sem,
  cc0_scratch2.sem]
theorem sems_inj : Function.Injective sems := by decide
theorem win_facts : WinFacts₀ cfg0.spec := by decide
theorem own_facts : OwnSemFacts cfg0.spec (fun k : Fin 7 => .dma (sems k)) := by decide
theorem no_tables (Φ : Fin 0 → sProp 𝕄) : (bigSep Finset.univ Φ : sProp 𝕄) = BI.emp := BI.bigSep_univ_eq_bigSepL [] (by decide) (by decide) Φ

/-! ## The contents -/

section Run
variable (m : (ℓ : Loc nD τ sig) → Buf (Elt F) ℓ)

/-- Device `c`'s slabs. -/
def xin (c : Dev nD) : S4x1857x1024.Idx → Elt F .f32 := m ((c.tc : Thread nD τ).loc main_arg0)
/-- Device `c`'s result: from every chip, the slab kept there for `c`'s. -/
def final (c : Dev nD) : S4x1857x1024.Idx → Elt F .f32 := fun i => xin m (owner c (i 0)) (ix3 (chip c) (i 1) (i 2))

/-- The slab device `c` gives in role `t`. -/
def held (c : Dev nD) (t : Fin 4) : sProp 𝕄 := (c.tc : Thread nD τ).loc main_arg0 ↦[slab3 (place c t)]{fullShare} xin m c
/-- The slab of device `c`'s result filled in role `t`, at contents `f`. -/
def part (c : Dev nD) (t : Fin 4) (f : S4x1857x1024.Idx → Elt F .f32) : sProp 𝕄 := (c.tc : Thread nD τ).loc main_v1 ↦[slab3 (place c t)]{fullShare} f

instance (c : Dev nD) (t : Fin 4) : BI.Storable (upEmb : UEmb _ 𝕄) (held m c t) := by unfold held; infer_instance
instance (c : Dev nD) (t : Fin 4) (f : S4x1857x1024.Idx → Elt F .f32) : BI.Storable (upEmb : UEmb _ 𝕄) (part c t f) := by unfold part; infer_instance

theorem whole_held (c : Dev nD) :
    ((c.tc : Thread nD τ).loc main_arg0 ↦{fullShare} m ((c.tc : Thread nD τ).loc main_arg0) : sProp 𝕄) = bigSep Finset.univ fun t => held m c t :=
  parts (ℓ := (c.tc : Thread nD τ).loc main_arg0) (fun t => (slab3 (place c t) : Finset S4x1857x1024.Idx)) (fun i : S4x1857x1024.Idx => role c (i 0))
    (fun t (i : S4x1857x1024.Idx) => (mem_slab3 (k := place c t) (i := i)).trans (place_iff c t (i 0))) fullShare _
theorem whole_parts (c : Dev nD) (f : S4x1857x1024.Idx → Elt F .f32) :
    ((c.tc : Thread nD τ).loc main_v1 ↦{fullShare} f : sProp 𝕄) = bigSep Finset.univ fun t => part c t f :=
  parts (ℓ := (c.tc : Thread nD τ).loc main_v1) (fun t => (slab3 (place c t) : Finset S4x1857x1024.Idx)) (fun i : S4x1857x1024.Idx => role c (i 0))
    (fun t (i : S4x1857x1024.Idx) => (mem_slab3 (k := place c t) (i := i)).trans (place_iff c t (i 0))) fullShare _

/-- The exchange. -/
def PL : Plan nD τ sig (Elt F) 7 where
  sem := sems
  sem_inj := sems_inj
  payee := ![Equiv.refl _, Equiv.refl _, Equiv.refl _, mate 1, mate 2, mate 3, Equiv.refl _]
  amt _ := (inp ![0, 0, 0] inb_zero).view.dmaCredit
  amt_pos _ := by decide
  pay c := ![held m c 1, held m c 2, held m c 3, part c 1 (final m c), part c 2 (final m c), part c 3 (final m c),
    iprop(part c 0 (final m c) ∗ held m c 0)]
  far := {3, 4, 5}
  lvl _ := 0

theorem storable (c : Dev nD) : ∀ k : Fin 7, BI.Storable (upEmb : UEmb _ 𝕄) ((PL m).pay c k)
  | 0 => inferInstanceAs (BI.Storable _ (held m c 1))
  | 1 => inferInstanceAs (BI.Storable _ (held m c 2))
  | 2 => inferInstanceAs (BI.Storable _ (held m c 3))
  | 3 => inferInstanceAs (BI.Storable _ (part c 1 (final m c)))
  | 4 => inferInstanceAs (BI.Storable _ (part c 2 (final m c)))
  | 5 => inferInstanceAs (BI.Storable _ (part c 3 (final m c)))
  | 6 => inferInstanceAs (BI.Storable _ iprop(part c 0 (final m c) ∗ held m c 0))

theorem open_held (c : Dev nD) (t : Fin 4) {off : Fin 3 → ℕ} {inb : ∀ a, off a + S1x1857x1024.size a ≤ S4x1857x1024.size a} (h : off = ![(place c t).val, 0, 0]) :
    (held m c t : sProp 𝕄) = ((inp off inb).view.loc (c.tc : Thread nD τ) ↦[(inp off inb).view.set]{fullShare} xin m c) := by
  unfold held; rw [inp_set (place c t) h]
/-- The slab of `c'`'s result that device `c` fills in role `t`. -/
theorem open_part (c c' : Dev nD) (t : Fin 4) (hc : mate t c = c') (f : S4x1857x1024.Idx → Elt F .f32) :
    (part c' t f : sProp 𝕄) = ((out (k0_off1 c) (k0_off1_inb c)).view.loc (c'.tc : Thread nD τ) ↦[(out (k0_off1 c) (k0_off1_inb c)).view.set]{fullShare} f) := by
  subst hc
  unfold part
  rw [out_set (chip c) (off1 c), place_mate]
/-- What landed there is that slab of the result. -/
theorem land (c c' : Dev nD) (t : Fin 4) (hc : mate t c = c') {off : Fin 3 → ℕ} {inb : ∀ a, off a + S1x1857x1024.size a ≤ S4x1857x1024.size a}
    (h : off = ![(place c t).val, 0, 0]) (fd : S4x1857x1024.Idx → Elt F .f32) :
    ((out (k0_off1 c) (k0_off1_inb c)).view.loc (c'.tc : Thread nD τ) ↦[(out (k0_off1 c) (k0_off1_inb c)).view.set]{fullShare}
        (out (k0_off1 c) (k0_off1_inb c)).view.write (Elt F) fd ((inp off inb).view.read (Elt F) (xin m c)) Finset.univ : sProp 𝕄)
      = part c' t (final m c') := by
  have hl := landed_pts (Val := Elt F) (c'.tc : Thread nD τ) (out (k0_off1 c) (k0_off1_inb c)).view fullShare fd (final m c')
    ((inp off inb).view.read (Elt F) (xin m c)) (fun x => by
      refine (out_read (chip c) (off1 c) _ x).trans (Eq.trans ?_ (inp_read (place c t) h _ x).symm)
      subst hc
      show xin m (owner (mateOf t c) (chip c)) (ix3 (place c t) (x 0) (x 1)) = xin m c (ix3 (place c t) (x 0) (x 1))
      rw [owner_mate])
  exact hl.trans (open_part c c' t hc _).symm

/-- What device `c` starts with: its slabs, and of the others' results and its own the slabs it fills. -/
def start (c : Dev nD) : sProp 𝕄 :=
  iprop((bigSep Finset.univ fun t => held m c t) ∗ bigSep Finset.univ fun t => part (mate t c) t (m (((mate t c).tc : Thread nD τ).loc main_v1)))

theorem start_of : (bigSep Finset.univ fun c : Dev nD => (unscopedBufs c (fun b => m ((c.tc : Thread nD τ).loc b)) : sProp 𝕄)) ⊢ bigSep Finset.univ (start m) := by
  rw [bufs_two main_arg0 main_v1 (by decide) (by decide)]
  unfold start
  rw [bigSep_sep', ← deal_roles mate (fun c t => part c t (m ((c.tc : Thread nD τ).loc main_v1))),
    bigSep_congr fun c _ => whole_held m c, bigSep_congr fun c _ => whole_parts c (m ((c.tc : Thread nD τ).loc main_v1))]

theorem routes_all (c c' : Dev nD) : τ.routes (c.tc : Thread nD τ) (c'.tc : Thread nD τ) = true := by routes
/-- What it ends with. -/
def finish (c : Dev nD) : sProp 𝕄 :=
  iprop(((c.tc : Thread nD τ).loc main_arg0 ↦{fullShare} m ((c.tc : Thread nD τ).loc main_arg0)) ∗ (c.tc : Thread nD τ).loc main_v1 ↦{fullShare} final m c)

/-- The body, from its dealt cells and memory. -/
theorem body (𝒱 : Variants) (c : Dev nD) :
    iprop((PL m).dealt c ∗ start m c ∗ (PL m).owing c (PL m).far)
      ⊢ wp frame (wpE (defs₀ (F := F)) 𝒱 (c.tc : Thread nD τ) none) Set.univ
          (cc0_scatter_to_owners (Memref.whole main_arg0) (Memref.isWhole_whole _) (Memref.whole main_v1) (Memref.isWhole_whole _)
            cc0_scratch0 cc0_scratch1 cc0_scratch2)
          fun _ => iprop((PL m).owing c ∅ ∗ (bigSep Finset.univ fun k => semVal ((PL m).cell c k) 0) ∗ finish m c) := by
  have hl7 (Φ : Fin 7 → sProp 𝕄) : bigSep Finset.univ Φ = iprop(Φ 0 ∗ Φ 1 ∗ Φ 2 ∗ Φ 3 ∗ Φ 4 ∗ Φ 5 ∗ Φ 6) :=
    BI.bigSep_univ_eq_bigSepL [0, 1, 2, 3, 4, 5, 6] (by decide) (by decide) Φ
  have hl4 (Φ : Fin 4 → sProp 𝕄) : bigSep Finset.univ Φ = iprop(Φ 0 ∗ Φ 1 ∗ Φ 2 ∗ Φ 3) := BI.bigSep_univ_eq_bigSepL [0, 1, 2, 3] (by decide) (by decide) Φ
  have hfar : (bigSep (PL m).far fun k => (PL m).due1 c k : sProp 𝕄) = iprop((PL m).due1 c 3 ∗ (PL m).due1 c 4 ∗ (PL m).due1 c 5) :=
    show bigSep ({3, 4, 5} : Finset (Fin 7)) _ = _ from BI.bigSep_eq_bigSepL_of_eq [3, 4, 5] (by decide) (by decide) _
  have hf0 : (PL m).far = {3, 4, 5} := rfl
  have hself (c : Dev nD) : mate 0 c = c := by
    have h : ∀ c : Dev nD, mateOf 0 c = c := by decide
    exact h c
  unfold Plan.dealt start finish
  rw [hl7, hl7, hl7, hfar, whole_held m c, whole_parts c (final m c), hl4, hl4, hl4, hf0]
  simp only [Gen.cc0_scatter_to_owners_eq_skeleton]
  unfold Gen.cc0_scatter_to_owners_skel
  simp only [Gen.k0_part1_eq_skeleton, Gen.k0_part2_eq_skeleton, Gen.k0_part3_eq_skeleton, Gen.k0_part4_eq_skeleton]
  unfold Gen.k0_part1_skel Gen.k0_part2_skel Gen.k0_part3_skel Gen.k0_part4_skel
  simp only [Prog.lift, Prog.bind_op, Prog.bind_ret, Prog.pure_eq_ret, Prog.bind_assoc, wp_deviceId]
  iintro ⟨⟨⟨%K, #Hr⟩, ⟨Hp0, Hp1, Hp2, Hp3, Hp4, Hp5, Hp6⟩, ⟨Ht0, Ht1, Ht2, Ht3, Ht4, Ht5, Ht6⟩, ⟨Hc3, Hc4, Hc5⟩⟩,
    ⟨⟨Ha0, Ha1, Ha2, Ha3⟩, ⟨Hd0, Hd1, Hd2, Hd3⟩⟩, HO⟩
  -- its own slab copied
  ihave Ha0 := (Entails.of_eq (open_held m c 0 (off := k0_off1 c) (inb := k0_off1_inb c) (off1' c))) $$ Ha0
  ihave Hd0 := (Entails.of_eq ((congrArg (fun d => part d 0 (m ((d.tc : Thread nD τ).loc main_v1))) (hself c)).trans (open_part c c 0 (hself c) _))) $$ Hd0
  have hpay6 : iprop(_ ∗ _) ⊢ (PL m).pay c 6 :=
    Entails.of_eq (congrArg₂ BI.sep (land m c c 0 (hself c) (off := k0_off1 c) (inb := k0_off1_inb c) (off1' c) (m ((c.tc : Thread nD τ).loc main_v1)))
      (open_held m c 0 (off := k0_off1 c) (inb := k0_off1_inb c) (off1' c)).symm)
  iapply ((PL m).copy_step 𝒱 K c 6 (src := inp (k0_off1 c) (k0_off1_inb c)) (dst := out (k0_off1 c) (k0_off1_inb c)) fullShare (xin m c)
    (m ((c.tc : Thread nD τ).loc main_v1)) rfl hpay6) $$ [Ha0 Hd0 Ht6]
  · isplitr; · iexact Hr
    isplitl [Ha0]; · iexact Ha0
    isplitl [Hd0]; · iexact Hd0
    iexact Ht6
  iintro Hc6
  -- the slab of role 1 sent
  ihave Ha1 := (Entails.of_eq (open_held m c 1 (off := k0_off2 c) (inb := k0_off2_inb c) (off2 c))) $$ Ha1
  ihave Hd1 := (Entails.of_eq ((congrArg (fun d => part d 1 (m ((d.tc : Thread nD τ).loc main_v1))) (dev1 c).symm).trans
    (open_part c (peer1 c) 1 (dev1 c).symm _))) $$ Hd1
  ihave Ht3 := (Entails.of_eq (show (PL m).tok ((PL m).payee 3 c) 3 = (PL m).tok (peer1 c) 3 from
    congrArg (fun d => (PL m).tok d 3) (dev1 c).symm)) $$ Ht3
  have hmem1 : (3 : Fin 7) ∈ ({3, 4, 5} : Finset (Fin 7)) := by decide
  have hpay1 := Entails.of_eq (open_held m c 1 (off := k0_off2 c) (inb := k0_off2_inb c) (off2 c)).symm
  have hland1 := Entails.of_eq (land m c (peer1 c) 1 (dev1 c).symm (off := k0_off2 c) (inb := k0_off2_inb c) (off2 c) (m (((peer1 c).tc : Thread nD τ).loc main_v1)))
  iapply ((PL m).send_step 𝒱 K c (peer1 c) 0 3 _ hmem1 (dev1 c).symm (src := inp (k0_off2 c) (k0_off2_inb c))
    (dst := out (k0_off1 c) (k0_off1_inb c)) fullShare (xin m c) (m (((peer1 c).tc : Thread nD τ).loc main_v1)) rfl rfl
    hpay1 hland1 (routes_all c (peer1 c))) $$ [Ha1 Hd1 HO Ht0 Ht3]
  · isplitr; · iexact Hr
    isplitl [Ha1]; · iexact Ha1
    isplitl [Hd1]; · iexact Hd1
    isplitl [HO]; · iexact HO
    isplitl [Ht0]; · iexact Ht0
    iexact Ht3
  rw [show ({3, 4, 5} : Finset (Fin 7)).erase 3 = {4, 5} from by decide]
  iintro ⟨Hc0, HO⟩
  -- the slab of role 2 sent
  ihave Ha2 := (Entails.of_eq (open_held m c 2 (off := k0_off3 c) (inb := k0_off3_inb c) (off3 c))) $$ Ha2
  ihave Hd2 := (Entails.of_eq ((congrArg (fun d => part d 2 (m ((d.tc : Thread nD τ).loc main_v1))) (dev2 c).symm).trans
    (open_part c (peer2 c) 2 (dev2 c).symm _))) $$ Hd2
  ihave Ht4 := (Entails.of_eq (show (PL m).tok ((PL m).payee 4 c) 4 = (PL m).tok (peer2 c) 4 from
    congrArg (fun d => (PL m).tok d 4) (dev2 c).symm)) $$ Ht4
  have hmem2 : (4 : Fin 7) ∈ ({4, 5} : Finset (Fin 7)) := by decide
  have hpay2 := Entails.of_eq (open_held m c 2 (off := k0_off3 c) (inb := k0_off3_inb c) (off3 c)).symm
  have hland2 := Entails.of_eq (land m c (peer2 c) 2 (dev2 c).symm (off := k0_off3 c) (inb := k0_off3_inb c) (off3 c) (m (((peer2 c).tc : Thread nD τ).loc main_v1)))
  iapply ((PL m).send_step 𝒱 K c (peer2 c) 1 4 _ hmem2 (dev2 c).symm (src := inp (k0_off3 c) (k0_off3_inb c))
    (dst := out (k0_off1 c) (k0_off1_inb c)) fullShare (xin m c) (m (((peer2 c).tc : Thread nD τ).loc main_v1)) rfl rfl
    hpay2 hland2 (routes_all c (peer2 c))) $$ [Ha2 Hd2 HO Ht1 Ht4]
  · isplitr; · iexact Hr
    isplitl [Ha2]; · iexact Ha2
    isplitl [Hd2]; · iexact Hd2
    isplitl [HO]; · iexact HO
    isplitl [Ht1]; · iexact Ht1
    iexact Ht4
  rw [show ({4, 5} : Finset (Fin 7)).erase 4 = {5} from by decide]
  iintro ⟨Hc1, HO⟩
  -- the slab of role 3 sent
  ihave Ha3 := (Entails.of_eq (open_held m c 3 (off := k0_off4 c) (inb := k0_off4_inb c) (off4 c))) $$ Ha3
  ihave Hd3 := (Entails.of_eq ((congrArg (fun d => part d 3 (m ((d.tc : Thread nD τ).loc main_v1))) (dev3 c).symm).trans
    (open_part c (peer3 c) 3 (dev3 c).symm _))) $$ Hd3
  ihave Ht5 := (Entails.of_eq (show (PL m).tok ((PL m).payee 5 c) 5 = (PL m).tok (peer3 c) 5 from
    congrArg (fun d => (PL m).tok d 5) (dev3 c).symm)) $$ Ht5
  have hmem3 : (5 : Fin 7) ∈ ({5} : Finset (Fin 7)) := by decide
  have hpay3 := Entails.of_eq (open_held m c 3 (off := k0_off4 c) (inb := k0_off4_inb c) (off4 c)).symm
  have hland3 := Entails.of_eq (land m c (peer3 c) 3 (dev3 c).symm (off := k0_off4 c) (inb := k0_off4_inb c) (off4 c) (m (((peer3 c).tc : Thread nD τ).loc main_v1)))
  iapply ((PL m).send_step 𝒱 K c (peer3 c) 2 5 _ hmem3 (dev3 c).symm (src := inp (k0_off4 c) (k0_off4_inb c))
    (dst := out (k0_off1 c) (k0_off1_inb c)) fullShare (xin m c) (m (((peer3 c).tc : Thread nD τ).loc main_v1)) rfl rfl
    hpay3 hland3 (routes_all c (peer3 c))) $$ [Ha3 Hd3 HO Ht2 Ht5]
  · isplitr; · iexact Hr
    isplitl [Ha3]; · iexact Ha3
    isplitl [Hd3]; · iexact Hd3
    isplitl [HO]; · iexact HO
    isplitl [Ht2]; · iexact Ht2
    iexact Ht5
  rw [show ({5} : Finset (Fin 7)).erase 5 = ∅ from by decide]
  iintro ⟨Hc2, HO⟩
  -- cell 3 waited on
  iapply ((PL m).wait_step 𝒱 K c 3 ∅ (fun j hj => absurd hj (Finset.notMem_empty j)) rfl) $$ [Hp3 Hc3 HO]
  · isplitr; · iexact Hr
    isplitl [Hp3]; · iexact Hp3
    isplitl [Hc3]; · iexact Hc3
    iexact HO
  iintro ⟨Hy3, Hz3, HO⟩
  ihave Hy3 := (Entails.of_eq (show (PL m).pay c 3 = part c 1 (final m c) from rfl)) $$ Hy3
  -- cell 4 waited on
  iapply ((PL m).wait_step 𝒱 K c 4 ∅ (fun j hj => absurd hj (Finset.notMem_empty j)) rfl) $$ [Hp4 Hc4 HO]
  · isplitr; · iexact Hr
    isplitl [Hp4]; · iexact Hp4
    isplitl [Hc4]; · iexact Hc4
    iexact HO
  iintro ⟨Hy4, Hz4, HO⟩
  ihave Hy4 := (Entails.of_eq (show (PL m).pay c 4 = part c 2 (final m c) from rfl)) $$ Hy4
  -- cell 5 waited on
  iapply ((PL m).wait_step 𝒱 K c 5 ∅ (fun j hj => absurd hj (Finset.notMem_empty j)) rfl) $$ [Hp5 Hc5 HO]
  · isplitr; · iexact Hr
    isplitl [Hp5]; · iexact Hp5
    isplitl [Hc5]; · iexact Hc5
    iexact HO
  iintro ⟨Hy5, Hz5, HO⟩
  ihave Hy5 := (Entails.of_eq (show (PL m).pay c 5 = part c 3 (final m c) from rfl)) $$ Hy5
  -- cell 0 waited on
  iapply ((PL m).wait_step 𝒱 K c 0 ∅ (fun j hj => absurd hj (Finset.notMem_empty j)) rfl) $$ [Hp0 Hc0 HO]
  · isplitr; · iexact Hr
    isplitl [Hp0]; · iexact Hp0
    isplitl [Hc0]; · iexact Hc0
    iexact HO
  iintro ⟨Hy0, Hz0, HO⟩
  ihave Hy0 := (Entails.of_eq (show (PL m).pay c 0 = held m c 1 from rfl)) $$ Hy0
  -- cell 1 waited on
  iapply ((PL m).wait_step 𝒱 K c 1 ∅ (fun j hj => absurd hj (Finset.notMem_empty j)) rfl) $$ [Hp1 Hc1 HO]
  · isplitr; · iexact Hr
    isplitl [Hp1]; · iexact Hp1
    isplitl [Hc1]; · iexact Hc1
    iexact HO
  iintro ⟨Hy1, Hz1, HO⟩
  ihave Hy1 := (Entails.of_eq (show (PL m).pay c 1 = held m c 2 from rfl)) $$ Hy1
  -- cell 2 waited on
  iapply ((PL m).wait_step 𝒱 K c 2 ∅ (fun j hj => absurd hj (Finset.notMem_empty j)) rfl) $$ [Hp2 Hc2 HO]
  · isplitr; · iexact Hr
    isplitl [Hp2]; · iexact Hp2
    isplitl [Hc2]; · iexact Hc2
    iexact HO
  iintro ⟨Hy2, Hz2, HO⟩
  ihave Hy2 := (Entails.of_eq (show (PL m).pay c 2 = held m c 3 from rfl)) $$ Hy2
  -- cell 6 waited on
  iapply ((PL m).wait_step 𝒱 K c 6 ∅ (fun j hj => absurd hj (Finset.notMem_empty j)) rfl) $$ [Hp6 Hc6 HO]
  · isplitr; · iexact Hr
    isplitl [Hp6]; · iexact Hp6
    isplitl [Hc6]; · iexact Hc6
    iexact HO
  iintro ⟨Hy6, Hz6, HO⟩
  ihave Hy6 := (Entails.of_eq (show (PL m).pay c 6 = iprop(part c 0 (final m c) ∗ held m c 0) from rfl)) $$ Hy6
  icases Hy6 with ⟨Hy6, Hx⟩
  rw [wp_ret]
  imodintro
  isplitl [HO]; · iexact HO
  isplitl [Hz0 Hz1 Hz2 Hz3 Hz4 Hz5 Hz6]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [Hx Hy0 Hy1 Hy2]
  · isplitl [Hx]; · iexact Hx
    isplitl [Hy0]; · iexact Hy0
    isplitl [Hy1]; · iexact Hy1
    iexact Hy2
  isplitl [Hy6]; · iexact Hy6
  isplitl [Hy3]; · iexact Hy3
  isplitl [Hy4]; · iexact Hy4
  iexact Hy5

/-- Every device's result is the slabs kept for its chip, its own argument is as it was, and every semaphore is back at zero. -/
theorem run (ρ : Dev nD → PrngReg) :
    θ_run (defs (F := F)) (onTc (τ := τ) (main (F := F))) ⟨m, fun _ => 0, ρ⟩ fun r =>
      (∀ c : Dev nD, r.2.mem ((c.tc : Thread nD τ).loc main_v1) = final m c
        ∧ r.2.mem ((c.tc : Thread nD τ).loc main_arg0) = m ((c.tc : Thread nD τ).loc main_arg0)) ∧ r.2.sem = fun _ => 0 := by
  refine Plan.run (pcfgs (F := F)) (fun p => (cfgs p).toPCfg_adm) (PL m) Gen.cellOf_inj win_facts own_facts (defs₀ (F := F)) .none
    (fun _ => inferInstanceAs (IsEmpty (Fin 0))) Gen.N_0 (fun c q f => no_tables _)
    (fun c => Gen.scopedRest0_eq c) m ρ (main (F := F)) (fun c => (Gen.main_chain c).trans rfl) (storable m) (start m) (start_of m) (finish m)
    (fun c t => body m _ c)
    (fun c s => s.mem ((c.tc : Thread nD τ).loc main_v1) = final m c
        ∧ s.mem ((c.tc : Thread nD τ).loc main_arg0) = m ((c.tc : Thread nD τ).loc main_arg0))
    (fun c s' => ?_) (fun s hs hz => ⟨hs, sem_eq_zero_of_scoped (by decide) hz⟩)
  unfold finish
  iintro ⟨⟨Ha, Ho⟩, HSI⟩
  icombine HSI Ha gives %ha
  icombine HSI Ho gives %ho
  imodintro
  isplitr
  · ipureintro; exact ⟨Buf.eq_of_forall_mem_univ ho, Buf.eq_of_forall_mem_univ ha⟩
  iexact HSI

end Run

end Cert.Proof.Scatter

end
-- ==== Proof.ScatterRef.lean ====
/-
  The scatter's reference — slab `p` of every device to the device of chip `p` in its place —, its run, and what the claims of the scatter say.
-/
module

public import proofs.«01_k».proof.Proof.Scatter
public import proofs.«01_k».proof.Proof.Gen.ScatterRefIdeal
public import Idealize.ShloMosaic.Lib.StableHlo.Run
public import Idealize.ShloMosaic.Lib.Pipeline.Value

@[expose] public section

set_option Elab.async false

noncomputable section

namespace Cert.Proof.Scatter.Ref

open Cert.ScatterRefIdeal
open Idealize.ShloMosaic Idealize.ShloMosaic.TcCoe Idealize.ShloMosaic.StableHlo Idealize.ShloMosaic.ValueIdx Idealize.SL.Sem

variable {F : FTy → Type} [FloatOps F]

/-- The slabs by chip, core and number. -/
abbrev grid (x : S32x1857x1024.Idx → Elt F .f32) : S4x2x4x1857x1024.Idx → Elt F .f32 :=
  shapeCast S4x2x4x1857x1024 x Facts₀.shapeCasts_S32x1857x1024_S4x2x4x1857x1024
/-- Chip and number exchanged. -/
abbrev turned (y : S4x2x4x1857x1024.Idx → Elt F .f32) : S4x2x4x1857x1024.Idx → Elt F .f32 :=
  transpose S4x2x4x1857x1024 [2, 1, 0, 3, 4] y Facts₀.transposes_S4x2x4x1857x1024_S4x2x4x1857x1024_2_1_0_3_4
/-- The reference's result from its argument. -/
abbrev refOut (x : S32x1857x1024.Idx → Elt F .f32) : S32x1857x1024.Idx → Elt F .f32 :=
  shapeCast S32x1857x1024 (turned (grid x)) Facts₀.shapeCasts_S4x2x4x1857x1024_S32x1857x1024

/-- @main's operations. -/
abbrev ops : List (HloOp τ sig (Elt F)) :=
  [reshape main_arg0 main_v0 (rfl : (.f32 : EltTy) = .f32) Facts₀.shapeCasts_S32x1857x1024_S4x2x4x1857x1024,
   unary main_v0 main_v1 ((transpose S4x2x4x1857x1024 [2, 1, 0, 3, 4] · Facts₀.transposes_S4x2x4x1857x1024_S4x2x4x1857x1024_2_1_0_3_4) :
     (⟨S4x2x4x1857x1024, .f32⟩ : BufTy).Contents (Elt F) → (⟨S4x2x4x1857x1024, .f32⟩ : BufTy).Contents (Elt F)),
   reshape main_v1 main_v2 (rfl : (.f32 : EltTy) = .f32) Facts₀.shapeCasts_S4x2x4x1857x1024_S32x1857x1024]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops (F := F)).Forall fun op => op.bufs ⊆ tcRefs τ sig := ⟨reshape_bufs_sub .., unary_bufs_sub .., reshape_bufs_sub ..⟩
theorem out_eq (V : (b : DevRef τ sig) → b.ty.Contents (Elt F)) :
    after ops V (main_v2 : DevRef τ sig) = refOut (V (main_arg0 : DevRef τ sig)) := by after_results; rfl
theorem arg0_eq (V : (b : DevRef τ sig) → b.ty.Contents (Elt F)) :
    after ops V (main_arg0 : DevRef τ sig) = V (main_arg0 : DevRef τ sig) := by after_results

/-- The reference's run. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v2) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v2).trans (out_eq _), (h c main_arg0).trans (arg0_eq _)⟩, sem_eq_zero_of_no_sems rfl r.2⟩)
    (run_seq scopedRefs_eq scopedSems_eq defs main (fun _ => ops) main_eq (fun _ => ops_sub) m ρ)

/-! ## A device's result as its part of the reference's -/

/-- The turned grid reads the grid with chip and number exchanged. -/
theorem turned_apply (y : S4x2x4x1857x1024.Idx → Elt F .f32) (a : Fin 4) (b : Fin 2) (k : Fin 4) (u : Fin 1857) (v : Fin 1024) :
    turned y (ix5 a b k u v) = y (ix5 k b a u v) :=
  transpose_apply _ _ _ _ _ (by intro b; fin_cases b <;> rfl)
/-- Slab `k` of device `c`'s part of the reference's result is slab `c / 2` of the part of device `2 * k + c % 2`. -/
theorem refOut_apply (x : S32x1857x1024.Idx → Elt F .f32) (c : Dev ScatterIdeal.nD) (k : Fin 4) (i y : S32x1857x1024.Idx)
    (hi : (i 0).val = 4 * c.val + k.val) (h0 : (y 0).val = 4 * (2 * k.val + c.val % 2) + c.val / 2) (h1 : (y 1).val = (i 1).val)
    (h2 : (y 2).val = (i 2).val) : refOut x i = x y := by
  have hc := c.isLt
  change c.val < 8 at hc
  have hcast : refOut x i = turned (grid x) (ix5 (⟨c.val / 2, by omega⟩ : Fin 4) (⟨c.val % 2, by omega⟩ : Fin 2) k (i 1) (i 2)) := by
    refine shapeCast_apply _ _ _ _ ?_
    rw [Shape.rowMajor_val_three, Shape.rowMajor_val_five, hi]
    show (((c.val / 2 * 2 + c.val % 2) * 4 + k.val) * 1857 + (i 1).val) * 1024 + (i 2).val = ((4 * c.val + k.val) * 1857 + (i 1).val) * 1024 + (i 2).val
    omega
  refine hcast.trans ((turned_apply (grid x) _ _ _ _ _).trans ?_)
  refine shapeCast_apply x _ _ _ ?_
  rw [Shape.rowMajor_val_three, Shape.rowMajor_val_five, h0, h1, h2]
  show ((4 * (2 * k.val + c.val % 2) + c.val / 2) * 1857 + (i 1).val) * 1024 + (i 2).val
    = (((k.val * 2 + c.val % 2) * 4 + c.val / 2) * 1857 + (i 1).val) * 1024 + (i 2).val
  omega

/-- From slabs that are the blocks of the whole, a device's result is its block of the reference's. -/
theorem final_eq (m : (ℓ : Loc ScatterIdeal.nD ScatterIdeal.τ ScatterIdeal.sig) → Buf (Elt F) ℓ) (x : S32x1857x1024.Idx → Elt F .f32)
    (h : ∀ c : Dev ScatterIdeal.nD, xin m c = Layout.block ⟨3, ![4, 1857, 1024]⟩ ⟨3, ![32, 1857, 1024]⟩ 0 8 c x) (c : Dev ScatterIdeal.nD) :
    final m c = Layout.block ⟨3, ![4, 1857, 1024]⟩ ⟨3, ![32, 1857, 1024]⟩ 0 8 c (refOut x) := by
  funext i
  show xin m (owner c (i 0)) (ix3 (chip c) (i 1) (i 2)) = _
  rw [h, Layout.block_apply, Layout.block_apply]
  refine (refOut_apply x c (i 0) _ _ ?_ ?_ ?_ ?_).symm
  · rw [block_slab]; omega
  · rw [block_slab]
    show (2 * (i 0).val + c.val % 2) * 4 + c.val / 2 = 4 * (2 * (i 0).val + c.val % 2) + c.val / 2
    omega
  · refine (block_row _ _ _).trans ?_
    exact (block_row _ c i).symm
  · refine (block_col _ _ _).trans ?_
    exact (block_col _ c i).symm

/-- The scatter against its reference, over any float values. -/
theorem value (m : (ℓ : Loc ScatterIdeal.nD ScatterIdeal.τ ScatterIdeal.sig) → Buf (Elt F) ℓ) (g : Dev ScatterIdeal.nD → PrngReg)
    (m' : (ℓ : Loc nD τ sig) → Buf (Elt F) ℓ) (g' : Dev nD → PrngReg)
    (h : ∀ c : Dev ScatterIdeal.nD, m ((c.tc : Thread ScatterIdeal.nD ScatterIdeal.τ).loc ScatterIdeal.main_arg0)
      = Layout.block ⟨3, ![4, 1857, 1024]⟩ ⟨3, ![32, 1857, 1024]⟩ 0 8 c (m' (((0 : Dev nD).tc : Thread nD τ).loc main_arg0))) :
    ∃ v0 : Buf (Elt F) (((0 : Dev nD).tc : Thread nD τ).loc main_v2),
      θ_run (ScatterIdeal.defs (F := F)) (onTc (τ := ScatterIdeal.τ) (ScatterIdeal.main (F := F))) ⟨m, fun _ => 0, g⟩ (fun r => ∀ c : Dev ScatterIdeal.nD,
          r.2.mem ((c.tc : Thread ScatterIdeal.nD ScatterIdeal.τ).loc ScatterIdeal.main_v1)
            = Layout.block ⟨3, ![4, 1857, 1024]⟩ ⟨3, ![32, 1857, 1024]⟩ 0 8 c v0
          ∧ r.2.mem ((c.tc : Thread ScatterIdeal.nD ScatterIdeal.τ).loc ScatterIdeal.main_arg0)
            = m ((c.tc : Thread ScatterIdeal.nD ScatterIdeal.τ).loc ScatterIdeal.main_arg0))
      ∧ θ_run (defs (F := F)) (onTc (τ := τ) (main (F := F))) ⟨m', fun _ => 0, g'⟩ (fun r =>
          r.2.mem (((0 : Dev nD).tc : Thread nD τ).loc main_v2) = v0
          ∧ r.2.mem (((0 : Dev nD).tc : Thread nD τ).loc main_arg0) = m' (((0 : Dev nD).tc : Thread nD τ).loc main_arg0)) :=
  ⟨refOut (m' (((0 : Dev nD).tc : Thread nD τ).loc main_arg0)),
    (θ_run _ _ _).mono (fun r hr c => ⟨(hr.1 c).1.trans (final_eq m _ h c), (hr.1 c).2⟩) (Scatter.run m g),
    (θ_run _ _ _).mono (fun r hr => hr.1 0) (run m' g')⟩

end Cert.Proof.Scatter.Ref

end
-- ==== Proof.Gather.lean ====
/-
  `_gather_weights`, one run: each device sends its core's half of its chip's pair to the other chips, and what it got of theirs to its sibling.
-/
module

public import proofs.«01_k».proof.Proof.Geometry
public import proofs.«01_k».proof.Proof.Gen.GatherIdeal.Skeleton
public import proofs.«01_k».proof.Proof.Gen.GatherIdeal.Launch

@[expose] public section

set_option Elab.async false

noncomputable section

namespace Cert.Proof.Gather

open Cert.GatherIdeal
open Facts₀
open Idealize.ShloMosaic Idealize.ShloMosaic.TcCoe Idealize.ShloMosaic.Tactic Idealize.ShloMosaic.ValueIdx
open Idealize.SL Idealize.SL.RA
open Idealize.SL.BI (sProp bigSep bigSep_sep' bigSep_mono bigSep_congr bigSep_univ_prod bigSep_elim)
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]
local notation "𝕄" => MT nD τ sig Unit (Elt F) ℕ (UU nD τ sig) ℕ

/-! ## Who is who -/

/-- A device's chip. -/
def chip (c : Dev nD) : Fin 4 := ⟨c.val / 2, by have h := c.isLt; change c.val < 8 at h; omega⟩
/-- A device's core. -/
def core (c : Dev nD) : Fin 2 := ⟨c.val % 2, Nat.mod_lt _ (by decide)⟩
/-- The device of a chip and a core. -/
def at_ (k : Fin 4) (h : Fin 2) : Dev nD := ⟨2 * k.val + h.val, by have hk := k.isLt; have hh := h.isLt; change _ < 8; omega⟩
/-- The other device of the chip. -/
def sibOf (c : Dev nD) : Dev nD := at_ (chip c) (1 - core c)
/-- The devices `c` exchanges with across chips: its neighbours along x, along y, and along both. -/
def nearOf (t : Fin 3) (c : Dev nD) : Dev nD :=
  at_ (![chip c + 2, if (chip c).val % 2 = 0 then chip c + 1 else chip c - 1, if (chip c).val % 2 = 0 then chip c + 2 + 1 else chip c + 2 - 1] t) (core c)
theorem sibOf_sibOf : ∀ c : Dev nD, sibOf (sibOf c) = c := by decide
theorem nearOf_nearOf : ∀ (t : Fin 3) (c : Dev nD), nearOf t (nearOf t c) = c := by decide
/-- The same, as rearrangements of the devices. -/
def sib : Dev nD ≃ Dev nD := ⟨sibOf, sibOf, sibOf_sibOf, sibOf_sibOf⟩
def near (t : Fin 3) : Dev nD ≃ Dev nD := ⟨nearOf t, nearOf t, nearOf_nearOf t, nearOf_nearOf t⟩
/-- The chip of neighbour `t`. -/
def place (c : Dev nD) (t : Fin 3) : Fin 4 := chip (nearOf t c)
/-- The two halves of a chip's pair: 0 the device's own, 1 its sibling's. -/
def hand (c : Dev nD) (t : Fin 2) : Fin 2 := if t = 0 then core c else 1 - core c
theorem hand_iff : ∀ (c : Dev nD) (t k : Fin 2), k = hand c t ↔ hand c k = t := by decide

/-- The seven parts of a device's result: 0 its own chip's pair, 1 to 3 what its neighbours send, 4 to 6 what its sibling passes on. -/
abbrev first (t : Fin 3) : Fin 7 := ![1, 2, 3] t
abbrev second (t : Fin 3) : Fin 7 := ![4, 5, 6] t
/-- The part slab `(k, h)` of device `c`'s result is in. -/
def role (c : Dev nD) (k : Fin 4) (h : Fin 2) : Fin 7 :=
  if k = chip c then 0
  else if h = core c then (if k = place c 0 then 1 else if k = place c 1 then 2 else 3)
  else (if k = place c 0 then 4 else if k = place c 1 then 5 else 6)
/-- Who fills a part. -/
def filler (t : Fin 7) : Dev nD ≃ Dev nD := (![Equiv.refl _, near 0, near 1, near 2, sib, sib, sib] : Fin 7 → Dev nD ≃ Dev nD) t
/-- The device slab `(k, h)` of device `c`'s result comes from. -/
def source (c : Dev nD) (k : Fin 4) (h : Fin 2) : Dev nD := if k = chip c then c else at_ k h

theorem role_own : ∀ (c : Dev nD) (k : Fin 4) (h : Fin 2), k = chip c ↔ role c k h = 0 := by decide
theorem role_sent : ∀ (c : Dev nD) (t : Fin 3) (k : Fin 4) (h : Fin 2), (k = chip c ∧ h = core c) ↔ role (nearOf t c) k h = first t := by decide
theorem role_got : ∀ (c : Dev nD) (t : Fin 3) (k : Fin 4) (h : Fin 2), (k = place c t ∧ h = core c) ↔ role c k h = first t := by decide
theorem role_passed : ∀ (c : Dev nD) (t : Fin 3) (k : Fin 4) (h : Fin 2), (k = place c t ∧ h = core c) ↔ role (sibOf c) k h = second t := by decide
theorem source_own : ∀ (c : Dev nD) (h : Fin 2), source c (chip c) h = c := by decide
theorem source_sent : ∀ (c : Dev nD) (t : Fin 3), source (nearOf t c) (chip c) (core c) = c := by decide
theorem source_passed : ∀ (c : Dev nD) (t : Fin 3), source (sibOf c) (place c t) (core c) = source c (place c t) (core c) := by decide

theorem off1 (c : Dev nD) : k0_off1 c = ![(chip c).val, 0, 0, 0] := by
  have h : ∀ c : Dev nD, 2 * (c.val / 4) + ((c.val / 2) % 2) = (chip c).val := by decide
  rw [Gen.k0_off1_eq, h]
theorem off2 (c : Dev nD) : k0_off2 c = ![(chip c).val, (core c).val, 0, 0] := by
  have h : ∀ c : Dev nD, 2 * (c.val / 4) + ((c.val / 2) % 2) = (chip c).val := by decide
  rw [Gen.k0_off2_eq, h]; rfl
theorem off4 (c : Dev nD) : k0_off4 c = ![(place c 0).val, (core c).val, 0, 0] := by
  have h : ∀ c : Dev nD, (((c.val / 2) % 2) + 2) - 2 * (c.val / 4) = (place c 0).val := by decide
  rw [Gen.k0_off4_eq, h]; rfl
theorem off5 (c : Dev nD) : k0_off5 c = ![(place c 1).val, (core c).val, 0, 0] := by
  have h : ∀ c : Dev nD, (2 * (c.val / 4) + 1) - ((c.val / 2) % 2) = (place c 1).val := by decide
  rw [Gen.k0_off5_eq, h]; rfl
theorem off6 (c : Dev nD) : k0_off6 c = ![(place c 2).val, (core c).val, 0, 0] := by
  have h : ∀ c : Dev nD, 3 - (2 * (c.val / 4) + ((c.val / 2) % 2)) = (place c 2).val := by decide
  rw [Gen.k0_off6_eq, h]; rfl
theorem off3 (c : Dev nD) : k0_off3 c = ![(core c).val, 0, 0] := Gen.k0_off3_eq c
/-- The device send 0 goes to. -/
abbrev peer1 (c : Dev nD) : Dev nD := ⟨k0_dev1 c, k0_dev1_lt c⟩
theorem dev1 (c : Dev nD) : peer1 c = near 0 c := by
  apply Fin.ext; show k0_dev1 c = _; rw [Gen.k0_dev1_eq]; revert c; decide
/-- The device send 1 goes to. -/
abbrev peer2 (c : Dev nD) : Dev nD := ⟨k0_dev2 c, k0_dev2_lt c⟩
theorem dev2 (c : Dev nD) : peer2 c = near 1 c := by
  apply Fin.ext; show k0_dev2 c = _; rw [Gen.k0_dev2_eq]; revert c; decide
/-- The device send 2 goes to. -/
abbrev peer3 (c : Dev nD) : Dev nD := ⟨k0_dev3 c, k0_dev3_lt c⟩
theorem dev3 (c : Dev nD) : peer3 c = near 2 c := by
  apply Fin.ext; show k0_dev3 c = _; rw [Gen.k0_dev3_eq]; revert c; decide
/-- The device send 3 goes to. -/
abbrev peer4 (c : Dev nD) : Dev nD := ⟨k0_dev4 c, k0_dev4_lt c⟩
theorem dev4 (c : Dev nD) : peer4 c = sib c := by
  apply Fin.ext; show k0_dev4 c = _; rw [Gen.k0_dev4_eq]; revert c; decide
/-- The device send 4 goes to. -/
abbrev peer5 (c : Dev nD) : Dev nD := ⟨k0_dev5 c, k0_dev5_lt c⟩
theorem dev5 (c : Dev nD) : peer5 c = sib c := by
  apply Fin.ext; show k0_dev5 c = _; rw [Gen.k0_dev5_eq]; revert c; decide
/-- The device send 5 goes to. -/
abbrev peer6 (c : Dev nD) : Dev nD := ⟨k0_dev6 c, k0_dev6_lt c⟩
theorem dev6 (c : Dev nD) : peer6 c = sib c := by
  apply Fin.ext; show k0_dev6 c = _; rw [Gen.k0_dev6_eq]; revert c; decide

/-! ## The memrefs and the semaphores -/

abbrev inp : Memref sig .tc .hbm S2x1857x1024 .bf16 := Memref.whole main_arg0
/-- One half of a chip's pair. -/
abbrev half (off : Fin 3 → ℕ) (inb : ∀ a, off a + S1x1857x1024.size a ≤ S2x1857x1024.size a) : Memref sig .tc .hbm S1857x1024 .bf16 :=
  ((Memref.whole main_arg0).slice (Rect.unit (s := S2x1857x1024) off S1x1857x1024.size inb) (fun _ => rfl)).squeeze S1857x1024 squeezes_S1x1857x1024_S1857x1024
/-- A slab of the result. -/
abbrev out (off : Fin 4 → ℕ) (inb : ∀ a, off a + S1x1x1857x1024.size a ≤ S4x2x1857x1024.size a) : Memref sig .tc .hbm S1857x1024 .bf16 :=
  ((Memref.whole main_v1).slice (Rect.unit (s := S4x2x1857x1024) off S1x1x1857x1024.size inb) (fun _ => rfl)).squeeze S1857x1024
    squeezes_S1x1x1857x1024_S1857x1024
/-- A chip's pair in the result. -/
abbrev pair (off : Fin 4 → ℕ) (inb : ∀ a, off a + S1x2x1857x1024.size a ≤ S4x2x1857x1024.size a) : Memref sig .tc .hbm S2x1857x1024 .bf16 :=
  ((Memref.whole main_v1).slice (Rect.unit (s := S4x2x1857x1024) off S1x2x1857x1024.size inb) (fun _ => rfl)).squeeze S2x1857x1024
    squeezes_S1x2x1857x1024_S2x1857x1024

theorem inp_set : inp.view.set = Finset.univ := View.set_whole _
theorem half_set {off : Fin 3 → ℕ} {inb : ∀ a, off a + S1x1857x1024.size a ≤ S2x1857x1024.size a} (k : Fin 2) (h : off = ![k.val, 0, 0]) :
    (half off inb).view.set = slab3 k := (View.set_reshape _ _).trans ((View.set_slice_whole _ _).trans (slab3_set k h inb))
theorem half_read {off : Fin 3 → ℕ} {inb : ∀ a, off a + S1x1857x1024.size a ≤ S2x1857x1024.size a} (k : Fin 2) (h : off = ![k.val, 0, 0])
    (g : S2x1857x1024.Idx → Elt F .bf16) (x : S1857x1024.Idx) : (half off inb).view.read (Elt F) g x = g (ix3 k (x 0) (x 1)) :=
  congrArg g (slab3_emb k h inb (Shape.Squeezes.numel_eq squeezes_S1x1857x1024_S1857x1024) x)
theorem out_set {off : Fin 4 → ℕ} {inb : ∀ a, off a + S1x1x1857x1024.size a ≤ S4x2x1857x1024.size a} (k : Fin 4) (k' : Fin 2)
    (h : off = ![k.val, k'.val, 0, 0]) : (out off inb).view.set = slab4 k k' :=
  (View.set_reshape _ _).trans ((View.set_slice_whole _ _).trans (slab4_set k k' h inb))
theorem out_read {off : Fin 4 → ℕ} {inb : ∀ a, off a + S1x1x1857x1024.size a ≤ S4x2x1857x1024.size a} (k : Fin 4) (k' : Fin 2)
    (h : off = ![k.val, k'.val, 0, 0]) (g : S4x2x1857x1024.Idx → Elt F .bf16) (x : S1857x1024.Idx) :
    (out off inb).view.read (Elt F) g x = g (ix4 k k' (x 0) (x 1)) :=
  congrArg g (slab4_emb k k' h inb (Shape.Squeezes.numel_eq squeezes_S1x1x1857x1024_S1857x1024) x)
theorem mem_pair {off : Fin 4 → ℕ} {inb : ∀ a, off a + S1x2x1857x1024.size a ≤ S4x2x1857x1024.size a} (k : Fin 4) (h : off = ![k.val, 0, 0, 0])
    (i : S4x2x1857x1024.Idx) : i ∈ (pair off inb).view.set ↔ i 0 = k :=
  (Finset.ext_iff.mp ((View.set_reshape _ _).trans (View.set_slice_whole _ _)) i).trans (mem_row4 k h inb i)
theorem pair_read {off : Fin 4 → ℕ} {inb : ∀ a, off a + S1x2x1857x1024.size a ≤ S4x2x1857x1024.size a} (k : Fin 4) (h : off = ![k.val, 0, 0, 0])
    (g : S4x2x1857x1024.Idx → Elt F .bf16) (x : S2x1857x1024.Idx) : (pair off inb).view.read (Elt F) g x = g (ix4 k (x 0) (x 1) (x 2)) :=
  congrArg g (row4_emb k h inb (Shape.Squeezes.numel_eq squeezes_S1x2x1857x1024_S2x1857x1024) x)

/-- The cells: 0 to 5 the sends, 6 to 11 the receipts, 12 the device's own copy. -/
abbrev sems : Fin 13 → DmaSem sig := ![((cc0_scratch0.slice (Rect.unit (s := S6) ![0] S1.size inb_S6_S1_0)).squeeze S_ squeezes_S1_S_).sem,
  ((cc0_scratch0.slice (Rect.unit (s := S6) ![1] S1.size inb_S6_S1_1)).squeeze S_ squeezes_S1_S_).sem,
  ((cc0_scratch0.slice (Rect.unit (s := S6) ![2] S1.size inb_S6_S1_2)).squeeze S_ squeezes_S1_S_).sem,
  ((cc0_scratch0.slice (Rect.unit (s := S6) ![3] S1.size inb_S6_S1_3)).squeeze S_ squeezes_S1_S_).sem,
  ((cc0_scratch0.slice (Rect.unit (s := S6) ![4] S1.size inb_S6_S1_4)).squeeze S_ squeezes_S1_S_).sem,
  ((cc0_scratch0.slice (Rect.unit (s := S6) ![5] S1.size inb_S6_S1_5)).squeeze S_ squeezes_S1_S_).sem,
  ((cc0_scratch1.slice (Rect.unit (s := S6) ![0] S1.size inb_S6_S1_0)).squeeze S_ squeezes_S1_S_).sem,
  ((cc0_scratch1.slice (Rect.unit (s := S6) ![1] S1.size inb_S6_S1_1)).squeeze S_ squeezes_S1_S_).sem,
  ((cc0_scratch1.slice (Rect.unit (s := S6) ![2] S1.size inb_S6_S1_2)).squeeze S_ squeezes_S1_S_).sem,
  ((cc0_scratch1.slice (Rect.unit (s := S6) ![3] S1.size inb_S6_S1_3)).squeeze S_ squeezes_S1_S_).sem,
  ((cc0_scratch1.slice (Rect.unit (s := S6) ![4] S1.size inb_S6_S1_4)).squeeze S_ squeezes_S1_S_).sem,
  ((cc0_scratch1.slice (Rect.unit (s := S6) ![5] S1.size inb_S6_S1_5)).squeeze S_ squeezes_S1_S_).sem,
  cc0_scratch2.sem]
theorem sems_inj : Function.Injective sems := by decide
theorem win_facts : WinFacts₀ cfg0.spec := by decide
theorem own_facts : OwnSemFacts cfg0.spec (fun k : Fin 13 => .dma (sems k)) := by decide
theorem no_tables (Φ : Fin 0 → sProp 𝕄) : (bigSep Finset.univ Φ : sProp 𝕄) = BI.emp := BI.bigSep_univ_eq_bigSepL [] (by decide) (by decide) Φ
/-- What a sibling passes on comes after what the neighbours send. -/
def level (s : SemLoc sig) : ℕ := if s = .dma (sems 9) ∨ s = .dma (sems 10) ∨ s = .dma (sems 11) then 1 else 0
theorem level_lt : ∀ k ∈ ({6, 7, 8} : Finset (Fin 13)), ∀ j ∈ ({9, 10, 11} : Finset (Fin 13)), level (.dma (sems k)) < level (.dma (sems j)) := by decide
theorem routes_all (c c' : Dev nD) : τ.routes (c.tc : Thread nD τ) (c'.tc : Thread nD τ) = true := by routes
theorem inb_zero : ∀ a, (![0, 0, 0] : Fin 3 → ℕ) a + S1x1857x1024.size a ≤ S2x1857x1024.size a := by decide

/-! ## The contents -/

section Run
variable (m : (ℓ : Loc nD τ sig) → Buf (Elt F) ℓ)

/-- Device `c`'s pair. -/
def xin (c : Dev nD) : S2x1857x1024.Idx → Elt F .bf16 := m ((c.tc : Thread nD τ).loc main_arg0)
/-- Device `c`'s result. -/
def final (c : Dev nD) : S4x2x1857x1024.Idx → Elt F .bf16 := fun i => xin m (source c (i 0) (i 1)) (ix3 (i 1) (i 2) (i 3))

/-- The parts of the other half of the pair's ownership in which the three sends read. -/
abbrev sh (t : Fin 3) : PosShare TreeShare := ![fullShare.right.left, fullShare.right.right.left, fullShare.right.right.right] t
/-- The pair of device `c`, held for its own copy. -/
def heldl (c : Dev nD) : sProp 𝕄 := inp.view.loc (c.tc : Thread nD τ) ↦[inp.view.set]{fullShare.left} xin m c
/-- A half of device `c`'s pair, held in part. -/
def heldp (c : Dev nD) (t : Fin 2) (q : PosShare TreeShare) : sProp 𝕄 := (c.tc : Thread nD τ).loc main_arg0 ↦[slab3 (hand c t)]{q} xin m c
/-- The elements of part `t` of device `c`'s result. -/
def slabs (c : Dev nD) (t : Fin 7) : Finset S4x2x1857x1024.Idx :=
  @Finset.filter _ (fun i => role c (i 0) (i 1) = t) (Classical.decPred _) Finset.univ
theorem mem_slabs (c : Dev nD) (t : Fin 7) (i : S4x2x1857x1024.Idx) : i ∈ slabs c t ↔ role c (i 0) (i 1) = t := by
  unfold slabs; rw [@Finset.mem_filter _ _ (Classical.decPred _)]; exact and_iff_right (Finset.mem_univ _)
/-- Part `t` of device `c`'s result, at contents `f`. -/
def part (c : Dev nD) (t : Fin 7) (f : S4x2x1857x1024.Idx → Elt F .bf16) : sProp 𝕄 := (c.tc : Thread nD τ).loc main_v1 ↦[slabs c t]{fullShare} f

instance (c : Dev nD) : BI.Storable (upEmb : UEmb _ 𝕄) (heldl m c) := by unfold heldl; infer_instance
instance (c : Dev nD) (t : Fin 2) (q : PosShare TreeShare) : BI.Storable (upEmb : UEmb _ 𝕄) (heldp m c t q) := by unfold heldp; infer_instance
instance (c : Dev nD) (t : Fin 7) (f : S4x2x1857x1024.Idx → Elt F .bf16) : BI.Storable (upEmb : UEmb _ 𝕄) (part c t f) := by unfold part; infer_instance

theorem heldp_halves (c : Dev nD) (t : Fin 2) (q : PosShare TreeShare) : (heldp m c t q : sProp 𝕄) = iprop(heldp m c t q.left ∗ heldp m c t q.right) :=
  BI.Entails.antisymm (pointsTo_share (PosShare.mem_left_op_right q)).1 (pointsTo_share (PosShare.mem_left_op_right q)).2
theorem whole_held (c : Dev nD) :
    ((c.tc : Thread nD τ).loc main_arg0 ↦{fullShare} m ((c.tc : Thread nD τ).loc main_arg0) : sProp 𝕄)
      = iprop(heldl m c ∗ (heldp m c 0 (sh 0) ∗ heldp m c 0 (sh 1) ∗ heldp m c 0 (sh 2)) ∗ heldp m c 1 fullShare.right) := by
  have hs : ((c.tc : Thread nD τ).loc main_arg0 ↦{fullShare} m ((c.tc : Thread nD τ).loc main_arg0) : sProp 𝕄)
      = iprop(((c.tc : Thread nD τ).loc main_arg0 ↦{fullShare.left} m ((c.tc : Thread nD τ).loc main_arg0))
        ∗ (c.tc : Thread nD τ).loc main_arg0 ↦{fullShare.right} m ((c.tc : Thread nD τ).loc main_arg0)) :=
    BI.Entails.antisymm (pointsTo_share (PosShare.mem_left_op_right fullShare)).1 (pointsTo_share (PosShare.mem_left_op_right fullShare)).2
  have hl : (heldl m c : sProp 𝕄) = ((c.tc : Thread nD τ).loc main_arg0 ↦{fullShare.left} m ((c.tc : Thread nD τ).loc main_arg0)) := by
    unfold heldl; rw [inp_set]; rfl
  have hp : ((c.tc : Thread nD τ).loc main_arg0 ↦{fullShare.right} m ((c.tc : Thread nD τ).loc main_arg0) : sProp 𝕄)
      = bigSep Finset.univ fun t => heldp m c t fullShare.right :=
    parts (ℓ := (c.tc : Thread nD τ).loc main_arg0) (fun t => (slab3 (hand c t) : Finset S2x1857x1024.Idx)) (fun i : S2x1857x1024.Idx => hand c (i 0))
      (fun t (i : S2x1857x1024.Idx) => (mem_slab3 (k := hand c t) (i := i)).trans (hand_iff c t (i 0))) fullShare.right _
  have hl2 (Φ : Fin 2 → sProp 𝕄) : bigSep Finset.univ Φ = iprop(Φ 0 ∗ Φ 1) := BI.bigSep_univ_eq_bigSepL [0, 1] (by decide) (by decide) Φ
  rw [hs, hp, hl2, heldp_halves m c 0 fullShare.right, heldp_halves m c 0 fullShare.right.right, hl]
  rfl
theorem whole_parts (c : Dev nD) (f : S4x2x1857x1024.Idx → Elt F .bf16) :
    ((c.tc : Thread nD τ).loc main_v1 ↦{fullShare} f : sProp 𝕄) = bigSep Finset.univ fun t => part c t f :=
  parts (ℓ := (c.tc : Thread nD τ).loc main_v1) (fun t => slabs c t) (fun i : S4x2x1857x1024.Idx => role c (i 0) (i 1))
    (fun t (i : S4x2x1857x1024.Idx) => mem_slabs c t i) fullShare f

/-- The exchange. -/
def PL : Plan nD τ sig (Elt F) 13 where
  sem := sems
  sem_inj := sems_inj
  payee := ![Equiv.refl _, Equiv.refl _, Equiv.refl _, Equiv.refl _, Equiv.refl _, Equiv.refl _, near 0, near 1, near 2, sib, sib, sib, Equiv.refl _]
  amt k := if k = 12 then inp.view.dmaCredit else (half ![0, 0, 0] inb_zero).view.dmaCredit
  amt_pos := by decide
  pay c := ![heldp m c 0 (sh 0),
    heldp m c 0 (sh 1),
    heldp m c 0 (sh 2),
    part c (first 0) (final m c),
    part c (first 1) (final m c),
    part c (first 2) (final m c),
    part c (first 0) (final m c),
    part c (first 1) (final m c),
    part c (first 2) (final m c),
    part c (second 0) (final m c),
    part c (second 1) (final m c),
    part c (second 2) (final m c),
    iprop(part c 0 (final m c) ∗ heldl m c)]
  far := {6, 7, 8, 9, 10, 11}
  lvl := level

theorem storable (c : Dev nD) : ∀ k : Fin 13, BI.Storable (upEmb : UEmb _ 𝕄) ((PL m).pay c k)
  | 0 => inferInstanceAs (BI.Storable _ (heldp m c 0 (sh 0)))
  | 1 => inferInstanceAs (BI.Storable _ (heldp m c 0 (sh 1)))
  | 2 => inferInstanceAs (BI.Storable _ (heldp m c 0 (sh 2)))
  | 3 => inferInstanceAs (BI.Storable _ (part c (first 0) (final m c)))
  | 4 => inferInstanceAs (BI.Storable _ (part c (first 1) (final m c)))
  | 5 => inferInstanceAs (BI.Storable _ (part c (first 2) (final m c)))
  | 6 => inferInstanceAs (BI.Storable _ (part c (first 0) (final m c)))
  | 7 => inferInstanceAs (BI.Storable _ (part c (first 1) (final m c)))
  | 8 => inferInstanceAs (BI.Storable _ (part c (first 2) (final m c)))
  | 9 => inferInstanceAs (BI.Storable _ (part c (second 0) (final m c)))
  | 10 => inferInstanceAs (BI.Storable _ (part c (second 1) (final m c)))
  | 11 => inferInstanceAs (BI.Storable _ (part c (second 2) (final m c)))
  | 12 => inferInstanceAs (BI.Storable _ iprop(part c 0 (final m c) ∗ heldl m c))

theorem open_half (c : Dev nD) (q : PosShare TreeShare) : (heldp m c 0 q : sProp 𝕄) = ((half (k0_off3 c) (k0_off3_inb c)).view.loc (c.tc : Thread nD τ) ↦[(half (k0_off3 c) (k0_off3_inb c)).view.set]{q} xin m c) := by
  unfold heldp; rw [half_set (hand c 0) (off3 c)]
/-- The pair of its own chip in device `c`'s result. -/
theorem open_own (c : Dev nD) (f : S4x2x1857x1024.Idx → Elt F .bf16) : (part c 0 f : sProp 𝕄) = ((pair (k0_off1 c) (k0_off1_inb c)).view.loc (c.tc : Thread nD τ) ↦[(pair (k0_off1 c) (k0_off1_inb c)).view.set]{fullShare} f) := by
  have h : slabs c 0 = (pair (k0_off1 c) (k0_off1_inb c)).view.set :=
    Finset.ext fun i => (mem_slabs c 0 i).trans ((role_own c (i 0) (i 1)).symm.trans (mem_pair (chip c) (off1 c) i).symm)
  unfold part; rw [h]
/-- The slab of neighbour `c'`'s result that device `c` fills. -/
theorem open_sent (c c' : Dev nD) (t : Fin 3) (hc : near t c = c') (f : S4x2x1857x1024.Idx → Elt F .bf16) : (part c' (first t) f : sProp 𝕄) = ((out (k0_off2 c) (k0_off2_inb c)).view.loc (c'.tc : Thread nD τ) ↦[(out (k0_off2 c) (k0_off2_inb c)).view.set]{fullShare} f) := by
  have h : slabs c' (first t) = slab4 (chip c) (core c) := Finset.ext fun i => by
    subst hc
    exact (mem_slabs _ _ i).trans ((role_sent c t (i 0) (i 1)).symm.trans mem_slab4.symm)
  unfold part; rw [out_set (chip c) (core c) (off2 c), h]
/-- The slab of device `c`'s own result that neighbour `t` fills. -/
theorem open_got (c : Dev nD) (t : Fin 3) {off : Fin 4 → ℕ} {inb : ∀ a, off a + S1x1x1857x1024.size a ≤ S4x2x1857x1024.size a}
    (h : off = ![(place c t).val, (core c).val, 0, 0]) (f : S4x2x1857x1024.Idx → Elt F .bf16) : (part c (first t) f : sProp 𝕄) = ((out off inb).view.loc (c.tc : Thread nD τ) ↦[(out off inb).view.set]{fullShare} f) := by
  have hs : slabs c (first t) = slab4 (place c t) (core c) := Finset.ext fun i =>
    (mem_slabs _ _ i).trans ((role_got c t (i 0) (i 1)).symm.trans mem_slab4.symm)
  unfold part; rw [out_set (place c t) (core c) h, hs]
/-- The slab of sibling `c'`'s result to which device `c` passes that on. -/
theorem open_passed (c c' : Dev nD) (t : Fin 3) (hc : sib c = c') {off : Fin 4 → ℕ} {inb : ∀ a, off a + S1x1x1857x1024.size a ≤ S4x2x1857x1024.size a}
    (h : off = ![(place c t).val, (core c).val, 0, 0]) (f : S4x2x1857x1024.Idx → Elt F .bf16) : (part c' (second t) f : sProp 𝕄) = ((out off inb).view.loc (c'.tc : Thread nD τ) ↦[(out off inb).view.set]{fullShare} f) := by
  have hs : slabs c' (second t) = slab4 (place c t) (core c) := Finset.ext fun i => by
    subst hc
    exact (mem_slabs _ _ i).trans ((role_passed c t (i 0) (i 1)).symm.trans mem_slab4.symm)
  unfold part; rw [out_set (place c t) (core c) h, hs]

/-- What landed of the device's own copy. -/
theorem land_own (c : Dev nD) (fd : S4x2x1857x1024.Idx → Elt F .bf16) :
    ((pair (k0_off1 c) (k0_off1_inb c)).view.loc (c.tc : Thread nD τ) ↦[(pair (k0_off1 c) (k0_off1_inb c)).view.set]{fullShare} (pair (k0_off1 c) (k0_off1_inb c)).view.write (Elt F) fd (inp.view.read (Elt F) (xin m c)) Finset.univ : sProp 𝕄) = part c 0 (final m c) := by
  have hl := landed_pts (Val := Elt F) (c.tc : Thread nD τ) (pair (k0_off1 c) (k0_off1_inb c)).view fullShare fd (final m c) (inp.view.read (Elt F) (xin m c))
    (fun x => by
      refine (pair_read (chip c) (off1 c) _ x).trans ?_
      show xin m (source c (chip c) (x 0)) (ix3 (x 0) (x 1) (x 2)) = xin m c x
      rw [source_own c (x 0)]
      exact congrArg (xin m c) (eq_ix3 x).symm)
  exact hl.trans (open_own c _).symm
/-- What landed of a send to a neighbour. -/
theorem land_sent (c c' : Dev nD) (t : Fin 3) (hc : near t c = c') (fd : S4x2x1857x1024.Idx → Elt F .bf16) :
    ((out (k0_off2 c) (k0_off2_inb c)).view.loc (c'.tc : Thread nD τ) ↦[(out (k0_off2 c) (k0_off2_inb c)).view.set]{fullShare} (out (k0_off2 c) (k0_off2_inb c)).view.write (Elt F) fd ((half (k0_off3 c) (k0_off3_inb c)).view.read (Elt F) (xin m c)) Finset.univ : sProp 𝕄) = part c' (first t) (final m c') := by
  have hl := landed_pts (Val := Elt F) (c'.tc : Thread nD τ) (out (k0_off2 c) (k0_off2_inb c)).view fullShare fd (final m c')
    ((half (k0_off3 c) (k0_off3_inb c)).view.read (Elt F) (xin m c)) (fun x => by
      refine (out_read (chip c) (core c) (off2 c) _ x).trans (Eq.trans ?_ (half_read (core c) (off3 c) _ x).symm)
      subst hc
      show xin m (source (nearOf t c) (chip c) (core c)) (ix3 (core c) (x 0) (x 1)) = xin m c (ix3 (core c) (x 0) (x 1))
      rw [source_sent])
  exact hl.trans (open_sent c c' t hc _).symm
/-- What landed of a slab passed on. -/
theorem land_passed (c c' : Dev nD) (t : Fin 3) (hc : sib c = c') {off : Fin 4 → ℕ} {inb : ∀ a, off a + S1x1x1857x1024.size a ≤ S4x2x1857x1024.size a}
    (h : off = ![(place c t).val, (core c).val, 0, 0]) (fd : S4x2x1857x1024.Idx → Elt F .bf16) :
    ((out off inb).view.loc (c'.tc : Thread nD τ) ↦[(out off inb).view.set]{fullShare} (out off inb).view.write (Elt F) fd ((out off inb).view.read (Elt F) (final m c)) Finset.univ : sProp 𝕄) = part c' (second t) (final m c') := by
  have hl := landed_pts (Val := Elt F) (c'.tc : Thread nD τ) (out off inb).view fullShare fd (final m c')
    ((out off inb).view.read (Elt F) (final m c)) (fun x => by
      refine (out_read (place c t) (core c) h _ x).trans (Eq.trans ?_ (out_read (place c t) (core c) h _ x).symm)
      subst hc
      show xin m (source (sibOf c) (place c t) (core c)) (ix3 (core c) (x 0) (x 1)) = xin m (source c (place c t) (core c)) (ix3 (core c) (x 0) (x 1))
      rw [source_passed])
  exact hl.trans (open_passed c c' t hc h _).symm

/-- What device `c` starts with: its pair, and of everyone's results the parts it fills. -/
def start (c : Dev nD) : sProp 𝕄 :=
  iprop(((c.tc : Thread nD τ).loc main_arg0 ↦{fullShare} m ((c.tc : Thread nD τ).loc main_arg0))
    ∗ bigSep Finset.univ fun t => part (filler t c) t (m (((filler t c).tc : Thread nD τ).loc main_v1)))

theorem start_of : (bigSep Finset.univ fun c : Dev nD => (unscopedBufs c (fun b => m ((c.tc : Thread nD τ).loc b)) : sProp 𝕄)) ⊢ bigSep Finset.univ (start m) := by
  rw [bufs_two main_arg0 main_v1 (by decide) (by decide)]
  unfold start
  rw [bigSep_sep', ← deal_roles filler (fun c t => part c t (m ((c.tc : Thread nD τ).loc main_v1))),
    bigSep_congr fun c _ => whole_parts c (m ((c.tc : Thread nD τ).loc main_v1))]

/-- What it ends with. -/
def finish (c : Dev nD) : sProp 𝕄 :=
  iprop(((c.tc : Thread nD τ).loc main_arg0 ↦{fullShare} m ((c.tc : Thread nD τ).loc main_arg0)) ∗ (c.tc : Thread nD τ).loc main_v1 ↦{fullShare} final m c)

/-- The body, from its dealt cells and memory. -/
theorem body (𝒱 : Variants) (c : Dev nD) :
    iprop((PL m).dealt c ∗ start m c ∗ (PL m).owing c (PL m).far)
      ⊢ wp frame (wpE (defs₀ (F := F)) 𝒱 (c.tc : Thread nD τ) none) Set.univ
          (cc0_gather_weights inp (Memref.isWhole_whole _) (Memref.whole main_v1) (Memref.isWhole_whole _) cc0_scratch0 cc0_scratch1 cc0_scratch2)
          fun _ => iprop((PL m).owing c ∅ ∗ (bigSep Finset.univ fun k => semVal ((PL m).cell c k) 0) ∗ finish m c) := by
  have hl13 (Φ : Fin 13 → sProp 𝕄) : bigSep Finset.univ Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
    BI.bigSep_univ_eq_bigSepL [0, 1, 2, 3, 4, 5, 6, 7, 8, 9, 10, 11, 12] (by decide) (by decide) Φ
  have hl7 (Φ : Fin 7 → sProp 𝕄) : bigSep Finset.univ Φ = iprop(Φ 0 ∗ Φ 1 ∗ Φ 2 ∗ Φ 3 ∗ Φ 4 ∗ Φ 5 ∗ Φ 6) :=
    BI.bigSep_univ_eq_bigSepL [0, 1, 2, 3, 4, 5, 6] (by decide) (by decide) Φ
  have hfar : (bigSep (PL m).far fun k => (PL m).due1 c k : sProp 𝕄)
      = iprop((PL m).due1 c 6 ∗ (PL m).due1 c 7 ∗ (PL m).due1 c 8 ∗ (PL m).due1 c 9 ∗ (PL m).due1 c 10 ∗ (PL m).due1 c 11) :=
    show bigSep ({6, 7, 8, 9, 10, 11} : Finset (Fin 13)) _ = _ from BI.bigSep_eq_bigSepL_of_eq [6, 7, 8, 9, 10, 11] (by decide) (by decide) _
  have hf0 : (PL m).far = {6, 7, 8, 9, 10, 11} := rfl
  unfold Plan.dealt start finish
  rw [hl13, hl13, hl13, hfar, whole_held m c, whole_parts c (final m c), hl7, hl7, hf0]
  simp only [Gen.cc0_gather_weights_eq_skeleton]
  unfold Gen.cc0_gather_weights_skel
  simp only [Gen.k0_part1_eq_skeleton, Gen.k0_part2_eq_skeleton, Gen.k0_part3_eq_skeleton, Gen.k0_part4_eq_skeleton, Gen.k0_part5_eq_skeleton,
    Gen.k0_part6_eq_skeleton, Gen.k0_part7_eq_skeleton]
  unfold Gen.k0_part1_skel Gen.k0_part2_skel Gen.k0_part3_skel Gen.k0_part4_skel Gen.k0_part5_skel Gen.k0_part6_skel Gen.k0_part7_skel
  simp only [Prog.lift, Prog.bind_op, Prog.bind_ret, Prog.pure_eq_ret, Prog.bind_assoc, wp_deviceId]
  iintro ⟨⟨⟨%K, #Hr⟩, ⟨Hp0, Hp1, Hp2, Hp3, Hp4, Hp5, Hp6, Hp7, Hp8, Hp9, Hp10, Hp11, Hp12⟩, ⟨Ht0, Ht1, Ht2, Ht3, Ht4, Ht5, Ht6, Ht7, Ht8, Ht9, Ht10, Ht11, Ht12⟩, ⟨Hc6, Hc7, Hc8, Hc9, Hc10, Hc11⟩⟩,
    ⟨⟨Hal, ⟨Ha0, Ha1, Ha2⟩, Har⟩, ⟨Hd0, Hd1, Hd2, Hd3, Hd4, Hd5, Hd6⟩⟩, HO⟩
  -- its own pair copied
  ihave Hal := (Entails.of_eq (show heldl m c = (inp.view.loc (c.tc : Thread nD τ) ↦[inp.view.set]{fullShare.left} xin m c) from rfl)) $$ Hal
  ihave Hd0 := (Entails.of_eq (show part (filler 0 c) 0 (m (((filler 0 c).tc : Thread nD τ).loc main_v1)) = _ from open_own c _)) $$ Hd0
  have hown : iprop(_ ∗ _) ⊢ (PL m).pay c 12 :=
    Entails.of_eq (congrArg₂ BI.sep (land_own m c (m ((c.tc : Thread nD τ).loc main_v1)))
      (show (inp.view.loc (c.tc : Thread nD τ) ↦[inp.view.set]{fullShare.left} xin m c) = heldl m c from rfl))
  iapply ((PL m).copy_step 𝒱 K c 12 (src := inp) (dst := pair (k0_off1 c) (k0_off1_inb c)) fullShare.left (xin m c)
    (m ((c.tc : Thread nD τ).loc main_v1)) rfl hown) $$ [Hal Hd0 Ht12]
  · isplitr; · iexact Hr
    isplitl [Hal]; · iexact Hal
    isplitl [Hd0]; · iexact Hd0
    iexact Ht12
  iintro Hc12
  -- its half sent to neighbour 0
  ihave Ha0 := (Entails.of_eq (open_half m c (sh 0))) $$ Ha0
  ihave Hd1 := (Entails.of_eq (show part (filler 1 c) 1 (m (((filler 1 c).tc : Thread nD τ).loc main_v1)) = _ from
    (congrArg (fun d => part d (first 0) (m ((d.tc : Thread nD τ).loc main_v1))) (dev1 c).symm).trans
    (open_sent c (peer1 c) 0 (dev1 c).symm _))) $$ Hd1
  ihave Ht6 := (Entails.of_eq (show (PL m).tok ((PL m).payee 6 c) 6 = (PL m).tok (peer1 c) 6 from
    congrArg (fun d => (PL m).tok d 6) (dev1 c).symm)) $$ Ht6
  have hmem0 : (6 : Fin 13) ∈ ({6, 7, 8, 9, 10, 11} : Finset (Fin 13)) := by decide
  have hpay0 := Entails.of_eq ((open_half m c (sh 0)).symm)
  have hland0 := Entails.of_eq (land_sent m c (peer1 c) 0 (dev1 c).symm (m (((peer1 c).tc : Thread nD τ).loc main_v1)))
  iapply ((PL m).send_step 𝒱 K c (peer1 c) 0 6 _ hmem0 (dev1 c).symm (src := half (k0_off3 c) (k0_off3_inb c))
    (dst := out (k0_off2 c) (k0_off2_inb c)) (sh 0) (xin m c) (m (((peer1 c).tc : Thread nD τ).loc main_v1)) rfl rfl
    hpay0 hland0 (routes_all c (peer1 c))) $$ [Ha0 Hd1 HO Ht0 Ht6]
  · isplitr; · iexact Hr
    isplitl [Ha0]; · iexact Ha0
    isplitl [Hd1]; · iexact Hd1
    isplitl [HO]; · iexact HO
    isplitl [Ht0]; · iexact Ht0
    iexact Ht6
  rw [show ({6, 7, 8, 9, 10, 11} : Finset (Fin 13)).erase 6 = {7, 8, 9, 10, 11} from by decide]
  iintro ⟨Hc0, HO⟩
  -- its half sent to neighbour 1
  ihave Ha1 := (Entails.of_eq (open_half m c (sh 1))) $$ Ha1
  ihave Hd2 := (Entails.of_eq (show part (filler 2 c) 2 (m (((filler 2 c).tc : Thread nD τ).loc main_v1)) = _ from
    (congrArg (fun d => part d (first 1) (m ((d.tc : Thread nD τ).loc main_v1))) (dev2 c).symm).trans
    (open_sent c (peer2 c) 1 (dev2 c).symm _))) $$ Hd2
  ihave Ht7 := (Entails.of_eq (show (PL m).tok ((PL m).payee 7 c) 7 = (PL m).tok (peer2 c) 7 from
    congrArg (fun d => (PL m).tok d 7) (dev2 c).symm)) $$ Ht7
  have hmem1 : (7 : Fin 13) ∈ ({7, 8, 9, 10, 11} : Finset (Fin 13)) := by decide
  have hpay1 := Entails.of_eq ((open_half m c (sh 1)).symm)
  have hland1 := Entails.of_eq (land_sent m c (peer2 c) 1 (dev2 c).symm (m (((peer2 c).tc : Thread nD τ).loc main_v1)))
  iapply ((PL m).send_step 𝒱 K c (peer2 c) 1 7 _ hmem1 (dev2 c).symm (src := half (k0_off3 c) (k0_off3_inb c))
    (dst := out (k0_off2 c) (k0_off2_inb c)) (sh 1) (xin m c) (m (((peer2 c).tc : Thread nD τ).loc main_v1)) rfl rfl
    hpay1 hland1 (routes_all c (peer2 c))) $$ [Ha1 Hd2 HO Ht1 Ht7]
  · isplitr; · iexact Hr
    isplitl [Ha1]; · iexact Ha1
    isplitl [Hd2]; · iexact Hd2
    isplitl [HO]; · iexact HO
    isplitl [Ht1]; · iexact Ht1
    iexact Ht7
  rw [show ({7, 8, 9, 10, 11} : Finset (Fin 13)).erase 7 = {8, 9, 10, 11} from by decide]
  iintro ⟨Hc1, HO⟩
  -- its half sent to neighbour 2
  ihave Ha2 := (Entails.of_eq (open_half m c (sh 2))) $$ Ha2
  ihave Hd3 := (Entails.of_eq (show part (filler 3 c) 3 (m (((filler 3 c).tc : Thread nD τ).loc main_v1)) = _ from
    (congrArg (fun d => part d (first 2) (m ((d.tc : Thread nD τ).loc main_v1))) (dev3 c).symm).trans
    (open_sent c (peer3 c) 2 (dev3 c).symm _))) $$ Hd3
  ihave Ht8 := (Entails.of_eq (show (PL m).tok ((PL m).payee 8 c) 8 = (PL m).tok (peer3 c) 8 from
    congrArg (fun d => (PL m).tok d 8) (dev3 c).symm)) $$ Ht8
  have hmem2 : (8 : Fin 13) ∈ ({8, 9, 10, 11} : Finset (Fin 13)) := by decide
  have hpay2 := Entails.of_eq ((open_half m c (sh 2)).symm)
  have hland2 := Entails.of_eq (land_sent m c (peer3 c) 2 (dev3 c).symm (m (((peer3 c).tc : Thread nD τ).loc main_v1)))
  iapply ((PL m).send_step 𝒱 K c (peer3 c) 2 8 _ hmem2 (dev3 c).symm (src := half (k0_off3 c) (k0_off3_inb c))
    (dst := out (k0_off2 c) (k0_off2_inb c)) (sh 2) (xin m c) (m (((peer3 c).tc : Thread nD τ).loc main_v1)) rfl rfl
    hpay2 hland2 (routes_all c (peer3 c))) $$ [Ha2 Hd3 HO Ht2 Ht8]
  · isplitr; · iexact Hr
    isplitl [Ha2]; · iexact Ha2
    isplitl [Hd3]; · iexact Hd3
    isplitl [HO]; · iexact HO
    isplitl [Ht2]; · iexact Ht2
    iexact Ht8
  rw [show ({8, 9, 10, 11} : Finset (Fin 13)).erase 8 = {9, 10, 11} from by decide]
  iintro ⟨Hc2, HO⟩
  -- cell 6 waited on
  have hlt6 : ∀ j ∈ ({9, 10, 11} : Finset (Fin 13)), level (.dma (sems 6)) < level (.dma (sems j)) := fun j hj =>
    level_lt 6 (by decide) j ((show ({9, 10, 11} : Finset (Fin 13)) ⊆ {9, 10, 11} from by decide) hj)
  iapply ((PL m).wait_step 𝒱 K c 6 _ hlt6 rfl) $$ [Hp6 Hc6 HO]
  · isplitr; · iexact Hr
    isplitl [Hp6]; · iexact Hp6
    isplitl [Hc6]; · iexact Hc6
    iexact HO
  iintro ⟨Hy6, Hz6, HO⟩
  ihave Hy6 := (Entails.of_eq (show (PL m).pay c 6 = part c (first 0) (final m c) from rfl)) $$ Hy6
  -- and passed on
  ihave Hy6 := (Entails.of_eq (open_got c 0 (off := k0_off4 c) (inb := k0_off4_inb c) (off4 c) (final m c))) $$ Hy6
  ihave Hd4 := (Entails.of_eq (show part (filler 4 c) 4 (m (((filler 4 c).tc : Thread nD τ).loc main_v1)) = _ from
    (congrArg (fun d => part d (second 0) (m ((d.tc : Thread nD τ).loc main_v1))) (dev4 c).symm).trans
    (open_passed c (peer4 c) 0 (dev4 c).symm (off := k0_off4 c) (inb := k0_off4_inb c) (off4 c) _))) $$ Hd4
  ihave Ht9 := (Entails.of_eq (show (PL m).tok ((PL m).payee 9 c) 9 = (PL m).tok (peer4 c) 9 from
    congrArg (fun d => (PL m).tok d 9) (dev4 c).symm)) $$ Ht9
  have hmem3 : (9 : Fin 13) ∈ ({9, 10, 11} : Finset (Fin 13)) := by decide
  have hpay3 := Entails.of_eq ((open_got c 0 (off := k0_off4 c) (inb := k0_off4_inb c) (off4 c) (final m c)).symm)
  have hland3 := Entails.of_eq (land_passed m c (peer4 c) 0 (dev4 c).symm (off := k0_off4 c) (inb := k0_off4_inb c) (off4 c) (m (((peer4 c).tc : Thread nD τ).loc main_v1)))
  iapply ((PL m).send_step 𝒱 K c (peer4 c) 3 9 _ hmem3 (dev4 c).symm (src := out (k0_off4 c) (k0_off4_inb c))
    (dst := out (k0_off4 c) (k0_off4_inb c)) fullShare (final m c) (m (((peer4 c).tc : Thread nD τ).loc main_v1)) rfl rfl
    hpay3 hland3 (routes_all c (peer4 c))) $$ [Hy6 Hd4 HO Ht3 Ht9]
  · isplitr; · iexact Hr
    isplitl [Hy6]; · iexact Hy6
    isplitl [Hd4]; · iexact Hd4
    isplitl [HO]; · iexact HO
    isplitl [Ht3]; · iexact Ht3
    iexact Ht9
  rw [show ({9, 10, 11} : Finset (Fin 13)).erase 9 = {10, 11} from by decide]
  iintro ⟨Hc3, HO⟩
  -- cell 7 waited on
  have hlt7 : ∀ j ∈ ({10, 11} : Finset (Fin 13)), level (.dma (sems 7)) < level (.dma (sems j)) := fun j hj =>
    level_lt 7 (by decide) j ((show ({10, 11} : Finset (Fin 13)) ⊆ {9, 10, 11} from by decide) hj)
  iapply ((PL m).wait_step 𝒱 K c 7 _ hlt7 rfl) $$ [Hp7 Hc7 HO]
  · isplitr; · iexact Hr
    isplitl [Hp7]; · iexact Hp7
    isplitl [Hc7]; · iexact Hc7
    iexact HO
  iintro ⟨Hy7, Hz7, HO⟩
  ihave Hy7 := (Entails.of_eq (show (PL m).pay c 7 = part c (first 1) (final m c) from rfl)) $$ Hy7
  -- and passed on
  ihave Hy7 := (Entails.of_eq (open_got c 1 (off := k0_off5 c) (inb := k0_off5_inb c) (off5 c) (final m c))) $$ Hy7
  ihave Hd5 := (Entails.of_eq (show part (filler 5 c) 5 (m (((filler 5 c).tc : Thread nD τ).loc main_v1)) = _ from
    (congrArg (fun d => part d (second 1) (m ((d.tc : Thread nD τ).loc main_v1))) (dev5 c).symm).trans
    (open_passed c (peer5 c) 1 (dev5 c).symm (off := k0_off5 c) (inb := k0_off5_inb c) (off5 c) _))) $$ Hd5
  ihave Ht10 := (Entails.of_eq (show (PL m).tok ((PL m).payee 10 c) 10 = (PL m).tok (peer5 c) 10 from
    congrArg (fun d => (PL m).tok d 10) (dev5 c).symm)) $$ Ht10
  have hmem4 : (10 : Fin 13) ∈ ({10, 11} : Finset (Fin 13)) := by decide
  have hpay4 := Entails.of_eq ((open_got c 1 (off := k0_off5 c) (inb := k0_off5_inb c) (off5 c) (final m c)).symm)
  have hland4 := Entails.of_eq (land_passed m c (peer5 c) 1 (dev5 c).symm (off := k0_off5 c) (inb := k0_off5_inb c) (off5 c) (m (((peer5 c).tc : Thread nD τ).loc main_v1)))
  iapply ((PL m).send_step 𝒱 K c (peer5 c) 4 10 _ hmem4 (dev5 c).symm (src := out (k0_off5 c) (k0_off5_inb c))
    (dst := out (k0_off5 c) (k0_off5_inb c)) fullShare (final m c) (m (((peer5 c).tc : Thread nD τ).loc main_v1)) rfl rfl
    hpay4 hland4 (routes_all c (peer5 c))) $$ [Hy7 Hd5 HO Ht4 Ht10]
  · isplitr; · iexact Hr
    isplitl [Hy7]; · iexact Hy7
    isplitl [Hd5]; · iexact Hd5
    isplitl [HO]; · iexact HO
    isplitl [Ht4]; · iexact Ht4
    iexact Ht10
  rw [show ({10, 11} : Finset (Fin 13)).erase 10 = {11} from by decide]
  iintro ⟨Hc4, HO⟩
  -- cell 8 waited on
  have hlt8 : ∀ j ∈ ({11} : Finset (Fin 13)), level (.dma (sems 8)) < level (.dma (sems j)) := fun j hj =>
    level_lt 8 (by decide) j ((show ({11} : Finset (Fin 13)) ⊆ {9, 10, 11} from by decide) hj)
  iapply ((PL m).wait_step 𝒱 K c 8 _ hlt8 rfl) $$ [Hp8 Hc8 HO]
  · isplitr; · iexact Hr
    isplitl [Hp8]; · iexact Hp8
    isplitl [Hc8]; · iexact Hc8
    iexact HO
  iintro ⟨Hy8, Hz8, HO⟩
  ihave Hy8 := (Entails.of_eq (show (PL m).pay c 8 = part c (first 2) (final m c) from rfl)) $$ Hy8
  -- and passed on
  ihave Hy8 := (Entails.of_eq (open_got c 2 (off := k0_off6 c) (inb := k0_off6_inb c) (off6 c) (final m c))) $$ Hy8
  ihave Hd6 := (Entails.of_eq (show part (filler 6 c) 6 (m (((filler 6 c).tc : Thread nD τ).loc main_v1)) = _ from
    (congrArg (fun d => part d (second 2) (m ((d.tc : Thread nD τ).loc main_v1))) (dev6 c).symm).trans
    (open_passed c (peer6 c) 2 (dev6 c).symm (off := k0_off6 c) (inb := k0_off6_inb c) (off6 c) _))) $$ Hd6
  ihave Ht11 := (Entails.of_eq (show (PL m).tok ((PL m).payee 11 c) 11 = (PL m).tok (peer6 c) 11 from
    congrArg (fun d => (PL m).tok d 11) (dev6 c).symm)) $$ Ht11
  have hmem5 : (11 : Fin 13) ∈ ({11} : Finset (Fin 13)) := by decide
  have hpay5 := Entails.of_eq ((open_got c 2 (off := k0_off6 c) (inb := k0_off6_inb c) (off6 c) (final m c)).symm)
  have hland5 := Entails.of_eq (land_passed m c (peer6 c) 2 (dev6 c).symm (off := k0_off6 c) (inb := k0_off6_inb c) (off6 c) (m (((peer6 c).tc : Thread nD τ).loc main_v1)))
  iapply ((PL m).send_step 𝒱 K c (peer6 c) 5 11 _ hmem5 (dev6 c).symm (src := out (k0_off6 c) (k0_off6_inb c))
    (dst := out (k0_off6 c) (k0_off6_inb c)) fullShare (final m c) (m (((peer6 c).tc : Thread nD τ).loc main_v1)) rfl rfl
    hpay5 hland5 (routes_all c (peer6 c))) $$ [Hy8 Hd6 HO Ht5 Ht11]
  · isplitr; · iexact Hr
    isplitl [Hy8]; · iexact Hy8
    isplitl [Hd6]; · iexact Hd6
    isplitl [HO]; · iexact HO
    isplitl [Ht5]; · iexact Ht5
    iexact Ht11
  rw [show ({11} : Finset (Fin 13)).erase 11 = ∅ from by decide]
  iintro ⟨Hc5, HO⟩
  -- cell 9 waited on
  iapply ((PL m).wait_step 𝒱 K c 9 ∅ (fun j hj => absurd hj (Finset.notMem_empty j)) rfl) $$ [Hp9 Hc9 HO]
  · isplitr; · iexact Hr
    isplitl [Hp9]; · iexact Hp9
    isplitl [Hc9]; · iexact Hc9
    iexact HO
  iintro ⟨Hy9, Hz9, HO⟩
  ihave Hy9 := (Entails.of_eq (show (PL m).pay c 9 = part c (second 0) (final m c) from rfl)) $$ Hy9
  -- cell 10 waited on
  iapply ((PL m).wait_step 𝒱 K c 10 ∅ (fun j hj => absurd hj (Finset.notMem_empty j)) rfl) $$ [Hp10 Hc10 HO]
  · isplitr; · iexact Hr
    isplitl [Hp10]; · iexact Hp10
    isplitl [Hc10]; · iexact Hc10
    iexact HO
  iintro ⟨Hy10, Hz10, HO⟩
  ihave Hy10 := (Entails.of_eq (show (PL m).pay c 10 = part c (second 1) (final m c) from rfl)) $$ Hy10
  -- cell 11 waited on
  iapply ((PL m).wait_step 𝒱 K c 11 ∅ (fun j hj => absurd hj (Finset.notMem_empty j)) rfl) $$ [Hp11 Hc11 HO]
  · isplitr; · iexact Hr
    isplitl [Hp11]; · iexact Hp11
    isplitl [Hc11]; · iexact Hc11
    iexact HO
  iintro ⟨Hy11, Hz11, HO⟩
  ihave Hy11 := (Entails.of_eq (show (PL m).pay c 11 = part c (second 2) (final m c) from rfl)) $$ Hy11
  -- cell 0 waited on
  iapply ((PL m).wait_step 𝒱 K c 0 ∅ (fun j hj => absurd hj (Finset.notMem_empty j)) rfl) $$ [Hp0 Hc0 HO]
  · isplitr; · iexact Hr
    isplitl [Hp0]; · iexact Hp0
    isplitl [Hc0]; · iexact Hc0
    iexact HO
  iintro ⟨Hy0, Hz0, HO⟩
  ihave Hy0 := (Entails.of_eq (show (PL m).pay c 0 = heldp m c 0 (sh 0) from rfl)) $$ Hy0
  -- cell 1 waited on
  iapply ((PL m).wait_step 𝒱 K c 1 ∅ (fun j hj => absurd hj (Finset.notMem_empty j)) rfl) $$ [Hp1 Hc1 HO]
  · isplitr; · iexact Hr
    isplitl [Hp1]; · iexact Hp1
    isplitl [Hc1]; · iexact Hc1
    iexact HO
  iintro ⟨Hy1, Hz1, HO⟩
  ihave Hy1 := (Entails.of_eq (show (PL m).pay c 1 = heldp m c 0 (sh 1) from rfl)) $$ Hy1
  -- cell 2 waited on
  iapply ((PL m).wait_step 𝒱 K c 2 ∅ (fun j hj => absurd hj (Finset.notMem_empty j)) rfl) $$ [Hp2 Hc2 HO]
  · isplitr; · iexact Hr
    isplitl [Hp2]; · iexact Hp2
    isplitl [Hc2]; · iexact Hc2
    iexact HO
  iintro ⟨Hy2, Hz2, HO⟩
  ihave Hy2 := (Entails.of_eq (show (PL m).pay c 2 = heldp m c 0 (sh 2) from rfl)) $$ Hy2
  -- cell 3 waited on
  iapply ((PL m).wait_step 𝒱 K c 3 ∅ (fun j hj => absurd hj (Finset.notMem_empty j)) rfl) $$ [Hp3 Hc3 HO]
  · isplitr; · iexact Hr
    isplitl [Hp3]; · iexact Hp3
    isplitl [Hc3]; · iexact Hc3
    iexact HO
  iintro ⟨Hy3, Hz3, HO⟩
  ihave Hy3 := (Entails.of_eq (show (PL m).pay c 3 = part c (first 0) (final m c) from rfl)) $$ Hy3
  -- cell 4 waited on
  iapply ((PL m).wait_step 𝒱 K c 4 ∅ (fun j hj => absurd hj (Finset.notMem_empty j)) rfl) $$ [Hp4 Hc4 HO]
  · isplitr; · iexact Hr
    isplitl [Hp4]; · iexact Hp4
    isplitl [Hc4]; · iexact Hc4
    iexact HO
  iintro ⟨Hy4, Hz4, HO⟩
  ihave Hy4 := (Entails.of_eq (show (PL m).pay c 4 = part c (first 1) (final m c) from rfl)) $$ Hy4
  -- cell 5 waited on
  iapply ((PL m).wait_step 𝒱 K c 5 ∅ (fun j hj => absurd hj (Finset.notMem_empty j)) rfl) $$ [Hp5 Hc5 HO]
  · isplitr; · iexact Hr
    isplitl [Hp5]; · iexact Hp5
    isplitl [Hc5]; · iexact Hc5
    iexact HO
  iintro ⟨Hy5, Hz5, HO⟩
  ihave Hy5 := (Entails.of_eq (show (PL m).pay c 5 = part c (first 2) (final m c) from rfl)) $$ Hy5
  -- cell 12 waited on
  iapply ((PL m).wait_step 𝒱 K c 12 ∅ (fun j hj => absurd hj (Finset.notMem_empty j)) rfl) $$ [Hp12 Hc12 HO]
  · isplitr; · iexact Hr
    isplitl [Hp12]; · iexact Hp12
    isplitl [Hc12]; · iexact Hc12
    iexact HO
  iintro ⟨Hy12, Hz12, HO⟩
  ihave Hy12 := (Entails.of_eq (show (PL m).pay c 12 = iprop(part c 0 (final m c) ∗ heldl m c) from rfl)) $$ Hy12
  icases Hy12 with ⟨Hy12, Hx⟩
  rw [wp_ret]
  imodintro
  isplitl [HO]; · iexact HO
  isplitl [Hz0 Hz1 Hz2 Hz3 Hz4 Hz5 Hz6 Hz7 Hz8 Hz9 Hz10 Hz11 Hz12]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  isplitl [Hx Hy0 Hy1 Hy2 Har]
  · isplitl [Hx]; · iexact Hx
    isplitl [Hy0 Hy1 Hy2]
    · isplitl [Hy0]; · iexact Hy0
      isplitl [Hy1]; · iexact Hy1
      iexact Hy2
    iexact Har
  isplitl [Hy12]; · iexact Hy12
  isplitl [Hy3]; · iexact Hy3
  isplitl [Hy4]; · iexact Hy4
  isplitl [Hy5]; · iexact Hy5
  isplitl [Hy9]; · iexact Hy9
  isplitl [Hy10]; · iexact Hy10
  iexact Hy11

/-- Every device's result is its own pair and the halves of the other chips' devices, its own argument is as it was, and every semaphore is back at zero. -/
theorem run (ρ : Dev nD → PrngReg) :
    θ_run (defs (F := F)) (onTc (τ := τ) (main (F := F))) ⟨m, fun _ => 0, ρ⟩ fun r =>
      (∀ c : Dev nD, r.2.mem ((c.tc : Thread nD τ).loc main_v1) = final m c
        ∧ r.2.mem ((c.tc : Thread nD τ).loc main_arg0) = m ((c.tc : Thread nD τ).loc main_arg0)) ∧ r.2.sem = fun _ => 0 := by
  refine Plan.run (pcfgs (F := F)) (fun p => (cfgs p).toPCfg_adm) (PL m) Gen.cellOf_inj win_facts own_facts (defs₀ (F := F)) .none
    (fun _ => inferInstanceAs (IsEmpty (Fin 0))) Gen.N_0 (fun c q f => no_tables _)
    (fun c => Gen.scopedRest0_eq c) m ρ (main (F := F)) (fun c => (Gen.main_chain c).trans rfl) (storable m) (start m) (start_of m) (finish m)
    (fun c t => body m _ c)
    (fun c s => s.mem ((c.tc : Thread nD τ).loc main_v1) = final m c
        ∧ s.mem ((c.tc : Thread nD τ).loc main_arg0) = m ((c.tc : Thread nD τ).loc main_arg0))
    (fun c s' => ?_) (fun s hs hz => ⟨hs, sem_eq_zero_of_scoped (by decide) hz⟩)
  unfold finish
  iintro ⟨⟨Ha, Ho⟩, HSI⟩
  icombine HSI Ha gives %ha
  icombine HSI Ho gives %ho
  imodintro
  isplitr
  · ipureintro; exact ⟨Buf.eq_of_forall_mem_univ ho, Buf.eq_of_forall_mem_univ ha⟩
  iexact HSI

end Run

end Cert.Proof.Gather

end
-- ==== Proof.GatherRef.lean ====
/-
  The gathering's reference — the eight slabs by chip and half —, its run, and what the claims of the gathering say.
-/
module

public import proofs.«01_k».proof.Proof.Gather
public import proofs.«01_k».proof.Proof.Gen.GatherRefIdeal
public import Idealize.ShloMosaic.Lib.StableHlo.Run
public import Idealize.ShloMosaic.Lib.Pipeline.Value

@[expose] public section

set_option Elab.async false

noncomputable section

namespace Cert.Proof.Gather.Ref

open Cert.GatherRefIdeal
open Idealize.ShloMosaic Idealize.ShloMosaic.TcCoe Idealize.ShloMosaic.StableHlo Idealize.ShloMosaic.ValueIdx Idealize.SL.Sem

variable {F : FTy → Type} [FloatOps F]

/-- The reference's result from its argument. -/
abbrev refOut (x : S8x1857x1024.Idx → Elt F .bf16) : S4x2x1857x1024.Idx → Elt F .bf16 :=
  shapeCast S4x2x1857x1024 x Facts₀.shapeCasts_S8x1857x1024_S4x2x1857x1024

/-- @main's operations. -/
abbrev ops : List (HloOp τ sig (Elt F)) :=
  [reshape main_arg0 main_v0 (rfl : (.bf16 : EltTy) = .bf16) Facts₀.shapeCasts_S8x1857x1024_S4x2x1857x1024]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops (F := F)).Forall fun op => op.bufs ⊆ tcRefs τ sig := reshape_bufs_sub ..
theorem out_eq (V : (b : DevRef τ sig) → b.ty.Contents (Elt F)) :
    after ops V (main_v0 : DevRef τ sig) = refOut (V (main_arg0 : DevRef τ sig)) := by after_results; rfl
theorem arg0_eq (V : (b : DevRef τ sig) → b.ty.Contents (Elt F)) :
    after ops V (main_arg0 : DevRef τ sig) = V (main_arg0 : DevRef τ sig) := by after_results

/-- The reference's run. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v0) = refOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v0).trans (out_eq _), (h c main_arg0).trans (arg0_eq _)⟩, sem_eq_zero_of_no_sems rfl r.2⟩)
    (run_seq scopedRefs_eq scopedSems_eq defs main (fun _ => ops) main_eq (fun _ => ops_sub) m ρ)

/-! ## A device's result as its part of the reference's -/

/-- Slab `(k, h)` of the reference's result is slab `2 * k + h` of its argument. -/
theorem refOut_apply (x : S8x1857x1024.Idx → Elt F .bf16) (i : S4x2x1857x1024.Idx) (y : S8x1857x1024.Idx)
    (h0 : (y 0).val = 2 * (i 0).val + (i 1).val) (h1 : (y 1).val = (i 2).val) (h2 : (y 2).val = (i 3).val) : refOut x i = x y := by
  refine shapeCast_apply x _ _ _ ?_
  rw [Shape.rowMajor_val_three, Shape.rowMajor_val_four, h0, h1, h2]
  show ((2 * (i 0).val + (i 1).val) * 1857 + (i 2).val) * 1024 + (i 3).val = (((i 0).val * 2 + (i 1).val) * 1857 + (i 2).val) * 1024 + (i 3).val
  omega
/-- The pair of the device a slab comes from is the slab's chip's. -/
theorem source_pair : ∀ (c : Dev GatherIdeal.nD) (k : Fin 4) (h : Fin 2), Layout.meshLin [2, 2, 2] (source c k h).val [0, 1] * 2 = 2 * k.val := by decide

/-- From pairs that are the chips' blocks of the whole, every device's result is the reference's. -/
theorem final_eq (m : (ℓ : Loc GatherIdeal.nD GatherIdeal.τ GatherIdeal.sig) → Buf (Elt F) ℓ) (x : S8x1857x1024.Idx → Elt F .bf16)
    (h : ∀ c : Dev GatherIdeal.nD, xin m c = Layout.blockN ⟨3, ![2, 1857, 1024]⟩ ⟨3, ![8, 1857, 1024]⟩ (Layout.meshBlock [2, 2, 2] ![[0, 1], [], []] c) x) (c : Dev GatherIdeal.nD) :
    final m c = refOut x := by
  funext i
  show xin m (source c (i 0) (i 1)) (ix3 (i 1) (i 2) (i 3)) = _
  rw [h]
  refine (refOut_apply x i _ ?_ ?_ ?_).symm
  · show Layout.meshLin [2, 2, 2] (source c (i 0) (i 1)).val [0, 1] * 2 + (i 1).val = _
    exact congrArg (· + (i 1).val) (source_pair c (i 0) (i 1))
  · show 0 * 1857 + (i 2).val = (i 2).val
    omega
  · show 0 * 1024 + (i 3).val = (i 3).val
    omega

/-- The gathering against its reference, over any float values. -/
theorem value (m : (ℓ : Loc GatherIdeal.nD GatherIdeal.τ GatherIdeal.sig) → Buf (Elt F) ℓ) (g : Dev GatherIdeal.nD → PrngReg)
    (m' : (ℓ : Loc nD τ sig) → Buf (Elt F) ℓ) (g' : Dev nD → PrngReg)
    (h : ∀ c : Dev GatherIdeal.nD, m ((c.tc : Thread GatherIdeal.nD GatherIdeal.τ).loc GatherIdeal.main_arg0)
      = Layout.blockN ⟨3, ![2, 1857, 1024]⟩ ⟨3, ![8, 1857, 1024]⟩ (Layout.meshBlock [2, 2, 2] ![[0, 1], [], []] c) (m' (((0 : Dev nD).tc : Thread nD τ).loc main_arg0))) :
    ∃ v0 : Buf (Elt F) (((0 : Dev nD).tc : Thread nD τ).loc main_v0),
      θ_run (GatherIdeal.defs (F := F)) (onTc (τ := GatherIdeal.τ) (GatherIdeal.main (F := F))) ⟨m, fun _ => 0, g⟩ (fun r => ∀ c : Dev GatherIdeal.nD,
          r.2.mem ((c.tc : Thread GatherIdeal.nD GatherIdeal.τ).loc GatherIdeal.main_v1)
            = v0
          ∧ r.2.mem ((c.tc : Thread GatherIdeal.nD GatherIdeal.τ).loc GatherIdeal.main_arg0)
            = m ((c.tc : Thread GatherIdeal.nD GatherIdeal.τ).loc GatherIdeal.main_arg0))
      ∧ θ_run (defs (F := F)) (onTc (τ := τ) (main (F := F))) ⟨m', fun _ => 0, g'⟩ (fun r =>
          r.2.mem (((0 : Dev nD).tc : Thread nD τ).loc main_v0) = v0
          ∧ r.2.mem (((0 : Dev nD).tc : Thread nD τ).loc main_arg0) = m' (((0 : Dev nD).tc : Thread nD τ).loc main_arg0)) :=
  ⟨refOut (m' (((0 : Dev nD).tc : Thread nD τ).loc main_arg0)),
    (θ_run _ _ _).mono (fun r hr c => ⟨(hr.1 c).1.trans (final_eq m _ h c), (hr.1 c).2⟩) (Gather.run m g),
    (θ_run _ _ _).mono (fun r hr => hr.1 0) (run m' g')⟩

end Cert.Proof.Gather.Ref

end
-- ==== Proof.Adam.lean ====
/-
  The optimizer's step: what each of its calls computes against the formulas, over the extended reals.
-/
module

public import proofs.«01_k».proof.Defs
public import proofs.«01_k».proof.Proof.Gen.AdamInIdeal.Value
public import proofs.«01_k».proof.Proof.Gen.AdamInRefIdeal.Run
public import proofs.«01_k».proof.Proof.Gen.AdamSquareIdeal.Value
public import proofs.«01_k».proof.Proof.Gen.AdamSquareRefIdeal.Run
public import proofs.«01_k».proof.Proof.Gen.AdamBranchIdeal.Value
public import proofs.«01_k».proof.Proof.Gen.AdamBranchRefIdeal.Run
public import proofs.«01_k».proof.Proof.Gen.AdamSmallIdeal.Value
public import proofs.«01_k».proof.Proof.Gen.AdamSmallRefIdeal.Run

@[expose] public section

noncomputable section

namespace Cert.Proof

open Idealize.ShloMosaic Idealize.ShloMosaic.TcCoe Idealize.SL.Sem

/-- The step on 1024 by 2818 elements: element by element the kernel's operations are the formulas'. -/
theorem AdamIn.algebraic : Cert.algebraic_AdamInIdeal_AdamInRefIdeal := fun m g m' g' _ h =>
  ⟨_, _, _, AdamInIdeal.Value.run m g,
    (θ_run _ _ _).mono (fun r hr c => ⟨(hr c).1.trans (by rw [(h c).1, (h c).2.1, (h c).2.2.1, (h c).2.2.2]; rfl),
      (hr c).2.1.trans (by rw [(h c).2.1, (h c).2.2.1]; rfl),
      (hr c).2.2.1.trans (by rw [(h c).2.1, (h c).2.2.2]; rfl), (hr c).2.2.2⟩) (AdamInRefIdeal.Value.run m' g')⟩

/-- The step on 256 by 1024 elements: element by element the kernel's operations are the formulas'. -/
theorem AdamSquare.algebraic : Cert.algebraic_AdamSquareIdeal_AdamSquareRefIdeal := fun m g m' g' _ h =>
  ⟨_, _, _, AdamSquareIdeal.Value.run m g,
    (θ_run _ _ _).mono (fun r hr c => ⟨(hr c).1.trans (by rw [(h c).1, (h c).2.1, (h c).2.2.1, (h c).2.2.2]; rfl),
      (hr c).2.1.trans (by rw [(h c).2.1, (h c).2.2.1]; rfl),
      (hr c).2.2.1.trans (by rw [(h c).2.1, (h c).2.2.2]; rfl), (hr c).2.2.2⟩) (AdamSquareRefIdeal.Value.run m' g')⟩

/-- The step on 512 by 256 elements: element by element the kernel's operations are the formulas'. -/
theorem AdamBranch.algebraic : Cert.algebraic_AdamBranchIdeal_AdamBranchRefIdeal := fun m g m' g' _ h =>
  ⟨_, _, _, AdamBranchIdeal.Value.run m g,
    (θ_run _ _ _).mono (fun r hr c => ⟨(hr c).1.trans (by rw [(h c).1, (h c).2.1, (h c).2.2.1, (h c).2.2.2]; rfl),
      (hr c).2.1.trans (by rw [(h c).2.1, (h c).2.2.1]; rfl),
      (hr c).2.2.1.trans (by rw [(h c).2.1, (h c).2.2.2]; rfl), (hr c).2.2.2⟩) (AdamBranchRefIdeal.Value.run m' g')⟩

/-- The step on 8 by 1024 elements: element by element the kernel's operations are the formulas'. -/
theorem AdamSmall.algebraic : Cert.algebraic_AdamSmallIdeal_AdamSmallRefIdeal := fun m g m' g' _ h =>
  ⟨_, _, _, AdamSmallIdeal.Value.run m g,
    (θ_run _ _ _).mono (fun r hr c => ⟨(hr c).1.trans (by rw [(h c).1, (h c).2.1, (h c).2.2.1, (h c).2.2.2]; rfl),
      (hr c).2.1.trans (by rw [(h c).2.1, (h c).2.2.1]; rfl),
      (hr c).2.2.1.trans (by rw [(h c).2.1, (h c).2.2.2]; rfl), (hr c).2.2.2⟩) (AdamSmallRefIdeal.Value.run m' g')⟩

end Cert.Proof

end
-- ==== Proof.Sums.lean ====
/-
  The sums of the folding calls: two arrays element by element, and one array's four slabs.
-/
module

public import proofs.«01_k».proof.Defs
public import proofs.«01_k».proof.Proof.Gen.AddPairIdeal.Value
public import proofs.«01_k».proof.Proof.Gen.AddPairRefIdeal.Run
public import proofs.«01_k».proof.Proof.Gen.AddChipsIdeal.Value
public import proofs.«01_k».proof.Proof.Gen.AddChipsRefIdeal.Run
public import Idealize.ShloMosaic.Lib.Pointwise

@[expose] public section

noncomputable section

namespace Cert.Proof

open Idealize.ShloMosaic Idealize.ShloMosaic.TcCoe Idealize.SL.Sem

theorem AddPair.algebraic : Cert.algebraic_AddPairIdeal_AddPairRefIdeal := fun m g m' g' _ h =>
  ⟨_, AddPairIdeal.Value.run m g,
    (θ_run _ _ _).mono (fun r hr c => ⟨(hr c).1.trans (by rw [(h c).1, (h c).2]; rfl), (hr c).2⟩)
      (AddPairRefIdeal.Value.run m' g')⟩

/-- The slabs added one after the other are the sum over the leading axis from zero. -/
theorem AddChips.total (x : Vec Ideal AddChipsIdeal.S4x1857x1024 .f32)
    (hb : AddChipsRefIdeal.S1857x1024.BroadcastsInDim AddChipsRefIdeal.S1x1857x1024
      (![1, 2] : Fin 2 → Fin AddChipsRefIdeal.S1x1857x1024.rank))
    (hr : AddChipsRefIdeal.S4x1857x1024.ReducesTo [0] AddChipsRefIdeal.S1857x1024) (hu : 0 < AddChipsRefIdeal.S_.numel) :
    broadcastInDim AddChipsRefIdeal.S1x1857x1024 ![1, 2] hb
      (Host.reduceAdd (F := Ideal) x (constant AddChipsRefIdeal.S_ .f32 0x00000000#32) hr hu)
    = AddChipsIdeal.Value.G4 x x x x := by
  funext j
  idx_vars j
  pointwise [AddChipsIdeal.Value.G4]
  obtain rfl : j0 = 0 := Subsingleton.elim _ _
  refine (Fin.sum_univ_four _).trans ?_
  have e0 : AddChipsIdeal.Value.inIdx4_0 (ix3 0 j1 j2) = ix3 0 j1 j2 := by funext a; fin_cases a <;> rfl
  have e1 : AddChipsIdeal.Value.inIdx4_1 (ix3 0 j1 j2) = ix3 1 j1 j2 := by funext a; fin_cases a <;> rfl
  have e2 : AddChipsIdeal.Value.inIdx4_2 (ix3 0 j1 j2) = ix3 2 j1 j2 := by funext a; fin_cases a <;> rfl
  have e3 : AddChipsIdeal.Value.inIdx4_3 (ix3 0 j1 j2) = ix3 3 j1 j2 := by funext a; fin_cases a <;> rfl
  rw [e0, e1, e2, e3]

theorem AddChips.algebraic : Cert.algebraic_AddChipsIdeal_AddChipsRefIdeal := fun m g m' g' _ h =>
  ⟨_, AddChipsIdeal.Value.run m g,
    (θ_run _ _ _).mono (fun r hr c => ⟨(hr c).1.trans (by rw [h c]; exact AddChips.total _ _ _ _), (hr c).2⟩)
      (AddChipsRefIdeal.Value.run m' g')⟩

end Cert.Proof

end
-- ==== Proof.Grads.lean ====
/-
  The weight gradients: a product summed over blocks of tokens, one block at each grid point, against the product summed
  over all tokens. Addition of extended reals is commutative and associative, so the sums agree with no assumption.
-/
module

public import proofs.«01_k».proof.Defs
public import proofs.«01_k».proof.Proof.Gen.GradOutIdeal.Value
public import proofs.«01_k».proof.Proof.Gen.GradOutRefIdeal.Run
public import proofs.«01_k».proof.Proof.Gen.GradBranchIdeal.Value
public import proofs.«01_k».proof.Proof.Gen.GradBranchRefIdeal.Run
public import proofs.«01_k».proof.Proof.Gen.GradMainIdeal.Value
public import proofs.«01_k».proof.Proof.Gen.GradMainRefIdeal.Run
public import proofs.«01_k».proof.Proof.Gen.GradFbIdeal.Value
public import proofs.«01_k».proof.Proof.Gen.GradFbRefIdeal.Run
public import proofs.«01_k».proof.Proof.Gen.GradMemIdeal.Value
public import proofs.«01_k».proof.Proof.Gen.GradMemRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.GradOutIdeal.Total

open Cert.GradOutIdeal Cert.GradOutIdeal.Gen

variable (m : (ℓ : Loc nD τ sig) → Buf (Elt Ideal) ℓ)

/-- One point's addend: the product of its two blocks. -/
abbrev part (c : Dev nD) (t : Fin cfg0.N) : Vec Ideal S1024x1024 .f32 := k0_pay1 (iblk m c 0 t) (iblk m c 1 t)

/-- At the points that write back, the block written is the sum of the eight addends of its run. -/
theorem sum (c : Dev nD) (t : Fin cfg0.N) (ht : t.val % 8 = 7) (j : S1024x1024.Idx) :
    (outsAt0 m c t.val t.isLt).1 j
      = ∑ s : Fin 8, part m c ⟨8 * (t.val / 8) + s.val, by have := t.isLt; have := s.isLt; omega⟩ j := by
  have hN : cfg0.N = 8 := N_0
  have e : (outsAt0 m c t.val t.isLt).1 = (outsAt0 m c t.val t.isLt).2 := by
    rw [outsAt0_C m c t (by omega) (by omega) ht]; frame_out
  rw [e, Pipeline.eq_sum_fin_of_reset_step_apply_of_flush (fun n h => (outsAt0 m c n h).2) 8 (fun _ => 0) (part m c)
    (fun t h j => by
      have := t.isLt
      rw [outsAt0_A m c t h (by omega) (by omega)]; frame_out
      rw [k0_pay2, shapeCast_self, zero_add])
    (fun t h j => by
      by_cases h7 : t.val % 8 = 7
      · rw [outsAt0_C m c t h (by omega) h7]; frame_out
        rw [k0_pay3, shapeCast_self, read_unread_whole]; rfl
      · rw [outsAt0_B m c t h (by omega) h7]; frame_out
        rw [k0_pay3, shapeCast_self, read_unread_whole]; rfl)
    t ht j, zero_add]

theorem idx : ∀ t : Fin cfg0.N, win0_0.index t = ![t.val % 8, 0] ∧ win0_1.index t = ![t.val % 8, t.val / 8]
    ∧ win0_2.index t = ![0, t.val / 8] := by
  decide +kernel

/-- The result array is the product summed over all tokens. -/
theorem final (hb : FTy.bits .bf16 < FTy.bits .f32) (c : Dev nD) :
    (dats m 0 c).arrAt 2 cfg0.N = Host.dotGeneral (F := Ideal)
      Cert.GradOutRefIdeal.dot_S8192x1024_S8192x1024_S1024x1024_0_0_1_1_n_n none
      (extf .f32 (m ((c.tc : Thread nD τ).loc main_arg0)) hb) (extf .f32 (m ((c.tc : Thread nD τ).loc main_arg1)) hb) := by
  refine (dats m 0 c).arrAt_eq_of_covers 2 _ (by decide +kernel) fun t hf y => ?_
  blk_simp
  have ht := (flush0_2 t).mp hf
  rw [after0_2, sum m c t ht]
  idx_vars y
  pointwise [part, k0_pay1]
  refine Fin.sum_mul_add_congr fun s k hl => ?_
  congr 1 <;> blk_ext [iblk, V, (idx t).2.2, (idx ⟨8 * (t.val / 8) + s.val, by have := t.isLt; have := s.isLt; omega⟩)]

theorem algebraic : Cert.algebraic_GradOutIdeal_GradOutRefIdeal := fun m g m' g' _ h =>
  ⟨_, Value.run_blocks m g,
    (θ_run _ _ _).mono (fun r hr c => ⟨(hr c).1.trans (by
        rw [(h c).1, (h c).2]; exact (final m _ c).symm), (hr c).2⟩)
      (GradOutRefIdeal.Value.run m' g')⟩

end Cert.GradOutIdeal.Total

namespace Cert.GradBranchIdeal.Total

open Cert.GradBranchIdeal Cert.GradBranchIdeal.Gen

variable (m : (ℓ : Loc nD τ sig) → Buf (Elt Ideal) ℓ)

/-- One point's addend: the product of its two blocks. -/
abbrev part (c : Dev nD) (t : Fin cfg0.N) : Vec Ideal S512x1024 .f32 := k0_pay1 (iblk m c 0 t) (iblk m c 1 t)

/-- At the points that write back, the block written is the sum of the eight addends of its run. -/
theorem sum (c : Dev nD) (t : Fin cfg0.N) (ht : t.val % 8 = 7) (j : S512x1024.Idx) :
    (outsAt0 m c t.val t.isLt).1 j
      = ∑ s : Fin 8, part m c ⟨8 * (t.val / 8) + s.val, by have := t.isLt; have := s.isLt; omega⟩ j := by
  have hN : cfg0.N = 8 := N_0
  have e : (outsAt0 m c t.val t.isLt).1 = (outsAt0 m c t.val t.isLt).2 := by
    rw [outsAt0_C m c t (by omega) (by omega) ht]; frame_out
  rw [e, Pipeline.eq_sum_fin_of_reset_step_apply_of_flush (fun n h => (outsAt0 m c n h).2) 8 (fun _ => 0) (part m c)
    (fun t h j => by
      have := t.isLt
      rw [outsAt0_A m c t h (by omega) (by omega)]; frame_out
      rw [k0_pay2, shapeCast_self, zero_add])
    (fun t h j => by
      by_cases h7 : t.val % 8 = 7
      · rw [outsAt0_C m c t h (by omega) h7]; frame_out
        rw [k0_pay3, shapeCast_self, read_unread_whole]; rfl
      · rw [outsAt0_B m c t h (by omega) h7]; frame_out
        rw [k0_pay3, shapeCast_self, read_unread_whole]; rfl)
    t ht j, zero_add]

theorem idx : ∀ t : Fin cfg0.N, win0_0.index t = ![t.val % 8, 0] ∧ win0_1.index t = ![t.val % 8, t.val / 8]
    ∧ win0_2.index t = ![0, t.val / 8] := by
  decide +kernel

/-- The result array is the product summed over all tokens. -/
theorem final (hb : FTy.bits .bf16 < FTy.bits .f32) (c : Dev nD) :
    (dats m 0 c).arrAt 2 cfg0.N = Host.dotGeneral (F := Ideal)
      Cert.GradBranchRefIdeal.dot_S8192x512_S8192x1024_S512x1024_0_0_1_1_n_n none
      (extf .f32 (m ((c.tc : Thread nD τ).loc main_arg0)) hb) (extf .f32 (m ((c.tc : Thread nD τ).loc main_arg1)) hb) := by
  refine (dats m 0 c).arrAt_eq_of_covers 2 _ (by decide +kernel) fun t hf y => ?_
  blk_simp
  have ht := (flush0_2 t).mp hf
  rw [after0_2, sum m c t ht]
  idx_vars y
  pointwise [part, k0_pay1]
  refine Fin.sum_mul_add_congr fun s k hl => ?_
  congr 1 <;> blk_ext [iblk, V, (idx t).2.2, (idx ⟨8 * (t.val / 8) + s.val, by have := t.isLt; have := s.isLt; omega⟩)]

theorem algebraic : Cert.algebraic_GradBranchIdeal_GradBranchRefIdeal := fun m g m' g' _ h =>
  ⟨_, Value.run_blocks m g,
    (θ_run _ _ _).mono (fun r hr c => ⟨(hr c).1.trans (by
        rw [(h c).1, (h c).2]; exact (final m _ c).symm), (hr c).2⟩)
      (GradBranchRefIdeal.Value.run m' g')⟩

end Cert.GradBranchIdeal.Total

namespace Cert.GradMainIdeal.Total

open Cert.GradMainIdeal Cert.GradMainIdeal.Gen

variable (m : (ℓ : Loc nD τ sig) → Buf (Elt Ideal) ℓ)

/-- One point's addend: the product of its two blocks. -/
abbrev part (c : Dev nD) (t : Fin cfg0.N) : Vec Ideal S1024x1024 .f32 := k0_pay1 (iblk m c 0 t) (iblk m c 1 t)

/-- At the points that write back, the block written is the sum of the eight addends of its run. -/
theorem sum (c : Dev nD) (t : Fin cfg0.N) (ht : t.val % 8 = 7) (j : S1024x1024.Idx) :
    (outsAt0 m c t.val t.isLt).1 j
      = ∑ s : Fin 8, part m c ⟨8 * (t.val / 8) + s.val, by have := t.isLt; have := s.isLt; omega⟩ j := by
  have hN : cfg0.N = 88 := N_0
  have e : (outsAt0 m c t.val t.isLt).1 = (outsAt0 m c t.val t.isLt).2 := by
    rw [outsAt0_C m c t (by omega) (by omega) ht]; frame_out
  rw [e, Pipeline.eq_sum_fin_of_reset_step_apply_of_flush (fun n h => (outsAt0 m c n h).2) 8 (fun _ => 0) (part m c)
    (fun t h j => by
      have := t.isLt
      rw [outsAt0_A m c t h (by omega) (by omega)]; frame_out
      rw [k0_pay2, shapeCast_self, zero_add])
    (fun t h j => by
      by_cases h7 : t.val % 8 = 7
      · rw [outsAt0_C m c t h (by omega) h7]; frame_out
        rw [k0_pay3, shapeCast_self, read_unread_whole]; rfl
      · rw [outsAt0_B m c t h (by omega) h7]; frame_out
        rw [k0_pay3, shapeCast_self, read_unread_whole]; rfl)
    t ht j, zero_add]

theorem idx : ∀ t : Fin cfg0.N, win0_0.index t = ![t.val % 8, 0] ∧ win0_1.index t = ![t.val % 8, t.val / 8]
    ∧ win0_2.index t = ![0, t.val / 8] := by
  decide +kernel

/-- The result array is the product summed over all tokens. -/
theorem final (hb : FTy.bits .bf16 < FTy.bits .f32) (c : Dev nD) :
    (dats m 0 c).arrAt 2 cfg0.N = Host.dotGeneral (F := Ideal)
      Cert.GradMainRefIdeal.dot_S8192x1024_S8192x11264_S1024x11264_0_0_1_1_n_n none
      (extf .f32 (m ((c.tc : Thread nD τ).loc main_arg0)) hb) (extf .f32 (m ((c.tc : Thread nD τ).loc main_arg1)) hb) := by
  refine (dats m 0 c).arrAt_eq_of_covers 2 _ (by decide +kernel) fun t hf y => ?_
  blk_simp
  have ht := (flush0_2 t).mp hf
  rw [after0_2, sum m c t ht]
  idx_vars y
  pointwise [part, k0_pay1]
  refine Fin.sum_mul_add_congr fun s k hl => ?_
  congr 1 <;> blk_ext [iblk, V, (idx t).2.2, (idx ⟨8 * (t.val / 8) + s.val, by have := t.isLt; have := s.isLt; omega⟩)]

theorem algebraic : Cert.algebraic_GradMainIdeal_GradMainRefIdeal := fun m g m' g' _ h =>
  ⟨_, Value.run_blocks m g,
    (θ_run _ _ _).mono (fun r hr c => ⟨(hr c).1.trans (by
        rw [(h c).1, (h c).2]; exact (final m _ c).symm), (hr c).2⟩)
      (GradMainRefIdeal.Value.run m' g')⟩

end Cert.GradMainIdeal.Total

namespace Cert.GradFbIdeal.Total

open Cert.GradFbIdeal Cert.GradFbIdeal.Gen

variable (m : (ℓ : Loc nD τ sig) → Buf (Elt Ideal) ℓ)

/-- One point's addend: the product of its two blocks. -/
abbrev part (c : Dev nD) (t : Fin cfg0.N) : Vec Ideal S1024x128 .f32 := k0_pay1 (iblk m c 0 t) (iblk m c 1 t)

/-- At the points that write back, the block written is the sum of the eight addends of its run. -/
theorem sum (c : Dev nD) (t : Fin cfg0.N) (ht : t.val % 8 = 7) (j : S1024x128.Idx) :
    (outsAt0 m c t.val t.isLt).1 j
      = ∑ s : Fin 8, part m c ⟨8 * (t.val / 8) + s.val, by have := t.isLt; have := s.isLt; omega⟩ j := by
  have hN : cfg0.N = 8 := N_0
  have e : (outsAt0 m c t.val t.isLt).1 = (outsAt0 m c t.val t.isLt).2 := by
    rw [outsAt0_C m c t (by omega) (by omega) ht]; frame_out
  rw [e, Pipeline.eq_sum_fin_of_reset_step_apply_of_flush (fun n h => (outsAt0 m c n h).2) 8 (fun _ => 0) (part m c)
    (fun t h j => by
      have := t.isLt
      rw [outsAt0_A m c t h (by omega) (by omega)]; frame_out
      rw [k0_pay2, shapeCast_self, zero_add])
    (fun t h j => by
      by_cases h7 : t.val % 8 = 7
      · rw [outsAt0_C m c t h (by omega) h7]; frame_out
        rw [k0_pay3, shapeCast_self, read_unread_whole]; rfl
      · rw [outsAt0_B m c t h (by omega) h7]; frame_out
        rw [k0_pay3, shapeCast_self, read_unread_whole]; rfl)
    t ht j, zero_add]

theorem idx : ∀ t : Fin cfg0.N, win0_0.index t = ![t.val % 8, 0] ∧ win0_1.index t = ![t.val % 8, t.val / 8]
    ∧ win0_2.index t = ![0, t.val / 8] := by
  decide +kernel

/-- The result array is the product summed over all tokens. -/
theorem final (hb : FTy.bits .bf16 < FTy.bits .f32) (c : Dev nD) :
    (dats m 0 c).arrAt 2 cfg0.N = Host.dotGeneral (F := Ideal)
      Cert.GradFbRefIdeal.dot_S8192x1024_S8192x128_S1024x128_0_0_1_1_n_n none
      (extf .f32 (m ((c.tc : Thread nD τ).loc main_arg0)) hb) (extf .f32 (m ((c.tc : Thread nD τ).loc main_arg1)) hb) := by
  refine (dats m 0 c).arrAt_eq_of_covers 2 _ (by decide +kernel) fun t hf y => ?_
  blk_simp
  have ht := (flush0_2 t).mp hf
  rw [after0_2, sum m c t ht]
  idx_vars y
  pointwise [part, k0_pay1]
  refine Fin.sum_mul_add_congr fun s k hl => ?_
  congr 1 <;> blk_ext [iblk, V, (idx t).2.2, (idx ⟨8 * (t.val / 8) + s.val, by have := t.isLt; have := s.isLt; omega⟩)]

theorem algebraic : Cert.algebraic_GradFbIdeal_GradFbRefIdeal := fun m g m' g' _ h =>
  ⟨_, Value.run_blocks m g,
    (θ_run _ _ _).mono (fun r hr c => ⟨(hr c).1.trans (by
        rw [(h c).1, (h c).2]; exact (final m _ c).symm), (hr c).2⟩)
      (GradFbRefIdeal.Value.run m' g')⟩

end Cert.GradFbIdeal.Total

namespace Cert.Proof

/-- The memory's gradient: one point, so the two sides are the same product. -/
theorem GradMem.algebraic : Cert.algebraic_GradMemIdeal_GradMemRefIdeal := fun m g m' g' _ h =>
  ⟨_, GradMemIdeal.Value.run m g,
    (θ_run _ _ _).mono (fun r hr c => ⟨(hr c).1.trans (by
        rw [(h c).1, (h c).2]
        funext j
        idx_vars j
        pointwise [GradMemIdeal.Value.G2, GradMemIdeal.Gen.k0_pay1]), (hr c).2⟩)
      (GradMemRefIdeal.Value.run m' g')⟩

end Cert.Proof
-- ==== Proof.Norms.lean ====
/-
  The normalisations' backward calls: the rows' gradient block by block, and the gain's gradient, a sum over blocks of
  tokens against the sum over all tokens.
-/
module

public import proofs.«01_k».proof.Defs
public import proofs.«01_k».proof.Proof.Gen.NormMemIdeal.Value
public import proofs.«01_k».proof.Proof.Gen.NormMemRefIdeal.Run
public import proofs.«01_k».proof.Proof.Gen.PreBwdIdeal.Value
public import proofs.«01_k».proof.Proof.Gen.PreBwdRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.NormMemIdeal.Total

open Cert.NormMemIdeal Cert.NormMemIdeal.Gen

theorem idx : ∀ t : Fin cfg0.N, win0_0.index t = ![0, 0] ∧ win0_1.index t = ![0, 0] ∧ win0_2.index t = ![0, 0] := by
  decide +kernel

theorem algebraic : Cert.algebraic_NormMemIdeal_NormMemRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, outsAt0]
        frame_out
        idx_vars y
        pointwise [k0_pay2, k0_pay1]
        refine Fin.sum_fin_congr fun x => ?_
        rw [mul_assoc]
        blk_point [iblk, V, idx t]), (hr c).2⟩)
      (NormMemRefIdeal.Value.run m' g')⟩

end Cert.NormMemIdeal.Total

namespace Cert.PreBwdIdeal.Total

open Cert.PreBwdIdeal Cert.PreBwdIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0] := by
  decide +kernel

variable (m : (ℓ : Loc nD τ sig) → Buf (Elt Ideal) ℓ)

/-- The rows written at a point. -/
theorem rows (c : Dev nD) (t : Fin cfg0.N) : (outsAt0 m c t.val t.isLt).1
    = k0_pay5 (iblk m c 0 t) (iblk m c 1 t) (iblk m c 2 t) (iblk m c 3 t) (iblk m c 4 t) := by
  by_cases h0 : t.val % 32 = 0
  · rw [outsAt0_A m c t h0]; frame_out
  · rw [outsAt0_B m c t h0]; frame_out

/-- The gain's gradient when it is written back: the sum of all points' addends. -/
theorem gain (c : Dev nD) (t : Fin cfg0.N) (ht : t.val % 32 = 31) (j : S1x1024.Idx) : (outsAt0 m c t.val t.isLt).2 j
    = ∑ s : Fin 32, k0_pay6 (iblk m c 0 ⟨32 * (t.val / 32) + s.val, by have := t.isLt; have := s.isLt; omega⟩)
        (iblk m c 1 ⟨32 * (t.val / 32) + s.val, by have := t.isLt; have := s.isLt; omega⟩)
        (iblk m c 2 ⟨32 * (t.val / 32) + s.val, by have := t.isLt; have := s.isLt; omega⟩) j := by
  rw [Pipeline.eq_sum_fin_of_reset_step_apply_of_flush (fun n h => (outsAt0 m c n h).2) 32 (fun _ => 0)
    (fun p => k0_pay6 (iblk m c 0 p) (iblk m c 1 p) (iblk m c 2 p))
    (fun t h j => by
      rw [outsAt0_A m c t h]; frame_out
      rw [k0_pay1, shapeCast_self]
      show k0_pay7 (F := Ideal) j + _ = _
      congr 1
      idx_vars j
      pointwise [k0_pay7])
    (fun t h j => by
      rw [outsAt0_B m c t h]; frame_out
      rw [k0_pay1, shapeCast_self]; rfl)
    t ht j, zero_add]

theorem algebraic : Cert.algebraic_PreBwdIdeal_PreBwdRefIdeal := fun m g m' g' _ h =>
  ⟨_, _, Value.run_blocks m g,
    (θ_run _ _ _).mono (fun r hr c => ⟨(hr c).1.trans (by
        rw [(h c).1, (h c).2.1, (h c).2.2.1, (h c).2.2.2.1, (h c).2.2.2.2]
        symm
        refine (dats m 0 _).arrAt_eq_of_covers 5 _ (by decide +kernel) fun t hf y => ?_
        blk_simp
        rw [after0_5, rows]
        idx_vars y
        pointwise [k0_pay5, k0_pay4, k0_pay3, k0_pay2]
        blk_point [iblk, V, idx t]), (hr c).2.1.trans (by
        rw [(h c).1, (h c).2.1, (h c).2.2.1]
        symm
        refine (dats m 0 _).arrAt_eq_of_covers 6 _ (by decide +kernel) fun t hf y => ?_
        blk_simp
        rw [after0_6, gain m _ t ((flush0_6 t).mp hf)]
        have ht := (flush0_6 t).mp hf
        idx_vars y
        pointwise [k0_pay6, k0_pay4, k0_pay3, k0_pay2]
        refine Fin.sum_mul_add_congr fun s k hl => ?_
        blk_point [iblk, V, idx t, idx ⟨32 * (t.val / 32) + s.val, by have := t.isLt; have := s.isLt; omega⟩]), (hr c).2.2⟩)
      (PreBwdRefIdeal.Value.run m' g')⟩

end Cert.PreBwdIdeal.Total
-- ==== Proof.Tail.lean ====
/-
  The objective's call: the rows' gradients block by block, and the loss lanes and the last norm's gain gradient, sums over
  blocks of tokens against the sums over all tokens. Dividing by 1024 is multiplying by its reciprocal, for every extended
  real.
-/
module

public import proofs.«01_k».proof.Defs
public import proofs.«01_k».proof.Proof.Gen.TailIdeal.Value
public import proofs.«01_k».proof.Proof.Gen.TailRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.TailIdeal.Total

open Cert.TailIdeal Cert.TailIdeal.Gen

theorem c1024 : Ideal.ofBits .f32 0x44800000#32 = ((1024 : ℝ) : EReal) := by
  simp [Ideal.ofBits, Ideal.ieee, -EReal.coe_mul]
  norm_num

theorem c1024inv : Ideal.ofBits .f32 0x3A800000#32 = ((1 / 1024 : ℝ) : EReal) := by
  simp [Ideal.ofBits, Ideal.ieee, -EReal.coe_mul]
  norm_num

theorem div1024 (x : EReal) :
    Ideal.div x (Ideal.ofBits .f32 0x44800000#32) = x * Ideal.ofBits .f32 0x3A800000#32 := by
  rw [c1024, c1024inv, Ideal.div_coe (by norm_num)]

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] := by
  decide +kernel

variable (m : (ℓ : Loc nD τ sig) → Buf (Elt Ideal) ℓ)

/-- The rows written at a point. -/
theorem dy (c : Dev nD) (t : Fin cfg0.N) : (outsAt0 m c t.val t.isLt).1
    = k0_pay9 (iblk m c 0 t) (iblk m c 1 t) (iblk m c 2 t) (iblk m c 3 t) := by
  by_cases h0 : t.val % 32 = 0
  · rw [outsAt0_A m c t h0]; frame_out
  · rw [outsAt0_B m c t h0]; frame_out

theorem dout (c : Dev nD) (t : Fin cfg0.N) : (outsAt0 m c t.val t.isLt).2.1
    = k0_pay1 (k0_pay10 (iblk m c 0 t) (iblk m c 1 t) (iblk m c 2 t) (iblk m c 3 t)) := by
  by_cases h0 : t.val % 32 = 0
  · rw [outsAt0_A m c t h0]; frame_out
  · rw [outsAt0_B m c t h0]; frame_out

abbrev nth (t : Fin cfg0.N) (s : Fin 32) : Fin cfg0.N :=
  ⟨32 * (t.val / 32) + s.val, by have := t.isLt; have := s.isLt; have : cfg0.N = 32 := N_0; omega⟩

/-- The loss lanes when they are written back: the sum of all points' addends. -/
theorem loss (c : Dev nD) (t : Fin cfg0.N) (ht : t.val % 32 = 31) (j : S1x1024.Idx) : (outsAt0 m c t.val t.isLt).2.2.1 j
    = ∑ s : Fin 32, k0_pay11 (iblk m c 0 (nth t s)) (iblk m c 1 (nth t s)) (iblk m c 2 (nth t s)) (iblk m c 3 (nth t s)) j := by
  rw [Pipeline.eq_sum_fin_of_reset_step_apply_of_flush (fun n h => (outsAt0 m c n h).2.2.1) 32 (fun _ => 0)
    (fun p => k0_pay11 (iblk m c 0 p) (iblk m c 1 p) (iblk m c 2 p) (iblk m c 3 p))
    (fun t h j => by
      rw [outsAt0_A m c t h]; frame_out
      rw [k0_pay4, shapeCast_self]
      show k0_pay2 (F := Ideal) j + _ = _
      congr 1
      idx_vars j
      pointwise [k0_pay2])
    (fun t h j => by
      rw [outsAt0_B m c t h]; frame_out
      rw [k0_pay4, shapeCast_self]; rfl)
    t ht j, zero_add]

/-- The gain's gradient when it is written back: the sum of all points' addends. -/
theorem gain (c : Dev nD) (t : Fin cfg0.N) (ht : t.val % 32 = 31) (j : S1x1024.Idx) : (outsAt0 m c t.val t.isLt).2.2.2 j
    = ∑ s : Fin 32, shapeCast S1x1024 (k0_pay12 (iblk m c 0 (nth t s)) (iblk m c 1 (nth t s)) (iblk m c 2 (nth t s))
        (iblk m c 3 (nth t s))) shapeCasts_S1024_S1x1024 j := by
  rw [Pipeline.eq_sum_fin_of_reset_step_apply_of_flush (fun n h => (outsAt0 m c n h).2.2.2) 32 (fun _ => 0)
    (fun p => shapeCast S1x1024 (k0_pay12 (iblk m c 0 p) (iblk m c 1 p) (iblk m c 2 p) (iblk m c 3 p))
      shapeCasts_S1024_S1x1024)
    (fun t h j => by
      rw [outsAt0_A m c t h]; frame_out
      simp only [k0_pay5, shapeCast_self]
      show k0_pay3 (F := Ideal) j + _ = _
      congr 1
      idx_vars j
      pointwise [k0_pay3])
    (fun t h j => by
      rw [outsAt0_B m c t h]; frame_out
      simp only [k0_pay5, shapeCast_self]; rfl)
    t ht j, zero_add]

theorem algebraic : Cert.algebraic_TailIdeal_TailRefIdeal := fun m g m' g' _ h =>
  ⟨_, _, _, _, Value.run_blocks m g,
    (θ_run _ _ _).mono (fun r hr c => ⟨(hr c).1.trans (by
        rw [(h c).1, (h c).2.1, (h c).2.2.1, (h c).2.2.2]
        symm
        refine (dats m 0 _).arrAt_eq_of_covers 4 _ (by decide +kernel) fun t hf y => ?_
        blk_simp
        rw [after0_4, dy]
        idx_vars y
        pointwise [k0_pay9, k0_pay8, k0_pay7, k0_pay6]
        simp only [div1024]
        blk_point [iblk, V, idx t]), (hr c).2.1.trans (by
        rw [(h c).1, (h c).2.1, (h c).2.2.1, (h c).2.2.2]
        symm
        refine (dats m 0 _).arrAt_eq_of_covers 5 _ (by decide +kernel) fun t hf y => ?_
        blk_simp
        rw [after0_5, dout]
        idx_vars y
        pointwise [k0_pay1, k0_pay10, k0_pay9, k0_pay8, k0_pay7, k0_pay6]
        simp only [div1024]
        blk_point [iblk, V, idx t]), (hr c).2.2.1.trans (by
        rw [(h c).1, (h c).2.1, (h c).2.2.1, (h c).2.2.2]
        symm
        refine (dats m 0 _).arrAt_eq_of_covers 6 _ (by decide +kernel) fun t hf y => ?_
        blk_simp
        rw [after0_6, loss m _ t ((flush0_6 t).mp hf)]
        have ht := (flush0_6 t).mp hf
        idx_vars y
        pointwise [k0_pay11, k0_pay9, k0_pay8, k0_pay7, k0_pay6]
        simp only [div1024, mul_assoc]
        refine Fin.sum_mul_add_congr fun s k hl => ?_
        blk_point [iblk, V, idx t, idx (nth t s)]), (hr c).2.2.2.1.trans (by
        rw [(h c).1, (h c).2.1, (h c).2.2.1, (h c).2.2.2]
        symm
        refine (dats m 0 _).arrAt_eq_of_covers 7 _ (by decide +kernel) fun t hf y => ?_
        blk_simp
        rw [after0_7, gain m _ t ((flush0_7 t).mp hf)]
        have ht := (flush0_7 t).mp hf
        idx_vars y
        pointwise [k0_pay12, k0_pay9, k0_pay8, k0_pay7, k0_pay6]
        simp only [div1024]
        refine Fin.sum_mul_add_congr fun s k hl => ?_
        blk_point [iblk, V, idx t, idx (nth t s)]), (hr c).2.2.2.2⟩)
      (TailRefIdeal.Value.run m' g')⟩

end Cert.TailIdeal.Total
-- ==== Proof.MergeBwd.lean ====
/-
  The gates' backward call: six arrays block by block, and the three sums of the gates' gradients over blocks of tokens
  against the sums over all tokens.
-/
module

public import proofs.«01_k».proof.Defs
public import proofs.«01_k».proof.Proof.Gen.MergeBwdIdeal.Value
public import proofs.«01_k».proof.Proof.Gen.MergeBwdRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MergeBwdIdeal.Total

open Cert.MergeBwdIdeal Cert.MergeBwdIdeal.Gen

variable (m : (ℓ : Loc nD τ sig) → Buf (Elt Ideal) ℓ)

abbrev one : Ideal .f32 := Scalar.ofBits .f32 0x3F800000#32

abbrev nth (t : Fin cfg0.N) (s : Fin 32) : Fin cfg0.N :=
  ⟨32 * (t.val / 32) + s.val, by have := t.isLt; have := s.isLt; have : cfg0.N = 32 := N_0; omega⟩

theorem idx : ∀ t : Fin cfg0.N, win0_0.index t = ![t.val, 0]
    ∧ win0_1.index t = ![t.val, 8]
    ∧ win0_2.index t = ![t.val, 9]
    ∧ win0_3.index t = ![t.val, 10]
    ∧ win0_4.index t = ![t.val, 0]
    ∧ win0_5.index t = ![t.val, 0]
    ∧ win0_6.index t = ![t.val, 0]
    ∧ win0_7.index t = ![0, 0]
    ∧ win0_8.index t = ![t.val, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![0, 0]
    ∧ win0_16.index t = ![0, 0] := by
  decide +kernel

theorem out8 (c : Dev nD) (t : Fin cfg0.N) : (outsAt0 m c t.val t.isLt).1
    = k0_pay21 (k0_pay11 (iblk m c 0 t) (iblk m c 1 t) (iblk m c 7 t)) := by
  by_cases h0 : t.val % 32 = 0
  · rw [outsAt0_A m c t h0]; frame_out
  · rw [outsAt0_B m c t h0]; frame_out

theorem out9 (c : Dev nD) (t : Fin cfg0.N) : (outsAt0 m c t.val t.isLt).2.1
    = k0_pay22 (k0_pay9 (iblk m c 0 t)) (k0_pay14 (iblk m c 2 t) (iblk m c 7 t)) one := by
  by_cases h0 : t.val % 32 = 0
  · rw [outsAt0_A m c t h0]; frame_out
  · rw [outsAt0_B m c t h0]; frame_out

theorem out10 (c : Dev nD) (t : Fin cfg0.N) : (outsAt0 m c t.val t.isLt).2.2.1
    = k0_pay23 (iblk m c 3 t) (iblk m c 7 t) (k0_pay9 (iblk m c 0 t)) := by
  by_cases h0 : t.val % 32 = 0
  · rw [outsAt0_A m c t h0]; frame_out
  · rw [outsAt0_B m c t h0]; frame_out

theorem out11 (c : Dev nD) (t : Fin cfg0.N) : (outsAt0 m c t.val t.isLt).2.2.2.1
    = k0_pay24 (k0_pay12 (iblk m c 0 t) (iblk m c 1 t) (iblk m c 4 t) (iblk m c 7 t)) := by
  by_cases h0 : t.val % 32 = 0
  · rw [outsAt0_A m c t h0]; frame_out
  · rw [outsAt0_B m c t h0]; frame_out

theorem out12 (c : Dev nD) (t : Fin cfg0.N) : (outsAt0 m c t.val t.isLt).2.2.2.2.1
    = k0_pay1 (k0_pay16 (iblk m c 5 t) (k0_pay9 (iblk m c 0 t)) (k0_pay14 (iblk m c 2 t) (iblk m c 7 t)) one) := by
  by_cases h0 : t.val % 32 = 0
  · rw [outsAt0_A m c t h0]; frame_out
  · rw [outsAt0_B m c t h0]; frame_out

theorem out13 (c : Dev nD) (t : Fin cfg0.N) : (outsAt0 m c t.val t.isLt).2.2.2.2.2.1
    = k0_pay2 (k0_pay19 (iblk m c 3 t) (iblk m c 6 t) (iblk m c 7 t) (k0_pay9 (iblk m c 0 t))) := by
  by_cases h0 : t.val % 32 = 0
  · rw [outsAt0_A m c t h0]; frame_out
  · rw [outsAt0_B m c t h0]; frame_out

abbrev part14 (c : Dev nD) (t : Fin cfg0.N) : Vec Ideal S1x1024 .f32 :=
  k0_pay13 (iblk m c 0 t) (iblk m c 1 t) (iblk m c 4 t) (iblk m c 7 t)

theorem out14 (c : Dev nD) (t : Fin cfg0.N) (ht : t.val % 32 = 31) (j : S1x1024.Idx) :
    (outsAt0 m c t.val t.isLt).2.2.2.2.2.2.1 j = ∑ s : Fin 32, part14 m c (nth t s) j := by
  rw [Pipeline.eq_sum_fin_of_reset_step_apply_of_flush (fun n h => (outsAt0 m c n h).2.2.2.2.2.2.1) 32 (fun _ => 0) (part14 m c)
    (fun t h j => by
      rw [outsAt0_A m c t h]; frame_out
      rw [k0_pay6, shapeCast_self]
      show k0_pay3 (F := Ideal) j + _ = _
      congr 1
      idx_vars j
      pointwise [k0_pay3])
    (fun t h j => by
      rw [outsAt0_B m c t h]; frame_out
      rw [k0_pay6, shapeCast_self]; rfl)
    t ht j, zero_add]

abbrev part15 (c : Dev nD) (t : Fin cfg0.N) : Vec Ideal S1x1024 .f32 :=
  k0_pay17 (iblk m c 5 t) (k0_pay9 (iblk m c 0 t)) (k0_pay14 (iblk m c 2 t) (iblk m c 7 t)) one

theorem out15 (c : Dev nD) (t : Fin cfg0.N) (ht : t.val % 32 = 31) (j : S1x1024.Idx) :
    (outsAt0 m c t.val t.isLt).2.2.2.2.2.2.2.1 j = ∑ s : Fin 32, part15 m c (nth t s) j := by
  rw [Pipeline.eq_sum_fin_of_reset_step_apply_of_flush (fun n h => (outsAt0 m c n h).2.2.2.2.2.2.2.1) 32 (fun _ => 0) (part15 m c)
    (fun t h j => by
      rw [outsAt0_A m c t h]; frame_out
      rw [k0_pay7, shapeCast_self]
      show k0_pay4 (F := Ideal) j + _ = _
      congr 1
      idx_vars j
      pointwise [k0_pay4])
    (fun t h j => by
      rw [outsAt0_B m c t h]; frame_out
      rw [k0_pay7, shapeCast_self]; rfl)
    t ht j, zero_add]

abbrev part16 (c : Dev nD) (t : Fin cfg0.N) : Vec Ideal S1x1024 .f32 :=
  k0_pay20 (iblk m c 3 t) (iblk m c 6 t) (iblk m c 7 t) (k0_pay9 (iblk m c 0 t))

theorem out16 (c : Dev nD) (t : Fin cfg0.N) (ht : t.val % 32 = 31) (j : S1x1024.Idx) :
    (outsAt0 m c t.val t.isLt).2.2.2.2.2.2.2.2 j = ∑ s : Fin 32, part16 m c (nth t s) j := by
  rw [Pipeline.eq_sum_fin_of_reset_step_apply_of_flush (fun n h => (outsAt0 m c n h).2.2.2.2.2.2.2.2) 32 (fun _ => 0) (part16 m c)
    (fun t h j => by
      rw [outsAt0_A m c t h]; frame_out
      rw [k0_pay8, shapeCast_self]
      show k0_pay5 (F := Ideal) j + _ = _
      congr 1
      idx_vars j
      pointwise [k0_pay5])
    (fun t h j => by
      rw [outsAt0_B m c t h]; frame_out
      rw [k0_pay8, shapeCast_self]; rfl)
    t ht j, zero_add]

set_option maxHeartbeats 4000000 in
theorem algebraic : Cert.algebraic_MergeBwdIdeal_MergeBwdRefIdeal := fun m g m' g' _ h =>
  ⟨_, _, _, _, _, _, _, _, _, Value.run_blocks m g,
    (θ_run _ _ _).mono (fun r hr c => ⟨(hr c).1.trans (by
        rw [(h c).1, (h c).2.1, (h c).2.2.2.2.2]
        symm
        refine (dats m 0 _).arrAt_eq_of_covers 8 _ (by decide +kernel) fun t hf y => ?_
        blk_simp
        rw [after0_8, out8]
        idx_vars y
        pointwise [k0_pay21, k0_pay11, k0_pay10, k0_pay9]
        simp only [zero_sub, mul_assoc]
        blk_point [iblk, V, idx t]), (hr c).2.1.trans (by
        rw [(h c).1, (h c).2.1, (h c).2.2.2.2.2]
        symm
        refine (dats m 0 _).arrAt_eq_of_covers 9 _ (by decide +kernel) fun t hf y => ?_
        blk_simp
        rw [after0_9, out9]
        idx_vars y
        pointwise [k0_pay22, k0_pay15, k0_pay14, k0_pay9, one]
        simp only [zero_sub, mul_assoc]
        blk_point [iblk, V, idx t]), (hr c).2.2.1.trans (by
        rw [(h c).1, (h c).2.1, (h c).2.2.2.2.2]
        symm
        refine (dats m 0 _).arrAt_eq_of_covers 10 _ (by decide +kernel) fun t hf y => ?_
        blk_simp
        rw [after0_10, out10]
        idx_vars y
        pointwise [k0_pay23, k0_pay18, k0_pay9]
        simp only [zero_sub, mul_assoc]
        blk_point [iblk, V, idx t]), (hr c).2.2.2.1.trans (by
        rw [(h c).1, (h c).2.1, (h c).2.2.1, (h c).2.2.2.2.2]
        symm
        refine (dats m 0 _).arrAt_eq_of_covers 11 _ (by decide +kernel) fun t hf y => ?_
        blk_simp
        rw [after0_11, out11]
        idx_vars y
        pointwise [k0_pay24, k0_pay12, k0_pay10, k0_pay9]
        simp only [zero_sub, mul_assoc]
        blk_point [iblk, V, idx t]), (hr c).2.2.2.2.1.trans (by
        rw [(h c).1, (h c).2.1, (h c).2.2.2.1, (h c).2.2.2.2.2]
        symm
        refine (dats m 0 _).arrAt_eq_of_covers 12 _ (by decide +kernel) fun t hf y => ?_
        blk_simp
        rw [after0_12, out12]
        idx_vars y
        pointwise [k0_pay1, k0_pay16, k0_pay15, k0_pay14, k0_pay9, one]
        simp only [zero_sub, mul_assoc]
        blk_point [iblk, V, idx t]), (hr c).2.2.2.2.2.1.trans (by
        rw [(h c).1, (h c).2.1, (h c).2.2.2.2.1, (h c).2.2.2.2.2]
        symm
        refine (dats m 0 _).arrAt_eq_of_covers 13 _ (by decide +kernel) fun t hf y => ?_
        blk_simp
        rw [after0_13, out13]
        idx_vars y
        pointwise [k0_pay2, k0_pay19, k0_pay18, k0_pay9]
        simp only [zero_sub, mul_assoc]
        blk_point [iblk, V, idx t]), (hr c).2.2.2.2.2.2.1.trans (by
        rw [(h c).1, (h c).2.1, (h c).2.2.1, (h c).2.2.2.2.2]
        symm
        refine (dats m 0 _).arrAt_eq_of_covers 14 _ (by decide +kernel) fun t hf y => ?_
        blk_simp
        rw [after0_14, out14 m _ t ((flush0_14 t).mp hf)]
        have ht := (flush0_14 t).mp hf
        idx_vars y
        pointwise [part14, k0_pay13, k0_pay12, k0_pay10, k0_pay9]
        simp only [zero_sub, mul_assoc]
        refine Fin.sum_mul_add_congr fun s k hl => ?_
        blk_point [iblk, V, idx t, idx (nth t s)]), (hr c).2.2.2.2.2.2.2.1.trans (by
        rw [(h c).1, (h c).2.1, (h c).2.2.2.1, (h c).2.2.2.2.2]
        symm
        refine (dats m 0 _).arrAt_eq_of_covers 15 _ (by decide +kernel) fun t hf y => ?_
        blk_simp
        rw [after0_15, out15 m _ t ((flush0_15 t).mp hf)]
        have ht := (flush0_15 t).mp hf
        idx_vars y
        pointwise [part15, k0_pay17, k0_pay16, k0_pay15, k0_pay14, k0_pay9, one]
        simp only [zero_sub, mul_assoc]
        refine Fin.sum_mul_add_congr fun s k hl => ?_
        blk_point [iblk, V, idx t, idx (nth t s)]), (hr c).2.2.2.2.2.2.2.2.1.trans (by
        rw [(h c).1, (h c).2.1, (h c).2.2.2.2.1, (h c).2.2.2.2.2]
        symm
        refine (dats m 0 _).arrAt_eq_of_covers 16 _ (by decide +kernel) fun t hf y => ?_
        blk_simp
        rw [after0_16, out16 m _ t ((flush0_16 t).mp hf)]
        have ht := (flush0_16 t).mp hf
        idx_vars y
        pointwise [part16, k0_pay20, k0_pay19, k0_pay18, k0_pay9]
        simp only [zero_sub, mul_assoc]
        refine Fin.sum_mul_add_congr fun s k hl => ?_
        blk_point [iblk, V, idx t, idx (nth t s)]), (hr c).2.2.2.2.2.2.2.2.2⟩)
      (MergeBwdRefIdeal.Value.run m' g')⟩

end Cert.MergeBwdIdeal.Total
-- ==== Proof.Cumsum.lean ====
/-
  The host's running sum from the end: at entry j, the sum of the row's entries from j on.
-/
module

public import Idealize.ShloMosaic.Lib.Routing.Ops
public import Idealize.ShloMosaic.Lib.Pointwise
public import Idealize.ShloMosaic.Lib.Pipeline.ValueKit

@[expose] public section

noncomputable section

open Idealize.ShloMosaic Idealize.ShloMosaic.TcCoe Idealize.SL.Sem Idealize.ShloMosaic.Routing

namespace Cert.Proof

/-- A left fold of additions is the sum of its terms. -/
theorem foldl_add {N : Nat} (f : Fin N → EReal) :
    (List.finRange N).foldl (fun r n => r + f n) 0 = ∑ n : Fin N, f n := by
  rw [← List.foldl_map (f := f) (g := fun r x => r + x), ← List.sum_eq_foldl, ← List.ofFn_eq_map, List.sum_ofFn]

/-- The running sum from the end along a row of `n + 1` entries, as a window padded high by `n`. -/
theorem cumsum_rev {R n : Nat} (x : (shape2 R (n + 1)).Idx → EReal) (init : shape0.Idx → EReal) (hi : ∀ i, init i = 0)
    (h : (shape2 R (n + 1)).ReduceWindows (![1, n + 1] : Fin 2 → Nat) ![1, 1] ![0, 0] ![0, n] (shape2 R (n + 1)))
    (hu : 0 < shape0.numel) (i : Fin R) (j : Fin (n + 1)) :
    Host.reduceWindow (· + ·) ![1, n + 1] ![1, 1] ![0, 0] ![0, n] x init h hu (ValueIdx.ix2 i j)
      = ∑ k : Fin (n + 1), if j.val ≤ k.val then x (ValueIdx.ix2 i k) else 0 := by
  show (List.finRange _).foldl _ _ = _
  have hv : init (Shape.Idx.first hu) = 0 := hi _
  rw [hv]
  refine (foldl_add _).trans ?_
  rw [← Equiv.sum_comp (finCongr (numel2 (n + 1)).symm)]
  refine (Finset.sum_congr rfl fun m _ => (?_ : _ = if h : j.val + m.val < n + 1 then x (ValueIdx.ix2 i ⟨j.val + m.val, h⟩) else 0)).trans ?_
  · have h0 : (((shape2 1 (n + 1)).rowMajor.symm (finCongr (numel2 (n + 1)).symm m)) 0).val = 0 := by rw [symm2]; rfl
    have h1 : (((shape2 1 (n + 1)).rowMajor.symm (finCongr (numel2 (n + 1)).symm m)) 1).val = m.val := by rw [symm2]; rfl
    by_cases hm : j.val + m.val < n + 1
    · rw [dif_pos hm, dif_pos (fun a => by
        match a with
        | ⟨0, _⟩ => exact ⟨Nat.zero_le _, by show i.val * 1 + ((shape2 1 (n + 1)).rowMajor.symm (finCongr (numel2 (n + 1)).symm m) 0).val - 0 < R; rw [h0]; have := i.isLt; omega⟩
        | ⟨1, _⟩ => exact ⟨Nat.zero_le _, by show j.val * 1 + ((shape2 1 (n + 1)).rowMajor.symm (finCongr (numel2 (n + 1)).symm m) 1).val - 0 < n + 1; rw [h1]; omega⟩)]
      refine congrArg x (funext fun a => Fin.ext ?_)
      match a with
      | ⟨0, _⟩ => show i.val * 1 + ((shape2 1 (n + 1)).rowMajor.symm (finCongr (numel2 (n + 1)).symm m) 0).val - 0 = i.val; rw [h0]; omega
      | ⟨1, _⟩ => show j.val * 1 + ((shape2 1 (n + 1)).rowMajor.symm (finCongr (numel2 (n + 1)).symm m) 1).val - 0 = j.val + m.val; rw [h1]; omega
    · rw [dif_neg hm, dif_neg (fun hin => hm (by
        have := (hin 1).2
        change j.val * 1 + ((shape2 1 (n + 1)).rowMajor.symm (finCongr (numel2 (n + 1)).symm m) 1).val - 0 < n + 1 at this
        rw [h1] at this; omega))]
  · rw [← Finset.sum_filter_add_sum_filter_not Finset.univ (fun m : Fin (n + 1) => j.val + m.val < n + 1)]
    rw [← Finset.sum_filter_add_sum_filter_not (s := Finset.univ) (p := fun k : Fin (n + 1) => j.val ≤ k.val) (f := fun k => if j.val ≤ k.val then _ else _)]
    congr 1
    · refine Finset.sum_bij' (fun m hm => ⟨j.val + m.val, (Finset.mem_filter.1 hm).2⟩)
        (fun k _ => ⟨k.val - j.val, by have := k.isLt; omega⟩) ?_ ?_ ?_ ?_ ?_
      · exact fun m _ => Finset.mem_filter.2 ⟨Finset.mem_univ _, Nat.le_add_right j.val m.val⟩
      · intro k hk; have := (Finset.mem_filter.1 hk).2; have := k.isLt; simp; omega
      · intro m _; simp
      · intro k hk; have := (Finset.mem_filter.1 hk).2; apply Fin.ext; simp; omega
      · intro m hm
        rw [dif_pos (Finset.mem_filter.1 hm).2, if_pos (Nat.le_add_right j.val m.val)]
    · rw [Finset.sum_eq_zero, Finset.sum_eq_zero]
      · intro k hk; simp [(Finset.mem_filter.1 hk).2]
      · intro k hk; simp [(Finset.mem_filter.1 hk).2]

/-- The same with the row's length and the padding named apart. -/
theorem cumsum_rev_of {R N n : Nat} (hN : N = n + 1) (x : (shape2 R N).Idx → EReal) (init : shape0.Idx → EReal) (hi : ∀ i, init i = 0)
    (h : (shape2 R N).ReduceWindows (![1, N] : Fin 2 → Nat) ![1, 1] ![0, 0] ![0, n] (shape2 R N))
    (hu : 0 < shape0.numel) (i : Fin R) (j : Fin N) :
    Host.reduceWindow (· + ·) ![1, N] ![1, 1] ![0, 0] ![0, n] x init h hu (ValueIdx.ix2 i j)
      = ∑ k : Fin N, if j.val ≤ k.val then x (ValueIdx.ix2 i k) else 0 := by
  subst hN
  exact cumsum_rev x init hi h hu i j

/-- The sum of a row's entries from position `p` on. -/
def suffix {n : Nat} (f : Fin n → EReal) (p : Nat) : EReal := ∑ k : Fin n, if p ≤ k.val then f k else 0

theorem suffix_eq {n : Nat} (f : Fin n → EReal) (p : Nat) :
    suffix f p = ∑ k ∈ Finset.Ico p n, if h : k < n then f ⟨k, h⟩ else 0 := by
  unfold suffix
  have e : ∀ k : Fin n, (if p ≤ k.val then f k else 0)
      = (fun k : Nat => if p ≤ k then (if h : k < n then f ⟨k, h⟩ else 0) else 0) k.val := fun k => by simp
  rw [Fintype.sum_congr _ _ e, Fin.sum_univ_eq_sum_range (fun k : Nat => if p ≤ k then (if h : k < n then f ⟨k, h⟩ else 0) else 0) n,
    ← Finset.sum_filter]
  refine Finset.sum_congr (Finset.ext fun k => ?_) fun _ _ => rfl
  simp [and_comm]

/-- Past the row's end nothing is left to sum. -/
theorem suffix_end {n : Nat} (f : Fin n → EReal) : suffix f n = 0 := by rw [suffix_eq, Finset.Ico_self, Finset.sum_empty]

/-- From the row's start everything is summed. -/
theorem suffix_zero {n : Nat} (f : Fin n → EReal) : suffix f 0 = ∑ k, f k := by simp [suffix]

/-- The sum from place `l` of a block of `b` entries on: the block's entries from `l` on, then all that follow the block. -/
theorem suffix_block {n b : Nat} (f : Fin n → EReal) (p l : Nat) (hl : l ≤ b) (hp : p + b ≤ n) :
    suffix f (p + l) = (∑ r : Fin b, if l ≤ r.val then f ⟨p + r.val, by have := r.isLt; omega⟩ else 0) + suffix f (p + b) := by
  rw [suffix_eq, suffix_eq, ← Finset.sum_Ico_consecutive _ (by omega : p + l ≤ p + b) hp]
  congr 1
  have e : ∀ r : Fin b, (if l ≤ r.val then f ⟨p + r.val, by have := r.isLt; omega⟩ else 0)
      = (fun r : Nat => if l ≤ r then (if h : p + r < n then f ⟨p + r, h⟩ else 0) else 0) r.val := fun r => by
    have := r.isLt
    simp [show p + r.val < n by omega]
  rw [Fintype.sum_congr _ _ e, Fin.sum_univ_eq_sum_range (fun r : Nat => if l ≤ r then (if h : p + r < n then f ⟨p + r, h⟩ else 0) else 0) b,
    ← Finset.sum_filter, Nat.add_comm p l, Nat.add_comm p b, ← Finset.sum_Ico_add']
  refine Finset.sum_congr (Finset.ext fun k => ?_) fun k _ => by rw [Nat.add_comm]
  simp [and_comm]

/-- A finite value less itself is 0. -/
theorem sub_self_of_finite {x : EReal} (h : x ≠ ⊤) (h' : x ≠ ⊥) : x - x = 0 := EReal.sub_self h h'

end Cert.Proof
-- ==== Proof.FoxStep.lean ====
/-
  The scan kernel's block step. A block splits its 512 summed entries in three bf16 parts, multiplies each by the triangle of
  ones, and adds the carry of the block after it. Of exact finite entries the first part is the entry and the other two are 0,
  so the block holds each row's sum from its own place on; one step is proved for any block, and the sixteen are its instances.
-/
module

public import proofs.«01_k».proof.Defs
public import proofs.«01_k».proof.Proof.Gen.FoxBwdIdeal.Frame
public import proofs.«01_k».proof.Proof.Cumsum
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Cert.Proof

namespace Cert.FoxBwdIdeal.Total

open Cert.FoxBwdIdeal Cert.FoxBwdIdeal.Gen

/-- The matrix of ones on and below the diagonal. -/
theorem tri (r l : Fin 512) : k0_pay2 (F := Ideal) (ValueIdx.ix2 r l) = if l.val ≤ r.val then (1 : EReal) else 0 := by
  pointwise [k0_pay2]
  change ((((BitVec.setWidth 32 (IntOp.cmpi .sge (BitVec.ofNat 32 r.val) (BitVec.ofNat 32 l.val))).toInt : ℝ)) : EReal) = _
  have hr := r.isLt
  have hl := l.isLt
  have er : (BitVec.ofNat 32 r.val).toInt = r.val := by
    rw [BitVec.toInt_eq_toNat_of_lt (by simp; omega)]; simp; omega
  have el : (BitVec.ofNat 32 l.val).toInt = l.val := by
    rw [BitVec.toInt_eq_toNat_of_lt (by simp; omega)]; simp; omega
  have e : IntOp.cmpi .sge (BitVec.ofNat 32 r.val) (BitVec.ofNat 32 l.val) = if l.val ≤ r.val then 1#1 else 0#1 := by
    simp only [IntOp.cmpi, BitVec.sle, er, el]
    by_cases h : l.val ≤ r.val
    · simp [h]
    · simp [h]
  rw [e]
  split <;> simp

/-- One block, given what the carry holds. -/
theorem scan (x y : Vec Ideal S8x512 .f32) (c : Vec Ideal S8x1 .f32) (f : Fin 8 → Fin 8192 → EReal)
    (hf : ∀ h k, f h k ≠ ⊤ ∧ f h k ≠ ⊥) (p : Nat) (hp : p + 512 ≤ 8192)
    (hx : ∀ (h : Fin 8) (r : Fin 512), (x (ValueIdx.ix2 h r) + y (ValueIdx.ix2 h r) : EReal) = f h ⟨p + r.val, by have := r.isLt; omega⟩)
    (hc : ∀ h : Fin 8, c (ValueIdx.ix2 h (0 : Fin 1)) = suffix (f h) (p + 512)) (h : Fin 8) (l : Fin 512) :
    k0_pay7 (k0_pay2 (F := Ideal)) c x y (ValueIdx.ix2 h l) = suffix (f h) (p + l.val) := by
  rw [suffix_block (b := 512) (f h) p l.val (by have := l.isLt; omega) hp]
  pointwise [k0_pay7]
  change (∑ r : Fin 512, (x (ValueIdx.ix2 h r) + y (ValueIdx.ix2 h r)) * k0_pay2 (F := Ideal) (ValueIdx.ix2 r l))
    + (∑ r : Fin 512, (x (ValueIdx.ix2 h r) + y (ValueIdx.ix2 h r) - (x (ValueIdx.ix2 h r) + y (ValueIdx.ix2 h r))) * k0_pay2 (F := Ideal) (ValueIdx.ix2 r l))
    + (∑ r : Fin 512, (x (ValueIdx.ix2 h r) + y (ValueIdx.ix2 h r) - (x (ValueIdx.ix2 h r) + y (ValueIdx.ix2 h r))
        - (x (ValueIdx.ix2 h r) + y (ValueIdx.ix2 h r) - (x (ValueIdx.ix2 h r) + y (ValueIdx.ix2 h r)))) * k0_pay2 (F := Ideal) (ValueIdx.ix2 r l))
    + c (ValueIdx.ix2 h (0 : Fin 1)) = _
  rw [hc]
  congr 1
  have z : ∀ k, f h k - f h k = 0 := fun k => sub_self_of_finite (hf h k).1 (hf h k).2
  simp only [hx, z, tri, sub_zero, zero_mul, Finset.sum_const_zero, add_zero, mul_ite, mul_one, mul_zero, ite_self]

/-- The block of 512 columns from column `p` on. -/
abbrev colsFrom (p : Nat) (inb : ∀ a, (![0, p] : Fin 2 → Nat) a + S8x512.size a ≤ S8x8192.size a) : Rect S8x8192 :=
  Rect.unit (s := S8x8192) ![0, p] S8x512.size inb

/-- A load of the block reads the columns from `p` on. -/
theorem ld_cols (a : Vec Ideal S8x8192 .f32) (p : Nat) (inb) (h : Fin 8) (l : Fin 512) (hp : p + l.val < 8192) :
    View.ld a (colsFrom p inb) (ValueIdx.ix2 h l) = a (ValueIdx.ix2 h ⟨p + l.val, hp⟩) := by
  refine View.ld_unit_apply_of a _ _ _ _ _ fun i => ?_
  match i with
  | ⟨0, _⟩ => show h.val = 0 + h.val; omega
  | ⟨1, _⟩ => rfl

/-- The logistic function as the kernel spells it. -/
abbrev logistic (w : EReal) : EReal := Ideal.div 1 (1 + Ideal.exp (0 - (0 - w)))

/-- A block's stored value at an entry. -/
theorem dz_at (c : Vec Ideal S8x1 .f32) (x y z : Vec Ideal S8x512 .f32) (b : Vec Ideal S8x1 .f32) (h : Fin 8) (l : Fin 512) :
    k0_pay9 (k0_pay2 (F := Ideal)) c x y z b (ValueIdx.ix2 h l) = (k0_pay7 (k0_pay2 (F := Ideal)) c x y (ValueIdx.ix2 h l) : EReal)
      * logistic (z (ValueIdx.ix2 h l) + b (ValueIdx.ix2 h (0 : Fin 1))) := by
  pointwise [k0_pay9]
  rfl

/-- The running total's step. -/
theorem sum_at (acc : Vec Ideal S8x1 .f32) (d : Vec Ideal S8x512 .f32) (h : Fin 8) :
    k0_pay1 (F := Ideal) acc d (ValueIdx.ix2 h (0 : Fin 1))
      = (acc (ValueIdx.ix2 h (0 : Fin 1)) + ∑ l : Fin 512, d (ValueIdx.ix2 h l) : EReal) := by
  pointwise [k0_pay1]
  rfl

/-- The carry is the block's first column. -/
theorem carry_at (c : Vec Ideal S8x1 .f32) (x y : Vec Ideal S8x512 .f32) (h : Fin 8) :
    k0_pay8 (k0_pay2 (F := Ideal)) c x y (ValueIdx.ix2 h (0 : Fin 1)) = k0_pay7 (k0_pay2 (F := Ideal)) c x y (ValueIdx.ix2 h (0 : Fin 512)) := by
  pointwise [k0_pay8]
  rfl

/-- The carry and the total start at 0. -/
theorem zero_at (h : Fin 8) : k0_pay3 (F := Ideal) (ValueIdx.ix2 h (0 : Fin 1)) = (0 : EReal) := by
  pointwise [k0_pay3]

/-! ## The chain of blocks -/

section Chain

variable (a0 a1 a2 : Vec Ideal S8x8192 .f32) (a3 : Vec Ideal S8x1 .f32)

/-- The entries that are scanned. -/
def entry (h : Fin 8) (k : Fin 8192) : EReal := a0 (ValueIdx.ix2 h k) + a1 (ValueIdx.ix2 h k)

/-- The gradient of `z`: the entries' sum from place `k` on times the logistic factor. -/
def grad (h : Fin 8) (k : Fin 8192) : EReal :=
  suffix (entry a0 a1 h) k.val * logistic (a2 (ValueIdx.ix2 h k) + a3 (ValueIdx.ix2 h (0 : Fin 1)))

/-- A column that holds each row's sum of `f` from column `p` on. -/
def Holds (f : Fin 8 → Fin 8192 → EReal) (p : Nat) (c : Vec Ideal S8x1 .f32) : Prop :=
  ∀ h : Fin 8, c (ValueIdx.ix2 h (0 : Fin 1)) = suffix (f h) p

/-- Zeros hold the sums past the rows' end. -/
theorem holds_end (f : Fin 8 → Fin 8192 → EReal) : Holds f 8192 (k0_pay3 (F := Ideal)) := fun h =>
  (zero_at h).trans (suffix_end (f h)).symm

variable (hf : ∀ h k, entry a0 a1 h k ≠ ⊤ ∧ entry a0 a1 h k ≠ ⊥)
include hf

/-- Inside a block the scanned value is the row's sum from its own place on. -/
theorem scan_cols (p : Nat) (inb) (c : Vec Ideal S8x1 .f32) (hc : Holds (entry a0 a1) (p + 512) c) (h : Fin 8) (l : Fin 512) :
    k0_pay7 (k0_pay2 (F := Ideal)) c (View.ld a0 (colsFrom p inb)) (View.ld a1 (colsFrom p inb)) (ValueIdx.ix2 h l)
      = suffix (entry a0 a1 h) (p + l.val) := by
  have hp : p + 512 ≤ 8192 := inb 1
  refine scan _ _ c (entry a0 a1) hf p hp (fun h r => ?_) hc h l
  rw [ld_cols a0 p inb h r (by have := r.isLt; omega), ld_cols a1 p inb h r (by have := r.isLt; omega)]
  rfl

/-- The carry from block to block. -/
theorem carry_cols (p : Nat) (inb) (c : Vec Ideal S8x1 .f32) (hc : Holds (entry a0 a1) (p + 512) c) :
    Holds (entry a0 a1) p (k0_pay8 (k0_pay2 (F := Ideal)) c (View.ld a0 (colsFrom p inb)) (View.ld a1 (colsFrom p inb))) := fun h => by
  rw [carry_at, scan_cols a0 a1 hf p inb c hc]
  rfl

/-- What a block stores. -/
theorem dz_cols (p : Nat) (inb) (c : Vec Ideal S8x1 .f32) (hc : Holds (entry a0 a1) (p + 512) c) (h : Fin 8) (l : Fin 512)
    (hp : p + l.val < 8192) :
    k0_pay9 (k0_pay2 (F := Ideal)) c (View.ld a0 (colsFrom p inb)) (View.ld a1 (colsFrom p inb)) (View.ld a2 (colsFrom p inb))
      (View.ld a3 r0_1) (ValueIdx.ix2 h l) = grad a0 a1 a2 a3 h ⟨p + l.val, hp⟩ := by
  rw [dz_at, scan_cols a0 a1 hf p inb c hc, ld_cols a2 p inb h l hp,
    View.ld_unit_zero (S := S8x1) (funext fun a => by fin_cases a <;> rfl) _ a3]
  rfl

/-- The same as a stored piece of the result array. -/
theorem dz_rect (p : Nat) (inb) (c : Vec Ideal S8x1 .f32) (hc : Holds (entry a0 a1) (p + 512) c) (h : Fin 8) (k : Fin 8192) :
    View.RectAt (Val := Elt Ideal) (e := .f32) (ValueIdx.ix2 h k : S8x8192.Idx) (colsFrom p inb)
      (k0_pay9 (k0_pay2 (F := Ideal)) c (View.ld a0 (colsFrom p inb)) (View.ld a1 (colsFrom p inb)) (View.ld a2 (colsFrom p inb))
        (View.ld a3 r0_1)) (grad a0 a1 a2 a3 h k) := fun x hx => by
  have h0 : 0 + 1 * (x 0).val = h.val := congrArg (fun i : S8x8192.Idx => (i 0).val) hx
  have h1 : p + 1 * (x 1).val = k.val := congrArg (fun i : S8x8192.Idx => (i 1).val) hx
  obtain ⟨i, j, rfl⟩ : ∃ (i : Fin 8) (j : Fin 512), x = ValueIdx.ix2 i j := ⟨x 0, x 1, by funext a; match a with | ⟨0, _⟩ => rfl | ⟨1, _⟩ => rfl⟩
  change 0 + 1 * i.val = h.val at h0
  change p + 1 * j.val = k.val at h1
  have hk := k.isLt
  rw [dz_cols a0 a1 a2 a3 hf p inb c hc i j (by omega)]
  obtain rfl : i = h := Fin.ext (by omega)
  congr 1
  exact Fin.ext (by show p + j.val = k.val; omega)

/-- The running total of what the blocks store. -/
theorem sum_cols (p : Nat) (inb) (c acc : Vec Ideal S8x1 .f32) (hc : Holds (entry a0 a1) (p + 512) c)
    (ha : Holds (grad a0 a1 a2 a3) (p + 512) acc) :
    Holds (grad a0 a1 a2 a3) p (k0_pay1 acc (k0_pay9 (k0_pay2 (F := Ideal)) c (View.ld a0 (colsFrom p inb))
      (View.ld a1 (colsFrom p inb)) (View.ld a2 (colsFrom p inb)) (View.ld a3 r0_1))) := fun h => by
  have hp : p + 512 ≤ 8192 := inb 1
  rw [sum_at, ha h, add_comm]
  refine Eq.trans ?_ (suffix_block (b := 512) (grad a0 a1 a2 a3 h) p 0 (by omega) hp).symm
  congr 1
  refine Finset.sum_congr rfl fun r _ => ?_
  rw [dz_cols a0 a1 a2 a3 hf p inb c hc h r (by have := r.isLt; omega), if_pos (Nat.zero_le _)]

/-! The carries of the sixteen blocks, from the last on. -/

theorem carry7680 : Holds (entry a0 a1) 7680 (k0_pay82 a0 a1 a2 a3) := carry_cols a0 a1 hf 7680 inb_S8x8192_S8x512_0_7680 _ (holds_end (entry a0 a1))
theorem carry7168 : Holds (entry a0 a1) 7168 (k0_pay84 a0 a1 a2 a3) := carry_cols a0 a1 hf 7168 inb_S8x8192_S8x512_0_7168 _ (carry7680 a0 a1 a2 a3 hf)
theorem carry6656 : Holds (entry a0 a1) 6656 (k0_pay85 a0 a1 a2 a3) := carry_cols a0 a1 hf 6656 inb_S8x8192_S8x512_0_6656 _ (carry7168 a0 a1 a2 a3 hf)
theorem carry6144 : Holds (entry a0 a1) 6144 (k0_pay86 a0 a1 a2 a3) := carry_cols a0 a1 hf 6144 inb_S8x8192_S8x512_0_6144 _ (carry6656 a0 a1 a2 a3 hf)
theorem carry5632 : Holds (entry a0 a1) 5632 (k0_pay90 a0 a1 a2 a3) := carry_cols a0 a1 hf 5632 inb_S8x8192_S8x512_0_5632 _ (carry6144 a0 a1 a2 a3 hf)
theorem carry5120 : Holds (entry a0 a1) 5120 (k0_pay95 a0 a1 a2 a3) := carry_cols a0 a1 hf 5120 inb_S8x8192_S8x512_0_5120 _ (carry5632 a0 a1 a2 a3 hf)
theorem carry4608 : Holds (entry a0 a1) 4608 (k0_pay8 (k0_pay2 (F := Ideal)) (k0_pay95 a0 a1 a2 a3) (View.ld a0 r0_7) (View.ld a1 r0_7)) := carry_cols a0 a1 hf 4608 inb_S8x8192_S8x512_0_4608 _ (carry5120 a0 a1 a2 a3 hf)
theorem carry4096 : Holds (entry a0 a1) 4096 (k0_pay99 a0 a1 a2 a3) := carry_cols a0 a1 hf 4096 inb_S8x8192_S8x512_0_4096 _ (carry4608 a0 a1 a2 a3 hf)
theorem carry3584 : Holds (entry a0 a1) 3584 (k0_pay101 a0 a1 a2 a3) := carry_cols a0 a1 hf 3584 inb_S8x8192_S8x512_0_3584 _ (carry4096 a0 a1 a2 a3 hf)
theorem carry3072 : Holds (entry a0 a1) 3072 (k0_pay103 a0 a1 a2 a3) := carry_cols a0 a1 hf 3072 inb_S8x8192_S8x512_0_3072 _ (carry3584 a0 a1 a2 a3 hf)
theorem carry2560 : Holds (entry a0 a1) 2560 (k0_pay107 a0 a1 a2 a3) := carry_cols a0 a1 hf 2560 inb_S8x8192_S8x512_0_2560 _ (carry3072 a0 a1 a2 a3 hf)
theorem carry2048 : Holds (entry a0 a1) 2048 (k0_pay110 a0 a1 a2 a3) := carry_cols a0 a1 hf 2048 inb_S8x8192_S8x512_0_2048 _ (carry2560 a0 a1 a2 a3 hf)
theorem carry1536 : Holds (entry a0 a1) 1536 (k0_pay113 a0 a1 a2 a3) := carry_cols a0 a1 hf 1536 inb_S8x8192_S8x512_0_1536 _ (carry2048 a0 a1 a2 a3 hf)
theorem carry1024 : Holds (entry a0 a1) 1024 (k0_pay115 a0 a1 a2 a3) := carry_cols a0 a1 hf 1024 inb_S8x8192_S8x512_0_1024 _ (carry1536 a0 a1 a2 a3 hf)
theorem carry512 : Holds (entry a0 a1) 512 (k0_pay116 a0 a1 a2 a3) := carry_cols a0 a1 hf 512 inb_S8x8192_S8x512_0_512 _ (carry1024 a0 a1 a2 a3 hf)

/-- The first result array. -/
theorem out4 (h : Fin 8) (k : Fin 8192) : out0_4 a0 a1 a2 a3 (ValueIdx.ix2 h k) = grad a0 a1 a2 a3 h k :=
  View.canon_eq_of_allAt _ _ _ (cover0_4 _ _ _ _ _ _ _ _ _ _ _ _ _ _ _ _ _)
    (View.allAt_cons _ _ _ (dz_rect a0 a1 a2 a3 hf 0 inb_S8x8192_S8x512_0_0 _ (carry512 a0 a1 a2 a3 hf) h k)
    (View.allAt_cons _ _ _ (dz_rect a0 a1 a2 a3 hf 512 inb_S8x8192_S8x512_0_512 _ (carry1024 a0 a1 a2 a3 hf) h k)
    (View.allAt_cons _ _ _ (dz_rect a0 a1 a2 a3 hf 1024 inb_S8x8192_S8x512_0_1024 _ (carry1536 a0 a1 a2 a3 hf) h k)
    (View.allAt_cons _ _ _ (dz_rect a0 a1 a2 a3 hf 1536 inb_S8x8192_S8x512_0_1536 _ (carry2048 a0 a1 a2 a3 hf) h k)
    (View.allAt_cons _ _ _ (dz_rect a0 a1 a2 a3 hf 2048 inb_S8x8192_S8x512_0_2048 _ (carry2560 a0 a1 a2 a3 hf) h k)
    (View.allAt_cons _ _ _ (dz_rect a0 a1 a2 a3 hf 2560 inb_S8x8192_S8x512_0_2560 _ (carry3072 a0 a1 a2 a3 hf) h k)
    (View.allAt_cons _ _ _ (dz_rect a0 a1 a2 a3 hf 3072 inb_S8x8192_S8x512_0_3072 _ (carry3584 a0 a1 a2 a3 hf) h k)
    (View.allAt_cons _ _ _ (dz_rect a0 a1 a2 a3 hf 3584 inb_S8x8192_S8x512_0_3584 _ (carry4096 a0 a1 a2 a3 hf) h k)
    (View.allAt_cons _ _ _ (dz_rect a0 a1 a2 a3 hf 4096 inb_S8x8192_S8x512_0_4096 _ (carry4608 a0 a1 a2 a3 hf) h k)
    (View.allAt_cons _ _ _ (dz_rect a0 a1 a2 a3 hf 4608 inb_S8x8192_S8x512_0_4608 _ (carry5120 a0 a1 a2 a3 hf) h k)
    (View.allAt_cons _ _ _ (dz_rect a0 a1 a2 a3 hf 5120 inb_S8x8192_S8x512_0_5120 _ (carry5632 a0 a1 a2 a3 hf) h k)
    (View.allAt_cons _ _ _ (dz_rect a0 a1 a2 a3 hf 5632 inb_S8x8192_S8x512_0_5632 _ (carry6144 a0 a1 a2 a3 hf) h k)
    (View.allAt_cons _ _ _ (dz_rect a0 a1 a2 a3 hf 6144 inb_S8x8192_S8x512_0_6144 _ (carry6656 a0 a1 a2 a3 hf) h k)
    (View.allAt_cons _ _ _ (dz_rect a0 a1 a2 a3 hf 6656 inb_S8x8192_S8x512_0_6656 _ (carry7168 a0 a1 a2 a3 hf) h k)
    (View.allAt_cons _ _ _ (dz_rect a0 a1 a2 a3 hf 7168 inb_S8x8192_S8x512_0_7168 _ (carry7680 a0 a1 a2 a3 hf) h k)
    (View.allAt_cons _ _ _ (dz_rect a0 a1 a2 a3 hf 7680 inb_S8x8192_S8x512_0_7680 _ (holds_end (entry a0 a1)) h k)
    (View.allAt_nil _ _)))))))))))))))))

/-- The second result array. -/
theorem out5 (h : Fin 8) : out0_5 a0 a1 a2 a3 (ValueIdx.ix2 h (0 : Fin 1)) = ∑ k : Fin 8192, grad a0 a1 a2 a3 h k := by
  have total : Holds (grad a0 a1 a2 a3) 0 (out0_5 a0 a1 a2 a3) := by
    unfold out0_5
    rw [View.canon_unit_zero (funext fun a => by fin_cases a <;> rfl)]
    exact (sum_cols a0 a1 a2 a3 hf 0 inb_S8x8192_S8x512_0_0 _ _ (carry512 a0 a1 a2 a3 hf)
      (sum_cols a0 a1 a2 a3 hf 512 inb_S8x8192_S8x512_0_512 _ _ (carry1024 a0 a1 a2 a3 hf)
      (sum_cols a0 a1 a2 a3 hf 1024 inb_S8x8192_S8x512_0_1024 _ _ (carry1536 a0 a1 a2 a3 hf)
      (sum_cols a0 a1 a2 a3 hf 1536 inb_S8x8192_S8x512_0_1536 _ _ (carry2048 a0 a1 a2 a3 hf)
      (sum_cols a0 a1 a2 a3 hf 2048 inb_S8x8192_S8x512_0_2048 _ _ (carry2560 a0 a1 a2 a3 hf)
      (sum_cols a0 a1 a2 a3 hf 2560 inb_S8x8192_S8x512_0_2560 _ _ (carry3072 a0 a1 a2 a3 hf)
      (sum_cols a0 a1 a2 a3 hf 3072 inb_S8x8192_S8x512_0_3072 _ _ (carry3584 a0 a1 a2 a3 hf)
      (sum_cols a0 a1 a2 a3 hf 3584 inb_S8x8192_S8x512_0_3584 _ _ (carry4096 a0 a1 a2 a3 hf)
      (sum_cols a0 a1 a2 a3 hf 4096 inb_S8x8192_S8x512_0_4096 _ _ (carry4608 a0 a1 a2 a3 hf)
      (sum_cols a0 a1 a2 a3 hf 4608 inb_S8x8192_S8x512_0_4608 _ _ (carry5120 a0 a1 a2 a3 hf)
      (sum_cols a0 a1 a2 a3 hf 5120 inb_S8x8192_S8x512_0_5120 _ _ (carry5632 a0 a1 a2 a3 hf)
      (sum_cols a0 a1 a2 a3 hf 5632 inb_S8x8192_S8x512_0_5632 _ _ (carry6144 a0 a1 a2 a3 hf)
      (sum_cols a0 a1 a2 a3 hf 6144 inb_S8x8192_S8x512_0_6144 _ _ (carry6656 a0 a1 a2 a3 hf)
      (sum_cols a0 a1 a2 a3 hf 6656 inb_S8x8192_S8x512_0_6656 _ _ (carry7168 a0 a1 a2 a3 hf)
      (sum_cols a0 a1 a2 a3 hf 7168 inb_S8x8192_S8x512_0_7168 _ _ (carry7680 a0 a1 a2 a3 hf)
      (sum_cols a0 a1 a2 a3 hf 7680 inb_S8x8192_S8x512_0_7680 _ _ (holds_end (entry a0 a1))
      (holds_end (grad a0 a1 a2 a3))))))))))))))))))
  exact (total h).trans (suffix_zero _)

end Chain

end Cert.FoxBwdIdeal.Total
-- ==== Proof.FoxBwd.lean ====
/-
  The forget gate's backward call: what its run leaves in both result arrays, against the running sum from the end times the
  logistic factor and that product's sum over the rows. The precondition gives the finite entries that the block step asks for.
-/
module

public import proofs.«01_k».proof.Proof.FoxStep
public import proofs.«01_k».proof.Proof.Gen.FoxBwdRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Cert.Proof

namespace Cert.FoxBwdIdeal.Total

open Cert.FoxBwdIdeal Cert.FoxBwdIdeal.Gen

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := by
  decide +kernel

/-- The one grid point's blocks are the whole arrays. -/
theorem block (c : Dev nD) (t : Fin cfg0.N) : iblk m c 0 t = m ((c.tc : Thread nD τ).loc main_arg0)
    ∧ iblk m c 1 t = m ((c.tc : Thread nD τ).loc main_arg1) ∧ iblk m c 2 t = m ((c.tc : Thread nD τ).loc main_arg2)
    ∧ iblk m c 3 t = m ((c.tc : Thread nD τ).loc main_arg3) := by
  refine ⟨?_, ?_, ?_, ?_⟩ <;> funext y <;> idx_vars y <;> blk_point [iblk, V, idx t]

/-- The first result array after the run. -/
theorem final4 (c : Dev nD) : (dats m 0 c).arrAt 4 cfg0.N = out0_4 (m ((c.tc : Thread nD τ).loc main_arg0))
    (m ((c.tc : Thread nD τ).loc main_arg1)) (m ((c.tc : Thread nD τ).loc main_arg2)) (m ((c.tc : Thread nD τ).loc main_arg3)) := by
  refine (dats m 0 _).arrAt_eq_of_covers 4 _ (by decide +kernel) fun t hf y => ?_
  blk_simp
  rw [after0_4, (block m c t).1, (block m c t).2.1, (block m c t).2.2.1, (block m c t).2.2.2]
  blk_point [idx t]

/-- The second result array after the run. -/
theorem final5 (c : Dev nD) : (dats m 0 c).arrAt 5 cfg0.N = out0_5 (m ((c.tc : Thread nD τ).loc main_arg0))
    (m ((c.tc : Thread nD τ).loc main_arg1)) (m ((c.tc : Thread nD τ).loc main_arg2)) (m ((c.tc : Thread nD τ).loc main_arg3)) := by
  refine (dats m 0 _).arrAt_eq_of_covers 5 _ (by decide +kernel) fun t hf y => ?_
  blk_simp
  rw [after0_5, (block m c t).1, (block m c t).2.1, (block m c t).2.2.1, (block m c t).2.2.2]
  blk_point [idx t]

/-- After the run: both result arrays, and the arguments as launched. -/
theorem run (g : Dev nD → PrngReg) : θ_run defs (onTc (τ := τ) (main (F := Ideal))) ⟨m, fun _ => 0, g⟩ fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m g)

/-- The precondition says that every scanned entry is finite. -/
theorem finite [Cert.Pre_sums_finite.Facts] (hp : Pre_FoxBwdIdeal_sums_finite m) (c : Dev nD) (h : Fin 8) (k : Fin 8192) :
    entry (m ((c.tc : Thread nD τ).loc main_arg0)) (m ((c.tc : Thread nD τ).loc main_arg1)) h k ≠ ⊤
    ∧ entry (m ((c.tc : Thread nD τ).loc main_arg0)) (m ((c.tc : Thread nD τ).loc main_arg1)) h k ≠ ⊥ := by
  have e := congrFun (hp c) (ValueIdx.ix2 h k)
  unfold Cert.Pre_sums_finite.fn at e
  revert e
  pointwise []
  have top : Ideal.ofBits FTy.f32 0x7F800000#32 = ⊤ := by simp [Ideal.ofBits, Ideal.ieee]
  rw [top]
  intro e
  constructor <;> intro h' <;> unfold entry at h' <;> rw [h'] at e
  · change BitVec.ofBool (decide (max (⊤ : EReal) (-⊤) < ⊤)) = 1#1 at e
    simp at e
  · change BitVec.ofBool (decide (max (⊥ : EReal) (-⊥) < ⊤)) = 1#1 at e
    simp at e

/-- The reference's running sum at an entry. -/
theorem ref_scan (a0 a1 : Vec Ideal S8x8192 .f32) (h : Fin 8) (k : Fin 8192) :
    Host.reduceWindowAdd (F := Ideal) (φ := .f32) ![1, 8192] ![1, 1] ![0, 0] ![0, 8191] (addf a0 a1)
        (broadcastInDim FoxBwdRefIdeal.S_ ![] FoxBwdRefIdeal.Gen.bcast_S_S_ (constant FoxBwdRefIdeal.S_ .f32 0x00000000#32))
        FoxBwdRefIdeal.Gen.reduceWindows_S8x8192_S8x8192_w1s1p0_0_w8192s1p0_8191 FoxBwdRefIdeal.Gen.h_S_ (ValueIdx.ix2 h k)
      = suffix (entry a0 a1 h) k.val := by
  unfold Host.reduceWindowAdd
  rw [show broadcastInDim FoxBwdRefIdeal.S_ ![] FoxBwdRefIdeal.Gen.bcast_S_S_ (constant (F := Ideal) FoxBwdRefIdeal.S_ .f32 0x00000000#32)
    (Shape.Idx.first FoxBwdRefIdeal.Gen.h_S_) = (0 : EReal) from by pointwise [], Ideal.hostReduceWindowAdd_def, Ideal.hostReduceWindowAdd]
  exact cumsum_rev_of (by norm_num) _ _ (fun _ => rfl) _ _ h k

/-- The reference's first result at an entry. -/
theorem ref4 (a0 a1 a2 : Vec Ideal S8x8192 .f32) (a3 : Vec Ideal S8x1 .f32) (h : Fin 8) (k : Fin 8192) :
    mulf (F := Ideal) (Host.reduceWindowAdd ![1, 8192] ![1, 1] ![0, 0] ![0, 8191] (addf a0 a1)
        (broadcastInDim FoxBwdRefIdeal.S_ ![] FoxBwdRefIdeal.Gen.bcast_S_S_ (constant FoxBwdRefIdeal.S_ .f32 0x00000000#32))
        FoxBwdRefIdeal.Gen.reduceWindows_S8x8192_S8x8192_w1s1p0_0_w8192s1p0_8191 FoxBwdRefIdeal.Gen.h_S_)
      (Host.divf (broadcastInDim FoxBwdRefIdeal.S8x8192 ![] FoxBwdRefIdeal.Gen.bcast_S_S8x8192 (constant FoxBwdRefIdeal.S_ .f32 0x3F800000#32))
        (addf (broadcastInDim FoxBwdRefIdeal.S8x8192 ![] FoxBwdRefIdeal.Gen.bcast_S_S8x8192 (constant FoxBwdRefIdeal.S_ .f32 0x3F800000#32))
          (Host.exp (Host.negf (Host.negf (addf a2
            (broadcastInDim FoxBwdRefIdeal.S8x8192 ![0, 1] FoxBwdRefIdeal.Gen.bcast_S8x1_S8x8192_0_1 a3))))))) (ValueIdx.ix2 h k)
    = grad a0 a1 a2 a3 h k := by
  rw [show ∀ u v : Vec Ideal S8x8192 .f32, mulf (F := Ideal) (φ := .f32) u v (ValueIdx.ix2 h k) = (u (ValueIdx.ix2 h k) * v (ValueIdx.ix2 h k) : EReal) from fun _ _ => rfl,
    ref_scan]
  unfold grad
  congr 1
  pointwise []
  change Ideal.div 1 (1 + Ideal.exp (- -(a2 (ValueIdx.ix2 h k) + a3 (ValueIdx.ix2 h (0 : Fin 1))))) = _
  rw [logistic, zero_sub, zero_sub]

/-- The reference's second result at a row. -/
theorem ref5 (x : Vec Ideal S8x8192 .f32) (h : Fin 8) :
    broadcastInDim FoxBwdRefIdeal.S8x1 ![0] FoxBwdRefIdeal.Gen.bcast_S8_S8x1_0 (Host.reduceAdd (F := Ideal) x
      (constant FoxBwdRefIdeal.S_ .f32 0x00000000#32) FoxBwdRefIdeal.Gen.reducesTo_S8x8192_S8_d1 FoxBwdRefIdeal.Gen.h_S_)
      (ValueIdx.ix2 h (0 : Fin 1)) = (∑ k : Fin 8192, x (ValueIdx.ix2 h k) : EReal) := by
  pointwise []
  rfl

/-- The reference's first result. -/
abbrev refDz (a0 a1 a2 : Vec Ideal S8x8192 .f32) (a3 : Vec Ideal S8x1 .f32) : Vec Ideal S8x8192 .f32 :=
    mulf (F := Ideal) (Host.reduceWindowAdd ![1, 8192] ![1, 1] ![0, 0] ![0, 8191] (addf a0 a1)
        (broadcastInDim FoxBwdRefIdeal.S_ ![] FoxBwdRefIdeal.Gen.bcast_S_S_ (constant FoxBwdRefIdeal.S_ .f32 0x00000000#32))
        FoxBwdRefIdeal.Gen.reduceWindows_S8x8192_S8x8192_w1s1p0_0_w8192s1p0_8191 FoxBwdRefIdeal.Gen.h_S_)
      (Host.divf (broadcastInDim FoxBwdRefIdeal.S8x8192 ![] FoxBwdRefIdeal.Gen.bcast_S_S8x8192 (constant FoxBwdRefIdeal.S_ .f32 0x3F800000#32))
        (addf (broadcastInDim FoxBwdRefIdeal.S8x8192 ![] FoxBwdRefIdeal.Gen.bcast_S_S8x8192 (constant FoxBwdRefIdeal.S_ .f32 0x3F800000#32))
          (Host.exp (Host.negf (Host.negf (addf a2
            (broadcastInDim FoxBwdRefIdeal.S8x8192 ![0, 1] FoxBwdRefIdeal.Gen.bcast_S8x1_S8x8192_0_1 a3)))))))

/-- The reference's second result. -/
abbrev refDb (x : Vec Ideal S8x8192 .f32) : Vec Ideal S8x1 .f32 :=
    broadcastInDim FoxBwdRefIdeal.S8x1 ![0] FoxBwdRefIdeal.Gen.bcast_S8_S8x1_0 (Host.reduceAdd (F := Ideal) x
      (constant FoxBwdRefIdeal.S_ .f32 0x00000000#32) FoxBwdRefIdeal.Gen.reducesTo_S8x8192_S8_d1 FoxBwdRefIdeal.Gen.h_S_)

theorem eq4 (a0 a1 a2 : Vec Ideal S8x8192 .f32) (a3 : Vec Ideal S8x1 .f32)
    (hf : ∀ h k, entry a0 a1 h k ≠ ⊤ ∧ entry a0 a1 h k ≠ ⊥) : refDz a0 a1 a2 a3 = out0_4 a0 a1 a2 a3 := by
  funext y
  idx_vars y
  exact (ref4 a0 a1 a2 a3 _ _).trans (out4 a0 a1 a2 a3 hf _ _).symm

theorem eq5 (a0 a1 a2 : Vec Ideal S8x8192 .f32) (a3 : Vec Ideal S8x1 .f32)
    (hf : ∀ h k, entry a0 a1 h k ≠ ⊤ ∧ entry a0 a1 h k ≠ ⊥) : refDb (refDz a0 a1 a2 a3) = out0_5 a0 a1 a2 a3 := by
  funext y
  obtain ⟨h, rfl⟩ : ∃ h : Fin 8, y = ValueIdx.ix2 h (0 : Fin 1) := ⟨y 0, by
    funext a
    match a with
    | ⟨0, _⟩ => rfl
    | ⟨1, _⟩ => exact Subsingleton.elim (α := Fin 1) _ _⟩
  refine (ref5 _ h).trans (Eq.trans ?_ (out5 a0 a1 a2 a3 hf h).symm)
  exact Finset.sum_congr rfl fun k _ => ref4 a0 a1 a2 a3 h k

theorem algebraic [Cert.Pre_sums_finite.Facts] : Cert.algebraic_FoxBwdIdeal_FoxBwdRefIdeal_pre_sums_finite := fun m g m' g' hp h =>
  ⟨fun c => (dats m 0 c).arrAt 4 cfg0.N, fun c => (dats m 0 c).arrAt 5 cfg0.N, run m g,
    (θ_run _ _ _).mono (fun r hr c => ⟨(hr c).1.trans (by
        rw [(h c).1, (h c).2.1, (h c).2.2.1, (h c).2.2.2]
        exact (eq4 _ _ _ _ (finite m hp c)).trans (final4 m c).symm),
      (hr c).2.1.trans (by
        rw [(h c).1, (h c).2.1, (h c).2.2.1, (h c).2.2.2]
        exact (eq5 _ _ _ _ (finite m hp c)).trans (final5 m c).symm), (hr c).2.2⟩)
      (FoxBwdRefIdeal.Value.run m' g')⟩

end Cert.FoxBwdIdeal.Total
-- ==== Proof.Products.lean ====
/-
  The layer's products and those that carry a gradient back through them, each against the product of the whole arrays.
-/
module

public import proofs.«01_k».proof.Defs
public import proofs.«01_k».proof.Proof.Gen.ProjInIdeal.Value
public import proofs.«01_k».proof.Proof.Gen.ProjInRefIdeal.Run
public import proofs.«01_k».proof.Proof.Gen.ProjFbIdeal.Value
public import proofs.«01_k».proof.Proof.Gen.ProjFbRefIdeal.Run
public import proofs.«01_k».proof.Proof.Gen.ProjBranchIdeal.Value
public import proofs.«01_k».proof.Proof.Gen.ProjBranchRefIdeal.Run
public import proofs.«01_k».proof.Proof.Gen.ProjOutIdeal.Value
public import proofs.«01_k».proof.Proof.Gen.ProjOutRefIdeal.Run
public import proofs.«01_k».proof.Proof.Gen.BackMergedIdeal.Value
public import proofs.«01_k».proof.Proof.Gen.BackMergedRefIdeal.Run
public import proofs.«01_k».proof.Proof.Gen.BackBranchIdeal.Value
public import proofs.«01_k».proof.Proof.Gen.BackBranchRefIdeal.Run
public import proofs.«01_k».proof.Proof.Gen.BackFbIdeal.Value
public import proofs.«01_k».proof.Proof.Gen.BackFbRefIdeal.Run
public import proofs.«01_k».proof.Proof.Gen.ProjMemIdeal.Value
public import proofs.«01_k».proof.Proof.Gen.ProjMemRefIdeal.Run
public import proofs.«01_k».proof.Proof.Gen.BackMemIdeal.Value
public import proofs.«01_k».proof.Proof.Gen.BackMemRefIdeal.Run
public import proofs.«01_k».proof.Proof.Gen.BackInIdeal.Value
public import proofs.«01_k».proof.Proof.Gen.BackInRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjInIdeal.Total

open Cert.ProjInIdeal Cert.ProjInIdeal.Gen

theorem idx : ∀ t : Fin cfg0.N, win0_0.index t = ![t.val / 22, 0] ∧ win0_1.index t = ![0, t.val % 22]
    ∧ win0_2.index t = ![t.val / 22, t.val % 22] := by
  decide +kernel

/-- Each point's block is the whole product there: no point sums over a part. -/
theorem algebraic : Cert.algebraic_ProjInIdeal_ProjInRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (ProjInRefIdeal.Value.run m' g')⟩

end Cert.ProjInIdeal.Total

namespace Cert.ProjFbIdeal.Total

open Cert.ProjFbIdeal Cert.ProjFbIdeal.Gen

theorem idx : ∀ t : Fin cfg0.N, win0_0.index t = ![t.val, 0] ∧ win0_1.index t = ![0, 0] ∧ win0_2.index t = ![t.val, 0] := by
  decide +kernel

theorem algebraic : Cert.algebraic_ProjFbIdeal_ProjFbRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (ProjFbRefIdeal.Value.run m' g')⟩

end Cert.ProjFbIdeal.Total

namespace Cert.ProjBranchIdeal.Total

open Cert.ProjBranchIdeal Cert.ProjBranchIdeal.Gen

theorem idx : ∀ t : Fin cfg0.N, win0_0.index t = ![t.val, 0] ∧ win0_1.index t = ![0, 0] ∧ win0_2.index t = ![t.val, 0] := by
  decide +kernel

theorem algebraic : Cert.algebraic_ProjBranchIdeal_ProjBranchRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (ProjBranchRefIdeal.Value.run m' g')⟩

end Cert.ProjBranchIdeal.Total

namespace Cert.ProjOutIdeal.Total

open Cert.ProjOutIdeal Cert.ProjOutIdeal.Gen

theorem idx : ∀ t : Fin cfg0.N, win0_0.index t = ![t.val, 0] ∧ win0_1.index t = ![0, 0] ∧ win0_2.index t = ![t.val, 0] := by
  decide +kernel

theorem algebraic : Cert.algebraic_ProjOutIdeal_ProjOutRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (ProjOutRefIdeal.Value.run m' g')⟩

end Cert.ProjOutIdeal.Total

namespace Cert.BackMergedIdeal.Total

open Cert.BackMergedIdeal Cert.BackMergedIdeal.Gen

theorem idx : ∀ t : Fin cfg0.N, win0_0.index t = ![t.val, 0] ∧ win0_1.index t = ![0, 0] ∧ win0_2.index t = ![t.val, 0] := by
  decide +kernel

theorem algebraic : Cert.algebraic_BackMergedIdeal_BackMergedRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (BackMergedRefIdeal.Value.run m' g')⟩

end Cert.BackMergedIdeal.Total

namespace Cert.BackBranchIdeal.Total

open Cert.BackBranchIdeal Cert.BackBranchIdeal.Gen

theorem idx : ∀ t : Fin cfg0.N, win0_0.index t = ![t.val, 0] ∧ win0_1.index t = ![0, 0] ∧ win0_2.index t = ![t.val, 0] := by
  decide +kernel

theorem algebraic : Cert.algebraic_BackBranchIdeal_BackBranchRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (BackBranchRefIdeal.Value.run m' g')⟩

end Cert.BackBranchIdeal.Total

namespace Cert.BackFbIdeal.Total

open Cert.BackFbIdeal Cert.BackFbIdeal.Gen

theorem idx : ∀ t : Fin cfg0.N, win0_0.index t = ![t.val, 0] ∧ win0_1.index t = ![0, 0] ∧ win0_2.index t = ![t.val, 0] := by
  decide +kernel

theorem algebraic : Cert.algebraic_BackFbIdeal_BackFbRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        congr 1 <;> blk_ext [iblk, V, idx t]), (hr c).2⟩)
      (BackFbRefIdeal.Value.run m' g')⟩

end Cert.BackFbIdeal.Total

namespace Cert.ProjMemIdeal.Total

theorem algebraic : Cert.algebraic_ProjMemIdeal_ProjMemRefIdeal := fun m g m' g' _ h =>
  ⟨_, ProjMemIdeal.Value.run m g,
    (θ_run _ _ _).mono (fun r hr c => ⟨(hr c).1.trans (by
        rw [(h c).1, (h c).2]
        funext j
        idx_vars j
        pointwise [ProjMemIdeal.Value.G2, ProjMemIdeal.Gen.k0_pay1]), (hr c).2⟩)
      (ProjMemRefIdeal.Value.run m' g')⟩

end Cert.ProjMemIdeal.Total

namespace Cert.BackMemIdeal.Total

theorem algebraic : Cert.algebraic_BackMemIdeal_BackMemRefIdeal := fun m g m' g' _ h =>
  ⟨_, BackMemIdeal.Value.run m g,
    (θ_run _ _ _).mono (fun r hr c => ⟨(hr c).1.trans (by
        rw [(h c).1, (h c).2]
        funext j
        idx_vars j
        pointwise [BackMemIdeal.Value.G2, BackMemIdeal.Gen.k0_pay1]), (hr c).2⟩)
      (BackMemRefIdeal.Value.run m' g')⟩

end Cert.BackMemIdeal.Total

namespace Cert.BackInIdeal.Total

open Cert.BackInIdeal Cert.BackInIdeal.Gen

variable (m : (ℓ : Loc nD τ sig) → Buf (Elt Ideal) ℓ)

/-- One point's addend: the product of its two blocks. -/
abbrev part (c : Dev nD) (t : Fin cfg0.N) : Vec Ideal S1024x1024 .f32 := k0_pay1 (iblk m c 0 t) (iblk m c 1 t)

/-- At the points that write back, the block written is the sum of the eleven addends of its run. -/
theorem sum (c : Dev nD) (t : Fin cfg0.N) (ht : t.val % 11 = 10) (j : S1024x1024.Idx) :
    (outsAt0 m c t.val t.isLt).1 j
      = ∑ s : Fin 11, part m c ⟨11 * (t.val / 11) + s.val, by have := t.isLt; have := s.isLt; have : cfg0.N = 88 := N_0; omega⟩ j := by
  have hN : cfg0.N = 88 := N_0
  have e : (outsAt0 m c t.val t.isLt).1 = (outsAt0 m c t.val t.isLt).2 := by
    rw [outsAt0_C m c t (by omega) (by omega) ht]; frame_out
  rw [e, Pipeline.eq_sum_fin_of_reset_step_apply_of_flush (fun n h => (outsAt0 m c n h).2) 11 (fun _ => 0) (part m c)
    (fun t h j => by
      have := t.isLt
      rw [outsAt0_A m c t h (by omega) (by omega)]; frame_out
      rw [k0_pay2, shapeCast_self, zero_add])
    (fun t h j => by
      by_cases h7 : t.val % 11 = 10
      · rw [outsAt0_C m c t h (by omega) h7]; frame_out
        rw [k0_pay3, shapeCast_self, read_unread_whole]; rfl
      · rw [outsAt0_B m c t h (by omega) h7]; frame_out
        rw [k0_pay3, shapeCast_self, read_unread_whole]; rfl)
    t ht j, zero_add]

theorem idx : ∀ t : Fin cfg0.N, win0_0.index t = ![t.val / 11, t.val % 11] ∧ win0_1.index t = ![0, t.val % 11]
    ∧ win0_2.index t = ![t.val / 11, 0] := by
  decide +kernel

/-- The columns are summed in eleven blocks of 1024, one after the other in an accumulator. -/
theorem algebraic : Cert.algebraic_BackInIdeal_BackInRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        have ht := (flush0_2 t).mp hf
        have hN : cfg0.N = 88 := N_0
        rw [after0_2, sum m _ t ht]
        idx_vars y
        pointwise [part, k0_pay1]
        refine Fin.sum_mul_add_congr fun s k hl => ?_
        congr 1 <;> blk_ext [iblk, V, (idx t).2.2, (idx ⟨11 * (t.val / 11) + s.val, by have := t.isLt; have := s.isLt; omega⟩)]), (hr c).2⟩)
      (BackInRefIdeal.Value.run m' g')⟩

end Cert.BackInIdeal.Total

end
-- ==== Proof.Gates.lean ====
/-
  The normalisations' forward calls, the branches' gates and their gradient, the gated sum of the branches and the rows'
  products of the forgetting attention, each point's block against the same rows of the whole arrays.
-/
module

public import proofs.«01_k».proof.Defs
public import proofs.«01_k».proof.Proof.Gen.NormPreIdeal.Value
public import proofs.«01_k».proof.Proof.Gen.NormPreRefIdeal.Run
public import proofs.«01_k».proof.Proof.Gen.NormKvIdeal.Value
public import proofs.«01_k».proof.Proof.Gen.NormKvRefIdeal.Run
public import proofs.«01_k».proof.Proof.Gen.GateBIdeal.Value
public import proofs.«01_k».proof.Proof.Gen.GateBRefIdeal.Run
public import proofs.«01_k».proof.Proof.Gen.GateMIdeal.Value
public import proofs.«01_k».proof.Proof.Gen.GateMRefIdeal.Run
public import proofs.«01_k».proof.Proof.Gen.GateBwdBIdeal.Value
public import proofs.«01_k».proof.Proof.Gen.GateBwdBRefIdeal.Run
public import proofs.«01_k».proof.Proof.Gen.GateBwdMIdeal.Value
public import proofs.«01_k».proof.Proof.Gen.GateBwdMRefIdeal.Run
public import proofs.«01_k».proof.Proof.Gen.MergeIdeal.Value
public import proofs.«01_k».proof.Proof.Gen.MergeRefIdeal.Run
public import proofs.«01_k».proof.Proof.Gen.FoxDeltaIdeal.Value
public import proofs.«01_k».proof.Proof.Gen.FoxDeltaRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.NormPreIdeal.Total

open Cert.NormPreIdeal Cert.NormPreIdeal.Gen

theorem idx : ∀ t : Fin cfg0.N, win0_0.index t = ![t.val, 0] ∧ win0_1.index t = ![0, 0] ∧ win0_2.index t = ![t.val, 0] := by
  decide +kernel

theorem algebraic : Cert.algebraic_NormPreIdeal_NormPreRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        blk_point [iblk, V, idx t]), (hr c).2⟩)
      (NormPreRefIdeal.Value.run m' g')⟩

end Cert.NormPreIdeal.Total

namespace Cert.NormKvIdeal.Total

theorem algebraic : Cert.algebraic_NormKvIdeal_NormKvRefIdeal := fun m g m' g' _ h =>
  ⟨_, NormKvIdeal.Value.run m g,
    (θ_run _ _ _).mono (fun r hr c => ⟨(hr c).1.trans (by
        rw [(h c).1, (h c).2]
        funext j
        idx_vars j
        pointwise [NormKvIdeal.Value.G2, NormKvIdeal.Gen.k0_pay1]), (hr c).2⟩)
      (NormKvRefIdeal.Value.run m' g')⟩

end Cert.NormKvIdeal.Total

namespace Cert.GateBIdeal.Total

open Cert.GateBIdeal Cert.GateBIdeal.Gen

theorem idx : ∀ t : Fin cfg0.N, win0_0.index t = ![t.val, 0] ∧ win0_1.index t = ![t.val, 13] ∧ win0_2.index t = ![t.val, 0] := by
  decide +kernel

theorem algebraic : Cert.algebraic_GateBIdeal_GateBRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        simp only [zero_sub]
        blk_point [iblk, V, idx t]), (hr c).2⟩)
      (GateBRefIdeal.Value.run m' g')⟩

end Cert.GateBIdeal.Total

namespace Cert.GateMIdeal.Total

open Cert.GateMIdeal Cert.GateMIdeal.Gen

theorem idx : ∀ t : Fin cfg0.N, win0_0.index t = ![t.val, 0] ∧ win0_1.index t = ![t.val, 15] ∧ win0_2.index t = ![t.val, 0] := by
  decide +kernel

theorem algebraic : Cert.algebraic_GateMIdeal_GateMRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        simp only [zero_sub]
        blk_point [iblk, V, idx t]), (hr c).2⟩)
      (GateMRefIdeal.Value.run m' g')⟩

end Cert.GateMIdeal.Total

namespace Cert.GateBwdBIdeal.Total

open Cert.GateBwdBIdeal Cert.GateBwdBIdeal.Gen

theorem idx : ∀ t : Fin cfg0.N, win0_0.index t = ![t.val, 0] ∧ win0_1.index t = ![t.val, 0] ∧ win0_2.index t = ![t.val, 13]
    ∧ win0_3.index t = ![t.val, 0] ∧ win0_4.index t = ![t.val, 0] := by
  decide +kernel

theorem algebraic : Cert.algebraic_GateBwdBIdeal_GateBwdBRefIdeal := fun m g m' g' _ h =>
  ⟨_, _, Value.run_blocks m g,
    (θ_run _ _ _).mono (fun r hr c => ⟨(hr c).1.trans (by
        rw [(h c).1, (h c).2.2]
        symm
        refine (dats m 0 _).arrAt_eq_of_covers 3 _ (by decide +kernel) fun t hf y => ?_
        blk_simp
        rw [after0_3, out0_3]
        frame_out
        idx_vars y
        pointwise [k0_pay4, k0_pay3, k0_pay2, k0_pay1]
        simp only [zero_sub]
        blk_point [iblk, V, idx t]), (hr c).2.1.trans (by
        rw [(h c).1, (h c).2.1, (h c).2.2]
        symm
        refine (dats m 0 _).arrAt_eq_of_covers 4 _ (by decide +kernel) fun t hf y => ?_
        blk_simp
        rw [after0_4, out0_4]
        frame_out
        idx_vars y
        pointwise [k0_pay5, k0_pay3, k0_pay2, k0_pay1]
        simp only [zero_sub]
        blk_point [iblk, V, idx t]), (hr c).2.2⟩)
      (GateBwdBRefIdeal.Value.run m' g')⟩

end Cert.GateBwdBIdeal.Total

namespace Cert.GateBwdMIdeal.Total

open Cert.GateBwdMIdeal Cert.GateBwdMIdeal.Gen

theorem idx : ∀ t : Fin cfg0.N, win0_0.index t = ![t.val, 0] ∧ win0_1.index t = ![t.val, 0] ∧ win0_2.index t = ![t.val, 15]
    ∧ win0_3.index t = ![t.val, 0] ∧ win0_4.index t = ![t.val, 0] := by
  decide +kernel

theorem algebraic : Cert.algebraic_GateBwdMIdeal_GateBwdMRefIdeal := fun m g m' g' _ h =>
  ⟨_, _, Value.run_blocks m g,
    (θ_run _ _ _).mono (fun r hr c => ⟨(hr c).1.trans (by
        rw [(h c).1, (h c).2.2]
        symm
        refine (dats m 0 _).arrAt_eq_of_covers 3 _ (by decide +kernel) fun t hf y => ?_
        blk_simp
        rw [after0_3, out0_3]
        frame_out
        idx_vars y
        pointwise [k0_pay4, k0_pay3, k0_pay2, k0_pay1]
        simp only [zero_sub]
        blk_point [iblk, V, idx t]), (hr c).2.1.trans (by
        rw [(h c).1, (h c).2.1, (h c).2.2]
        symm
        refine (dats m 0 _).arrAt_eq_of_covers 4 _ (by decide +kernel) fun t hf y => ?_
        blk_simp
        rw [after0_4, out0_4]
        frame_out
        idx_vars y
        pointwise [k0_pay5, k0_pay3, k0_pay2, k0_pay1]
        simp only [zero_sub]
        blk_point [iblk, V, idx t]), (hr c).2.2⟩)
      (GateBwdMRefIdeal.Value.run m' g')⟩

end Cert.GateBwdMIdeal.Total

namespace Cert.MergeIdeal.Total

open Cert.MergeIdeal Cert.MergeIdeal.Gen

theorem idx : ∀ t : Fin cfg0.N, win0_0.index t = ![t.val, 8] ∧ win0_1.index t = ![t.val, 9] ∧ win0_2.index t = ![t.val, 10]
    ∧ win0_3.index t = ![t.val, 0] ∧ win0_4.index t = ![t.val, 0] ∧ win0_5.index t = ![t.val, 0] ∧ win0_6.index t = ![0, 0]
    ∧ win0_7.index t = ![t.val, 0] := by
  decide +kernel

theorem algebraic : Cert.algebraic_MergeIdeal_MergeRefIdeal := fun m g m' g' _ h =>
  ⟨_, Value.run_blocks m g,
    (θ_run _ _ _).mono (fun r hr c => ⟨(hr c).1.trans (by
        rw [(h c).1, (h c).2.1, (h c).2.2.1, (h c).2.2.2.1, (h c).2.2.2.2]
        symm
        refine (dats m 0 _).arrAt_eq_of_covers 7 _ (by decide +kernel) fun t hf y => ?_
        blk_simp
        rw [after0_7, out0_7]
        frame_out
        idx_vars y
        pointwise [k0_pay1, k0_pay2, k0_pay3, k0_pay4]
        simp only [zero_sub, zero_add]
        blk_point [iblk, V, idx t]), (hr c).2⟩)
      (MergeRefIdeal.Value.run m' g')⟩

end Cert.MergeIdeal.Total

namespace Cert.FoxDeltaIdeal.Total

open Cert.FoxDeltaIdeal Cert.FoxDeltaIdeal.Gen

theorem idx : ∀ t : Fin cfg0.N, win0_0.index t = ![t.val, 0] ∧ win0_1.index t = ![t.val, 0] ∧ win0_2.index t = ![t.val, 0] := by
  decide +kernel

theorem algebraic : Cert.algebraic_FoxDeltaIdeal_FoxDeltaRefIdeal := fun m g m' g' _ h =>
  ⟨_, Value.run_blocks m g,
    (θ_run _ _ _).mono (fun r hr c => ⟨(hr c).1.trans (by
        rw [(h c).1, (h c).2]
        symm
        refine (dats m 0 _).arrAt_eq_of_covers 2 _ (by decide +kernel) fun t hf y => ?_
        blk_simp
        rw [after0_2, out0_2]
        frame_out
        idx_vars y
        pointwise [k0_pay1]
        refine Fin.sum_fin_congr fun k => ?_
        blk_point [iblk, V, idx t]), (hr c).2⟩)
      (FoxDeltaRefIdeal.Value.run m' g')⟩

end Cert.FoxDeltaIdeal.Total

end
-- ==== Proof.Memory.lean ====
/-
  The memory attention: of a head's row, the scores against the memory tokens, their largest, the weights (the exponentials of
  the scores less the largest) and the weights' sum. The kernel divides the weighted sum of the values by the weights' sum, the
  reference each weight; where the scores are finite the weights' sum is a positive number, and both are the same. The four
  heads are four blocks of columns of one result; the logs of the sums lie in the first four lanes of the other.
-/
module

public import proofs.«01_k».proof.Defs
public import proofs.«01_k».proof.Proof.Gen.MemFwdIdeal.Value
public import proofs.«01_k».proof.Proof.Gen.MemFwdRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MemFwdIdeal.Total

/-- The largest of a row's scores. -/
def peak (s : Fin 256 → EReal) : EReal := Finset.fold max (Ideal.ofBits .f32 0xFF800000#32) s Finset.univ
/-- Of a score, the exponential of what it lacks of the largest. -/
def weight (s : Fin 256 → EReal) (n : Fin 256) : EReal := Ideal.exp (s n - peak s)
/-- The weights' sum. -/
def total (s : Fin 256 → EReal) : EReal := ∑ n, weight s n

/-- The largest is looked for from below all scores. -/
theorem low : Ideal.ofBits .f32 0xFF800000#32 = ⊥ := by simp [Ideal.ofBits, Ideal.ieee]

theorem peak_real (s : Fin 256 → EReal) (hs : ∀ n, s n ≠ ⊤ ∧ s n ≠ ⊥) : peak s ≠ ⊤ ∧ peak s ≠ ⊥ := by
  unfold peak
  rw [low]
  constructor
  · exact ((Finset.fold_max_lt ⊤).2 ⟨bot_lt_top, fun n _ => lt_top_iff_ne_top.2 (hs n).1⟩).ne
  · exact ((Finset.lt_fold_max ⊥).2 (Or.inr ⟨0, Finset.mem_univ _, bot_lt_iff_ne_bot.2 (hs 0).2⟩)).ne'

/-- A number that is not negative multiplies a sum term by term, whatever the terms. -/
theorem sum_mul (x : Fin 256 → EReal) (c : EReal) (h : 0 ≤ c) (h' : c ≠ ⊤) : (∑ n, x n) * c = ∑ n, x n * c := by
  refine Finset.induction_on (motive := fun t => (∑ n ∈ t, x n) * c = ∑ n ∈ t, x n * c) Finset.univ ?_ ?_
  · simp
  · intro n t hn e
    rw [Finset.sum_insert hn, Finset.sum_insert hn, EReal.right_distrib_of_nonneg_of_ne_top h h', e]

/-- The weights' sum is a positive number. -/
theorem total_real (s : Fin 256 → EReal) (hs : ∀ n, s n ≠ ⊤ ∧ s n ≠ ⊥) : ∃ d : ℝ, 0 < d ∧ total s = d := by
  obtain ⟨hM, hM'⟩ := peak_real s hs
  have e : ∀ n, weight s n = (Real.exp ((s n).toReal - (peak s).toReal) : ℝ) := fun n => by
    unfold weight
    conv_lhs => rw [← EReal.coe_toReal hM hM', ← EReal.coe_toReal (hs n).1 (hs n).2, ← EReal.coe_sub]
    rfl
  refine ⟨∑ n, Real.exp ((s n).toReal - (peak s).toReal), Finset.sum_pos (fun n _ => Real.exp_pos _) ⟨0, Finset.mem_univ _⟩, ?_⟩
  unfold total
  simp only [e]
  refine Finset.induction_on (motive := fun t => (∑ n ∈ t, ((Real.exp ((s n).toReal - (peak s).toReal) : ℝ) : EReal))
    = ((∑ n ∈ t, Real.exp ((s n).toReal - (peak s).toReal) : ℝ) : EReal)) Finset.univ ?_ ?_
  · simp
  · intro n t hn i
    rw [Finset.sum_insert hn, Finset.sum_insert hn, EReal.coe_add, i]

/-- The values' mean: each weight divided by the weights' sum, or the weighted sum. -/
theorem mean (s v : Fin 256 → EReal) (hs : ∀ n, s n ≠ ⊤ ∧ s n ≠ ⊥) :
    (∑ n, v n * Ideal.div (weight s n) (total s)) = Ideal.div (∑ n, weight s n * v n) (total s) := by
  obtain ⟨d, hd, e⟩ := total_real s hs
  have ne : (d : EReal) ≠ 0 := by exact_mod_cast hd.ne'
  unfold Ideal.div
  simp only [e, if_neg ne, ← EReal.coe_inv]
  rw [sum_mul _ _ (by exact_mod_cast (inv_pos.2 hd).le) (EReal.coe_ne_top _)]
  refine Finset.sum_congr rfl fun n _ => ?_
  rw [mul_comm (v n), mul_assoc, mul_assoc, mul_comm (v n)]

open Cert.MemFwdIdeal Cert.MemFwdIdeal.Gen

section head

variable (q : Vec Ideal S512x128 .bf16) (k v : Vec Ideal S256x128 .bf16) (s : Fin 256 → EReal) (r : Fin 512)
  (hs : ∀ n, k0_pay5 (F := Ideal) q k (ValueIdx.ix2 r n) = s n)
include hs

theorem head_peak : k0_pay6 (F := Ideal) q k (ValueIdx.ix2 r (0 : Fin 1)) = peak s := by
  pointwise [k0_pay6]
  exact congrArg (fun f => Finset.fold max _ f Finset.univ) (funext hs)

theorem head_weight (n : Fin 256) : k0_pay7 (F := Ideal) q k (ValueIdx.ix2 r n) = weight s n := by
  pointwise [k0_pay7]
  exact congrArg Ideal.exp (congrArg₂ (· - ·) (hs n) (head_peak q k s r hs))

theorem head_total : k0_pay8 (F := Ideal) q k (ValueIdx.ix2 r (0 : Fin 1)) = total s := by
  pointwise [k0_pay8]
  exact Finset.sum_congr rfl fun n _ => head_weight q k s r hs n

theorem head_mean (l : Fin 128) : k0_pay9 (F := Ideal) q k v (ValueIdx.ix2 r l)
    = Ideal.div (∑ n, weight s n * v (ValueIdx.ix2 n l)) (total s) := by
  pointwise [k0_pay9]
  exact congrArg₂ Ideal.div (Finset.sum_congr rfl fun n _ => congrArg (· * v (ValueIdx.ix2 n l)) (head_weight q k s r hs n))
    (head_total q k s r hs)

theorem head_log : k0_pay10 (F := Ideal) q k (ValueIdx.ix2 r (0 : Fin 1)) = peak s + Ideal.log (total s) := by
  pointwise [k0_pay10]
  exact congrArg₂ (· + ·) (head_peak q k s r hs) (congrArg Ideal.log (head_total q k s r hs))

end head

/-- A row's score against a memory token in head `h` of a block of rows. -/
def bscore (x0 : Vec Ideal S512x512 .bf16) (x1 : Vec Ideal S256x512 .bf16) (h : Fin 4) (r : Fin 512) (n : Fin 256) : EReal :=
  (∑ d : Fin 128, x0 (ValueIdx.ix2 r ⟨h.val * 128 + d.val, by omega⟩) * x1 (ValueIdx.ix2 n ⟨h.val * 128 + d.val, by omega⟩))
    * Ideal.ofBits .f32 0x3DB504F3#32

abbrev rowsOf (p : Nat) (inb : ∀ a, (![0, p] : Fin 2 → Nat) a + S512x128.size a ≤ S512x512.size a) : Rect S512x512 :=
  Rect.unit (s := S512x512) ![0, p] S512x128.size inb

abbrev tokensOf (p : Nat) (inb : ∀ a, (![0, p] : Fin 2 → Nat) a + S256x128.size a ≤ S256x512.size a) : Rect S256x512 :=
  Rect.unit (s := S256x512) ![0, p] S256x128.size inb

theorem ld_tokens (a : Vec Ideal S256x512 .bf16) (p : Nat) (inb) (n : Fin 256) (l : Fin 128) (hp : p + l.val < 512) :
    View.ld a (tokensOf p inb) (ValueIdx.ix2 n l) = a (ValueIdx.ix2 n ⟨p + l.val, hp⟩) := by
  refine View.ld_unit_apply_of a _ _ _ _ _ fun i => ?_
  match i with
  | ⟨0, _⟩ => show n.val = 0 + n.val; omega
  | ⟨1, _⟩ => rfl

section block

variable (x0 : Vec Ideal S512x512 .bf16) (x1 x2 : Vec Ideal S256x512 .bf16)

theorem head_score (h : Fin 4) (inb inb') (r : Fin 512) (n : Fin 256) :
    k0_pay5 (F := Ideal) (View.ld x0 (rowsOf (h.val * 128) inb)) (View.ld x1 (tokensOf (h.val * 128) inb')) (ValueIdx.ix2 r n)
      = bscore x0 x1 h r n := by
  pointwise [k0_pay5]
  rfl

/-- The weighted mean of the values at a column, by the column's head. -/
def bmean (r : Fin 512) (j : Fin 512) : EReal :=
  Ideal.div (∑ n, weight (bscore x0 x1 ⟨j.val / 128, by omega⟩ r) n * x2 (ValueIdx.ix2 n j)) (total (bscore x0 x1 ⟨j.val / 128, by omega⟩ r))

/-- The log of a row's sum of exponentials, by the lane's head. -/
def blog (s : Fin 4 → Fin 256 → EReal) (j : Fin 128) : EReal :=
  if h : j.val < 4 then peak (s ⟨j.val, h⟩) + Ideal.log (total (s ⟨j.val, h⟩)) else 0

/-- A head's block of columns, as a stored piece of the result. -/
theorem mean_rect (h : Fin 4) (inb inb') (r : Fin 512) (j : Fin 512) :
    View.RectAt (Val := Elt Ideal) (e := .bf16) (ValueIdx.ix2 r j : S512x512.Idx) (rowsOf (h.val * 128) inb)
      (k0_pay9 (F := Ideal) (View.ld x0 (rowsOf (h.val * 128) inb)) (View.ld x1 (tokensOf (h.val * 128) inb'))
        (View.ld x2 (tokensOf (h.val * 128) inb'))) (bmean x0 x1 x2 r j) := fun x hx => by
  have h0 : 0 + 1 * (x 0).val = r.val := congrArg (fun i : S512x512.Idx => (i 0).val) hx
  have h1 : h.val * 128 + 1 * (x 1).val = j.val := congrArg (fun i : S512x512.Idx => (i 1).val) hx
  obtain ⟨i, l, rfl⟩ : ∃ (i : Fin 512) (l : Fin 128), x = ValueIdx.ix2 i l := ⟨x 0, x 1, by funext a; match a with | ⟨0, _⟩ => rfl | ⟨1, _⟩ => rfl⟩
  change 0 + 1 * i.val = r.val at h0
  change h.val * 128 + 1 * l.val = j.val at h1
  obtain rfl : i = r := Fin.ext (by omega)
  rw [head_mean _ _ _ (bscore x0 x1 h i) i (head_score x0 x1 h inb inb' i)]
  unfold bmean
  have e : (⟨j.val / 128, by omega⟩ : Fin 4) = h := Fin.ext (by show j.val / 128 = h.val; omega)
  rw [e]
  refine congrArg₂ Ideal.div (Finset.sum_congr rfl fun n _ => congrArg (weight _ n * ·) ?_) rfl
  rw [ld_tokens x2 _ inb' n l (by omega)]
  exact congrArg (fun z => x2 (ValueIdx.ix2 n z)) (Fin.ext (by show h.val * 128 + l.val = j.val; omega))

/-- What a block of rows writes to the first result. -/
theorem out3 (r : Fin 512) (j : Fin 512) : out0_3 x0 x1 x2 (ValueIdx.ix2 r j) = bmean x0 x1 x2 r j :=
  View.canon_eq_of_allAt _ _ _ (cover0_3 _ _ _ _ _)
    (View.allAt_cons _ _ _ (mean_rect x0 x1 x2 3 inb_S512x512_S512x128_0_384 inb_S256x512_S256x128_0_384 r j)
    (View.allAt_cons _ _ _ (mean_rect x0 x1 x2 2 inb_S512x512_S512x128_0_256 inb_S256x512_S256x128_0_256 r j)
    (View.allAt_cons _ _ _ (mean_rect x0 x1 x2 1 inb_S512x512_S512x128_0_128 inb_S256x512_S256x128_0_128 r j)
    (View.allAt_cons _ _ _ (mean_rect x0 x1 x2 0 inb_S512x512_S512x128_0_0 inb_S256x512_S256x128_0_0 r j)
    (View.allAt_nil _ _)))))

theorem lanes (a b c : FVec Ideal S512x1 .f32) (x : FVec Ideal S512x256 .f32) (y : FVec Ideal S512x1 .f32)
    (r : Fin 512) (j : Fin 128) (s : Fin 4 → Fin 256 → EReal)
    (h0 : a (ValueIdx.ix2 r (0 : Fin 1)) = peak (s 0) + Ideal.log (total (s 0)))
    (h1 : b (ValueIdx.ix2 r (0 : Fin 1)) = peak (s 1) + Ideal.log (total (s 1)))
    (h2 : c (ValueIdx.ix2 r (0 : Fin 1)) = peak (s 2) + Ideal.log (total (s 2)))
    (h3 : y (ValueIdx.ix2 r (0 : Fin 1)) + Ideal.log (k0_pay2 (F := Ideal) x y (ValueIdx.ix2 r (0 : Fin 1))) = peak (s 3) + Ideal.log (total (s 3))) :
    k0_pay4 (F := Ideal) a b c x y (ValueIdx.ix2 r j) = blog s j := by
  pointwise [k0_pay4]
  change Scalar.select (IntOp.cmpi CmpIPredicate.eq (BitVec.ofNat 32 j.val) 3#32)
      (y (ValueIdx.ix2 r (0 : Fin 1)) + Ideal.log (k0_pay2 (F := Ideal) x y (ValueIdx.ix2 r (0 : Fin 1))))
      (Scalar.select (IntOp.cmpi CmpIPredicate.eq (BitVec.ofNat 32 j.val) 2#32) (c (ValueIdx.ix2 r (0 : Fin 1)))
        (Scalar.select (IntOp.cmpi CmpIPredicate.eq (BitVec.ofNat 32 j.val) 1#32) (b (ValueIdx.ix2 r (0 : Fin 1)))
          (Scalar.select (IntOp.cmpi CmpIPredicate.eq (BitVec.ofNat 32 j.val) 0#32) (a (ValueIdx.ix2 r (0 : Fin 1))) 0))) = _
  rw [h0, h1, h2, h3]
  have sel : ∀ (i : Nat) (u w : EReal), i < 4 → Scalar.select (IntOp.cmpi CmpIPredicate.eq (BitVec.ofNat 32 j.val) (BitVec.ofNat 32 i)) u w
      = if j.val = i then u else w := fun i u w hi => by
    have e : (BitVec.ofNat 32 j.val = BitVec.ofNat 32 i) ↔ j.val = i := by
      rw [← BitVec.toNat_inj, BitVec.toNat_ofNat, BitVec.toNat_ofNat]
      omega
    simp only [Scalar.select, IntOp.cmpi]
    by_cases q : j.val = i
    · simp [q]
    · simp [q, beq_eq_false_iff_ne.2 fun z => q (e.1 z)]
  rw [sel 3 _ _ (by omega), sel 2 _ _ (by omega), sel 1 _ _ (by omega), sel 0 _ _ (by omega)]
  unfold blog
  obtain ⟨j, hj⟩ := j
  by_cases h : j < 4
  · rw [dif_pos h]
    match j, h with
    | 0, _ => rfl
    | 1, _ => rfl
    | 2, _ => rfl
    | 3, _ => rfl
  · rw [dif_neg h, if_neg (show ¬ j = 3 by omega), if_neg (show ¬ j = 2 by omega), if_neg (show ¬ j = 1 by omega),
      if_neg (show ¬ j = 0 by omega)]

/-- What a block of rows writes to the second result. -/
theorem out4 (r : Fin 512) (j : Fin 128) : out0_4 x0 x1 x2 (ValueIdx.ix2 r j) = blog (fun h => bscore x0 x1 h r) j := by
  unfold out0_4
  rw [View.canon_unit_zero (funext fun a => by fin_cases a <;> rfl)]
  exact lanes _ _ _ _ _ r j _
    (head_log _ _ _ r (head_score x0 x1 0 inb_S512x512_S512x128_0_0 inb_S256x512_S256x128_0_0 r))
    (head_log _ _ _ r (head_score x0 x1 1 inb_S512x512_S512x128_0_128 inb_S256x512_S256x128_0_128 r))
    (head_log _ _ _ r (head_score x0 x1 2 inb_S512x512_S512x128_0_256 inb_S256x512_S256x128_0_256 r))
    (head_log _ _ _ r (head_score x0 x1 3 inb_S512x512_S512x128_0_384 inb_S256x512_S256x128_0_384 r))

end block

end Cert.MemFwdIdeal.Total

namespace Cert.MemFwdRefIdeal.Total

open Cert.MemFwdRefIdeal Cert.MemFwdRefIdeal.Gen
open Cert.MemFwdIdeal.Total (peak weight total mean low blog)

/-- The reference's scores. -/
abbrev refS (a0 : Vec Ideal S8192x11264 .bf16) (a1 : Vec Ideal S256x1024 .bf16) : FVec Ideal S4x8192x256 .f32 :=
  mulf (Host.dotGeneral dot_S8192x4x128_S256x4x128_S4x8192x256_2_2_0_0_1_1 none (extf .f32 (shapeCast _ (extractStridedSlice S8192x512 ![0, 7168] a0 slices_S8192x11264_S8192x512_0_7168) shapeCasts_S8192x512_S8192x4x128) bitsLt_bf16_f32) (extf .f32 (shapeCast _ (extractStridedSlice S256x512 ![0, 0] a1 slices_S256x1024_S256x512_0_0) shapeCasts_S256x512_S256x4x128) bitsLt_bf16_f32)) (broadcastInDim S4x8192x256 ![] bcast_S_S4x8192x256 (constant S_ .f32 0x3DB504F3#32))

/-- The reference's largest scores. -/
abbrev refM (s : FVec Ideal S4x8192x256 .f32) : FVec Ideal S4x8192 .f32 :=
  Host.reduce FloatOps.maximumf s (constant S_ .f32 0xFF800000#32) reducesTo_S4x8192x256_S4x8192_d2 h_S_

/-- The reference's weights. -/
abbrev refP (s : FVec Ideal S4x8192x256 .f32) (m : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 m)))

/-- The reference's weights' sums. -/
abbrev refD (p : FVec Ideal S4x8192x256 .f32) : FVec Ideal S4x8192 .f32 :=
  Host.reduceAdd p (constant S_ .f32 0x00000000#32) reducesTo_S4x8192x256_S4x8192_d2 h_S_

/-- The reference's first result. -/
abbrev refY (a1 : Vec Ideal S256x1024 .bf16) (p : FVec Ideal S4x8192x256 .f32) (d : FVec Ideal S4x8192 .f32) : FVec Ideal S8192x512 .bf16 :=
  truncf .bf16 (shapeCast _ (transpose S8192x4x128 [2, 0, 1] (Host.dotGeneral dot_S256x4x128_S4x8192x256_S4x128x8192_0_2_2_1_1_0 none (extf .f32 (shapeCast _ (extractStridedSlice S256x512 ![0, 512] a1 slices_S256x1024_S256x512_0_512) shapeCasts_S256x512_S256x4x128) bitsLt_bf16_f32) (Host.divf p (broadcastInDim S4x8192x256 ![0, 1, 2] bcast_S4x8192x1_S4x8192x256_0_1_2 (broadcastInDim S4x8192x1 ![0, 1] bcast_S4x8192_S4x8192x1_0_1 d)))) transposes_S4x128x8192_S8192x4x128_2_0_1) shapeCasts_S8192x4x128_S8192x512) bitsLt_bf16_f32

/-- The reference's second result. -/
abbrev refL (m d : FVec Ideal S4x8192 .f32) : FVec Ideal S8192x128 .f32 :=
  pad S8192x128 ![0, 0] ![0, 124] ![0, 0] (transpose S8192x4 [1, 0] (addf m (Host.log d)) transposes_S4x8192_S8192x4_1_0) (sitofp .f32 (constantI S_ 32 0#32)) pads_S8192x4_S8192x128_000_01240 h_S_

/-- A token's score against a memory token in head `h`. -/
def score (a0 : Vec Ideal S8192x11264 .bf16) (a1 : Vec Ideal S256x1024 .bf16) (h : Fin 4) (r : Fin 8192) (n : Fin 256) : EReal :=
  (∑ d : Fin 128, a0 (ValueIdx.ix2 r ⟨7168 + (h.val * 128 + d.val), by omega⟩) * a1 (ValueIdx.ix2 n ⟨h.val * 128 + d.val, by omega⟩))
    * Ideal.ofBits .f32 0x3DB504F3#32

theorem ref_score (a0 a1) (h : Fin 4) (r : Fin 8192) (n : Fin 256) : refS a0 a1 (ValueIdx.ix3 h r n) = score a0 a1 h r n := by
  pointwise []
  rfl

section ref

variable (s : FVec Ideal S4x8192x256 .f32) (h : Fin 4) (r : Fin 8192) (x : Fin 256 → EReal) (hs : ∀ n, s (ValueIdx.ix3 h r n) = x n)
include hs

theorem ref_peak : refM s (ValueIdx.ix2 h r) = peak x := by
  pointwise []
  exact congrArg (fun f => Finset.fold max _ f Finset.univ) (funext hs)

theorem ref_weight (m : FVec Ideal S4x8192 .f32) (hm : m (ValueIdx.ix2 h r) = peak x) (n : Fin 256) :
    refP s m (ValueIdx.ix3 h r n) = weight x n := by
  pointwise []
  exact congrArg Ideal.exp (congrArg₂ (· - ·) (hs n) hm)

end ref

theorem ref_total (p : FVec Ideal S4x8192x256 .f32) (h : Fin 4) (r : Fin 8192) (x : Fin 256 → EReal)
    (hp : ∀ n, p (ValueIdx.ix3 h r n) = weight x n) : refD p (ValueIdx.ix2 h r) = total x := by
  pointwise []
  exact Finset.sum_congr rfl fun n _ => hp n

theorem ref_mean (a1 : Vec Ideal S256x1024 .bf16) (p : FVec Ideal S4x8192x256 .f32) (d : FVec Ideal S4x8192 .f32) (r : Fin 8192) (j : Fin 512)
    (x : Fin 256 → EReal) (hx : ∀ n, x n ≠ ⊤ ∧ x n ≠ ⊥)
    (hp : ∀ n, p (ValueIdx.ix3 (⟨j.val / 128, by omega⟩ : Fin 4) r n) = weight x n)
    (hd : d (ValueIdx.ix2 (⟨j.val / 128, by omega⟩ : Fin 4) r) = total x) :
    refY a1 p d (ValueIdx.ix2 r j) = Ideal.div (∑ n, weight x n * a1 (ValueIdx.ix2 n ⟨512 + j.val, by omega⟩)) (total x) := by
  pointwise []
  refine Eq.trans (Finset.sum_congr rfl fun n _ => ?_) (mean x (fun n => a1 (ValueIdx.ix2 n ⟨512 + j.val, by omega⟩)) hx)
  exact congrArg (a1 (ValueIdx.ix2 n ⟨512 + j.val, _⟩) * ·) (congrArg₂ Ideal.div (hp n) hd)

theorem ref_log (m d : FVec Ideal S4x8192 .f32) (r : Fin 8192) (j : Fin 128) (x : Fin 4 → Fin 256 → EReal)
    (hm : ∀ h, m (ValueIdx.ix2 h r) = peak (x h)) (hd : ∀ h, d (ValueIdx.ix2 h r) = total (x h)) :
    refL m d (ValueIdx.ix2 r j) = blog x j := by
  pointwise []
  unfold blog
  by_cases h : j.val < 4
  · refine (dif_pos h).trans (Eq.trans ?_ (dif_pos h).symm)
    exact congrArg₂ (· + ·) (hm ⟨j.val, h⟩) (congrArg Ideal.log (hd ⟨j.val, h⟩))
  · refine (dif_neg h).trans (Eq.trans ?_ (dif_neg h).symm)
    show (((0#32).toInt : ℝ) : EReal) = 0
    simp

/-- The larger of the least value and the largest score, as softmax takes it. -/
theorem low_max (m : FVec Ideal S4x8192 .f32) :
    maximumf (F := Ideal) (broadcastInDim S4x8192 ![] bcast_S_S4x8192 (constant S_ .f32 0xFF800000#32)) m = m := by
  funext y
  idx_vars y
  pointwise []
  rw [low]
  exact max_eq_right bot_le

end Cert.MemFwdRefIdeal.Total

namespace Cert.MemFwdIdeal.Total

open Cert.MemFwdIdeal Cert.MemFwdIdeal.Gen
open Cert.MemFwdRefIdeal.Total (score refS refM refP refD refY refL ref_score ref_peak ref_weight ref_total ref_mean ref_log low_max)

variable (m : (ℓ : Loc nD τ sig) → Buf (Elt Ideal) ℓ)

/-- The precondition says that every score is finite. -/
theorem finite [Cert.Pre_scores_finite.Facts] (hp : Pre_MemFwdIdeal_scores_finite m) (c : Dev nD) (h : Fin 4) (r : Fin 8192) (n : Fin 256) :
    score (m ((c.tc : Thread nD τ).loc main_arg0)) (m ((c.tc : Thread nD τ).loc main_arg1)) h r n ≠ ⊤
    ∧ score (m ((c.tc : Thread nD τ).loc main_arg0)) (m ((c.tc : Thread nD τ).loc main_arg1)) h r n ≠ ⊥ := by
  have e := congrFun (hp c) (ValueIdx.ix3 h r n)
  unfold Cert.Pre_scores_finite.fn at e
  revert e
  pointwise []
  have top : Ideal.ofBits FTy.f32 0x7F800000#32 = ⊤ := by simp [Ideal.ofBits, Ideal.ieee]
  rw [top]
  intro e
  change BitVec.ofBool (decide (max (score (m ((c.tc : Thread nD τ).loc main_arg0)) (m ((c.tc : Thread nD τ).loc main_arg1)) h r n)
    (-score (m ((c.tc : Thread nD τ).loc main_arg0)) (m ((c.tc : Thread nD τ).loc main_arg1)) h r n) < ⊤)) = 1#1 at e
  constructor <;> intro h' <;> rw [h'] at e <;> simp at e

theorem idx : ∀ t : Fin cfg0.N, win0_0.index t = ![t.val, 14] ∧ win0_1.index t = ![0, 0] ∧ win0_2.index t = ![0, 1]
    ∧ win0_3.index t = ![t.val, 0] ∧ win0_4.index t = ![t.val, 0] := by
  decide +kernel

/-- A block's score is the whole array's. -/
theorem block_score (c : Dev nD) (t : Fin cfg0.N) (h : Fin 4) (r : Fin 512) (hr : t.val * 512 + r.val < 8192) :
    bscore (iblk m c 0 t) (iblk m c 1 t) h r
      = score (m ((c.tc : Thread nD τ).loc main_arg0)) (m ((c.tc : Thread nD τ).loc main_arg1)) h ⟨t.val * 512 + r.val, hr⟩ := by
  funext n
  unfold bscore score
  refine congrArg (· * _) (Finset.sum_congr rfl fun d _ => ?_)
  congr 1 <;> blk_ext [iblk, V, idx t]

/-- A block's index in the first result. -/
theorem emb3 (t : Fin cfg0.N) (r : Fin 512) (j : Fin 512) (hr : t.val * 512 + r.val < 8192) :
    ((View.whole main_v0_0).slice (win0_3.rect t)).emb (ValueIdx.ix2 r j) = ValueIdx.ix2 (⟨t.val * 512 + r.val, hr⟩ : Fin 8192) j := by
  blk_ext [idx t]

/-- A block's index in the second result. -/
theorem emb4 (t : Fin cfg0.N) (r : Fin 512) (j : Fin 128) (hr : t.val * 512 + r.val < 8192) :
    ((View.whole main_v0_1).slice (win0_4.rect t)).emb (ValueIdx.ix2 r j) = ValueIdx.ix2 (⟨t.val * 512 + r.val, hr⟩ : Fin 8192) j := by
  blk_ext [idx t]

/-- The first result after the run. -/
theorem final3 [Cert.Pre_scores_finite.Facts] (hp : Pre_MemFwdIdeal_scores_finite m) (c : Dev nD) :
    (dats m 0 c).arrAt 3 cfg0.N
      = refY (m ((c.tc : Thread nD τ).loc main_arg1))
        (refP (refS (m ((c.tc : Thread nD τ).loc main_arg0)) (m ((c.tc : Thread nD τ).loc main_arg1)))
          (refM (refS (m ((c.tc : Thread nD τ).loc main_arg0)) (m ((c.tc : Thread nD τ).loc main_arg1)))))
        (refD (refP (refS (m ((c.tc : Thread nD τ).loc main_arg0)) (m ((c.tc : Thread nD τ).loc main_arg1)))
          (refM (refS (m ((c.tc : Thread nD τ).loc main_arg0)) (m ((c.tc : Thread nD τ).loc main_arg1)))))) := by
  refine (dats m 0 _).arrAt_eq_of_covers 3 _ (by decide +kernel) fun t hf y => ?_
  blk_simp
  rw [after0_3]
  obtain ⟨r, j, rfl⟩ : ∃ (r : Fin 512) (j : Fin 512), y = ValueIdx.ix2 r j := ⟨y 0, y 1, by funext a; match a with | ⟨0, _⟩ => rfl | ⟨1, _⟩ => rfl⟩
  have ht : t.val < 16 := t.isLt
  have hr : t.val * 512 + r.val < 8192 := by omega
  refine (out3 _ _ _ r j).trans ?_
  have w := fun h n => ref_weight _ h _ _ (ref_score (m ((c.tc : Thread nD τ).loc main_arg0)) (m ((c.tc : Thread nD τ).loc main_arg1)) h ⟨t.val * 512 + r.val, hr⟩)
    _ (ref_peak _ h _ _ (ref_score _ _ h _)) n
  refine Eq.trans ?_ ((congrArg _ (emb3 t r j hr)).trans (ref_mean _ _ _ _ j _ (finite m hp c _ _) (w _) (ref_total _ _ _ _ (w _)))).symm
  unfold bmean
  rw [block_score m c t _ r hr]
  refine congrArg₂ Ideal.div (Finset.sum_congr rfl fun n _ => congrArg (weight _ n * ·) ?_) rfl
  blk_point [iblk, V, idx t]

/-- The second result after the run. -/
theorem final4 (c : Dev nD) :
    (dats m 0 c).arrAt 4 cfg0.N
      = refL (refM (refS (m ((c.tc : Thread nD τ).loc main_arg0)) (m ((c.tc : Thread nD τ).loc main_arg1))))
        (refD (refP (refS (m ((c.tc : Thread nD τ).loc main_arg0)) (m ((c.tc : Thread nD τ).loc main_arg1)))
          (refM (refS (m ((c.tc : Thread nD τ).loc main_arg0)) (m ((c.tc : Thread nD τ).loc main_arg1)))))) := by
  refine (dats m 0 _).arrAt_eq_of_covers 4 _ (by decide +kernel) fun t hf y => ?_
  blk_simp
  rw [after0_4]
  obtain ⟨r, j, rfl⟩ : ∃ (r : Fin 512) (j : Fin 128), y = ValueIdx.ix2 r j := ⟨y 0, y 1, by funext a; match a with | ⟨0, _⟩ => rfl | ⟨1, _⟩ => rfl⟩
  have ht : t.val < 16 := t.isLt
  have hr : t.val * 512 + r.val < 8192 := by omega
  refine (out4 _ _ _ r j).trans ?_
  have p := fun h => ref_peak _ h _ _ (ref_score (m ((c.tc : Thread nD τ).loc main_arg0)) (m ((c.tc : Thread nD τ).loc main_arg1)) h ⟨t.val * 512 + r.val, hr⟩)
  refine Eq.trans ?_ ((congrArg _ (emb4 t r j hr)).trans (ref_log _ _ _ j _ p
    fun h => ref_total _ h _ _ (ref_weight _ h _ _ (ref_score _ _ h _) _ (p h)))).symm
  exact congrArg (fun x => blog x j) (funext fun h => block_score m c t h r hr)

theorem algebraic [Cert.Pre_scores_finite.Facts] : Cert.algebraic_MemFwdIdeal_MemFwdRefIdeal_pre_scores_finite := fun m g m' g' hp h =>
  ⟨_, _, Value.run_blocks m g,
    (θ_run _ _ _).mono (fun r hr c => ⟨(hr c).1.trans (by
        rw [(h c).1, (h c).2, low_max]
        exact (final3 m hp c).symm), (hr c).2.1.trans (by
        rw [(h c).1, (h c).2]
        exact (final4 m c).symm), (hr c).2.2⟩)
      (MemFwdRefIdeal.Value.run m' g')⟩

end Cert.MemFwdIdeal.Total
-- ==== Proof.Delta.lean ====
/-
  The backward pass through the window attention's gate: the two gradients point by point, and of each head's block of columns
  the row sums of the attention's gradient times its output, which lie in the first four lanes of the third result.
-/
module

public import proofs.«01_k».proof.Defs
public import proofs.«01_k».proof.Proof.Gen.GateBwdAIdeal.Value
public import proofs.«01_k».proof.Proof.Gen.GateBwdARefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.GateBwdAIdeal.Total

open Cert.GateBwdAIdeal Cert.GateBwdAIdeal.Gen

theorem idx : ∀ t : Fin cfg0.N, win0_0.index t = ![t.val, 0] ∧ win0_1.index t = ![t.val, 0] ∧ win0_2.index t = ![t.val, 9]
    ∧ win0_3.index t = ![t.val, 0] ∧ win0_4.index t = ![t.val, 0] ∧ win0_5.index t = ![t.val, 0] := by
  decide +kernel

/-- A head's number in its lane, 0 in the lanes past the heads. -/
def lane (s : Fin 4 → EReal) (j : Fin 128) : EReal := if h : j.val < 4 then s ⟨j.val, h⟩ else 0

theorem lanes (a b c d : FVec Ideal S512x1 .f32) (r : Fin 512) (j : Fin 128) (s : Fin 4 → EReal)
    (h0 : d (ValueIdx.ix2 r (0 : Fin 1)) = s 0) (h1 : a (ValueIdx.ix2 r (0 : Fin 1)) = s 1)
    (h2 : b (ValueIdx.ix2 r (0 : Fin 1)) = s 2) (h3 : c (ValueIdx.ix2 r (0 : Fin 1)) = s 3) :
    k0_pay1 (F := Ideal) a b c (iota .tc S512x128 32 [1] iota_S512x128_d1_w32) (k0_pay13 (F := Ideal)) k0_pay14 d (ValueIdx.ix2 r j) = lane s j := by
  pointwise [k0_pay1, k0_pay13, k0_pay14]
  change Scalar.select (IntOp.cmpi CmpIPredicate.eq (BitVec.ofNat 32 j.val) 3#32) (c (ValueIdx.ix2 r (0 : Fin 1)))
      (Scalar.select (IntOp.cmpi CmpIPredicate.eq (BitVec.ofNat 32 j.val) 2#32) (b (ValueIdx.ix2 r (0 : Fin 1)))
        (Scalar.select (IntOp.cmpi CmpIPredicate.eq (BitVec.ofNat 32 j.val) 1#32) (a (ValueIdx.ix2 r (0 : Fin 1)))
          (Scalar.select (IntOp.cmpi CmpIPredicate.eq (BitVec.ofNat 32 j.val) 0#32) (d (ValueIdx.ix2 r (0 : Fin 1))) 0))) = _
  rw [h0, h1, h2, h3]
  have sel : ∀ (i : Nat) (u w : EReal), i < 4 → Scalar.select (IntOp.cmpi CmpIPredicate.eq (BitVec.ofNat 32 j.val) (BitVec.ofNat 32 i)) u w
      = if j.val = i then u else w := fun i u w hi => by
    have e : (BitVec.ofNat 32 j.val = BitVec.ofNat 32 i) ↔ j.val = i := by
      rw [← BitVec.toNat_inj, BitVec.toNat_ofNat, BitVec.toNat_ofNat]
      omega
    simp only [Scalar.select, IntOp.cmpi]
    by_cases q : j.val = i
    · simp [q]
    · simp [q, beq_eq_false_iff_ne.2 fun z => q (e.1 z)]
  rw [sel 3 _ _ (by omega), sel 2 _ _ (by omega), sel 1 _ _ (by omega), sel 0 _ _ (by omega)]
  unfold lane
  obtain ⟨j, hj⟩ := j
  by_cases h : j < 4
  · rw [dif_pos h]
    match j, h with
    | 0, _ => rfl
    | 1, _ => rfl
    | 2, _ => rfl
    | 3, _ => rfl
  · rw [dif_neg h, if_neg (show ¬ j = 3 by omega), if_neg (show ¬ j = 2 by omega), if_neg (show ¬ j = 1 by omega),
      if_neg (show ¬ j = 0 by omega)]

/-- The attention's gradient times its output, at the gradient `g` of the gated output, the output `y` and the gate `z`. -/
def prod (g y z : EReal) : EReal :=
  g * (z * Ideal.div 1 (1 + Ideal.exp (-z))) * y

/-- A head's row sum in a block of rows. -/
def bsum (x0 x1 x2 : Vec Ideal S512x512 .bf16) (r : Fin 512) (h : Fin 4) : EReal :=
  ∑ d : Fin 128, prod (x0 (ValueIdx.ix2 r ⟨h.val * 128 + d.val, by omega⟩)) (x1 (ValueIdx.ix2 r ⟨h.val * 128 + d.val, by omega⟩))
    (x2 (ValueIdx.ix2 r ⟨h.val * 128 + d.val, by omega⟩))

theorem pay9 (x0 x1 x2 : Vec Ideal S512x512 .bf16) (r j : Fin 512) :
    k0_pay9 (F := Ideal) x0 x1 x2 (ValueIdx.ix2 r j) = prod (x0 (ValueIdx.ix2 r j)) (x1 (ValueIdx.ix2 r j)) (x2 (ValueIdx.ix2 r j)) := by
  pointwise [k0_pay9, k0_pay7, k0_pay6, k0_pay5, k0_pay4]
  simp only [zero_sub]
  rfl

theorem sums0 (x0 x1 x2 : Vec Ideal S512x512 .bf16) (r : Fin 512) : k0_pay15 (F := Ideal) x0 x1 x2 (ValueIdx.ix2 r (0 : Fin 1)) = bsum x0 x1 x2 r 0 := by
  pointwise [k0_pay15]
  exact Finset.sum_congr rfl fun d _ => (congrArg (fun z => k0_pay9 (F := Ideal) x0 x1 x2 (ValueIdx.ix2 r z)) (Fin.ext (by show d.val = 0 * 128 + d.val; omega))).trans (pay9 x0 x1 x2 r _)

theorem sums1 (x0 x1 x2 : Vec Ideal S512x512 .bf16) (r : Fin 512) : k0_pay10 (F := Ideal) x0 x1 x2 (ValueIdx.ix2 r (0 : Fin 1)) = bsum x0 x1 x2 r 1 := by
  pointwise [k0_pay10]
  exact Finset.sum_congr rfl fun d _ => pay9 x0 x1 x2 r _

theorem sums2 (x0 x1 x2 : Vec Ideal S512x512 .bf16) (r : Fin 512) : k0_pay11 (F := Ideal) x0 x1 x2 (ValueIdx.ix2 r (0 : Fin 1)) = bsum x0 x1 x2 r 2 := by
  pointwise [k0_pay11]
  exact Finset.sum_congr rfl fun d _ => pay9 x0 x1 x2 r _

theorem sums3 (x0 x1 x2 : Vec Ideal S512x512 .bf16) (r : Fin 512) : k0_pay12 (F := Ideal) x0 x1 x2 (ValueIdx.ix2 r (0 : Fin 1)) = bsum x0 x1 x2 r 3 := by
  pointwise [k0_pay12]
  exact Finset.sum_congr rfl fun d _ => pay9 x0 x1 x2 r _

/-- What a block of rows writes to the third result. -/
theorem out5 (x0 x1 x2 : Vec Ideal S512x512 .bf16) (r : Fin 512) (j : Fin 128) : out0_5 x0 x1 x2 (ValueIdx.ix2 r j) = lane (bsum x0 x1 x2 r) j := by
  unfold out0_5
  rw [View.canon_unit_zero (funext fun a => by fin_cases a <;> rfl)]
  have e : ∀ a : Vec Ideal S512x512 .bf16, View.ld a r0_0 = a := fun a => View.ld_unit_zero (funext fun i => by fin_cases i <;> rfl) _ a
  rw [e x0, e x1, e x2]
  exact lanes _ _ _ _ r j _ (sums0 x0 x1 x2 r) (sums1 x0 x1 x2 r) (sums2 x0 x1 x2 r) (sums3 x0 x1 x2 r)

theorem algebraic : Cert.algebraic_GateBwdAIdeal_GateBwdARefIdeal := fun m g m' g' _ h =>
  ⟨_, _, _, Value.run_blocks m g,
    (θ_run _ _ _).mono (fun r hr c => ⟨(hr c).1.trans (by
        rw [(h c).1, (h c).2.2]
        symm
        refine (dats m 0 _).arrAt_eq_of_covers 3 _ (by decide +kernel) fun t hf y => ?_
        blk_simp
        rw [after0_3, out0_3]
        frame_out
        idx_vars y
        pointwise [k0_pay2, k0_pay7, k0_pay6, k0_pay5, k0_pay4]
        simp only [zero_sub]
        blk_point [iblk, V, idx t]), (hr c).2.1.trans (by
        rw [(h c).1, (h c).2.1, (h c).2.2]
        symm
        refine (dats m 0 _).arrAt_eq_of_covers 4 _ (by decide +kernel) fun t hf y => ?_
        blk_simp
        rw [after0_4, out0_4]
        frame_out
        idx_vars y
        pointwise [k0_pay3, k0_pay8, k0_pay6, k0_pay5, k0_pay4]
        simp only [zero_sub]
        blk_point [iblk, V, idx t]), (hr c).2.2.1.trans (by
        rw [(h c).1, (h c).2.1, (h c).2.2]
        symm
        refine (dats m 0 _).arrAt_eq_of_covers 5 _ (by decide +kernel) fun t hf y => ?_
        blk_simp
        rw [after0_5]
        obtain ⟨r, j, rfl⟩ : ∃ (r : Fin 512) (j : Fin 128), y = ValueIdx.ix2 r j := ⟨y 0, y 1, by funext a; match a with | ⟨0, _⟩ => rfl | ⟨1, _⟩ => rfl⟩
        refine (out5 _ _ _ r j).trans ?_
        have ht : t.val < 16 := t.isLt
        have e : ((View.whole main_v0_2).slice (win0_5.rect t)).emb (ValueIdx.ix2 r j) = ValueIdx.ix2 (⟨t.val * 512 + r.val, by omega⟩ : Fin 8192) j := by
          blk_ext [idx t]
        rw [e]
        pointwise []
        unfold lane
        by_cases h : j.val < 4
        · refine (dif_pos h).trans (Eq.trans ?_ (dif_pos ⟨by show t.val * 512 + r.val < 8192; omega, h⟩).symm)
          unfold bsum
          refine Finset.sum_congr rfl fun d _ => ?_
          unfold prod
          blk_point [iblk, V, idx t]
        · refine (dif_neg h).trans (Eq.trans ?_ (dif_neg fun e => h e.2).symm)
          show 0 = (((0#32).toInt : ℝ) : EReal)
          simp), (hr c).2.2.2⟩)
      (GateBwdARefIdeal.Value.run m' g')⟩

end Cert.GateBwdAIdeal.Total
-- ==== Proof.Rotary.lean ====
/-
  The rotary positions. In each head's 128 lanes the kernel multiplies a lane by the angle's cosine (1 past the rotated lanes) and
  adds the lane 16 to the right or to the left, taken by rotating the head's block, times the signed sine (0 past the rotated
  lanes); the reference rotates the two halves of the first 32 lanes and leaves the others. Both are `turn` of the head's lanes.
  The twelve heads are one concatenation of blocks of columns.
-/
module

public import proofs.«01_k».proof.Defs
public import proofs.«01_k».proof.Proof.Gen.RopeBwdIdeal.Value
public import proofs.«01_k».proof.Proof.Gen.RopeBwdRefIdeal.Run
public import Idealize.ShloMosaic.Lib.Pointwise
public import Idealize.ShloMosaic.Lib.Pipeline.ValueKit
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem

namespace Cert.RopeBwdIdeal.Total

open Cert.RopeBwdIdeal Cert.RopeBwdIdeal.Gen

/-- A head's lanes rotated: `c` and `s` are the cosine and the sine at each lane. -/
def turn (x c s : Fin 128 → EReal) (l : Fin 128) : EReal :=
  if h : l.val < 16 then x l * c l - x ⟨l.val + 16, by omega⟩ * s l
  else if l.val < 32 then x l * c l + x ⟨l.val - 16, by omega⟩ * s l
  else x l

theorem pick (l : Fin 128) (n : Nat) (hn : n < 128) (u w : EReal) :
    Scalar.select (IntOp.cmpi CmpIPredicate.slt (BitVec.ofNat 32 l.val) (BitVec.ofNat 32 n)) u w = if l.val < n then u else w := by
  have e : (BitVec.ofNat 32 l.val).toInt = l.val := by
    have := l.isLt
    rw [BitVec.toInt_eq_toNat_of_lt] <;> rw [BitVec.toNat_ofNat] <;> omega
  have e' : (BitVec.ofNat 32 n).toInt = n := by
    rw [BitVec.toInt_eq_toNat_of_lt] <;> rw [BitVec.toNat_ofNat] <;> omega
  simp only [Scalar.select, IntOp.cmpi, BitVec.slt, e, e']
  by_cases q : l.val < n
  · simp [q]
  · simp [q]

theorem slices : ∀ n : Fin 12, S256x1536.Slices ![0, n.val * 128] S256x128 := by decide

/-- The lane 16 to the right in the first 16 lanes, else the lane 16 to the left. -/
def other (v : FVec Ideal S256x128 .f32) : FVec Ideal S256x128 .f32 :=
  select (cmpi .slt (iota .tc S256x128 32 [1] iota_S256x128_d1_w32) (broadcast S256x128 16#32))
    (dynamicRotate 1 112#32 none v rotates_S256x128_d1) (dynamicRotate 1 16#32 none v rotates_S256x128_d1)

/-- A head's block of columns as the kernel rotates it. -/
def head (x : Vec Ideal S256x1536 .bf16) (c s : FVec Ideal S256x128 .f32) (n : Fin 12) : FVec Ideal S256x128 .f32 :=
  addf (mulf (extf .f32 (extractStridedSlice S256x128 ![0, n.val * 128] x (slices n)) bitsLt_bf16_f32) c)
    (mulf (other (extf .f32 (extractStridedSlice S256x128 ![0, n.val * 128] x (slices n)) bitsLt_bf16_f32)) s)

theorem other_apply (v : FVec Ideal S256x128 .f32) (r : Fin 256) (l : Fin 128) :
    other v (ValueIdx.ix2 r l) = if h : l.val < 16 then v (ValueIdx.ix2 r ⟨l.val + 16, by omega⟩) else v (ValueIdx.ix2 r ⟨l.val - 16, by omega⟩) := by
  have a := fun k => dynamicRotate_apply (s := S256x128) 1 112#32 v rotates_S256x128_d1 (ValueIdx.ix2 r l) (ValueIdx.ix2 r k)
  have b := fun k => dynamicRotate_apply (s := S256x128) 1 16#32 v rotates_S256x128_d1 (ValueIdx.ix2 r l) (ValueIdx.ix2 r k)
  have := l.isLt
  unfold other
  generalize dynamicRotate 1 112#32 none v rotates_S256x128_d1 = u at a ⊢
  generalize dynamicRotate 1 16#32 none v rotates_S256x128_d1 = w at b ⊢
  have i : select (cmpi .slt (iota .tc S256x128 32 [1] iota_S256x128_d1_w32) (broadcast S256x128 16#32)) u w (ValueIdx.ix2 r l)
      = if l.val < 16 then u (ValueIdx.ix2 r l) else w (ValueIdx.ix2 r l) := by
    pointwise []
    exact pick l 16 (by omega) _ _
  rw [i]
  by_cases h : l.val < 16
  · rw [if_pos h, dif_pos h]
    refine a _ fun i => ?_
    fin_cases i
    · rfl
    · show l.val + 16 = (l.val + 128 - 112 % 128) % 128
      omega
  · rw [if_neg h, dif_neg h]
    refine b _ fun i => ?_
    fin_cases i
    · rfl
    · show l.val - 16 = (l.val + 128 - 16 % 128) % 128
      omega

theorem head_apply (x : Vec Ideal S256x1536 .bf16) (c s : FVec Ideal S256x128 .f32) (n : Fin 12) (r : Fin 256) (l : Fin 128)
    (C S : Fin 128 → EReal) (hc : c (ValueIdx.ix2 r l) = if l.val < 32 then C l else 1)
    (hs : s (ValueIdx.ix2 r l) = if l.val < 16 then - S l else if l.val < 32 then S l else 0) :
    head x c s n (ValueIdx.ix2 r l) = turn (fun k => x (ValueIdx.ix2 r ⟨n.val * 128 + k.val, by omega⟩)) C S l := by
  have e : ∀ k : Fin 128, extractStridedSlice S256x128 ![0, n.val * 128] x (slices n) (ValueIdx.ix2 r k)
      = x (ValueIdx.ix2 r ⟨n.val * 128 + k.val, by omega⟩) := fun k => by
    pointwise []
    rfl
  change extractStridedSlice S256x128 ![0, n.val * 128] x (slices n) (ValueIdx.ix2 r l) * c (ValueIdx.ix2 r l)
    + other (extractStridedSlice S256x128 ![0, n.val * 128] x (slices n)) (ValueIdx.ix2 r l) * s (ValueIdx.ix2 r l) = _
  rw [other_apply, hc, hs]
  unfold turn
  by_cases h : l.val < 16
  · rw [dif_pos h, dif_pos h, if_pos h, if_pos (by omega), e, e, mul_neg, sub_eq_add_neg]
  · by_cases h' : l.val < 32
    · rw [dif_neg h, dif_neg h, if_neg h, if_pos h', if_pos h', if_pos h', e, e]
    · rw [dif_neg h, dif_neg h, if_neg h, if_neg h', if_neg h', if_neg h', e, e, mul_zero, mul_one, add_zero]

theorem concats (x : Vec Ideal S256x1536 .bf16) (c s : FVec Ideal S256x128 .f32) :
    Shape.Concatenates ((List.ofFn fun n : Fin 12 => (⟨S256x128, head x c s n⟩ : (s : Shape) × FVec Ideal s .f32)).map (·.1)) S256x1536 1 :=
  show Shape.Concatenates [S256x128, S256x128, S256x128, S256x128, S256x128, S256x128, S256x128, S256x128, S256x128, S256x128, S256x128, S256x128]
    S256x1536 1 by decide

/-- The twelve heads' blocks side by side. -/
def heads (x : Vec Ideal S256x1536 .bf16) (c s : FVec Ideal S256x128 .f32) : FVec Ideal S256x1536 .f32 :=
  concatenate S256x1536 1 (List.ofFn fun n : Fin 12 => (⟨S256x128, head x c s n⟩ : (s : Shape) × FVec Ideal s .f32)) (concats x c s)

theorem heads_apply (x : Vec Ideal S256x1536 .bf16) (c s : FVec Ideal S256x128 .f32) (r : Fin 256) (j : Fin 1536) :
    heads x c s (ValueIdx.ix2 r j) = head x c s ⟨j.val / 128, by omega⟩ (ValueIdx.ix2 r ⟨j.val % 128, by omega⟩) := by
  refine concatenate_ofFn_apply (t := S256x1536) (s₁ := S256x128) 1 (head x c s) (concats x c s) rfl 128 rfl _ _ rfl _ rfl fun b hb => ?_
  fin_cases b
  · rfl
  · exact absurd rfl hb

theorem cosines (p : Vec Ideal S256x1 .i32) (v : Vec Ideal S1x128 .f32) (r : Fin 256) (l : Fin 128) :
    k0_pay3 (F := Ideal) p v (ValueIdx.ix2 r l)
      = if l.val < 32 then Ideal.cos (FloatOps.sitofp (F := Ideal) FTy.f32 (p (ValueIdx.ix2 r (0 : Fin 1))) * v (ValueIdx.ix2 (0 : Fin 1) l)) else 1 := by
  pointwise [k0_pay3, k0_pay2]
  exact pick l 32 (by omega) _ _

theorem sines (p : Vec Ideal S256x1 .i32) (v : Vec Ideal S1x128 .f32) (r : Fin 256) (l : Fin 128) :
    k0_pay4 (F := Ideal) p v (ValueIdx.ix2 r l)
      = if l.val < 16 then - Ideal.sin (FloatOps.sitofp (F := Ideal) FTy.f32 (p (ValueIdx.ix2 r (0 : Fin 1))) * v (ValueIdx.ix2 (0 : Fin 1) l))
        else if l.val < 32 then Ideal.sin (FloatOps.sitofp (F := Ideal) FTy.f32 (p (ValueIdx.ix2 r (0 : Fin 1))) * v (ValueIdx.ix2 (0 : Fin 1) l)) else 0 := by
  pointwise [k0_pay4, k0_pay2]
  simp only [zero_sub]
  exact (pick l 16 (by omega) _ _).trans (congrArg _ (pick l 32 (by omega) _ _))

theorem out4 (x0 x1 : Vec Ideal S256x1536 .bf16) (p : Vec Ideal S256x1 .i32) (v : Vec Ideal S1x128 .f32) (r : Fin 256) (j : Fin 1536) :
    out0_4 x0 x1 p v (ValueIdx.ix2 r j) = heads x0 (k0_pay3 (F := Ideal) p v) (k0_pay5 (F := Ideal) p v) (ValueIdx.ix2 r j) := by
  unfold out0_4
  rw [View.canon_unit_zero (funext fun a => by fin_cases a <;> rfl)]
  have e : ∀ a : Vec Ideal S256x1536 .bf16, View.ld a r0_0 = a := fun a => View.ld_unit_zero (funext fun i => by fin_cases i <;> rfl) _ a
  have e1 : View.ld p r0_1 = p := View.ld_unit_zero (funext fun i => by fin_cases i <;> rfl) _ p
  have e2 : View.ld v r0_2 = v := View.ld_unit_zero (funext fun i => by fin_cases i <;> rfl) _ v
  unfold k0_pay38 k0_pay39 k0_pay41
  rw [e x0, e1, e2]
  rfl

theorem out5 (x0 x1 : Vec Ideal S256x1536 .bf16) (p : Vec Ideal S256x1 .i32) (v : Vec Ideal S1x128 .f32) (r : Fin 256) (j : Fin 1536) :
    out0_5 x0 x1 p v (ValueIdx.ix2 r j) = heads x1 (k0_pay3 (F := Ideal) p v) (k0_pay5 (F := Ideal) p v) (ValueIdx.ix2 r j) := by
  unfold out0_5
  rw [View.canon_unit_zero (funext fun a => by fin_cases a <;> rfl)]
  have e : ∀ a : Vec Ideal S256x1536 .bf16, View.ld a r0_0 = a := fun a => View.ld_unit_zero (funext fun i => by fin_cases i <;> rfl) _ a
  have e1 : View.ld p r0_1 = p := View.ld_unit_zero (funext fun i => by fin_cases i <;> rfl) _ p
  have e2 : View.ld v r0_2 = v := View.ld_unit_zero (funext fun i => by fin_cases i <;> rfl) _ v
  unfold k0_pay42 k0_pay38 k0_pay39 k0_pay40
  rw [e x1, e1, e2]
  rfl

/-- A lane's angle. -/
def angle (p : Vec Ideal S256x1 .i32) (v : Vec Ideal S1x128 .f32) (r : Fin 256) (l : Fin 128) : EReal :=
  FloatOps.sitofp (F := Ideal) FTy.f32 (p (ValueIdx.ix2 r (0 : Fin 1))) * v (ValueIdx.ix2 (0 : Fin 1) l)

theorem back (p : Vec Ideal S256x1 .i32) (v : Vec Ideal S1x128 .f32) (r : Fin 256) (l : Fin 128) :
    k0_pay5 (F := Ideal) p v (ValueIdx.ix2 r l)
      = if l.val < 16 then - - Ideal.sin (angle p v r l) else if l.val < 32 then - Ideal.sin (angle p v r l) else 0 := by
  pointwise [k0_pay5]
  rw [zero_sub, sines]
  unfold angle
  split_ifs
  · rfl
  · rfl
  · exact neg_zero

theorem heads_turn (x : Vec Ideal S256x1536 .bf16) (p : Vec Ideal S256x1 .i32) (v : Vec Ideal S1x128 .f32) (r : Fin 256) (j : Fin 1536) :
    heads x (k0_pay3 (F := Ideal) p v) (k0_pay5 (F := Ideal) p v) (ValueIdx.ix2 r j)
      = turn (fun k => x (ValueIdx.ix2 r ⟨j.val / 128 * 128 + k.val, by omega⟩)) (fun l => Ideal.cos (angle p v r l))
        (fun l => - Ideal.sin (angle p v r l)) ⟨j.val % 128, by omega⟩ :=
  (heads_apply x _ _ r j).trans (head_apply x _ _ _ r _ _ _ (cosines p v r _) (back p v r _))

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] := by
  decide +kernel

theorem turn_ref (X : Fin 1536 → EReal) (C S : Fin 128 → EReal) (j : Fin 1536) :
    turn (fun k => X ⟨j.val / 128 * 128 + k.val, by omega⟩) C S ⟨j.val % 128, by omega⟩
      = if h : j.val % 128 < 16 then X j * C ⟨j.val % 128, by omega⟩ - X ⟨j.val / 128 * 128 + (16 + j.val % 128), by omega⟩ * S ⟨j.val % 128, by omega⟩
        else if h : j.val % 128 - 16 < 16 then
          X ⟨j.val / 128 * 128 + (16 + (j.val % 128 - 16)), by omega⟩ * C ⟨16 + (j.val % 128 - 16), by omega⟩
            + X ⟨j.val / 128 * 128 + (j.val % 128 - 16), by omega⟩ * S ⟨16 + (j.val % 128 - 16), by omega⟩
        else X ⟨j.val / 128 * 128 + (32 + (j.val % 128 - 16 - 16)), by omega⟩ := by
  have e : (⟨j.val / 128 * 128 + j.val % 128, by omega⟩ : Fin 1536) = j := Fin.ext (by show j.val / 128 * 128 + j.val % 128 = j.val; omega)
  unfold turn
  by_cases q : j.val % 128 < 16
  · rw [dif_pos q, dif_pos q]
    simp only [e]
    rw [show (⟨j.val / 128 * 128 + (j.val % 128 + 16), by omega⟩ : Fin 1536) = ⟨j.val / 128 * 128 + (16 + j.val % 128), by omega⟩
      from Fin.ext (by show j.val / 128 * 128 + (j.val % 128 + 16) = j.val / 128 * 128 + (16 + j.val % 128); omega)]
  · rw [dif_neg q, dif_neg q]
    by_cases q' : j.val % 128 < 32
    · have a : 16 + (j.val % 128 - 16) = j.val % 128 := by omega
      rw [if_pos q', dif_pos (show j.val % 128 - 16 < 16 by omega)]
      simp only [a]
    · have a : 32 + (j.val % 128 - 16 - 16) = j.val % 128 := by omega
      rw [if_neg q', dif_neg (show ¬ j.val % 128 - 16 < 16 by omega)]
      simp only [a]

section blocks

variable (m : (ℓ : Loc nD τ sig) → Buf (Elt Ideal) ℓ) (c : Dev nD) (t : Fin cfg0.N) (r : Fin 256)

theorem rows_main_arg0 (k : Fin 1536) (hr : t.val * 256 + r.val < 8192) :
    iblk m c 0 t (ValueIdx.ix2 r k) = m ((c.tc : Thread nD τ).loc main_arg0) (ValueIdx.ix2 (⟨t.val * 256 + r.val, hr⟩ : Fin 8192) k) := by
  blk_point [iblk, V, idx t]

theorem rows_main_arg1 (k : Fin 1536) (hr : t.val * 256 + r.val < 8192) :
    iblk m c 1 t (ValueIdx.ix2 r k) = m ((c.tc : Thread nD τ).loc main_arg1) (ValueIdx.ix2 (⟨t.val * 256 + r.val, hr⟩ : Fin 8192) k) := by
  blk_point [iblk, V, idx t]

theorem angle_block (hr : t.val * 256 + r.val < 8192) : angle (iblk m c 2 t) (iblk m c 3 t) r
    = fun l => FloatOps.sitofp (F := Ideal) FTy.f32 (m ((c.tc : Thread nD τ).loc main_arg2) (ValueIdx.ix2 (⟨t.val * 256 + r.val, hr⟩ : Fin 8192) (0 : Fin 1)))
      * m ((c.tc : Thread nD τ).loc main_arg3) (ValueIdx.ix2 (0 : Fin 1) l) := by
  funext l
  unfold angle
  refine congrArg₂ (· * ·) (congrArg (FloatOps.sitofp (F := Ideal) FTy.f32) ?_) ?_
  · blk_point [iblk, V, idx t]
  · blk_point [iblk, V, idx t]

end blocks

theorem minus_one : Ideal.ofBits .f32 0xBF800000#32 = -1 := by
  simp [Ideal.ofBits, Ideal.ieee]
  rw [← EReal.coe_mul]
  norm_num

theorem algebraic : Cert.algebraic_RopeBwdIdeal_RopeBwdRefIdeal := fun m g m' g' _ h =>
  ⟨_, _, Value.run_blocks m g,
    (θ_run _ _ _).mono (fun r hr c => ⟨(hr c).1.trans (by
        rw [(h c).1, (h c).2.2.1, (h c).2.2.2]
        symm
        refine (dats m 0 _).arrAt_eq_of_covers 4 _ (by decide +kernel) fun t hf y => ?_
        blk_simp
        rw [after0_4]
        obtain ⟨r, j, rfl⟩ : ∃ (r : Fin 256) (j : Fin 1536), y = ValueIdx.ix2 r j := ⟨y 0, y 1, by funext a; match a with | ⟨0, _⟩ => rfl | ⟨1, _⟩ => rfl⟩
        refine ((out4 _ _ _ _ r j).trans (heads_turn _ _ _ r j)).trans ?_
        have ht : t.val < 32 := t.isLt
        have e : ((View.whole main_v0_0).slice (win0_4.rect t)).emb (ValueIdx.ix2 r j) = ValueIdx.ix2 (⟨t.val * 256 + r.val, by omega⟩ : Fin 8192) j := by
          blk_ext [idx t]
        rw [e]
        refine Eq.trans ?_ (Eq.trans (turn_ref (fun z => m ((c.tc : Thread nD τ).loc main_arg0) (ValueIdx.ix2 (⟨t.val * 256 + r.val, by omega⟩ : Fin 8192) z))
          (fun l => Ideal.cos (FloatOps.sitofp (F := Ideal) FTy.f32 (m ((c.tc : Thread nD τ).loc main_arg2) (ValueIdx.ix2 (⟨t.val * 256 + r.val, by omega⟩ : Fin 8192) (0 : Fin 1))) * m ((c.tc : Thread nD τ).loc main_arg3) (ValueIdx.ix2 (0 : Fin 1) l)))
          (fun l => Ideal.ofBits .f32 0xBF800000#32 * Ideal.sin (FloatOps.sitofp (F := Ideal) FTy.f32 (m ((c.tc : Thread nD τ).loc main_arg2) (ValueIdx.ix2 (⟨t.val * 256 + r.val, by omega⟩ : Fin 8192) (0 : Fin 1))) * m ((c.tc : Thread nD τ).loc main_arg3) (ValueIdx.ix2 (0 : Fin 1) l))) j) ?_)
        · rw [minus_one]
          simp only [neg_mul, one_mul]
          rw [angle_block m c t r (by omega)]
          exact congrArg (fun f => turn f _ _ _) (funext fun k => rows_main_arg0 m c t r _ (by omega))
        · symm
          pointwise []
          rfl), (hr c).2.1.trans (by
        rw [(h c).2.1, (h c).2.2.1, (h c).2.2.2]
        symm
        refine (dats m 0 _).arrAt_eq_of_covers 5 _ (by decide +kernel) fun t hf y => ?_
        blk_simp
        rw [after0_5]
        obtain ⟨r, j, rfl⟩ : ∃ (r : Fin 256) (j : Fin 1536), y = ValueIdx.ix2 r j := ⟨y 0, y 1, by funext a; match a with | ⟨0, _⟩ => rfl | ⟨1, _⟩ => rfl⟩
        refine ((out5 _ _ _ _ r j).trans (heads_turn _ _ _ r j)).trans ?_
        have ht : t.val < 32 := t.isLt
        have e : ((View.whole main_v0_1).slice (win0_5.rect t)).emb (ValueIdx.ix2 r j) = ValueIdx.ix2 (⟨t.val * 256 + r.val, by omega⟩ : Fin 8192) j := by
          blk_ext [idx t]
        rw [e]
        refine Eq.trans ?_ (Eq.trans (turn_ref (fun z => m ((c.tc : Thread nD τ).loc main_arg1) (ValueIdx.ix2 (⟨t.val * 256 + r.val, by omega⟩ : Fin 8192) z))
          (fun l => Ideal.cos (FloatOps.sitofp (F := Ideal) FTy.f32 (m ((c.tc : Thread nD τ).loc main_arg2) (ValueIdx.ix2 (⟨t.val * 256 + r.val, by omega⟩ : Fin 8192) (0 : Fin 1))) * m ((c.tc : Thread nD τ).loc main_arg3) (ValueIdx.ix2 (0 : Fin 1) l)))
          (fun l => Ideal.ofBits .f32 0xBF800000#32 * Ideal.sin (FloatOps.sitofp (F := Ideal) FTy.f32 (m ((c.tc : Thread nD τ).loc main_arg2) (ValueIdx.ix2 (⟨t.val * 256 + r.val, by omega⟩ : Fin 8192) (0 : Fin 1))) * m ((c.tc : Thread nD τ).loc main_arg3) (ValueIdx.ix2 (0 : Fin 1) l))) j) ?_)
        · rw [minus_one]
          simp only [neg_mul, one_mul]
          rw [angle_block m c t r (by omega)]
          exact congrArg (fun f => turn f _ _ _) (funext fun k => rows_main_arg1 m c t r _ (by omega))
        · symm
          pointwise []
          rfl), (hr c).2.2⟩)
      (RopeBwdRefIdeal.Value.run m' g')⟩

end Cert.RopeBwdIdeal.Total
-- ==== Proof.lean ====
/-
  The claims, from the runs of the programs and of their references.
-/
module

public import proofs.«01_k».proof.Defs
public import proofs.«01_k».proof.Proof.Gen.Share
public import proofs.«01_k».proof.Proof.Gen.ShareIdeal
public import proofs.«01_k».proof.Proof.Gen.ShareRefIdeal
public import proofs.«01_k».proof.Proof.Gen.ShareRef
public import proofs.«01_k».proof.Proof.Gen.Swap
public import proofs.«01_k».proof.Proof.Gen.SwapIdeal
public import proofs.«01_k».proof.Proof.Gen.SwapRefIdeal
public import proofs.«01_k».proof.Proof.Gen.SwapRef
public import proofs.«01_k».proof.Proof.Gen.Scatter
public import proofs.«01_k».proof.Proof.Gen.ScatterIdeal
public import proofs.«01_k».proof.Proof.Gen.ScatterRefIdeal
public import proofs.«01_k».proof.Proof.Gen.ScatterRef
public import proofs.«01_k».proof.Proof.Gen.Gather
public import proofs.«01_k».proof.Proof.Gen.GatherIdeal
public import proofs.«01_k».proof.Proof.Gen.GatherRefIdeal
public import proofs.«01_k».proof.Proof.Gen.GatherRef
public import proofs.«01_k».proof.Proof.ShareRef
public import proofs.«01_k».proof.Proof.SwapRef
public import proofs.«01_k».proof.Proof.ScatterRef
public import proofs.«01_k».proof.Proof.GatherRef
public import proofs.«01_k».proof.Proof.Gen.AdamIn
public import proofs.«01_k».proof.Proof.Gen.AdamInIdeal
public import proofs.«01_k».proof.Proof.Gen.AdamInRefIdeal
public import proofs.«01_k».proof.Proof.Gen.AdamInIdeal.Value
public import proofs.«01_k».proof.Proof.Gen.AdamIn.Frame
public import proofs.«01_k».proof.Proof.Gen.AdamInRefIdeal.Run
public import proofs.«01_k».proof.Proof.Gen.AdamSquare
public import proofs.«01_k».proof.Proof.Gen.AdamSquareIdeal
public import proofs.«01_k».proof.Proof.Gen.AdamSquareRefIdeal
public import proofs.«01_k».proof.Proof.Gen.AdamSquareIdeal.Value
public import proofs.«01_k».proof.Proof.Gen.AdamSquare.Frame
public import proofs.«01_k».proof.Proof.Gen.AdamSquareRefIdeal.Run
public import proofs.«01_k».proof.Proof.Gen.AdamBranch
public import proofs.«01_k».proof.Proof.Gen.AdamBranchIdeal
public import proofs.«01_k».proof.Proof.Gen.AdamBranchRefIdeal
public import proofs.«01_k».proof.Proof.Gen.AdamBranchIdeal.Value
public import proofs.«01_k».proof.Proof.Gen.AdamBranch.Frame
public import proofs.«01_k».proof.Proof.Gen.AdamBranchRefIdeal.Run
public import proofs.«01_k».proof.Proof.Gen.AdamSmall
public import proofs.«01_k».proof.Proof.Gen.AdamSmallIdeal
public import proofs.«01_k».proof.Proof.Gen.AdamSmallRefIdeal
public import proofs.«01_k».proof.Proof.Gen.AdamSmallIdeal.Value
public import proofs.«01_k».proof.Proof.Gen.AdamSmall.Frame
public import proofs.«01_k».proof.Proof.Gen.AdamSmallRefIdeal.Run
public import proofs.«01_k».proof.Proof.Gen.AddPair
public import proofs.«01_k».proof.Proof.Gen.AddPairIdeal
public import proofs.«01_k».proof.Proof.Gen.AddPairRefIdeal
public import proofs.«01_k».proof.Proof.Gen.AddPairIdeal.Value
public import proofs.«01_k».proof.Proof.Gen.AddPair.Frame
public import proofs.«01_k».proof.Proof.Gen.AddPairRefIdeal.Run
public import proofs.«01_k».proof.Proof.Gen.AddChips
public import proofs.«01_k».proof.Proof.Gen.AddChipsIdeal
public import proofs.«01_k».proof.Proof.Gen.AddChipsRefIdeal
public import proofs.«01_k».proof.Proof.Gen.AddChipsIdeal.Value
public import proofs.«01_k».proof.Proof.Gen.AddChips.Frame
public import proofs.«01_k».proof.Proof.Gen.AddChipsRefIdeal.Run
public import proofs.«01_k».proof.Proof.Gen.Tail
public import proofs.«01_k».proof.Proof.Gen.TailIdeal
public import proofs.«01_k».proof.Proof.Gen.TailRefIdeal
public import proofs.«01_k».proof.Proof.Gen.TailIdeal.Value
public import proofs.«01_k».proof.Proof.Gen.Tail.Frame
public import proofs.«01_k».proof.Proof.Gen.TailRefIdeal.Run
public import proofs.«01_k».proof.Proof.Gen.PreBwd
public import proofs.«01_k».proof.Proof.Gen.PreBwdIdeal
public import proofs.«01_k».proof.Proof.Gen.PreBwdRefIdeal
public import proofs.«01_k».proof.Proof.Gen.PreBwdIdeal.Value
public import proofs.«01_k».proof.Proof.Gen.PreBwd.Frame
public import proofs.«01_k».proof.Proof.Gen.PreBwdRefIdeal.Run
public import proofs.«01_k».proof.Proof.Gen.GradMem
public import proofs.«01_k».proof.Proof.Gen.GradMemIdeal
public import proofs.«01_k».proof.Proof.Gen.GradMemRefIdeal
public import proofs.«01_k».proof.Proof.Gen.GradMemIdeal.Value
public import proofs.«01_k».proof.Proof.Gen.GradMem.Frame
public import proofs.«01_k».proof.Proof.Gen.GradMemRefIdeal.Run
public import proofs.«01_k».proof.Proof.Gen.GradOut
public import proofs.«01_k».proof.Proof.Gen.GradOutIdeal
public import proofs.«01_k».proof.Proof.Gen.GradOutRefIdeal
public import proofs.«01_k».proof.Proof.Gen.GradOutIdeal.Value
public import proofs.«01_k».proof.Proof.Gen.GradOut.Frame
public import proofs.«01_k».proof.Proof.Gen.GradOutRefIdeal.Run
public import proofs.«01_k».proof.Proof.Gen.GradBranch
public import proofs.«01_k».proof.Proof.Gen.GradBranchIdeal
public import proofs.«01_k».proof.Proof.Gen.GradBranchRefIdeal
public import proofs.«01_k».proof.Proof.Gen.GradBranchIdeal.Value
public import proofs.«01_k».proof.Proof.Gen.GradBranch.Frame
public import proofs.«01_k».proof.Proof.Gen.GradBranchRefIdeal.Run
public import proofs.«01_k».proof.Proof.Gen.GradMain
public import proofs.«01_k».proof.Proof.Gen.GradMainIdeal
public import proofs.«01_k».proof.Proof.Gen.GradMainRefIdeal
public import proofs.«01_k».proof.Proof.Gen.GradMainIdeal.Value
public import proofs.«01_k».proof.Proof.Gen.GradMain.Frame
public import proofs.«01_k».proof.Proof.Gen.GradMainRefIdeal.Run
public import proofs.«01_k».proof.Proof.Gen.GradFb
public import proofs.«01_k».proof.Proof.Gen.GradFbIdeal
public import proofs.«01_k».proof.Proof.Gen.GradFbRefIdeal
public import proofs.«01_k».proof.Proof.Gen.GradFbIdeal.Value
public import proofs.«01_k».proof.Proof.Gen.GradFb.Frame
public import proofs.«01_k».proof.Proof.Gen.GradFbRefIdeal.Run
public import proofs.«01_k».proof.Proof.Gen.NormMem
public import proofs.«01_k».proof.Proof.Gen.NormMemIdeal
public import proofs.«01_k».proof.Proof.Gen.NormMemRefIdeal
public import proofs.«01_k».proof.Proof.Gen.NormMemIdeal.Value
public import proofs.«01_k».proof.Proof.Gen.NormMem.Frame
public import proofs.«01_k».proof.Proof.Gen.NormMemRefIdeal.Run
public import proofs.«01_k».proof.Proof.Gen.MergeBwd
public import proofs.«01_k».proof.Proof.Gen.MergeBwdIdeal
public import proofs.«01_k».proof.Proof.Gen.MergeBwdRefIdeal
public import proofs.«01_k».proof.Proof.Gen.MergeBwdIdeal.Value
public import proofs.«01_k».proof.Proof.Gen.MergeBwd.Frame
public import proofs.«01_k».proof.Proof.Gen.MergeBwdRefIdeal.Run
public import proofs.«01_k».proof.Proof.Gen.NormPre
public import proofs.«01_k».proof.Proof.Gen.NormPreIdeal
public import proofs.«01_k».proof.Proof.Gen.NormPreRefIdeal
public import proofs.«01_k».proof.Proof.Gen.NormPreIdeal.Value
public import proofs.«01_k».proof.Proof.Gen.NormPre.Frame
public import proofs.«01_k».proof.Proof.Gen.NormPreRefIdeal.Run
public import proofs.«01_k».proof.Proof.Gen.NormKv
public import proofs.«01_k».proof.Proof.Gen.NormKvIdeal
public import proofs.«01_k».proof.Proof.Gen.NormKvRefIdeal
public import proofs.«01_k».proof.Proof.Gen.NormKvIdeal.Value
public import proofs.«01_k».proof.Proof.Gen.NormKv.Frame
public import proofs.«01_k».proof.Proof.Gen.NormKvRefIdeal.Run
public import proofs.«01_k».proof.Proof.Gen.ProjIn
public import proofs.«01_k».proof.Proof.Gen.ProjInIdeal
public import proofs.«01_k».proof.Proof.Gen.ProjInRefIdeal
public import proofs.«01_k».proof.Proof.Gen.ProjInIdeal.Value
public import proofs.«01_k».proof.Proof.Gen.ProjIn.Frame
public import proofs.«01_k».proof.Proof.Gen.ProjInRefIdeal.Run
public import proofs.«01_k».proof.Proof.Gen.ProjFb
public import proofs.«01_k».proof.Proof.Gen.ProjFbIdeal
public import proofs.«01_k».proof.Proof.Gen.ProjFbRefIdeal
public import proofs.«01_k».proof.Proof.Gen.ProjFbIdeal.Value
public import proofs.«01_k».proof.Proof.Gen.ProjFb.Frame
public import proofs.«01_k».proof.Proof.Gen.ProjFbRefIdeal.Run
public import proofs.«01_k».proof.Proof.Gen.ProjMem
public import proofs.«01_k».proof.Proof.Gen.ProjMemIdeal
public import proofs.«01_k».proof.Proof.Gen.ProjMemRefIdeal
public import proofs.«01_k».proof.Proof.Gen.ProjMemIdeal.Value
public import proofs.«01_k».proof.Proof.Gen.ProjMem.Frame
public import proofs.«01_k».proof.Proof.Gen.ProjMemRefIdeal.Run
public import proofs.«01_k».proof.Proof.Gen.ProjBranch
public import proofs.«01_k».proof.Proof.Gen.ProjBranchIdeal
public import proofs.«01_k».proof.Proof.Gen.ProjBranchRefIdeal
public import proofs.«01_k».proof.Proof.Gen.ProjBranchIdeal.Value
public import proofs.«01_k».proof.Proof.Gen.ProjBranch.Frame
public import proofs.«01_k».proof.Proof.Gen.ProjBranchRefIdeal.Run
public import proofs.«01_k».proof.Proof.Gen.ProjOut
public import proofs.«01_k».proof.Proof.Gen.ProjOutIdeal
public import proofs.«01_k».proof.Proof.Gen.ProjOutRefIdeal
public import proofs.«01_k».proof.Proof.Gen.ProjOutIdeal.Value
public import proofs.«01_k».proof.Proof.Gen.ProjOut.Frame
public import proofs.«01_k».proof.Proof.Gen.ProjOutRefIdeal.Run
public import proofs.«01_k».proof.Proof.Gen.BackMerged
public import proofs.«01_k».proof.Proof.Gen.BackMergedIdeal
public import proofs.«01_k».proof.Proof.Gen.BackMergedRefIdeal
public import proofs.«01_k».proof.Proof.Gen.BackMergedIdeal.Value
public import proofs.«01_k».proof.Proof.Gen.BackMerged.Frame
public import proofs.«01_k».proof.Proof.Gen.BackMergedRefIdeal.Run
public import proofs.«01_k».proof.Proof.Gen.BackBranch
public import proofs.«01_k».proof.Proof.Gen.BackBranchIdeal
public import proofs.«01_k».proof.Proof.Gen.BackBranchRefIdeal
public import proofs.«01_k».proof.Proof.Gen.BackBranchIdeal.Value
public import proofs.«01_k».proof.Proof.Gen.BackBranch.Frame
public import proofs.«01_k».proof.Proof.Gen.BackBranchRefIdeal.Run
public import proofs.«01_k».proof.Proof.Gen.BackMem
public import proofs.«01_k».proof.Proof.Gen.BackMemIdeal
public import proofs.«01_k».proof.Proof.Gen.BackMemRefIdeal
public import proofs.«01_k».proof.Proof.Gen.BackMemIdeal.Value
public import proofs.«01_k».proof.Proof.Gen.BackMem.Frame
public import proofs.«01_k».proof.Proof.Gen.BackMemRefIdeal.Run
public import proofs.«01_k».proof.Proof.Gen.BackIn
public import proofs.«01_k».proof.Proof.Gen.BackInIdeal
public import proofs.«01_k».proof.Proof.Gen.BackInRefIdeal
public import proofs.«01_k».proof.Proof.Gen.BackInIdeal.Value
public import proofs.«01_k».proof.Proof.Gen.BackIn.Frame
public import proofs.«01_k».proof.Proof.Gen.BackInRefIdeal.Run
public import proofs.«01_k».proof.Proof.Gen.BackFb
public import proofs.«01_k».proof.Proof.Gen.BackFbIdeal
public import proofs.«01_k».proof.Proof.Gen.BackFbRefIdeal
public import proofs.«01_k».proof.Proof.Gen.BackFbIdeal.Value
public import proofs.«01_k».proof.Proof.Gen.BackFb.Frame
public import proofs.«01_k».proof.Proof.Gen.BackFbRefIdeal.Run
public import proofs.«01_k».proof.Proof.Gen.GateB
public import proofs.«01_k».proof.Proof.Gen.GateBIdeal
public import proofs.«01_k».proof.Proof.Gen.GateBRefIdeal
public import proofs.«01_k».proof.Proof.Gen.GateBIdeal.Value
public import proofs.«01_k».proof.Proof.Gen.GateB.Frame
public import proofs.«01_k».proof.Proof.Gen.GateBRefIdeal.Run
public import proofs.«01_k».proof.Proof.Gen.GateM
public import proofs.«01_k».proof.Proof.Gen.GateMIdeal
public import proofs.«01_k».proof.Proof.Gen.GateMRefIdeal
public import proofs.«01_k».proof.Proof.Gen.GateMIdeal.Value
public import proofs.«01_k».proof.Proof.Gen.GateM.Frame
public import proofs.«01_k».proof.Proof.Gen.GateMRefIdeal.Run
public import proofs.«01_k».proof.Proof.Gen.GateBwdB
public import proofs.«01_k».proof.Proof.Gen.GateBwdBIdeal
public import proofs.«01_k».proof.Proof.Gen.GateBwdBRefIdeal
public import proofs.«01_k».proof.Proof.Gen.GateBwdBIdeal.Value
public import proofs.«01_k».proof.Proof.Gen.GateBwdB.Frame
public import proofs.«01_k».proof.Proof.Gen.GateBwdBRefIdeal.Run
public import proofs.«01_k».proof.Proof.Gen.GateBwdM
public import proofs.«01_k».proof.Proof.Gen.GateBwdMIdeal
public import proofs.«01_k».proof.Proof.Gen.GateBwdMRefIdeal
public import proofs.«01_k».proof.Proof.Gen.GateBwdMIdeal.Value
public import proofs.«01_k».proof.Proof.Gen.GateBwdM.Frame
public import proofs.«01_k».proof.Proof.Gen.GateBwdMRefIdeal.Run
public import proofs.«01_k».proof.Proof.Gen.Merge
public import proofs.«01_k».proof.Proof.Gen.MergeIdeal
public import proofs.«01_k».proof.Proof.Gen.MergeRefIdeal
public import proofs.«01_k».proof.Proof.Gen.MergeIdeal.Value
public import proofs.«01_k».proof.Proof.Gen.Merge.Frame
public import proofs.«01_k».proof.Proof.Gen.MergeRefIdeal.Run
public import proofs.«01_k».proof.Proof.Gen.FoxDelta
public import proofs.«01_k».proof.Proof.Gen.FoxDeltaIdeal
public import proofs.«01_k».proof.Proof.Gen.FoxDeltaRefIdeal
public import proofs.«01_k».proof.Proof.Gen.FoxDeltaIdeal.Value
public import proofs.«01_k».proof.Proof.Gen.FoxDelta.Frame
public import proofs.«01_k».proof.Proof.Gen.FoxDeltaRefIdeal.Run
public import proofs.«01_k».proof.Proof.Gen.GateBwdA
public import proofs.«01_k».proof.Proof.Gen.GateBwdAIdeal
public import proofs.«01_k».proof.Proof.Gen.GateBwdARefIdeal
public import proofs.«01_k».proof.Proof.Gen.GateBwdAIdeal.Value
public import proofs.«01_k».proof.Proof.Gen.GateBwdA.Frame
public import proofs.«01_k».proof.Proof.Gen.GateBwdARefIdeal.Run
public import proofs.«01_k».proof.Proof.Gen.RopeBwd
public import proofs.«01_k».proof.Proof.Gen.RopeBwdIdeal
public import proofs.«01_k».proof.Proof.Gen.RopeBwdRefIdeal
public import proofs.«01_k».proof.Proof.Gen.RopeBwdIdeal.Value
public import proofs.«01_k».proof.Proof.Gen.RopeBwd.Frame
public import proofs.«01_k».proof.Proof.Gen.RopeBwdRefIdeal.Run
public import proofs.«01_k».proof.Proof.Gen.FoxBwd
public import proofs.«01_k».proof.Proof.Gen.FoxBwdIdeal
public import proofs.«01_k».proof.Proof.Gen.FoxBwdRefIdeal
public import proofs.«01_k».proof.Proof.Gen.FoxBwdIdeal.Frame
public import proofs.«01_k».proof.Proof.Gen.FoxBwd.Frame
public import proofs.«01_k».proof.Proof.Gen.FoxBwdRefIdeal.Run
public import proofs.«01_k».proof.Proof.Gen.MemFwd
public import proofs.«01_k».proof.Proof.Gen.MemFwdIdeal
public import proofs.«01_k».proof.Proof.Gen.MemFwdRefIdeal
public import proofs.«01_k».proof.Proof.Gen.MemFwdIdeal.Value
public import proofs.«01_k».proof.Proof.Gen.MemFwd.Frame
public import proofs.«01_k».proof.Proof.Gen.MemFwdRefIdeal.Run
public import proofs.«01_k».proof.Proof.Adam
public import proofs.«01_k».proof.Proof.Sums
public import proofs.«01_k».proof.Proof.Grads
public import proofs.«01_k».proof.Proof.Norms
public import proofs.«01_k».proof.Proof.Tail
public import proofs.«01_k».proof.Proof.MergeBwd
public import proofs.«01_k».proof.Proof.FoxBwd
public import proofs.«01_k».proof.Proof.Products
public import proofs.«01_k».proof.Proof.Gates
public import proofs.«01_k».proof.Proof.Memory
public import proofs.«01_k».proof.Proof.Delta
public import proofs.«01_k».proof.Proof.Rotary

@[expose] public section

noncomputable section

namespace Cert.Proof

open Idealize.ShloMosaic Idealize.SL.Sem

theorem share_frame : Cert.quiescent_Share := fun m g _ =>
  (θ_run _ _ _).mono (fun _ h => ⟨fun c => (h.1 c).2, h.2⟩) (Share.run (F := Bits) m g)
theorem share_ideal_frame : Cert.quiescent_ShareIdeal := fun m g _ =>
  (θ_run _ _ _).mono (fun _ h => ⟨fun c => (h.1 c).2, h.2⟩) (Share.run (F := Ideal) m g)
theorem share_ref_ideal_frame : Cert.quiescent_ShareRefIdeal := fun m g _ =>
  (θ_run _ _ _).mono (fun _ h => ⟨fun c => (h.1 c).2, h.2⟩) (Share.Ref.run (F := Ideal) m g)
theorem share_ref_frame : Cert.quiescent_ShareRef := fun m g _ =>
  (θ_run _ _ _).mono (fun _ h => ⟨fun c => (h.1 c).2, h.2⟩) (Share.Ref.run (F := Bits) m g)
theorem share_algebraic : Cert.algebraic_ShareIdeal_ShareRefIdeal := fun m g m' g' _ h => Share.Ref.value m g m' g' h
theorem share_bitexact : Cert.bitexact_Share_ShareRef := fun m g m' g' _ h => Share.Ref.value (F := Bits) m g m' g' h

theorem swap_frame : Cert.quiescent_Swap := fun m g _ =>
  (θ_run _ _ _).mono (fun _ h => ⟨fun c => (h.1 c).2, h.2⟩) (Swap.run (F := Bits) m g)
theorem swap_ideal_frame : Cert.quiescent_SwapIdeal := fun m g _ =>
  (θ_run _ _ _).mono (fun _ h => ⟨fun c => (h.1 c).2, h.2⟩) (Swap.run (F := Ideal) m g)
theorem swap_ref_ideal_frame : Cert.quiescent_SwapRefIdeal := fun m g _ =>
  (θ_run _ _ _).mono (fun _ h => ⟨fun c => (h.1 c).2, h.2⟩) (Swap.Ref.run (F := Ideal) m g)
theorem swap_ref_frame : Cert.quiescent_SwapRef := fun m g _ =>
  (θ_run _ _ _).mono (fun _ h => ⟨fun c => (h.1 c).2, h.2⟩) (Swap.Ref.run (F := Bits) m g)
theorem swap_algebraic : Cert.algebraic_SwapIdeal_SwapRefIdeal := fun m g m' g' _ h => Swap.Ref.value m g m' g' h
theorem swap_bitexact : Cert.bitexact_Swap_SwapRef := fun m g m' g' _ h => Swap.Ref.value (F := Bits) m g m' g' h

theorem scatter_frame : Cert.quiescent_Scatter := fun m g _ =>
  (θ_run _ _ _).mono (fun _ h => ⟨fun c => (h.1 c).2, h.2⟩) (Scatter.run (F := Bits) m g)
theorem scatter_ideal_frame : Cert.quiescent_ScatterIdeal := fun m g _ =>
  (θ_run _ _ _).mono (fun _ h => ⟨fun c => (h.1 c).2, h.2⟩) (Scatter.run (F := Ideal) m g)
theorem scatter_ref_ideal_frame : Cert.quiescent_ScatterRefIdeal := fun m g _ =>
  (θ_run _ _ _).mono (fun _ h => ⟨fun c => (h.1 c).2, h.2⟩) (Scatter.Ref.run (F := Ideal) m g)
theorem scatter_ref_frame : Cert.quiescent_ScatterRef := fun m g _ =>
  (θ_run _ _ _).mono (fun _ h => ⟨fun c => (h.1 c).2, h.2⟩) (Scatter.Ref.run (F := Bits) m g)
theorem scatter_algebraic : Cert.algebraic_ScatterIdeal_ScatterRefIdeal := fun m g m' g' _ h => Scatter.Ref.value m g m' g' h
theorem scatter_bitexact : Cert.bitexact_Scatter_ScatterRef := fun m g m' g' _ h => Scatter.Ref.value (F := Bits) m g m' g' h

theorem gather_frame : Cert.quiescent_Gather := fun m g _ =>
  (θ_run _ _ _).mono (fun _ h => ⟨fun c => (h.1 c).2, h.2⟩) (Gather.run (F := Bits) m g)
theorem gather_ideal_frame : Cert.quiescent_GatherIdeal := fun m g _ =>
  (θ_run _ _ _).mono (fun _ h => ⟨fun c => (h.1 c).2, h.2⟩) (Gather.run (F := Ideal) m g)
theorem gather_ref_ideal_frame : Cert.quiescent_GatherRefIdeal := fun m g _ =>
  (θ_run _ _ _).mono (fun _ h => ⟨fun c => (h.1 c).2, h.2⟩) (Gather.Ref.run (F := Ideal) m g)
theorem gather_ref_frame : Cert.quiescent_GatherRef := fun m g _ =>
  (θ_run _ _ _).mono (fun _ h => ⟨fun c => (h.1 c).2, h.2⟩) (Gather.Ref.run (F := Bits) m g)
theorem gather_algebraic : Cert.algebraic_GatherIdeal_GatherRefIdeal := fun m g m' g' _ h => Gather.Ref.value m g m' g' h
theorem gather_bitexact : Cert.bitexact_Gather_GatherRef := fun m g m' g' _ h => Gather.Ref.value (F := Bits) m g m' g' h

theorem adam_in_frame : Cert.quiescent_AdamIn := fun m g _ => Cert.AdamIn.Gen.frame (F := Bits) m g
theorem adam_in_ideal_frame : Cert.quiescent_AdamInIdeal := fun m g _ => Cert.AdamInIdeal.Gen.frame (F := Ideal) m g
theorem adam_in_ref_ideal_frame : Cert.quiescent_AdamInRefIdeal := fun m g _ =>
  (θ_run _ _ _).mono (fun r h => ⟨fun c => (h c).2.2.2, sem_eq_zero_of_no_sems rfl r.2⟩) (Cert.AdamInRefIdeal.Value.run m g)

theorem adam_square_frame : Cert.quiescent_AdamSquare := fun m g _ => Cert.AdamSquare.Gen.frame (F := Bits) m g
theorem adam_square_ideal_frame : Cert.quiescent_AdamSquareIdeal := fun m g _ => Cert.AdamSquareIdeal.Gen.frame (F := Ideal) m g
theorem adam_square_ref_ideal_frame : Cert.quiescent_AdamSquareRefIdeal := fun m g _ =>
  (θ_run _ _ _).mono (fun r h => ⟨fun c => (h c).2.2.2, sem_eq_zero_of_no_sems rfl r.2⟩) (Cert.AdamSquareRefIdeal.Value.run m g)

theorem adam_branch_frame : Cert.quiescent_AdamBranch := fun m g _ => Cert.AdamBranch.Gen.frame (F := Bits) m g
theorem adam_branch_ideal_frame : Cert.quiescent_AdamBranchIdeal := fun m g _ => Cert.AdamBranchIdeal.Gen.frame (F := Ideal) m g
theorem adam_branch_ref_ideal_frame : Cert.quiescent_AdamBranchRefIdeal := fun m g _ =>
  (θ_run _ _ _).mono (fun r h => ⟨fun c => (h c).2.2.2, sem_eq_zero_of_no_sems rfl r.2⟩) (Cert.AdamBranchRefIdeal.Value.run m g)

theorem adam_small_frame : Cert.quiescent_AdamSmall := fun m g _ => Cert.AdamSmall.Gen.frame (F := Bits) m g
theorem adam_small_ideal_frame : Cert.quiescent_AdamSmallIdeal := fun m g _ => Cert.AdamSmallIdeal.Gen.frame (F := Ideal) m g
theorem adam_small_ref_ideal_frame : Cert.quiescent_AdamSmallRefIdeal := fun m g _ =>
  (θ_run _ _ _).mono (fun r h => ⟨fun c => (h c).2.2.2, sem_eq_zero_of_no_sems rfl r.2⟩) (Cert.AdamSmallRefIdeal.Value.run m g)

theorem add_pair_frame : Cert.quiescent_AddPair := fun m g _ => Cert.AddPair.Gen.frame (F := Bits) m g
theorem add_pair_ideal_frame : Cert.quiescent_AddPairIdeal := fun m g _ => Cert.AddPairIdeal.Gen.frame (F := Ideal) m g
theorem add_pair_ref_ideal_frame : Cert.quiescent_AddPairRefIdeal := fun m g _ =>
  (θ_run _ _ _).mono (fun r h => ⟨fun c => (h c).2, sem_eq_zero_of_no_sems rfl r.2⟩) (Cert.AddPairRefIdeal.Value.run m g)

theorem add_chips_frame : Cert.quiescent_AddChips := fun m g _ => Cert.AddChips.Gen.frame (F := Bits) m g
theorem add_chips_ideal_frame : Cert.quiescent_AddChipsIdeal := fun m g _ => Cert.AddChipsIdeal.Gen.frame (F := Ideal) m g
theorem add_chips_ref_ideal_frame : Cert.quiescent_AddChipsRefIdeal := fun m g _ =>
  (θ_run _ _ _).mono (fun r h => ⟨fun c => (h c).2, sem_eq_zero_of_no_sems rfl r.2⟩) (Cert.AddChipsRefIdeal.Value.run m g)

theorem tail_frame : Cert.quiescent_Tail := fun m g _ => Cert.Tail.Gen.frame (F := Bits) m g
theorem tail_ideal_frame : Cert.quiescent_TailIdeal := fun m g _ => Cert.TailIdeal.Gen.frame (F := Ideal) m g
theorem tail_ref_ideal_frame : Cert.quiescent_TailRefIdeal := fun m g _ =>
  (θ_run _ _ _).mono (fun r h => ⟨fun c => (h c).2.2.2.2, sem_eq_zero_of_no_sems rfl r.2⟩) (Cert.TailRefIdeal.Value.run m g)

theorem pre_bwd_frame : Cert.quiescent_PreBwd := fun m g _ => Cert.PreBwd.Gen.frame (F := Bits) m g
theorem pre_bwd_ideal_frame : Cert.quiescent_PreBwdIdeal := fun m g _ => Cert.PreBwdIdeal.Gen.frame (F := Ideal) m g
theorem pre_bwd_ref_ideal_frame : Cert.quiescent_PreBwdRefIdeal := fun m g _ =>
  (θ_run _ _ _).mono (fun r h => ⟨fun c => (h c).2.2, sem_eq_zero_of_no_sems rfl r.2⟩) (Cert.PreBwdRefIdeal.Value.run m g)

theorem grad_mem_frame : Cert.quiescent_GradMem := fun m g _ => Cert.GradMem.Gen.frame (F := Bits) m g
theorem grad_mem_ideal_frame : Cert.quiescent_GradMemIdeal := fun m g _ => Cert.GradMemIdeal.Gen.frame (F := Ideal) m g
theorem grad_mem_ref_ideal_frame : Cert.quiescent_GradMemRefIdeal := fun m g _ =>
  (θ_run _ _ _).mono (fun r h => ⟨fun c => (h c).2, sem_eq_zero_of_no_sems rfl r.2⟩) (Cert.GradMemRefIdeal.Value.run m g)

theorem grad_out_frame : Cert.quiescent_GradOut := fun m g _ => Cert.GradOut.Gen.frame (F := Bits) m g
theorem grad_out_ideal_frame : Cert.quiescent_GradOutIdeal := fun m g _ => Cert.GradOutIdeal.Gen.frame (F := Ideal) m g
theorem grad_out_ref_ideal_frame : Cert.quiescent_GradOutRefIdeal := fun m g _ =>
  (θ_run _ _ _).mono (fun r h => ⟨fun c => (h c).2, sem_eq_zero_of_no_sems rfl r.2⟩) (Cert.GradOutRefIdeal.Value.run m g)

theorem grad_branch_frame : Cert.quiescent_GradBranch := fun m g _ => Cert.GradBranch.Gen.frame (F := Bits) m g
theorem grad_branch_ideal_frame : Cert.quiescent_GradBranchIdeal := fun m g _ => Cert.GradBranchIdeal.Gen.frame (F := Ideal) m g
theorem grad_branch_ref_ideal_frame : Cert.quiescent_GradBranchRefIdeal := fun m g _ =>
  (θ_run _ _ _).mono (fun r h => ⟨fun c => (h c).2, sem_eq_zero_of_no_sems rfl r.2⟩) (Cert.GradBranchRefIdeal.Value.run m g)

theorem grad_main_frame : Cert.quiescent_GradMain := fun m g _ => Cert.GradMain.Gen.frame (F := Bits) m g
theorem grad_main_ideal_frame : Cert.quiescent_GradMainIdeal := fun m g _ => Cert.GradMainIdeal.Gen.frame (F := Ideal) m g
theorem grad_main_ref_ideal_frame : Cert.quiescent_GradMainRefIdeal := fun m g _ =>
  (θ_run _ _ _).mono (fun r h => ⟨fun c => (h c).2, sem_eq_zero_of_no_sems rfl r.2⟩) (Cert.GradMainRefIdeal.Value.run m g)

theorem grad_fb_frame : Cert.quiescent_GradFb := fun m g _ => Cert.GradFb.Gen.frame (F := Bits) m g
theorem grad_fb_ideal_frame : Cert.quiescent_GradFbIdeal := fun m g _ => Cert.GradFbIdeal.Gen.frame (F := Ideal) m g
theorem grad_fb_ref_ideal_frame : Cert.quiescent_GradFbRefIdeal := fun m g _ =>
  (θ_run _ _ _).mono (fun r h => ⟨fun c => (h c).2, sem_eq_zero_of_no_sems rfl r.2⟩) (Cert.GradFbRefIdeal.Value.run m g)

theorem norm_mem_frame : Cert.quiescent_NormMem := fun m g _ => Cert.NormMem.Gen.frame (F := Bits) m g
theorem norm_mem_ideal_frame : Cert.quiescent_NormMemIdeal := fun m g _ => Cert.NormMemIdeal.Gen.frame (F := Ideal) m g
theorem norm_mem_ref_ideal_frame : Cert.quiescent_NormMemRefIdeal := fun m g _ =>
  (θ_run _ _ _).mono (fun r h => ⟨fun c => (h c).2, sem_eq_zero_of_no_sems rfl r.2⟩) (Cert.NormMemRefIdeal.Value.run m g)

theorem merge_bwd_frame : Cert.quiescent_MergeBwd := fun m g _ => Cert.MergeBwd.Gen.frame (F := Bits) m g
theorem merge_bwd_ideal_frame : Cert.quiescent_MergeBwdIdeal := fun m g _ => Cert.MergeBwdIdeal.Gen.frame (F := Ideal) m g
theorem merge_bwd_ref_ideal_frame : Cert.quiescent_MergeBwdRefIdeal := fun m g _ =>
  (θ_run _ _ _).mono (fun r h => ⟨fun c => (h c).2.2.2.2.2.2.2.2.2, sem_eq_zero_of_no_sems rfl r.2⟩) (Cert.MergeBwdRefIdeal.Value.run m g)

theorem norm_pre_frame : Cert.quiescent_NormPre := fun m g _ => Cert.NormPre.Gen.frame (F := Bits) m g
theorem norm_pre_ideal_frame : Cert.quiescent_NormPreIdeal := fun m g _ => Cert.NormPreIdeal.Gen.frame (F := Ideal) m g
theorem norm_pre_ref_ideal_frame : Cert.quiescent_NormPreRefIdeal := fun m g _ =>
  (θ_run _ _ _).mono (fun r h => ⟨fun c => (h c).2, sem_eq_zero_of_no_sems rfl r.2⟩) (Cert.NormPreRefIdeal.Value.run m g)

theorem norm_kv_frame : Cert.quiescent_NormKv := fun m g _ => Cert.NormKv.Gen.frame (F := Bits) m g
theorem norm_kv_ideal_frame : Cert.quiescent_NormKvIdeal := fun m g _ => Cert.NormKvIdeal.Gen.frame (F := Ideal) m g
theorem norm_kv_ref_ideal_frame : Cert.quiescent_NormKvRefIdeal := fun m g _ =>
  (θ_run _ _ _).mono (fun r h => ⟨fun c => (h c).2, sem_eq_zero_of_no_sems rfl r.2⟩) (Cert.NormKvRefIdeal.Value.run m g)

theorem proj_in_frame : Cert.quiescent_ProjIn := fun m g _ => Cert.ProjIn.Gen.frame (F := Bits) m g
theorem proj_in_ideal_frame : Cert.quiescent_ProjInIdeal := fun m g _ => Cert.ProjInIdeal.Gen.frame (F := Ideal) m g
theorem proj_in_ref_ideal_frame : Cert.quiescent_ProjInRefIdeal := fun m g _ =>
  (θ_run _ _ _).mono (fun r h => ⟨fun c => (h c).2, sem_eq_zero_of_no_sems rfl r.2⟩) (Cert.ProjInRefIdeal.Value.run m g)

theorem proj_fb_frame : Cert.quiescent_ProjFb := fun m g _ => Cert.ProjFb.Gen.frame (F := Bits) m g
theorem proj_fb_ideal_frame : Cert.quiescent_ProjFbIdeal := fun m g _ => Cert.ProjFbIdeal.Gen.frame (F := Ideal) m g
theorem proj_fb_ref_ideal_frame : Cert.quiescent_ProjFbRefIdeal := fun m g _ =>
  (θ_run _ _ _).mono (fun r h => ⟨fun c => (h c).2, sem_eq_zero_of_no_sems rfl r.2⟩) (Cert.ProjFbRefIdeal.Value.run m g)

theorem proj_mem_frame : Cert.quiescent_ProjMem := fun m g _ => Cert.ProjMem.Gen.frame (F := Bits) m g
theorem proj_mem_ideal_frame : Cert.quiescent_ProjMemIdeal := fun m g _ => Cert.ProjMemIdeal.Gen.frame (F := Ideal) m g
theorem proj_mem_ref_ideal_frame : Cert.quiescent_ProjMemRefIdeal := fun m g _ =>
  (θ_run _ _ _).mono (fun r h => ⟨fun c => (h c).2, sem_eq_zero_of_no_sems rfl r.2⟩) (Cert.ProjMemRefIdeal.Value.run m g)

theorem proj_branch_frame : Cert.quiescent_ProjBranch := fun m g _ => Cert.ProjBranch.Gen.frame (F := Bits) m g
theorem proj_branch_ideal_frame : Cert.quiescent_ProjBranchIdeal := fun m g _ => Cert.ProjBranchIdeal.Gen.frame (F := Ideal) m g
theorem proj_branch_ref_ideal_frame : Cert.quiescent_ProjBranchRefIdeal := fun m g _ =>
  (θ_run _ _ _).mono (fun r h => ⟨fun c => (h c).2, sem_eq_zero_of_no_sems rfl r.2⟩) (Cert.ProjBranchRefIdeal.Value.run m g)

theorem proj_out_frame : Cert.quiescent_ProjOut := fun m g _ => Cert.ProjOut.Gen.frame (F := Bits) m g
theorem proj_out_ideal_frame : Cert.quiescent_ProjOutIdeal := fun m g _ => Cert.ProjOutIdeal.Gen.frame (F := Ideal) m g
theorem proj_out_ref_ideal_frame : Cert.quiescent_ProjOutRefIdeal := fun m g _ =>
  (θ_run _ _ _).mono (fun r h => ⟨fun c => (h c).2, sem_eq_zero_of_no_sems rfl r.2⟩) (Cert.ProjOutRefIdeal.Value.run m g)

theorem back_merged_frame : Cert.quiescent_BackMerged := fun m g _ => Cert.BackMerged.Gen.frame (F := Bits) m g
theorem back_merged_ideal_frame : Cert.quiescent_BackMergedIdeal := fun m g _ => Cert.BackMergedIdeal.Gen.frame (F := Ideal) m g
theorem back_merged_ref_ideal_frame : Cert.quiescent_BackMergedRefIdeal := fun m g _ =>
  (θ_run _ _ _).mono (fun r h => ⟨fun c => (h c).2, sem_eq_zero_of_no_sems rfl r.2⟩) (Cert.BackMergedRefIdeal.Value.run m g)

theorem back_branch_frame : Cert.quiescent_BackBranch := fun m g _ => Cert.BackBranch.Gen.frame (F := Bits) m g
theorem back_branch_ideal_frame : Cert.quiescent_BackBranchIdeal := fun m g _ => Cert.BackBranchIdeal.Gen.frame (F := Ideal) m g
theorem back_branch_ref_ideal_frame : Cert.quiescent_BackBranchRefIdeal := fun m g _ =>
  (θ_run _ _ _).mono (fun r h => ⟨fun c => (h c).2, sem_eq_zero_of_no_sems rfl r.2⟩) (Cert.BackBranchRefIdeal.Value.run m g)

theorem back_mem_frame : Cert.quiescent_BackMem := fun m g _ => Cert.BackMem.Gen.frame (F := Bits) m g
theorem back_mem_ideal_frame : Cert.quiescent_BackMemIdeal := fun m g _ => Cert.BackMemIdeal.Gen.frame (F := Ideal) m g
theorem back_mem_ref_ideal_frame : Cert.quiescent_BackMemRefIdeal := fun m g _ =>
  (θ_run _ _ _).mono (fun r h => ⟨fun c => (h c).2, sem_eq_zero_of_no_sems rfl r.2⟩) (Cert.BackMemRefIdeal.Value.run m g)

theorem back_in_frame : Cert.quiescent_BackIn := fun m g _ => Cert.BackIn.Gen.frame (F := Bits) m g
theorem back_in_ideal_frame : Cert.quiescent_BackInIdeal := fun m g _ => Cert.BackInIdeal.Gen.frame (F := Ideal) m g
theorem back_in_ref_ideal_frame : Cert.quiescent_BackInRefIdeal := fun m g _ =>
  (θ_run _ _ _).mono (fun r h => ⟨fun c => (h c).2, sem_eq_zero_of_no_sems rfl r.2⟩) (Cert.BackInRefIdeal.Value.run m g)

theorem back_fb_frame : Cert.quiescent_BackFb := fun m g _ => Cert.BackFb.Gen.frame (F := Bits) m g
theorem back_fb_ideal_frame : Cert.quiescent_BackFbIdeal := fun m g _ => Cert.BackFbIdeal.Gen.frame (F := Ideal) m g
theorem back_fb_ref_ideal_frame : Cert.quiescent_BackFbRefIdeal := fun m g _ =>
  (θ_run _ _ _).mono (fun r h => ⟨fun c => (h c).2, sem_eq_zero_of_no_sems rfl r.2⟩) (Cert.BackFbRefIdeal.Value.run m g)

theorem gate_b_frame : Cert.quiescent_GateB := fun m g _ => Cert.GateB.Gen.frame (F := Bits) m g
theorem gate_b_ideal_frame : Cert.quiescent_GateBIdeal := fun m g _ => Cert.GateBIdeal.Gen.frame (F := Ideal) m g
theorem gate_b_ref_ideal_frame : Cert.quiescent_GateBRefIdeal := fun m g _ =>
  (θ_run _ _ _).mono (fun r h => ⟨fun c => (h c).2, sem_eq_zero_of_no_sems rfl r.2⟩) (Cert.GateBRefIdeal.Value.run m g)

theorem gate_m_frame : Cert.quiescent_GateM := fun m g _ => Cert.GateM.Gen.frame (F := Bits) m g
theorem gate_m_ideal_frame : Cert.quiescent_GateMIdeal := fun m g _ => Cert.GateMIdeal.Gen.frame (F := Ideal) m g
theorem gate_m_ref_ideal_frame : Cert.quiescent_GateMRefIdeal := fun m g _ =>
  (θ_run _ _ _).mono (fun r h => ⟨fun c => (h c).2, sem_eq_zero_of_no_sems rfl r.2⟩) (Cert.GateMRefIdeal.Value.run m g)

theorem gate_bwd_b_frame : Cert.quiescent_GateBwdB := fun m g _ => Cert.GateBwdB.Gen.frame (F := Bits) m g
theorem gate_bwd_b_ideal_frame : Cert.quiescent_GateBwdBIdeal := fun m g _ => Cert.GateBwdBIdeal.Gen.frame (F := Ideal) m g
theorem gate_bwd_b_ref_ideal_frame : Cert.quiescent_GateBwdBRefIdeal := fun m g _ =>
  (θ_run _ _ _).mono (fun r h => ⟨fun c => (h c).2.2, sem_eq_zero_of_no_sems rfl r.2⟩) (Cert.GateBwdBRefIdeal.Value.run m g)

theorem gate_bwd_m_frame : Cert.quiescent_GateBwdM := fun m g _ => Cert.GateBwdM.Gen.frame (F := Bits) m g
theorem gate_bwd_m_ideal_frame : Cert.quiescent_GateBwdMIdeal := fun m g _ => Cert.GateBwdMIdeal.Gen.frame (F := Ideal) m g
theorem gate_bwd_m_ref_ideal_frame : Cert.quiescent_GateBwdMRefIdeal := fun m g _ =>
  (θ_run _ _ _).mono (fun r h => ⟨fun c => (h c).2.2, sem_eq_zero_of_no_sems rfl r.2⟩) (Cert.GateBwdMRefIdeal.Value.run m g)

theorem merge_frame : Cert.quiescent_Merge := fun m g _ => Cert.Merge.Gen.frame (F := Bits) m g
theorem merge_ideal_frame : Cert.quiescent_MergeIdeal := fun m g _ => Cert.MergeIdeal.Gen.frame (F := Ideal) m g
theorem merge_ref_ideal_frame : Cert.quiescent_MergeRefIdeal := fun m g _ =>
  (θ_run _ _ _).mono (fun r h => ⟨fun c => (h c).2, sem_eq_zero_of_no_sems rfl r.2⟩) (Cert.MergeRefIdeal.Value.run m g)

theorem fox_delta_frame : Cert.quiescent_FoxDelta := fun m g _ => Cert.FoxDelta.Gen.frame (F := Bits) m g
theorem fox_delta_ideal_frame : Cert.quiescent_FoxDeltaIdeal := fun m g _ => Cert.FoxDeltaIdeal.Gen.frame (F := Ideal) m g
theorem fox_delta_ref_ideal_frame : Cert.quiescent_FoxDeltaRefIdeal := fun m g _ =>
  (θ_run _ _ _).mono (fun r h => ⟨fun c => (h c).2, sem_eq_zero_of_no_sems rfl r.2⟩) (Cert.FoxDeltaRefIdeal.Value.run m g)

theorem gate_bwd_a_frame : Cert.quiescent_GateBwdA := fun m g _ => Cert.GateBwdA.Gen.frame (F := Bits) m g
theorem gate_bwd_a_ideal_frame : Cert.quiescent_GateBwdAIdeal := fun m g _ => Cert.GateBwdAIdeal.Gen.frame (F := Ideal) m g
theorem gate_bwd_a_ref_ideal_frame : Cert.quiescent_GateBwdARefIdeal := fun m g _ =>
  (θ_run _ _ _).mono (fun r h => ⟨fun c => (h c).2.2.2, sem_eq_zero_of_no_sems rfl r.2⟩) (Cert.GateBwdARefIdeal.Value.run m g)

theorem rope_bwd_frame : Cert.quiescent_RopeBwd := fun m g _ => Cert.RopeBwd.Gen.frame (F := Bits) m g
theorem rope_bwd_ideal_frame : Cert.quiescent_RopeBwdIdeal := fun m g _ => Cert.RopeBwdIdeal.Gen.frame (F := Ideal) m g
theorem rope_bwd_ref_ideal_frame : Cert.quiescent_RopeBwdRefIdeal := fun m g _ =>
  (θ_run _ _ _).mono (fun r h => ⟨fun c => (h c).2.2, sem_eq_zero_of_no_sems rfl r.2⟩) (Cert.RopeBwdRefIdeal.Value.run m g)

theorem fox_bwd_frame : Cert.quiescent_FoxBwd := fun m g _ => Cert.FoxBwd.Gen.frame (F := Bits) m g
theorem fox_bwd_ideal_frame : Cert.quiescent_FoxBwdIdeal := fun m g _ => Cert.FoxBwdIdeal.Gen.frame (F := Ideal) m g
theorem fox_bwd_ref_ideal_frame : Cert.quiescent_FoxBwdRefIdeal := fun m g _ =>
  (θ_run _ _ _).mono (fun r h => ⟨fun c => (h c).2.2, sem_eq_zero_of_no_sems rfl r.2⟩) (Cert.FoxBwdRefIdeal.Value.run m g)

theorem mem_fwd_frame : Cert.quiescent_MemFwd := fun m g _ => Cert.MemFwd.Gen.frame (F := Bits) m g
theorem mem_fwd_ideal_frame : Cert.quiescent_MemFwdIdeal := fun m g _ => Cert.MemFwdIdeal.Gen.frame (F := Ideal) m g
theorem mem_fwd_ref_ideal_frame : Cert.quiescent_MemFwdRefIdeal := fun m g _ =>
  (θ_run _ _ _).mono (fun r h => ⟨fun c => (h c).2.2, sem_eq_zero_of_no_sems rfl r.2⟩) (Cert.MemFwdRefIdeal.Value.run m g)

theorem sums_finite_facts : Cert.Pre_sums_finite.Facts := ⟨Cert.FoxBwdRefIdeal.Gen.bcast_S_S8x8192⟩
theorem fox_bwd_ideal_frame_pre : Cert.quiescent_FoxBwdIdeal_pre_sums_finite (hPre_sums_finite := sums_finite_facts) :=
  fun m g _ => Cert.FoxBwdIdeal.Gen.frame (F := Ideal) m g
theorem fox_bwd_ref_ideal_frame_pre : Cert.quiescent_FoxBwdRefIdeal_pre_sums_finite (hPre_sums_finite := sums_finite_facts) := fun m g _ =>
  (θ_run _ _ _).mono (fun r h => ⟨fun c => (h c).2.2, sem_eq_zero_of_no_sems rfl r.2⟩) (Cert.FoxBwdRefIdeal.Value.run m g)

theorem scores_finite_facts : Cert.Pre_scores_finite.Facts :=
  ⟨Cert.MemFwdRefIdeal.Gen.slices_S8192x11264_S8192x512_0_7168, Cert.MemFwdRefIdeal.Gen.shapeCasts_S8192x512_S8192x4x128,
    Cert.MemFwdRefIdeal.Gen.bitsLt_bf16_f32, Cert.MemFwdRefIdeal.Gen.slices_S256x1024_S256x512_0_0,
    Cert.MemFwdRefIdeal.Gen.shapeCasts_S256x512_S256x4x128, Cert.MemFwdRefIdeal.Gen.bcast_S_S4x8192x256,
    Cert.MemFwdRefIdeal.Gen.dot_S8192x4x128_S256x4x128_S4x8192x256_2_2_0_0_1_1_wf⟩
theorem mem_fwd_ideal_frame_pre : Cert.quiescent_MemFwdIdeal_pre_scores_finite (hPre_scores_finite := scores_finite_facts) :=
  fun m g _ => Cert.MemFwdIdeal.Gen.frame (F := Ideal) m g
theorem mem_fwd_ref_ideal_frame_pre : Cert.quiescent_MemFwdRefIdeal_pre_scores_finite (hPre_scores_finite := scores_finite_facts) := fun m g _ =>
  (θ_run _ _ _).mono (fun r h => ⟨fun c => (h c).2.2, sem_eq_zero_of_no_sems rfl r.2⟩) (Cert.MemFwdRefIdeal.Value.run m g)

theorem claim : Cert.Claim := ⟨Cert.Share.Gen.facts, Cert.ShareIdeal.Gen.facts, Cert.ShareRefIdeal.Gen.facts, Cert.ShareRef.Gen.facts,
  Cert.Swap.Gen.facts, Cert.SwapIdeal.Gen.facts, Cert.SwapRefIdeal.Gen.facts, Cert.SwapRef.Gen.facts,
  Cert.Scatter.Gen.facts, Cert.ScatterIdeal.Gen.facts, Cert.ScatterRefIdeal.Gen.facts, Cert.ScatterRef.Gen.facts,
  Cert.Gather.Gen.facts, Cert.GatherIdeal.Gen.facts, Cert.GatherRefIdeal.Gen.facts, Cert.GatherRef.Gen.facts,
  Cert.AdamIn.Gen.facts, Cert.AdamInIdeal.Gen.facts, Cert.AdamInRefIdeal.Gen.facts,
  Cert.AdamSquare.Gen.facts, Cert.AdamSquareIdeal.Gen.facts, Cert.AdamSquareRefIdeal.Gen.facts,
  Cert.AdamBranch.Gen.facts, Cert.AdamBranchIdeal.Gen.facts, Cert.AdamBranchRefIdeal.Gen.facts,
  Cert.AdamSmall.Gen.facts, Cert.AdamSmallIdeal.Gen.facts, Cert.AdamSmallRefIdeal.Gen.facts,
  Cert.AddPair.Gen.facts, Cert.AddPairIdeal.Gen.facts, Cert.AddPairRefIdeal.Gen.facts,
  Cert.AddChips.Gen.facts, Cert.AddChipsIdeal.Gen.facts, Cert.AddChipsRefIdeal.Gen.facts,
  Cert.Tail.Gen.facts, Cert.TailIdeal.Gen.facts, Cert.TailRefIdeal.Gen.facts,
  Cert.PreBwd.Gen.facts, Cert.PreBwdIdeal.Gen.facts, Cert.PreBwdRefIdeal.Gen.facts,
  Cert.GradMem.Gen.facts, Cert.GradMemIdeal.Gen.facts, Cert.GradMemRefIdeal.Gen.facts,
  Cert.GradOut.Gen.facts, Cert.GradOutIdeal.Gen.facts, Cert.GradOutRefIdeal.Gen.facts,
  Cert.GradBranch.Gen.facts, Cert.GradBranchIdeal.Gen.facts, Cert.GradBranchRefIdeal.Gen.facts,
  Cert.GradMain.Gen.facts, Cert.GradMainIdeal.Gen.facts, Cert.GradMainRefIdeal.Gen.facts,
  Cert.GradFb.Gen.facts, Cert.GradFbIdeal.Gen.facts, Cert.GradFbRefIdeal.Gen.facts,
  Cert.NormMem.Gen.facts, Cert.NormMemIdeal.Gen.facts, Cert.NormMemRefIdeal.Gen.facts,
  Cert.MergeBwd.Gen.facts, Cert.MergeBwdIdeal.Gen.facts, Cert.MergeBwdRefIdeal.Gen.facts,
  Cert.NormPre.Gen.facts, Cert.NormPreIdeal.Gen.facts, Cert.NormPreRefIdeal.Gen.facts,
  Cert.NormKv.Gen.facts, Cert.NormKvIdeal.Gen.facts, Cert.NormKvRefIdeal.Gen.facts,
  Cert.ProjIn.Gen.facts, Cert.ProjInIdeal.Gen.facts, Cert.ProjInRefIdeal.Gen.facts,
  Cert.ProjFb.Gen.facts, Cert.ProjFbIdeal.Gen.facts, Cert.ProjFbRefIdeal.Gen.facts,
  Cert.ProjMem.Gen.facts, Cert.ProjMemIdeal.Gen.facts, Cert.ProjMemRefIdeal.Gen.facts,
  Cert.ProjBranch.Gen.facts, Cert.ProjBranchIdeal.Gen.facts, Cert.ProjBranchRefIdeal.Gen.facts,
  Cert.ProjOut.Gen.facts, Cert.ProjOutIdeal.Gen.facts, Cert.ProjOutRefIdeal.Gen.facts,
  Cert.BackMerged.Gen.facts, Cert.BackMergedIdeal.Gen.facts, Cert.BackMergedRefIdeal.Gen.facts,
  Cert.BackBranch.Gen.facts, Cert.BackBranchIdeal.Gen.facts, Cert.BackBranchRefIdeal.Gen.facts,
  Cert.BackMem.Gen.facts, Cert.BackMemIdeal.Gen.facts, Cert.BackMemRefIdeal.Gen.facts,
  Cert.BackIn.Gen.facts, Cert.BackInIdeal.Gen.facts, Cert.BackInRefIdeal.Gen.facts,
  Cert.BackFb.Gen.facts, Cert.BackFbIdeal.Gen.facts, Cert.BackFbRefIdeal.Gen.facts,
  Cert.GateB.Gen.facts, Cert.GateBIdeal.Gen.facts, Cert.GateBRefIdeal.Gen.facts,
  Cert.GateM.Gen.facts, Cert.GateMIdeal.Gen.facts, Cert.GateMRefIdeal.Gen.facts,
  Cert.GateBwdB.Gen.facts, Cert.GateBwdBIdeal.Gen.facts, Cert.GateBwdBRefIdeal.Gen.facts,
  Cert.GateBwdM.Gen.facts, Cert.GateBwdMIdeal.Gen.facts, Cert.GateBwdMRefIdeal.Gen.facts,
  Cert.Merge.Gen.facts, Cert.MergeIdeal.Gen.facts, Cert.MergeRefIdeal.Gen.facts,
  Cert.FoxDelta.Gen.facts, Cert.FoxDeltaIdeal.Gen.facts, Cert.FoxDeltaRefIdeal.Gen.facts,
  Cert.GateBwdA.Gen.facts, Cert.GateBwdAIdeal.Gen.facts, Cert.GateBwdARefIdeal.Gen.facts,
  Cert.RopeBwd.Gen.facts, Cert.RopeBwdIdeal.Gen.facts, Cert.RopeBwdRefIdeal.Gen.facts,
  Cert.FoxBwd.Gen.facts, Cert.FoxBwdIdeal.Gen.facts, Cert.FoxBwdRefIdeal.Gen.facts,
  Cert.MemFwd.Gen.facts, Cert.MemFwdIdeal.Gen.facts, Cert.MemFwdRefIdeal.Gen.facts,
  sums_finite_facts,
  scores_finite_facts,
  share_frame, share_ideal_frame, share_ref_ideal_frame, share_ref_frame,
  swap_frame, swap_ideal_frame, swap_ref_ideal_frame, swap_ref_frame,
  scatter_frame, scatter_ideal_frame, scatter_ref_ideal_frame, scatter_ref_frame,
  gather_frame, gather_ideal_frame, gather_ref_ideal_frame, gather_ref_frame,
  adam_in_frame, adam_in_ideal_frame, adam_in_ref_ideal_frame,
  adam_square_frame, adam_square_ideal_frame, adam_square_ref_ideal_frame,
  adam_branch_frame, adam_branch_ideal_frame, adam_branch_ref_ideal_frame,
  adam_small_frame, adam_small_ideal_frame, adam_small_ref_ideal_frame,
  add_pair_frame, add_pair_ideal_frame, add_pair_ref_ideal_frame,
  add_chips_frame, add_chips_ideal_frame, add_chips_ref_ideal_frame,
  tail_frame, tail_ideal_frame, tail_ref_ideal_frame,
  pre_bwd_frame, pre_bwd_ideal_frame, pre_bwd_ref_ideal_frame,
  grad_mem_frame, grad_mem_ideal_frame, grad_mem_ref_ideal_frame,
  grad_out_frame, grad_out_ideal_frame, grad_out_ref_ideal_frame,
  grad_branch_frame, grad_branch_ideal_frame, grad_branch_ref_ideal_frame,
  grad_main_frame, grad_main_ideal_frame, grad_main_ref_ideal_frame,
  grad_fb_frame, grad_fb_ideal_frame, grad_fb_ref_ideal_frame,
  norm_mem_frame, norm_mem_ideal_frame, norm_mem_ref_ideal_frame,
  merge_bwd_frame, merge_bwd_ideal_frame, merge_bwd_ref_ideal_frame,
  norm_pre_frame, norm_pre_ideal_frame, norm_pre_ref_ideal_frame,
  norm_kv_frame, norm_kv_ideal_frame, norm_kv_ref_ideal_frame,
  proj_in_frame, proj_in_ideal_frame, proj_in_ref_ideal_frame,
  proj_fb_frame, proj_fb_ideal_frame, proj_fb_ref_ideal_frame,
  proj_mem_frame, proj_mem_ideal_frame, proj_mem_ref_ideal_frame,
  proj_branch_frame, proj_branch_ideal_frame, proj_branch_ref_ideal_frame,
  proj_out_frame, proj_out_ideal_frame, proj_out_ref_ideal_frame,
  back_merged_frame, back_merged_ideal_frame, back_merged_ref_ideal_frame,
  back_branch_frame, back_branch_ideal_frame, back_branch_ref_ideal_frame,
  back_mem_frame, back_mem_ideal_frame, back_mem_ref_ideal_frame,
  back_in_frame, back_in_ideal_frame, back_in_ref_ideal_frame,
  back_fb_frame, back_fb_ideal_frame, back_fb_ref_ideal_frame,
  gate_b_frame, gate_b_ideal_frame, gate_b_ref_ideal_frame,
  gate_m_frame, gate_m_ideal_frame, gate_m_ref_ideal_frame,
  gate_bwd_b_frame, gate_bwd_b_ideal_frame, gate_bwd_b_ref_ideal_frame,
  gate_bwd_m_frame, gate_bwd_m_ideal_frame, gate_bwd_m_ref_ideal_frame,
  merge_frame, merge_ideal_frame, merge_ref_ideal_frame,
  fox_delta_frame, fox_delta_ideal_frame, fox_delta_ref_ideal_frame,
  gate_bwd_a_frame, gate_bwd_a_ideal_frame, gate_bwd_a_ref_ideal_frame,
  rope_bwd_frame, rope_bwd_ideal_frame, rope_bwd_ref_ideal_frame,
  fox_bwd_frame, fox_bwd_ideal_frame, fox_bwd_ideal_frame_pre, fox_bwd_ref_ideal_frame, fox_bwd_ref_ideal_frame_pre,
  mem_fwd_frame, mem_fwd_ideal_frame, mem_fwd_ideal_frame_pre, mem_fwd_ref_ideal_frame, mem_fwd_ref_ideal_frame_pre,
  trivial, share_algebraic, share_bitexact,
  trivial, swap_algebraic, swap_bitexact,
  trivial, scatter_algebraic, scatter_bitexact,
  trivial, gather_algebraic, gather_bitexact,
  trivial, AdamIn.algebraic,
  trivial, AdamSquare.algebraic,
  trivial, AdamBranch.algebraic,
  trivial, AdamSmall.algebraic,
  trivial, AddPair.algebraic,
  trivial, AddChips.algebraic,
  trivial, Cert.TailIdeal.Total.algebraic,
  trivial, Cert.PreBwdIdeal.Total.algebraic,
  trivial, GradMem.algebraic,
  trivial, Cert.GradOutIdeal.Total.algebraic,
  trivial, Cert.GradBranchIdeal.Total.algebraic,
  trivial, Cert.GradMainIdeal.Total.algebraic,
  trivial, Cert.GradFbIdeal.Total.algebraic,
  trivial, Cert.NormMemIdeal.Total.algebraic,
  trivial, Cert.MergeBwdIdeal.Total.algebraic,
  trivial, Cert.NormPreIdeal.Total.algebraic,
  trivial, Cert.NormKvIdeal.Total.algebraic,
  trivial, Cert.ProjInIdeal.Total.algebraic,
  trivial, Cert.ProjFbIdeal.Total.algebraic,
  trivial, Cert.ProjMemIdeal.Total.algebraic,
  trivial, Cert.ProjBranchIdeal.Total.algebraic,
  trivial, Cert.ProjOutIdeal.Total.algebraic,
  trivial, Cert.BackMergedIdeal.Total.algebraic,
  trivial, Cert.BackBranchIdeal.Total.algebraic,
  trivial, Cert.BackMemIdeal.Total.algebraic,
  trivial, Cert.BackInIdeal.Total.algebraic,
  trivial, Cert.BackFbIdeal.Total.algebraic,
  trivial, Cert.GateBIdeal.Total.algebraic,
  trivial, Cert.GateMIdeal.Total.algebraic,
  trivial, Cert.GateBwdBIdeal.Total.algebraic,
  trivial, Cert.GateBwdMIdeal.Total.algebraic,
  trivial, Cert.MergeIdeal.Total.algebraic,
  trivial, Cert.FoxDeltaIdeal.Total.algebraic,
  trivial, Cert.GateBwdAIdeal.Total.algebraic,
  trivial, Cert.RopeBwdIdeal.Total.algebraic,
  trivial, @Cert.FoxBwdIdeal.Total.algebraic sums_finite_facts,
  trivial, @Cert.MemFwdIdeal.Total.algebraic scores_finite_facts⟩

end Cert.Proof

end
